-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary_KernelIdeal [hPre_in_vocabulary_KernelIdeal : Cert.Pre_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary_ReferenceIdeal [hPre_in_vocabulary_ReferenceIdeal : Cert.Pre_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary_KernelIdeal [hKernelIdeal : Cert.KernelIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary_ReferenceIdeal [hReferenceIdeal : Cert.ReferenceIdeal.Facts] [hPre_in_vocabulary_ReferenceIdeal : Cert.Pre_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary_KernelIdeal [hKernelIdeal : Cert.KernelIdeal.Facts] [hReferenceIdeal : Cert.ReferenceIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary_KernelIdeal : Cert.Pre_in_vocabulary_KernelIdeal.Facts) (hPre_in_vocabulary_ReferenceIdeal : Cert.Pre_in_vocabulary_ReferenceIdeal.Facts),
    quiescent_Kernel (hKernel := hKernel)
    ∧ quiescent_KernelIdeal (hKernelIdeal := hKernelIdeal)
    ∧ quiescent_KernelIdeal_pre_in_vocabulary_KernelIdeal (hKernelIdeal := hKernelIdeal) (hPre_in_vocabulary_KernelIdeal := hPre_in_vocabulary_KernelIdeal)
    ∧ quiescent_ReferenceIdeal (hReferenceIdeal := hReferenceIdeal)
    ∧ quiescent_ReferenceIdeal_pre_in_vocabulary_ReferenceIdeal (hReferenceIdeal := hReferenceIdeal) (hPre_in_vocabulary_ReferenceIdeal := hPre_in_vocabulary_ReferenceIdeal)
    ∧ preserves_Kernel_KernelIdeal
    ∧ algebraic_KernelIdeal_ReferenceIdeal_pre_in_vocabulary_KernelIdeal (hKernelIdeal := hKernelIdeal) (hReferenceIdeal := hReferenceIdeal) (hPre_in_vocabulary_KernelIdeal := hPre_in_vocabulary_KernelIdeal)
-- ==== Pre_in_vocabulary_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S8192x2048 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Pre_in_vocabulary_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S16384x2048 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096 : Shape := ⟨1, ![4096]⟩
abbrev S8192x2048 : Shape := ⟨2, ![8192, 2048]⟩
abbrev S_ : Shape := ⟨0, ![]⟩
abbrev S4096x1 : Shape := ⟨2, ![4096, 1]⟩
abbrev S4096x2048 : Shape := ⟨2, ![4096, 2048]⟩
abbrev S4x64x2048 : Shape := ⟨3, ![4, 64, 2048]⟩
abbrev S2048x2048 : Shape := ⟨2, ![2048, 2048]⟩
abbrev S4 : Shape := ⟨1, ![4]⟩
abbrev S32 : Shape := ⟨1, ![32]⟩
abbrev S1 : Shape := ⟨1, ![1]⟩
abbrev S1x64x2048 : Shape := ⟨3, ![1, 64, 2048]⟩
abbrev S64x2048 : Shape := ⟨2, ![64, 2048]⟩
abbrev S1x2048 : Shape := ⟨2, ![1, 2048]⟩
abbrev S64x1 : Shape := ⟨2, ![64, 1]⟩

abbrev nBuf : Space → Nat
  | .hbm => 30
  | .vmem => 4
  | .smem => 1
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S4096x1, .f32⟩
  | .hbm, ⟨29, _⟩ => ⟨S4096x2048, .bf16⟩
  | .local _ .vmem, ⟨0, _⟩ => ⟨S4096x1, .f32⟩
  | .local _ .vmem, ⟨1, _⟩ => ⟨S4096x2048, .bf16⟩
  | .local _ .vmem, ⟨2, _⟩ => ⟨S4x64x2048, .f32⟩
  | .local _ .vmem, ⟨3, _⟩ => ⟨S2048x2048, .bf16⟩
  | .local _ .smem, ⟨0, _⟩ => ⟨S4096, .i32⟩
  | _, _ => ⟨S4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_c_5 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v13 : BitVec 32 := Scalar.muli v2 c8_i32_5
  let v14 : BitVec 32 := Scalar.addi c0_i32 v13
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v15 : BitVec 32 := Scalar.muli v9 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.muli v8 c1_i32_7
  let v18 : BitVec 32 := Scalar.addi v16 v17
  v18.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v19 : BitVec 32 := Scalar.muli v10 c8_i32_9
  let v20 : BitVec 32 := Scalar.addi c0_i32_10 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
@[reducible] def k0_t1_loop : Scf.Loop 32 :=
  let c0_i32_14 : BitVec 32 := 0#32
  let c8_i32_15 : BitVec 32 := 8#32
  let v25 : BitVec 32 := Scalar.addi c0_i32_14 c8_i32_15
  let c1_i32_16 : BitVec 32 := 1#32
  ⟨c0_i32_14, v25, c1_i32_16⟩
def k0_off1 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_1971 : BitVec 32 := 0#32
  let v2395 : BitVec 32 := Scalar.addi v11 c0_i32_1971
  let c0_i32_14 : BitVec 32 := 0#32
  let c1_i32_16 : BitVec 32 := 1#32
  let arg11 : BitVec 32 := Scf.iv c0_i32_14 c1_i32_16 k0_t1
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off2 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off3 (v2398 : BitVec 32) : Fin 2 → Nat :=
  let c0_i32_1977 : BitVec 32 := 0#32
  ![v2398.toNat, 0]

def k0_chk1 (v2398 : BitVec 32) : Prop :=
  (∀ a, (k0_off3 v2398) a + S1x2048.size a ≤ S8192x2048.size a)
theorem k0_off3_inb : ∀ (v2398 : BitVec 32) (k0_hw1 : k0_chk1 v2398), ∀ a, (k0_off3 v2398) a + S1x2048.size a ≤ S8192x2048.size a := fun v2398 k0_hw1 => k0_hw1

def k0_off4 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_1980 : BitVec 32 := 0#32
  let v2407 : BitVec 32 := Scalar.addi v11 c0_i32_1980
  let c0_i32_14 : BitVec 32 := 0#32
  let c1_i32_16 : BitVec 32 := 1#32
  let arg11 : BitVec 32 := Scf.iv c0_i32_14 c1_i32_16 k0_t1
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off5 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off6 (v2410 : BitVec 32) : Fin 2 → Nat :=
  let c0_i32_1986 : BitVec 32 := 0#32
  ![v2410.toNat, 0]

def k0_chk2 (v2410 : BitVec 32) : Prop :=
  (∀ a, (k0_off6 v2410) a + S1x2048.size a ≤ S8192x2048.size a)
theorem k0_off6_inb : ∀ (v2410 : BitVec 32) (k0_hw2 : k0_chk2 v2410), ∀ a, (k0_off6 v2410) a + S1x2048.size a ≤ S8192x2048.size a := fun v2410 k0_hw2 => k0_hw2

def k0_off7 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_1989 : BitVec 32 := 0#32
  let v2419 : BitVec 32 := Scalar.addi v11 c0_i32_1989
  let c0_i32_14 : BitVec 32 := 0#32
  let c1_i32_16 : BitVec 32 := 1#32
  let arg11 : BitVec 32 := Scf.iv c0_i32_14 c1_i32_16 k0_t1
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off8 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off9 (v2422 : BitVec 32) : Fin 2 → Nat :=
  let c0_i32_1995 : BitVec 32 := 0#32
  ![v2422.toNat, 0]

def k0_chk3 (v2422 : BitVec 32) : Prop :=
  (∀ a, (k0_off9 v2422) a + S1x2048.size a ≤ S8192x2048.size a)
theorem k0_off9_inb : ∀ (v2422 : BitVec 32) (k0_hw3 : k0_chk3 v2422), ∀ a, (k0_off9 v2422) a + S1x2048.size a ≤ S8192x2048.size a := fun v2422 k0_hw3 => k0_hw3

def k0_off10 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_1998 : BitVec 32 := 0#32
  let v2431 : BitVec 32 := Scalar.addi v11 c0_i32_1998
  let c0_i32_14 : BitVec 32 := 0#32
  let c1_i32_16 : BitVec 32 := 1#32
  let arg11 : BitVec 32 := Scf.iv c0_i32_14 c1_i32_16 k0_t1
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off11 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off12 (v2434 : BitVec 32) : Fin 2 → Nat :=
  let c0_i32_2004 : BitVec 32 := 0#32
  ![v2434.toNat, 0]

def k0_chk4 (v2434 : BitVec 32) : Prop :=
  (∀ a, (k0_off12 v2434) a + S1x2048.size a ≤ S8192x2048.size a)
theorem k0_off12_inb : ∀ (v2434 : BitVec 32) (k0_hw4 : k0_chk4 v2434), ∀ a, (k0_off12 v2434) a + S1x2048.size a ≤ S8192x2048.size a := fun v2434 k0_hw4 => k0_hw4

def k0_off13 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_2007 : BitVec 32 := 0#32
  let v2443 : BitVec 32 := Scalar.addi v11 c0_i32_2007
  let c0_i32_14 : BitVec 32 := 0#32
  let c1_i32_16 : BitVec 32 := 1#32
  let arg11 : BitVec 32 := Scf.iv c0_i32_14 c1_i32_16 k0_t1
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off14 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off15 (v2446 : BitVec 32) : Fin 2 → Nat :=
  let c0_i32_2013 : BitVec 32 := 0#32
  ![v2446.toNat, 0]

def k0_chk5 (v2446 : BitVec 32) : Prop :=
  (∀ a, (k0_off15 v2446) a + S1x2048.size a ≤ S8192x2048.size a)
theorem k0_off15_inb : ∀ (v2446 : BitVec 32) (k0_hw5 : k0_chk5 v2446), ∀ a, (k0_off15 v2446) a + S1x2048.size a ≤ S8192x2048.size a := fun v2446 k0_hw5 => k0_hw5

def k0_off16 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_2016 : BitVec 32 := 0#32
  let v2455 : BitVec 32 := Scalar.addi v11 c0_i32_2016
  let c0_i32_14 : BitVec 32 := 0#32
  let c1_i32_16 : BitVec 32 := 1#32
  let arg11 : BitVec 32 := Scf.iv c0_i32_14 c1_i32_16 k0_t1
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off17 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off18 (v2458 : BitVec 32) : Fin 2 → Nat :=
  let c0_i32_2022 : BitVec 32 := 0#32
  ![v2458.toNat, 0]

def k0_chk6 (v2458 : BitVec 32) : Prop :=
  (∀ a, (k0_off18 v2458) a + S1x2048.size a ≤ S8192x2048.size a)
theorem k0_off18_inb : ∀ (v2458 : BitVec 32) (k0_hw6 : k0_chk6 v2458), ∀ a, (k0_off18 v2458) a + S1x2048.size a ≤ S8192x2048.size a := fun v2458 k0_hw6 => k0_hw6

def k0_off19 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_2025 : BitVec 32 := 0#32
  let v2467 : BitVec 32 := Scalar.addi v11 c0_i32_2025
  let c0_i32_14 : BitVec 32 := 0#32
  let c1_i32_16 : BitVec 32 := 1#32
  let arg11 : BitVec 32 := Scf.iv c0_i32_14 c1_i32_16 k0_t1
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off20 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off21 (v2470 : BitVec 32) : Fin 2 → Nat :=
  let c0_i32_2031 : BitVec 32 := 0#32
  ![v2470.toNat, 0]

def k0_chk7 (v2470 : BitVec 32) : Prop :=
  (∀ a, (k0_off21 v2470) a + S1x2048.size a ≤ S8192x2048.size a)
theorem k0_off21_inb : ∀ (v2470 : BitVec 32) (k0_hw7 : k0_chk7 v2470), ∀ a, (k0_off21 v2470) a + S1x2048.size a ≤ S8192x2048.size a := fun v2470 k0_hw7 => k0_hw7

def k0_off22 (d0 : Dev nD) (k0_t1 : Fin k0_t1_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_2034 : BitVec 32 := 0#32
  let v2479 : BitVec 32 := Scalar.addi v11 c0_i32_2034
  let c0_i32_14 : BitVec 32 := 0#32
  let c1_i32_16 : BitVec 32 := 1#32
  let arg11 : BitVec 32 := Scf.iv c0_i32_14 c1_i32_16 k0_t1
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off23 (k0_t1 : Fin k0_t1_loop.trips) : Fin 2 → Nat :=
  let c0_i32_14 : BitVec 32 := 0#32
  let c1_i32_16 : BitVec 32 := 1#32
  let arg11 : BitVec 32 := Scf.iv c0_i32_14 c1_i32_16 k0_t1
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off24 (v2482 : BitVec 32) : Fin 2 → Nat :=
  let c0_i32_2040 : BitVec 32 := 0#32
  ![v2482.toNat, 0]

def k0_chk8 (v2482 : BitVec 32) : Prop :=
  (∀ a, (k0_off24 v2482) a + S1x2048.size a ≤ S8192x2048.size a)
theorem k0_off24_inb : ∀ (v2482 : BitVec 32) (k0_hw8 : k0_chk8 v2482), ∀ a, (k0_off24 v2482) a + S1x2048.size a ≤ S8192x2048.size a := fun v2482 k0_hw8 => k0_hw8

@[reducible] def k0_t2_loop : Scf.Loop 32 :=
  let c0_i32_18 : BitVec 32 := 0#32
  let c8_i32_19 : BitVec 32 := 8#32
  let v26 : BitVec 32 := Scalar.addi c0_i32_18 c8_i32_19
  let c1_i32_20 : BitVec 32 := 1#32
  ⟨c0_i32_18, v26, c1_i32_20⟩
def k0_off25 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_1971 : BitVec 32 := 64#32
  let v2395 : BitVec 32 := Scalar.addi v11 c64_i32_1971
  let c0_i32_18 : BitVec 32 := 0#32
  let c1_i32_20 : BitVec 32 := 1#32
  let arg11 : BitVec 32 := Scf.iv c0_i32_18 c1_i32_20 k0_t2
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off26 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off27 (v2398 : BitVec 32) : Fin 2 → Nat :=
  let c0_i32_1977 : BitVec 32 := 0#32
  ![v2398.toNat, 0]

def k0_chk9 (v2398 : BitVec 32) : Prop :=
  (∀ a, (k0_off27 v2398) a + S1x2048.size a ≤ S8192x2048.size a)
theorem k0_off27_inb : ∀ (v2398 : BitVec 32) (k0_hw9 : k0_chk9 v2398), ∀ a, (k0_off27 v2398) a + S1x2048.size a ≤ S8192x2048.size a := fun v2398 k0_hw9 => k0_hw9

def k0_off28 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_1980 : BitVec 32 := 64#32
  let v2407 : BitVec 32 := Scalar.addi v11 c64_i32_1980
  let c0_i32_18 : BitVec 32 := 0#32
  let c1_i32_20 : BitVec 32 := 1#32
  let arg11 : BitVec 32 := Scf.iv c0_i32_18 c1_i32_20 k0_t2
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off29 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off30 (v2410 : BitVec 32) : Fin 2 → Nat :=
  let c0_i32_1986 : BitVec 32 := 0#32
  ![v2410.toNat, 0]

def k0_chk10 (v2410 : BitVec 32) : Prop :=
  (∀ a, (k0_off30 v2410) a + S1x2048.size a ≤ S8192x2048.size a)
theorem k0_off30_inb : ∀ (v2410 : BitVec 32) (k0_hw10 : k0_chk10 v2410), ∀ a, (k0_off30 v2410) a + S1x2048.size a ≤ S8192x2048.size a := fun v2410 k0_hw10 => k0_hw10

def k0_off31 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_1989 : BitVec 32 := 64#32
  let v2419 : BitVec 32 := Scalar.addi v11 c64_i32_1989
  let c0_i32_18 : BitVec 32 := 0#32
  let c1_i32_20 : BitVec 32 := 1#32
  let arg11 : BitVec 32 := Scf.iv c0_i32_18 c1_i32_20 k0_t2
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off32 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off33 (v2422 : BitVec 32) : Fin 2 → Nat :=
  let c0_i32_1995 : BitVec 32 := 0#32
  ![v2422.toNat, 0]

def k0_chk11 (v2422 : BitVec 32) : Prop :=
  (∀ a, (k0_off33 v2422) a + S1x2048.size a ≤ S8192x2048.size a)
theorem k0_off33_inb : ∀ (v2422 : BitVec 32) (k0_hw11 : k0_chk11 v2422), ∀ a, (k0_off33 v2422) a + S1x2048.size a ≤ S8192x2048.size a := fun v2422 k0_hw11 => k0_hw11

def k0_off34 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_1998 : BitVec 32 := 64#32
  let v2431 : BitVec 32 := Scalar.addi v11 c64_i32_1998
  let c0_i32_18 : BitVec 32 := 0#32
  let c1_i32_20 : BitVec 32 := 1#32
  let arg11 : BitVec 32 := Scf.iv c0_i32_18 c1_i32_20 k0_t2
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off35 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off36 (v2434 : BitVec 32) : Fin 2 → Nat :=
  let c0_i32_2004 : BitVec 32 := 0#32
  ![v2434.toNat, 0]

def k0_chk12 (v2434 : BitVec 32) : Prop :=
  (∀ a, (k0_off36 v2434) a + S1x2048.size a ≤ S8192x2048.size a)
theorem k0_off36_inb : ∀ (v2434 : BitVec 32) (k0_hw12 : k0_chk12 v2434), ∀ a, (k0_off36 v2434) a + S1x2048.size a ≤ S8192x2048.size a := fun v2434 k0_hw12 => k0_hw12

def k0_off37 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_2007 : BitVec 32 := 64#32
  let v2443 : BitVec 32 := Scalar.addi v11 c64_i32_2007
  let c0_i32_18 : BitVec 32 := 0#32
  let c1_i32_20 : BitVec 32 := 1#32
  let arg11 : BitVec 32 := Scf.iv c0_i32_18 c1_i32_20 k0_t2
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off38 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off39 (v2446 : BitVec 32) : Fin 2 → Nat :=
  let c0_i32_2013 : BitVec 32 := 0#32
  ![v2446.toNat, 0]

def k0_chk13 (v2446 : BitVec 32) : Prop :=
  (∀ a, (k0_off39 v2446) a + S1x2048.size a ≤ S8192x2048.size a)
theorem k0_off39_inb : ∀ (v2446 : BitVec 32) (k0_hw13 : k0_chk13 v2446), ∀ a, (k0_off39 v2446) a + S1x2048.size a ≤ S8192x2048.size a := fun v2446 k0_hw13 => k0_hw13

def k0_off40 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_2016 : BitVec 32 := 64#32
  let v2455 : BitVec 32 := Scalar.addi v11 c64_i32_2016
  let c0_i32_18 : BitVec 32 := 0#32
  let c1_i32_20 : BitVec 32 := 1#32
  let arg11 : BitVec 32 := Scf.iv c0_i32_18 c1_i32_20 k0_t2
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off41 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off42 (v2458 : BitVec 32) : Fin 2 → Nat :=
  let c0_i32_2022 : BitVec 32 := 0#32
  ![v2458.toNat, 0]

def k0_chk14 (v2458 : BitVec 32) : Prop :=
  (∀ a, (k0_off42 v2458) a + S1x2048.size a ≤ S8192x2048.size a)
theorem k0_off42_inb : ∀ (v2458 : BitVec 32) (k0_hw14 : k0_chk14 v2458), ∀ a, (k0_off42 v2458) a + S1x2048.size a ≤ S8192x2048.size a := fun v2458 k0_hw14 => k0_hw14

def k0_off43 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_2025 : BitVec 32 := 64#32
  let v2467 : BitVec 32 := Scalar.addi v11 c64_i32_2025
  let c0_i32_18 : BitVec 32 := 0#32
  let c1_i32_20 : BitVec 32 := 1#32
  let arg11 : BitVec 32 := Scf.iv c0_i32_18 c1_i32_20 k0_t2
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off44 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off45 (v2470 : BitVec 32) : Fin 2 → Nat :=
  let c0_i32_2031 : BitVec 32 := 0#32
  ![v2470.toNat, 0]

def k0_chk15 (v2470 : BitVec 32) : Prop :=
  (∀ a, (k0_off45 v2470) a + S1x2048.size a ≤ S8192x2048.size a)
theorem k0_off45_inb : ∀ (v2470 : BitVec 32) (k0_hw15 : k0_chk15 v2470), ∀ a, (k0_off45 v2470) a + S1x2048.size a ≤ S8192x2048.size a := fun v2470 k0_hw15 => k0_hw15

def k0_off46 (d0 : Dev nD) (k0_t2 : Fin k0_t2_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c64_i32_2034 : BitVec 32 := 64#32
  let v2479 : BitVec 32 := Scalar.addi v11 c64_i32_2034
  let c0_i32_18 : BitVec 32 := 0#32
  let c1_i32_20 : BitVec 32 := 1#32
  let arg11 : BitVec 32 := Scf.iv c0_i32_18 c1_i32_20 k0_t2
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off47 (k0_t2 : Fin k0_t2_loop.trips) : Fin 2 → Nat :=
  let c0_i32_18 : BitVec 32 := 0#32
  let c1_i32_20 : BitVec 32 := 1#32
  let arg11 : BitVec 32 := Scf.iv c0_i32_18 c1_i32_20 k0_t2
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off48 (v2482 : BitVec 32) : Fin 2 → Nat :=
  let c0_i32_2040 : BitVec 32 := 0#32
  ![v2482.toNat, 0]

def k0_chk16 (v2482 : BitVec 32) : Prop :=
  (∀ a, (k0_off48 v2482) a + S1x2048.size a ≤ S8192x2048.size a)
theorem k0_off48_inb : ∀ (v2482 : BitVec 32) (k0_hw16 : k0_chk16 v2482), ∀ a, (k0_off48 v2482) a + S1x2048.size a ≤ S8192x2048.size a := fun v2482 k0_hw16 => k0_hw16

@[reducible] def k0_t3_loop : Scf.Loop 32 :=
  let c0_i32_22 : BitVec 32 := 0#32
  let c64_i32 : BitVec 32 := 64#32
  let v27 : BitVec 32 := Scalar.addi c0_i32_22 c64_i32
  let c1_i32_23 : BitVec 32 := 1#32
  ⟨c0_i32_22, v27, c1_i32_23⟩
def k0_off49 (d0 : Dev nD) (c0_i32_24 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let v28 : BitVec 32 := Scalar.addi v11 c0_i32_24
  let v31 : Index := Scalar.indexCast v28
  let c0_27 : Index := 0#32
  ![v31.toNat, 0]
def k0_off50 (d0 : Dev nD) (c0_i32_24 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let v28 : BitVec 32 := Scalar.addi v11 c0_i32_24
  let v37 : Index := Scalar.indexCast v28
  let c0_28 : Index := 0#32
  ![v37.toNat, 0]
def k0_off51 (d0 : Dev nD) (c0_i32_29 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let v39 : BitVec 32 := Scalar.addi v11 c0_i32_29
  let c0_i32_38 : BitVec 32 := 0#32
  ![v39.toNat, 0]
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v40 : BitVec 32 := Scalar.muli v2 c8_i32_32
  let v41 : BitVec 32 := Scalar.addi c0_i32_33 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v42 : BitVec 32 := Scalar.muli v9 c4_i32_34
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v44 : BitVec 32 := Scalar.muli v8 c1_i32_35
  let v45 : BitVec 32 := Scalar.addi v43 v44
  v45.toNat
@[reducible] def k0_t4_loop : Scf.Loop 32 :=
  let c0_i32_39 : BitVec 32 := 0#32
  let c8_i32_40 : BitVec 32 := 8#32
  let v52 : BitVec 32 := Scalar.addi c0_i32_39 c8_i32_40
  let c1_i32_41 : BitVec 32 := 1#32
  ⟨c0_i32_39, v52, c1_i32_41⟩
def k0_off52 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_1971 : BitVec 32 := 128#32
  let v2395 : BitVec 32 := Scalar.addi v11 c128_i32_1971
  let c0_i32_39 : BitVec 32 := 0#32
  let c1_i32_41 : BitVec 32 := 1#32
  let arg11 : BitVec 32 := Scf.iv c0_i32_39 c1_i32_41 k0_t4
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off53 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off54 (v2398 : BitVec 32) : Fin 2 → Nat :=
  let c0_i32_1977 : BitVec 32 := 0#32
  ![v2398.toNat, 0]

def k0_chk17 (v2398 : BitVec 32) : Prop :=
  (∀ a, (k0_off54 v2398) a + S1x2048.size a ≤ S8192x2048.size a)
theorem k0_off54_inb : ∀ (v2398 : BitVec 32) (k0_hw17 : k0_chk17 v2398), ∀ a, (k0_off54 v2398) a + S1x2048.size a ≤ S8192x2048.size a := fun v2398 k0_hw17 => k0_hw17

def k0_off55 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_1980 : BitVec 32 := 128#32
  let v2407 : BitVec 32 := Scalar.addi v11 c128_i32_1980
  let c0_i32_39 : BitVec 32 := 0#32
  let c1_i32_41 : BitVec 32 := 1#32
  let arg11 : BitVec 32 := Scf.iv c0_i32_39 c1_i32_41 k0_t4
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off56 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off57 (v2410 : BitVec 32) : Fin 2 → Nat :=
  let c0_i32_1986 : BitVec 32 := 0#32
  ![v2410.toNat, 0]

def k0_chk18 (v2410 : BitVec 32) : Prop :=
  (∀ a, (k0_off57 v2410) a + S1x2048.size a ≤ S8192x2048.size a)
theorem k0_off57_inb : ∀ (v2410 : BitVec 32) (k0_hw18 : k0_chk18 v2410), ∀ a, (k0_off57 v2410) a + S1x2048.size a ≤ S8192x2048.size a := fun v2410 k0_hw18 => k0_hw18

def k0_off58 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_1989 : BitVec 32 := 128#32
  let v2419 : BitVec 32 := Scalar.addi v11 c128_i32_1989
  let c0_i32_39 : BitVec 32 := 0#32
  let c1_i32_41 : BitVec 32 := 1#32
  let arg11 : BitVec 32 := Scf.iv c0_i32_39 c1_i32_41 k0_t4
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off59 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off60 (v2422 : BitVec 32) : Fin 2 → Nat :=
  let c0_i32_1995 : BitVec 32 := 0#32
  ![v2422.toNat, 0]

def k0_chk19 (v2422 : BitVec 32) : Prop :=
  (∀ a, (k0_off60 v2422) a + S1x2048.size a ≤ S8192x2048.size a)
theorem k0_off60_inb : ∀ (v2422 : BitVec 32) (k0_hw19 : k0_chk19 v2422), ∀ a, (k0_off60 v2422) a + S1x2048.size a ≤ S8192x2048.size a := fun v2422 k0_hw19 => k0_hw19

def k0_off61 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_1998 : BitVec 32 := 128#32
  let v2431 : BitVec 32 := Scalar.addi v11 c128_i32_1998
  let c0_i32_39 : BitVec 32 := 0#32
  let c1_i32_41 : BitVec 32 := 1#32
  let arg11 : BitVec 32 := Scf.iv c0_i32_39 c1_i32_41 k0_t4
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off62 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off63 (v2434 : BitVec 32) : Fin 2 → Nat :=
  let c0_i32_2004 : BitVec 32 := 0#32
  ![v2434.toNat, 0]

def k0_chk20 (v2434 : BitVec 32) : Prop :=
  (∀ a, (k0_off63 v2434) a + S1x2048.size a ≤ S8192x2048.size a)
theorem k0_off63_inb : ∀ (v2434 : BitVec 32) (k0_hw20 : k0_chk20 v2434), ∀ a, (k0_off63 v2434) a + S1x2048.size a ≤ S8192x2048.size a := fun v2434 k0_hw20 => k0_hw20

def k0_off64 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_2007 : BitVec 32 := 128#32
  let v2443 : BitVec 32 := Scalar.addi v11 c128_i32_2007
  let c0_i32_39 : BitVec 32 := 0#32
  let c1_i32_41 : BitVec 32 := 1#32
  let arg11 : BitVec 32 := Scf.iv c0_i32_39 c1_i32_41 k0_t4
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off65 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off66 (v2446 : BitVec 32) : Fin 2 → Nat :=
  let c0_i32_2013 : BitVec 32 := 0#32
  ![v2446.toNat, 0]

def k0_chk21 (v2446 : BitVec 32) : Prop :=
  (∀ a, (k0_off66 v2446) a + S1x2048.size a ≤ S8192x2048.size a)
theorem k0_off66_inb : ∀ (v2446 : BitVec 32) (k0_hw21 : k0_chk21 v2446), ∀ a, (k0_off66 v2446) a + S1x2048.size a ≤ S8192x2048.size a := fun v2446 k0_hw21 => k0_hw21

def k0_off67 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_2016 : BitVec 32 := 128#32
  let v2455 : BitVec 32 := Scalar.addi v11 c128_i32_2016
  let c0_i32_39 : BitVec 32 := 0#32
  let c1_i32_41 : BitVec 32 := 1#32
  let arg11 : BitVec 32 := Scf.iv c0_i32_39 c1_i32_41 k0_t4
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off68 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off69 (v2458 : BitVec 32) : Fin 2 → Nat :=
  let c0_i32_2022 : BitVec 32 := 0#32
  ![v2458.toNat, 0]

def k0_chk22 (v2458 : BitVec 32) : Prop :=
  (∀ a, (k0_off69 v2458) a + S1x2048.size a ≤ S8192x2048.size a)
theorem k0_off69_inb : ∀ (v2458 : BitVec 32) (k0_hw22 : k0_chk22 v2458), ∀ a, (k0_off69 v2458) a + S1x2048.size a ≤ S8192x2048.size a := fun v2458 k0_hw22 => k0_hw22

def k0_off70 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_2025 : BitVec 32 := 128#32
  let v2467 : BitVec 32 := Scalar.addi v11 c128_i32_2025
  let c0_i32_39 : BitVec 32 := 0#32
  let c1_i32_41 : BitVec 32 := 1#32
  let arg11 : BitVec 32 := Scf.iv c0_i32_39 c1_i32_41 k0_t4
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off71 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off72 (v2470 : BitVec 32) : Fin 2 → Nat :=
  let c0_i32_2031 : BitVec 32 := 0#32
  ![v2470.toNat, 0]

def k0_chk23 (v2470 : BitVec 32) : Prop :=
  (∀ a, (k0_off72 v2470) a + S1x2048.size a ≤ S8192x2048.size a)
theorem k0_off72_inb : ∀ (v2470 : BitVec 32) (k0_hw23 : k0_chk23 v2470), ∀ a, (k0_off72 v2470) a + S1x2048.size a ≤ S8192x2048.size a := fun v2470 k0_hw23 => k0_hw23

def k0_off73 (d0 : Dev nD) (k0_t4 : Fin k0_t4_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c128_i32_2034 : BitVec 32 := 128#32
  let v2479 : BitVec 32 := Scalar.addi v11 c128_i32_2034
  let c0_i32_39 : BitVec 32 := 0#32
  let c1_i32_41 : BitVec 32 := 1#32
  let arg11 : BitVec 32 := Scf.iv c0_i32_39 c1_i32_41 k0_t4
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off74 (k0_t4 : Fin k0_t4_loop.trips) : Fin 2 → Nat :=
  let c0_i32_39 : BitVec 32 := 0#32
  let c1_i32_41 : BitVec 32 := 1#32
  let arg11 : BitVec 32 := Scf.iv c0_i32_39 c1_i32_41 k0_t4
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off75 (v2482 : BitVec 32) : Fin 2 → Nat :=
  let c0_i32_2040 : BitVec 32 := 0#32
  ![v2482.toNat, 0]

def k0_chk24 (v2482 : BitVec 32) : Prop :=
  (∀ a, (k0_off75 v2482) a + S1x2048.size a ≤ S8192x2048.size a)
theorem k0_off75_inb : ∀ (v2482 : BitVec 32) (k0_hw24 : k0_chk24 v2482), ∀ a, (k0_off75 v2482) a + S1x2048.size a ≤ S8192x2048.size a := fun v2482 k0_hw24 => k0_hw24

@[reducible] def k0_t5_loop : Scf.Loop 32 :=
  let c0_i32_43 : BitVec 32 := 0#32
  let c64_i32_44 : BitVec 32 := 64#32
  let v53 : BitVec 32 := Scalar.addi c0_i32_43 c64_i32_44
  let c1_i32_45 : BitVec 32 := 1#32
  ⟨c0_i32_43, v53, c1_i32_45⟩
def k0_dev4 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v66 : BitVec 32 := Scalar.muli v2 c8_i32_54
  let v67 : BitVec 32 := Scalar.addi c0_i32_55 v66
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v68 : BitVec 32 := Scalar.muli v9 c4_i32_56
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v70 : BitVec 32 := Scalar.muli v8 c1_i32_57
  let v71 : BitVec 32 := Scalar.addi v69 v70
  v71.toNat
def k0_dev5 (d0 : Dev nD) : Nat :=
  let c0_i32_84 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_83 : BitVec 32 := 8#32
  let v100 : BitVec 32 := Scalar.muli v10 c8_i32_83
  let v101 : BitVec 32 := Scalar.addi c0_i32_84 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v102 : BitVec 32 := Scalar.muli v5 c4_i32_85
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v104 : BitVec 32 := Scalar.muli v8 c1_i32_86
  let v105 : BitVec 32 := Scalar.addi v103 v104
  v105.toNat
@[reducible] def k0_t6_loop : Scf.Loop 32 :=
  let c0_i32_89 : BitVec 32 := 0#32
  let c8_i32_90 : BitVec 32 := 8#32
  let v112 : BitVec 32 := Scalar.addi c0_i32_89 c8_i32_90
  let c1_i32_91 : BitVec 32 := 1#32
  ⟨c0_i32_89, v112, c1_i32_91⟩
def k0_off76 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_1971 : BitVec 32 := 192#32
  let v2395 : BitVec 32 := Scalar.addi v11 c192_i32_1971
  let c0_i32_89 : BitVec 32 := 0#32
  let c1_i32_91 : BitVec 32 := 1#32
  let arg11 : BitVec 32 := Scf.iv c0_i32_89 c1_i32_91 k0_t6
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off77 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off78 (v2398 : BitVec 32) : Fin 2 → Nat :=
  let c0_i32_1977 : BitVec 32 := 0#32
  ![v2398.toNat, 0]

def k0_chk25 (v2398 : BitVec 32) : Prop :=
  (∀ a, (k0_off78 v2398) a + S1x2048.size a ≤ S8192x2048.size a)
theorem k0_off78_inb : ∀ (v2398 : BitVec 32) (k0_hw25 : k0_chk25 v2398), ∀ a, (k0_off78 v2398) a + S1x2048.size a ≤ S8192x2048.size a := fun v2398 k0_hw25 => k0_hw25

def k0_off79 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_1980 : BitVec 32 := 192#32
  let v2407 : BitVec 32 := Scalar.addi v11 c192_i32_1980
  let c0_i32_89 : BitVec 32 := 0#32
  let c1_i32_91 : BitVec 32 := 1#32
  let arg11 : BitVec 32 := Scf.iv c0_i32_89 c1_i32_91 k0_t6
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off80 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off81 (v2410 : BitVec 32) : Fin 2 → Nat :=
  let c0_i32_1986 : BitVec 32 := 0#32
  ![v2410.toNat, 0]

def k0_chk26 (v2410 : BitVec 32) : Prop :=
  (∀ a, (k0_off81 v2410) a + S1x2048.size a ≤ S8192x2048.size a)
theorem k0_off81_inb : ∀ (v2410 : BitVec 32) (k0_hw26 : k0_chk26 v2410), ∀ a, (k0_off81 v2410) a + S1x2048.size a ≤ S8192x2048.size a := fun v2410 k0_hw26 => k0_hw26

def k0_off82 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_1989 : BitVec 32 := 192#32
  let v2419 : BitVec 32 := Scalar.addi v11 c192_i32_1989
  let c0_i32_89 : BitVec 32 := 0#32
  let c1_i32_91 : BitVec 32 := 1#32
  let arg11 : BitVec 32 := Scf.iv c0_i32_89 c1_i32_91 k0_t6
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off83 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off84 (v2422 : BitVec 32) : Fin 2 → Nat :=
  let c0_i32_1995 : BitVec 32 := 0#32
  ![v2422.toNat, 0]

def k0_chk27 (v2422 : BitVec 32) : Prop :=
  (∀ a, (k0_off84 v2422) a + S1x2048.size a ≤ S8192x2048.size a)
theorem k0_off84_inb : ∀ (v2422 : BitVec 32) (k0_hw27 : k0_chk27 v2422), ∀ a, (k0_off84 v2422) a + S1x2048.size a ≤ S8192x2048.size a := fun v2422 k0_hw27 => k0_hw27

def k0_off85 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_1998 : BitVec 32 := 192#32
  let v2431 : BitVec 32 := Scalar.addi v11 c192_i32_1998
  let c0_i32_89 : BitVec 32 := 0#32
  let c1_i32_91 : BitVec 32 := 1#32
  let arg11 : BitVec 32 := Scf.iv c0_i32_89 c1_i32_91 k0_t6
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off86 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off87 (v2434 : BitVec 32) : Fin 2 → Nat :=
  let c0_i32_2004 : BitVec 32 := 0#32
  ![v2434.toNat, 0]

def k0_chk28 (v2434 : BitVec 32) : Prop :=
  (∀ a, (k0_off87 v2434) a + S1x2048.size a ≤ S8192x2048.size a)
theorem k0_off87_inb : ∀ (v2434 : BitVec 32) (k0_hw28 : k0_chk28 v2434), ∀ a, (k0_off87 v2434) a + S1x2048.size a ≤ S8192x2048.size a := fun v2434 k0_hw28 => k0_hw28

def k0_off88 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_2007 : BitVec 32 := 192#32
  let v2443 : BitVec 32 := Scalar.addi v11 c192_i32_2007
  let c0_i32_89 : BitVec 32 := 0#32
  let c1_i32_91 : BitVec 32 := 1#32
  let arg11 : BitVec 32 := Scf.iv c0_i32_89 c1_i32_91 k0_t6
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off89 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off90 (v2446 : BitVec 32) : Fin 2 → Nat :=
  let c0_i32_2013 : BitVec 32 := 0#32
  ![v2446.toNat, 0]

def k0_chk29 (v2446 : BitVec 32) : Prop :=
  (∀ a, (k0_off90 v2446) a + S1x2048.size a ≤ S8192x2048.size a)
theorem k0_off90_inb : ∀ (v2446 : BitVec 32) (k0_hw29 : k0_chk29 v2446), ∀ a, (k0_off90 v2446) a + S1x2048.size a ≤ S8192x2048.size a := fun v2446 k0_hw29 => k0_hw29

def k0_off91 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_2016 : BitVec 32 := 192#32
  let v2455 : BitVec 32 := Scalar.addi v11 c192_i32_2016
  let c0_i32_89 : BitVec 32 := 0#32
  let c1_i32_91 : BitVec 32 := 1#32
  let arg11 : BitVec 32 := Scf.iv c0_i32_89 c1_i32_91 k0_t6
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off92 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off93 (v2458 : BitVec 32) : Fin 2 → Nat :=
  let c0_i32_2022 : BitVec 32 := 0#32
  ![v2458.toNat, 0]

def k0_chk30 (v2458 : BitVec 32) : Prop :=
  (∀ a, (k0_off93 v2458) a + S1x2048.size a ≤ S8192x2048.size a)
theorem k0_off93_inb : ∀ (v2458 : BitVec 32) (k0_hw30 : k0_chk30 v2458), ∀ a, (k0_off93 v2458) a + S1x2048.size a ≤ S8192x2048.size a := fun v2458 k0_hw30 => k0_hw30

def k0_off94 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_2025 : BitVec 32 := 192#32
  let v2467 : BitVec 32 := Scalar.addi v11 c192_i32_2025
  let c0_i32_89 : BitVec 32 := 0#32
  let c1_i32_91 : BitVec 32 := 1#32
  let arg11 : BitVec 32 := Scf.iv c0_i32_89 c1_i32_91 k0_t6
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off95 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off96 (v2470 : BitVec 32) : Fin 2 → Nat :=
  let c0_i32_2031 : BitVec 32 := 0#32
  ![v2470.toNat, 0]

def k0_chk31 (v2470 : BitVec 32) : Prop :=
  (∀ a, (k0_off96 v2470) a + S1x2048.size a ≤ S8192x2048.size a)
theorem k0_off96_inb : ∀ (v2470 : BitVec 32) (k0_hw31 : k0_chk31 v2470), ∀ a, (k0_off96 v2470) a + S1x2048.size a ≤ S8192x2048.size a := fun v2470 k0_hw31 => k0_hw31

def k0_off97 (d0 : Dev nD) (k0_t6 : Fin k0_t6_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c192_i32_2034 : BitVec 32 := 192#32
  let v2479 : BitVec 32 := Scalar.addi v11 c192_i32_2034
  let c0_i32_89 : BitVec 32 := 0#32
  let c1_i32_91 : BitVec 32 := 1#32
  let arg11 : BitVec 32 := Scf.iv c0_i32_89 c1_i32_91 k0_t6
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off98 (k0_t6 : Fin k0_t6_loop.trips) : Fin 2 → Nat :=
  let c0_i32_89 : BitVec 32 := 0#32
  let c1_i32_91 : BitVec 32 := 1#32
  let arg11 : BitVec 32 := Scf.iv c0_i32_89 c1_i32_91 k0_t6
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off99 (v2482 : BitVec 32) : Fin 2 → Nat :=
  let c0_i32_2040 : BitVec 32 := 0#32
  ![v2482.toNat, 0]

def k0_chk32 (v2482 : BitVec 32) : Prop :=
  (∀ a, (k0_off99 v2482) a + S1x2048.size a ≤ S8192x2048.size a)
theorem k0_off99_inb : ∀ (v2482 : BitVec 32) (k0_hw32 : k0_chk32 v2482), ∀ a, (k0_off99 v2482) a + S1x2048.size a ≤ S8192x2048.size a := fun v2482 k0_hw32 => k0_hw32

@[reducible] def k0_t7_loop : Scf.Loop 32 :=
  let c0_i32_93 : BitVec 32 := 0#32
  let c64_i32_94 : BitVec 32 := 64#32
  let v113 : BitVec 32 := Scalar.addi c0_i32_93 c64_i32_94
  let c1_i32_95 : BitVec 32 := 1#32
  ⟨c0_i32_93, v113, c1_i32_95⟩
def k0_dev6 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v126 : BitVec 32 := Scalar.muli v2 c8_i32_103
  let v127 : BitVec 32 := Scalar.addi c0_i32_104 v126
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_105 : BitVec 32 := 4#32
  let v128 : BitVec 32 := Scalar.muli v9 c4_i32_105
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v130 : BitVec 32 := Scalar.muli v8 c1_i32_106
  let v131 : BitVec 32 := Scalar.addi v129 v130
  v131.toNat
def k0_dev7 (d0 : Dev nD) : Nat :=
  let c0_i32_132 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_131 : BitVec 32 := 8#32
  let v160 : BitVec 32 := Scalar.muli v10 c8_i32_131
  let v161 : BitVec 32 := Scalar.addi c0_i32_132 v160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v162 : BitVec 32 := Scalar.muli v5 c4_i32_133
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v164 : BitVec 32 := Scalar.muli v8 c1_i32_134
  let v165 : BitVec 32 := Scalar.addi v163 v164
  v165.toNat
@[reducible] def k0_t8_loop : Scf.Loop 32 :=
  let c0_i32_137 : BitVec 32 := 0#32
  let c8_i32_138 : BitVec 32 := 8#32
  let v172 : BitVec 32 := Scalar.addi c0_i32_137 c8_i32_138
  let c1_i32_139 : BitVec 32 := 1#32
  ⟨c0_i32_137, v172, c1_i32_139⟩
def k0_off100 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_1971 : BitVec 32 := 256#32
  let v2395 : BitVec 32 := Scalar.addi v11 c256_i32_1971
  let c0_i32_137 : BitVec 32 := 0#32
  let c1_i32_139 : BitVec 32 := 1#32
  let arg11 : BitVec 32 := Scf.iv c0_i32_137 c1_i32_139 k0_t8
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off101 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off102 (v2398 : BitVec 32) : Fin 2 → Nat :=
  let c0_i32_1977 : BitVec 32 := 0#32
  ![v2398.toNat, 0]

def k0_chk33 (v2398 : BitVec 32) : Prop :=
  (∀ a, (k0_off102 v2398) a + S1x2048.size a ≤ S8192x2048.size a)
theorem k0_off102_inb : ∀ (v2398 : BitVec 32) (k0_hw33 : k0_chk33 v2398), ∀ a, (k0_off102 v2398) a + S1x2048.size a ≤ S8192x2048.size a := fun v2398 k0_hw33 => k0_hw33

def k0_off103 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_1980 : BitVec 32 := 256#32
  let v2407 : BitVec 32 := Scalar.addi v11 c256_i32_1980
  let c0_i32_137 : BitVec 32 := 0#32
  let c1_i32_139 : BitVec 32 := 1#32
  let arg11 : BitVec 32 := Scf.iv c0_i32_137 c1_i32_139 k0_t8
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off104 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off105 (v2410 : BitVec 32) : Fin 2 → Nat :=
  let c0_i32_1986 : BitVec 32 := 0#32
  ![v2410.toNat, 0]

def k0_chk34 (v2410 : BitVec 32) : Prop :=
  (∀ a, (k0_off105 v2410) a + S1x2048.size a ≤ S8192x2048.size a)
theorem k0_off105_inb : ∀ (v2410 : BitVec 32) (k0_hw34 : k0_chk34 v2410), ∀ a, (k0_off105 v2410) a + S1x2048.size a ≤ S8192x2048.size a := fun v2410 k0_hw34 => k0_hw34

def k0_off106 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_1989 : BitVec 32 := 256#32
  let v2419 : BitVec 32 := Scalar.addi v11 c256_i32_1989
  let c0_i32_137 : BitVec 32 := 0#32
  let c1_i32_139 : BitVec 32 := 1#32
  let arg11 : BitVec 32 := Scf.iv c0_i32_137 c1_i32_139 k0_t8
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off107 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off108 (v2422 : BitVec 32) : Fin 2 → Nat :=
  let c0_i32_1995 : BitVec 32 := 0#32
  ![v2422.toNat, 0]

def k0_chk35 (v2422 : BitVec 32) : Prop :=
  (∀ a, (k0_off108 v2422) a + S1x2048.size a ≤ S8192x2048.size a)
theorem k0_off108_inb : ∀ (v2422 : BitVec 32) (k0_hw35 : k0_chk35 v2422), ∀ a, (k0_off108 v2422) a + S1x2048.size a ≤ S8192x2048.size a := fun v2422 k0_hw35 => k0_hw35

def k0_off109 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_1998 : BitVec 32 := 256#32
  let v2431 : BitVec 32 := Scalar.addi v11 c256_i32_1998
  let c0_i32_137 : BitVec 32 := 0#32
  let c1_i32_139 : BitVec 32 := 1#32
  let arg11 : BitVec 32 := Scf.iv c0_i32_137 c1_i32_139 k0_t8
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off110 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off111 (v2434 : BitVec 32) : Fin 2 → Nat :=
  let c0_i32_2004 : BitVec 32 := 0#32
  ![v2434.toNat, 0]

def k0_chk36 (v2434 : BitVec 32) : Prop :=
  (∀ a, (k0_off111 v2434) a + S1x2048.size a ≤ S8192x2048.size a)
theorem k0_off111_inb : ∀ (v2434 : BitVec 32) (k0_hw36 : k0_chk36 v2434), ∀ a, (k0_off111 v2434) a + S1x2048.size a ≤ S8192x2048.size a := fun v2434 k0_hw36 => k0_hw36

def k0_off112 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_2007 : BitVec 32 := 256#32
  let v2443 : BitVec 32 := Scalar.addi v11 c256_i32_2007
  let c0_i32_137 : BitVec 32 := 0#32
  let c1_i32_139 : BitVec 32 := 1#32
  let arg11 : BitVec 32 := Scf.iv c0_i32_137 c1_i32_139 k0_t8
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off113 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off114 (v2446 : BitVec 32) : Fin 2 → Nat :=
  let c0_i32_2013 : BitVec 32 := 0#32
  ![v2446.toNat, 0]

def k0_chk37 (v2446 : BitVec 32) : Prop :=
  (∀ a, (k0_off114 v2446) a + S1x2048.size a ≤ S8192x2048.size a)
theorem k0_off114_inb : ∀ (v2446 : BitVec 32) (k0_hw37 : k0_chk37 v2446), ∀ a, (k0_off114 v2446) a + S1x2048.size a ≤ S8192x2048.size a := fun v2446 k0_hw37 => k0_hw37

def k0_off115 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_2016 : BitVec 32 := 256#32
  let v2455 : BitVec 32 := Scalar.addi v11 c256_i32_2016
  let c0_i32_137 : BitVec 32 := 0#32
  let c1_i32_139 : BitVec 32 := 1#32
  let arg11 : BitVec 32 := Scf.iv c0_i32_137 c1_i32_139 k0_t8
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off116 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off117 (v2458 : BitVec 32) : Fin 2 → Nat :=
  let c0_i32_2022 : BitVec 32 := 0#32
  ![v2458.toNat, 0]

def k0_chk38 (v2458 : BitVec 32) : Prop :=
  (∀ a, (k0_off117 v2458) a + S1x2048.size a ≤ S8192x2048.size a)
theorem k0_off117_inb : ∀ (v2458 : BitVec 32) (k0_hw38 : k0_chk38 v2458), ∀ a, (k0_off117 v2458) a + S1x2048.size a ≤ S8192x2048.size a := fun v2458 k0_hw38 => k0_hw38

def k0_off118 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_2025 : BitVec 32 := 256#32
  let v2467 : BitVec 32 := Scalar.addi v11 c256_i32_2025
  let c0_i32_137 : BitVec 32 := 0#32
  let c1_i32_139 : BitVec 32 := 1#32
  let arg11 : BitVec 32 := Scf.iv c0_i32_137 c1_i32_139 k0_t8
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off119 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off120 (v2470 : BitVec 32) : Fin 2 → Nat :=
  let c0_i32_2031 : BitVec 32 := 0#32
  ![v2470.toNat, 0]

def k0_chk39 (v2470 : BitVec 32) : Prop :=
  (∀ a, (k0_off120 v2470) a + S1x2048.size a ≤ S8192x2048.size a)
theorem k0_off120_inb : ∀ (v2470 : BitVec 32) (k0_hw39 : k0_chk39 v2470), ∀ a, (k0_off120 v2470) a + S1x2048.size a ≤ S8192x2048.size a := fun v2470 k0_hw39 => k0_hw39

def k0_off121 (d0 : Dev nD) (k0_t8 : Fin k0_t8_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c256_i32_2034 : BitVec 32 := 256#32
  let v2479 : BitVec 32 := Scalar.addi v11 c256_i32_2034
  let c0_i32_137 : BitVec 32 := 0#32
  let c1_i32_139 : BitVec 32 := 1#32
  let arg11 : BitVec 32 := Scf.iv c0_i32_137 c1_i32_139 k0_t8
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off122 (k0_t8 : Fin k0_t8_loop.trips) : Fin 2 → Nat :=
  let c0_i32_137 : BitVec 32 := 0#32
  let c1_i32_139 : BitVec 32 := 1#32
  let arg11 : BitVec 32 := Scf.iv c0_i32_137 c1_i32_139 k0_t8
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off123 (v2482 : BitVec 32) : Fin 2 → Nat :=
  let c0_i32_2040 : BitVec 32 := 0#32
  ![v2482.toNat, 0]

def k0_chk40 (v2482 : BitVec 32) : Prop :=
  (∀ a, (k0_off123 v2482) a + S1x2048.size a ≤ S8192x2048.size a)
theorem k0_off123_inb : ∀ (v2482 : BitVec 32) (k0_hw40 : k0_chk40 v2482), ∀ a, (k0_off123 v2482) a + S1x2048.size a ≤ S8192x2048.size a := fun v2482 k0_hw40 => k0_hw40

@[reducible] def k0_t9_loop : Scf.Loop 32 :=
  let c0_i32_141 : BitVec 32 := 0#32
  let c64_i32_142 : BitVec 32 := 64#32
  let v173 : BitVec 32 := Scalar.addi c0_i32_141 c64_i32_142
  let c1_i32_143 : BitVec 32 := 1#32
  ⟨c0_i32_141, v173, c1_i32_143⟩
def k0_dev8 (d0 : Dev nD) : Nat :=
  let c0_i32_151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_150 : BitVec 32 := 8#32
  let v186 : BitVec 32 := Scalar.muli v2 c8_i32_150
  let v187 : BitVec 32 := Scalar.addi c0_i32_151 v186
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_152 : BitVec 32 := 4#32
  let v188 : BitVec 32 := Scalar.muli v9 c4_i32_152
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v190 : BitVec 32 := Scalar.muli v8 c1_i32_153
  let v191 : BitVec 32 := Scalar.addi v189 v190
  v191.toNat
def k0_dev9 (d0 : Dev nD) : Nat :=
  let c0_i32_179 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_178 : BitVec 32 := 8#32
  let v220 : BitVec 32 := Scalar.muli v10 c8_i32_178
  let v221 : BitVec 32 := Scalar.addi c0_i32_179 v220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_180 : BitVec 32 := 4#32
  let v222 : BitVec 32 := Scalar.muli v5 c4_i32_180
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v224 : BitVec 32 := Scalar.muli v8 c1_i32_181
  let v225 : BitVec 32 := Scalar.addi v223 v224
  v225.toNat
@[reducible] def k0_t10_loop : Scf.Loop 32 :=
  let c0_i32_184 : BitVec 32 := 0#32
  let c8_i32_185 : BitVec 32 := 8#32
  let v232 : BitVec 32 := Scalar.addi c0_i32_184 c8_i32_185
  let c1_i32_186 : BitVec 32 := 1#32
  ⟨c0_i32_184, v232, c1_i32_186⟩
def k0_off124 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_1971 : BitVec 32 := 320#32
  let v2395 : BitVec 32 := Scalar.addi v11 c320_i32_1971
  let c0_i32_184 : BitVec 32 := 0#32
  let c1_i32_186 : BitVec 32 := 1#32
  let arg11 : BitVec 32 := Scf.iv c0_i32_184 c1_i32_186 k0_t10
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off125 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off126 (v2398 : BitVec 32) : Fin 2 → Nat :=
  let c0_i32_1977 : BitVec 32 := 0#32
  ![v2398.toNat, 0]

def k0_chk41 (v2398 : BitVec 32) : Prop :=
  (∀ a, (k0_off126 v2398) a + S1x2048.size a ≤ S8192x2048.size a)
theorem k0_off126_inb : ∀ (v2398 : BitVec 32) (k0_hw41 : k0_chk41 v2398), ∀ a, (k0_off126 v2398) a + S1x2048.size a ≤ S8192x2048.size a := fun v2398 k0_hw41 => k0_hw41

def k0_off127 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_1980 : BitVec 32 := 320#32
  let v2407 : BitVec 32 := Scalar.addi v11 c320_i32_1980
  let c0_i32_184 : BitVec 32 := 0#32
  let c1_i32_186 : BitVec 32 := 1#32
  let arg11 : BitVec 32 := Scf.iv c0_i32_184 c1_i32_186 k0_t10
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off128 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off129 (v2410 : BitVec 32) : Fin 2 → Nat :=
  let c0_i32_1986 : BitVec 32 := 0#32
  ![v2410.toNat, 0]

def k0_chk42 (v2410 : BitVec 32) : Prop :=
  (∀ a, (k0_off129 v2410) a + S1x2048.size a ≤ S8192x2048.size a)
theorem k0_off129_inb : ∀ (v2410 : BitVec 32) (k0_hw42 : k0_chk42 v2410), ∀ a, (k0_off129 v2410) a + S1x2048.size a ≤ S8192x2048.size a := fun v2410 k0_hw42 => k0_hw42

def k0_off130 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_1989 : BitVec 32 := 320#32
  let v2419 : BitVec 32 := Scalar.addi v11 c320_i32_1989
  let c0_i32_184 : BitVec 32 := 0#32
  let c1_i32_186 : BitVec 32 := 1#32
  let arg11 : BitVec 32 := Scf.iv c0_i32_184 c1_i32_186 k0_t10
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off131 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off132 (v2422 : BitVec 32) : Fin 2 → Nat :=
  let c0_i32_1995 : BitVec 32 := 0#32
  ![v2422.toNat, 0]

def k0_chk43 (v2422 : BitVec 32) : Prop :=
  (∀ a, (k0_off132 v2422) a + S1x2048.size a ≤ S8192x2048.size a)
theorem k0_off132_inb : ∀ (v2422 : BitVec 32) (k0_hw43 : k0_chk43 v2422), ∀ a, (k0_off132 v2422) a + S1x2048.size a ≤ S8192x2048.size a := fun v2422 k0_hw43 => k0_hw43

def k0_off133 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_1998 : BitVec 32 := 320#32
  let v2431 : BitVec 32 := Scalar.addi v11 c320_i32_1998
  let c0_i32_184 : BitVec 32 := 0#32
  let c1_i32_186 : BitVec 32 := 1#32
  let arg11 : BitVec 32 := Scf.iv c0_i32_184 c1_i32_186 k0_t10
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off134 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off135 (v2434 : BitVec 32) : Fin 2 → Nat :=
  let c0_i32_2004 : BitVec 32 := 0#32
  ![v2434.toNat, 0]

def k0_chk44 (v2434 : BitVec 32) : Prop :=
  (∀ a, (k0_off135 v2434) a + S1x2048.size a ≤ S8192x2048.size a)
theorem k0_off135_inb : ∀ (v2434 : BitVec 32) (k0_hw44 : k0_chk44 v2434), ∀ a, (k0_off135 v2434) a + S1x2048.size a ≤ S8192x2048.size a := fun v2434 k0_hw44 => k0_hw44

def k0_off136 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_2007 : BitVec 32 := 320#32
  let v2443 : BitVec 32 := Scalar.addi v11 c320_i32_2007
  let c0_i32_184 : BitVec 32 := 0#32
  let c1_i32_186 : BitVec 32 := 1#32
  let arg11 : BitVec 32 := Scf.iv c0_i32_184 c1_i32_186 k0_t10
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off137 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off138 (v2446 : BitVec 32) : Fin 2 → Nat :=
  let c0_i32_2013 : BitVec 32 := 0#32
  ![v2446.toNat, 0]

def k0_chk45 (v2446 : BitVec 32) : Prop :=
  (∀ a, (k0_off138 v2446) a + S1x2048.size a ≤ S8192x2048.size a)
theorem k0_off138_inb : ∀ (v2446 : BitVec 32) (k0_hw45 : k0_chk45 v2446), ∀ a, (k0_off138 v2446) a + S1x2048.size a ≤ S8192x2048.size a := fun v2446 k0_hw45 => k0_hw45

def k0_off139 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_2016 : BitVec 32 := 320#32
  let v2455 : BitVec 32 := Scalar.addi v11 c320_i32_2016
  let c0_i32_184 : BitVec 32 := 0#32
  let c1_i32_186 : BitVec 32 := 1#32
  let arg11 : BitVec 32 := Scf.iv c0_i32_184 c1_i32_186 k0_t10
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off140 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off141 (v2458 : BitVec 32) : Fin 2 → Nat :=
  let c0_i32_2022 : BitVec 32 := 0#32
  ![v2458.toNat, 0]

def k0_chk46 (v2458 : BitVec 32) : Prop :=
  (∀ a, (k0_off141 v2458) a + S1x2048.size a ≤ S8192x2048.size a)
theorem k0_off141_inb : ∀ (v2458 : BitVec 32) (k0_hw46 : k0_chk46 v2458), ∀ a, (k0_off141 v2458) a + S1x2048.size a ≤ S8192x2048.size a := fun v2458 k0_hw46 => k0_hw46

def k0_off142 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_2025 : BitVec 32 := 320#32
  let v2467 : BitVec 32 := Scalar.addi v11 c320_i32_2025
  let c0_i32_184 : BitVec 32 := 0#32
  let c1_i32_186 : BitVec 32 := 1#32
  let arg11 : BitVec 32 := Scf.iv c0_i32_184 c1_i32_186 k0_t10
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off143 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off144 (v2470 : BitVec 32) : Fin 2 → Nat :=
  let c0_i32_2031 : BitVec 32 := 0#32
  ![v2470.toNat, 0]

def k0_chk47 (v2470 : BitVec 32) : Prop :=
  (∀ a, (k0_off144 v2470) a + S1x2048.size a ≤ S8192x2048.size a)
theorem k0_off144_inb : ∀ (v2470 : BitVec 32) (k0_hw47 : k0_chk47 v2470), ∀ a, (k0_off144 v2470) a + S1x2048.size a ≤ S8192x2048.size a := fun v2470 k0_hw47 => k0_hw47

def k0_off145 (d0 : Dev nD) (k0_t10 : Fin k0_t10_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c320_i32_2034 : BitVec 32 := 320#32
  let v2479 : BitVec 32 := Scalar.addi v11 c320_i32_2034
  let c0_i32_184 : BitVec 32 := 0#32
  let c1_i32_186 : BitVec 32 := 1#32
  let arg11 : BitVec 32 := Scf.iv c0_i32_184 c1_i32_186 k0_t10
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off146 (k0_t10 : Fin k0_t10_loop.trips) : Fin 2 → Nat :=
  let c0_i32_184 : BitVec 32 := 0#32
  let c1_i32_186 : BitVec 32 := 1#32
  let arg11 : BitVec 32 := Scf.iv c0_i32_184 c1_i32_186 k0_t10
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off147 (v2482 : BitVec 32) : Fin 2 → Nat :=
  let c0_i32_2040 : BitVec 32 := 0#32
  ![v2482.toNat, 0]

def k0_chk48 (v2482 : BitVec 32) : Prop :=
  (∀ a, (k0_off147 v2482) a + S1x2048.size a ≤ S8192x2048.size a)
theorem k0_off147_inb : ∀ (v2482 : BitVec 32) (k0_hw48 : k0_chk48 v2482), ∀ a, (k0_off147 v2482) a + S1x2048.size a ≤ S8192x2048.size a := fun v2482 k0_hw48 => k0_hw48

@[reducible] def k0_t11_loop : Scf.Loop 32 :=
  let c0_i32_188 : BitVec 32 := 0#32
  let c64_i32_189 : BitVec 32 := 64#32
  let v233 : BitVec 32 := Scalar.addi c0_i32_188 c64_i32_189
  let c1_i32_190 : BitVec 32 := 1#32
  ⟨c0_i32_188, v233, c1_i32_190⟩
def k0_dev10 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v246 : BitVec 32 := Scalar.muli v2 c8_i32_199
  let v247 : BitVec 32 := Scalar.addi c0_i32_200 v246
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_201 : BitVec 32 := 4#32
  let v248 : BitVec 32 := Scalar.muli v9 c4_i32_201
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v250 : BitVec 32 := Scalar.muli v8 c1_i32_202
  let v251 : BitVec 32 := Scalar.addi v249 v250
  v251.toNat
def k0_dev11 (d0 : Dev nD) : Nat :=
  let c0_i32_228 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_227 : BitVec 32 := 8#32
  let v280 : BitVec 32 := Scalar.muli v10 c8_i32_227
  let v281 : BitVec 32 := Scalar.addi c0_i32_228 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_229 : BitVec 32 := 4#32
  let v282 : BitVec 32 := Scalar.muli v5 c4_i32_229
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v284 : BitVec 32 := Scalar.muli v8 c1_i32_230
  let v285 : BitVec 32 := Scalar.addi v283 v284
  v285.toNat
@[reducible] def k0_t12_loop : Scf.Loop 32 :=
  let c0_i32_233 : BitVec 32 := 0#32
  let c8_i32_234 : BitVec 32 := 8#32
  let v292 : BitVec 32 := Scalar.addi c0_i32_233 c8_i32_234
  let c1_i32_235 : BitVec 32 := 1#32
  ⟨c0_i32_233, v292, c1_i32_235⟩
def k0_off148 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_1971 : BitVec 32 := 384#32
  let v2395 : BitVec 32 := Scalar.addi v11 c384_i32_1971
  let c0_i32_233 : BitVec 32 := 0#32
  let c1_i32_235 : BitVec 32 := 1#32
  let arg11 : BitVec 32 := Scf.iv c0_i32_233 c1_i32_235 k0_t12
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off149 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off150 (v2398 : BitVec 32) : Fin 2 → Nat :=
  let c0_i32_1977 : BitVec 32 := 0#32
  ![v2398.toNat, 0]

def k0_chk49 (v2398 : BitVec 32) : Prop :=
  (∀ a, (k0_off150 v2398) a + S1x2048.size a ≤ S8192x2048.size a)
theorem k0_off150_inb : ∀ (v2398 : BitVec 32) (k0_hw49 : k0_chk49 v2398), ∀ a, (k0_off150 v2398) a + S1x2048.size a ≤ S8192x2048.size a := fun v2398 k0_hw49 => k0_hw49

def k0_off151 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_1980 : BitVec 32 := 384#32
  let v2407 : BitVec 32 := Scalar.addi v11 c384_i32_1980
  let c0_i32_233 : BitVec 32 := 0#32
  let c1_i32_235 : BitVec 32 := 1#32
  let arg11 : BitVec 32 := Scf.iv c0_i32_233 c1_i32_235 k0_t12
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off152 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off153 (v2410 : BitVec 32) : Fin 2 → Nat :=
  let c0_i32_1986 : BitVec 32 := 0#32
  ![v2410.toNat, 0]

def k0_chk50 (v2410 : BitVec 32) : Prop :=
  (∀ a, (k0_off153 v2410) a + S1x2048.size a ≤ S8192x2048.size a)
theorem k0_off153_inb : ∀ (v2410 : BitVec 32) (k0_hw50 : k0_chk50 v2410), ∀ a, (k0_off153 v2410) a + S1x2048.size a ≤ S8192x2048.size a := fun v2410 k0_hw50 => k0_hw50

def k0_off154 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_1989 : BitVec 32 := 384#32
  let v2419 : BitVec 32 := Scalar.addi v11 c384_i32_1989
  let c0_i32_233 : BitVec 32 := 0#32
  let c1_i32_235 : BitVec 32 := 1#32
  let arg11 : BitVec 32 := Scf.iv c0_i32_233 c1_i32_235 k0_t12
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off155 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off156 (v2422 : BitVec 32) : Fin 2 → Nat :=
  let c0_i32_1995 : BitVec 32 := 0#32
  ![v2422.toNat, 0]

def k0_chk51 (v2422 : BitVec 32) : Prop :=
  (∀ a, (k0_off156 v2422) a + S1x2048.size a ≤ S8192x2048.size a)
theorem k0_off156_inb : ∀ (v2422 : BitVec 32) (k0_hw51 : k0_chk51 v2422), ∀ a, (k0_off156 v2422) a + S1x2048.size a ≤ S8192x2048.size a := fun v2422 k0_hw51 => k0_hw51

def k0_off157 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_1998 : BitVec 32 := 384#32
  let v2431 : BitVec 32 := Scalar.addi v11 c384_i32_1998
  let c0_i32_233 : BitVec 32 := 0#32
  let c1_i32_235 : BitVec 32 := 1#32
  let arg11 : BitVec 32 := Scf.iv c0_i32_233 c1_i32_235 k0_t12
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off158 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off159 (v2434 : BitVec 32) : Fin 2 → Nat :=
  let c0_i32_2004 : BitVec 32 := 0#32
  ![v2434.toNat, 0]

def k0_chk52 (v2434 : BitVec 32) : Prop :=
  (∀ a, (k0_off159 v2434) a + S1x2048.size a ≤ S8192x2048.size a)
theorem k0_off159_inb : ∀ (v2434 : BitVec 32) (k0_hw52 : k0_chk52 v2434), ∀ a, (k0_off159 v2434) a + S1x2048.size a ≤ S8192x2048.size a := fun v2434 k0_hw52 => k0_hw52

def k0_off160 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_2007 : BitVec 32 := 384#32
  let v2443 : BitVec 32 := Scalar.addi v11 c384_i32_2007
  let c0_i32_233 : BitVec 32 := 0#32
  let c1_i32_235 : BitVec 32 := 1#32
  let arg11 : BitVec 32 := Scf.iv c0_i32_233 c1_i32_235 k0_t12
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off161 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off162 (v2446 : BitVec 32) : Fin 2 → Nat :=
  let c0_i32_2013 : BitVec 32 := 0#32
  ![v2446.toNat, 0]

def k0_chk53 (v2446 : BitVec 32) : Prop :=
  (∀ a, (k0_off162 v2446) a + S1x2048.size a ≤ S8192x2048.size a)
theorem k0_off162_inb : ∀ (v2446 : BitVec 32) (k0_hw53 : k0_chk53 v2446), ∀ a, (k0_off162 v2446) a + S1x2048.size a ≤ S8192x2048.size a := fun v2446 k0_hw53 => k0_hw53

def k0_off163 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_2016 : BitVec 32 := 384#32
  let v2455 : BitVec 32 := Scalar.addi v11 c384_i32_2016
  let c0_i32_233 : BitVec 32 := 0#32
  let c1_i32_235 : BitVec 32 := 1#32
  let arg11 : BitVec 32 := Scf.iv c0_i32_233 c1_i32_235 k0_t12
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off164 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off165 (v2458 : BitVec 32) : Fin 2 → Nat :=
  let c0_i32_2022 : BitVec 32 := 0#32
  ![v2458.toNat, 0]

def k0_chk54 (v2458 : BitVec 32) : Prop :=
  (∀ a, (k0_off165 v2458) a + S1x2048.size a ≤ S8192x2048.size a)
theorem k0_off165_inb : ∀ (v2458 : BitVec 32) (k0_hw54 : k0_chk54 v2458), ∀ a, (k0_off165 v2458) a + S1x2048.size a ≤ S8192x2048.size a := fun v2458 k0_hw54 => k0_hw54

def k0_off166 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_2025 : BitVec 32 := 384#32
  let v2467 : BitVec 32 := Scalar.addi v11 c384_i32_2025
  let c0_i32_233 : BitVec 32 := 0#32
  let c1_i32_235 : BitVec 32 := 1#32
  let arg11 : BitVec 32 := Scf.iv c0_i32_233 c1_i32_235 k0_t12
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off167 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off168 (v2470 : BitVec 32) : Fin 2 → Nat :=
  let c0_i32_2031 : BitVec 32 := 0#32
  ![v2470.toNat, 0]

def k0_chk55 (v2470 : BitVec 32) : Prop :=
  (∀ a, (k0_off168 v2470) a + S1x2048.size a ≤ S8192x2048.size a)
theorem k0_off168_inb : ∀ (v2470 : BitVec 32) (k0_hw55 : k0_chk55 v2470), ∀ a, (k0_off168 v2470) a + S1x2048.size a ≤ S8192x2048.size a := fun v2470 k0_hw55 => k0_hw55

def k0_off169 (d0 : Dev nD) (k0_t12 : Fin k0_t12_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c384_i32_2034 : BitVec 32 := 384#32
  let v2479 : BitVec 32 := Scalar.addi v11 c384_i32_2034
  let c0_i32_233 : BitVec 32 := 0#32
  let c1_i32_235 : BitVec 32 := 1#32
  let arg11 : BitVec 32 := Scf.iv c0_i32_233 c1_i32_235 k0_t12
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off170 (k0_t12 : Fin k0_t12_loop.trips) : Fin 2 → Nat :=
  let c0_i32_233 : BitVec 32 := 0#32
  let c1_i32_235 : BitVec 32 := 1#32
  let arg11 : BitVec 32 := Scf.iv c0_i32_233 c1_i32_235 k0_t12
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off171 (v2482 : BitVec 32) : Fin 2 → Nat :=
  let c0_i32_2040 : BitVec 32 := 0#32
  ![v2482.toNat, 0]

def k0_chk56 (v2482 : BitVec 32) : Prop :=
  (∀ a, (k0_off171 v2482) a + S1x2048.size a ≤ S8192x2048.size a)
theorem k0_off171_inb : ∀ (v2482 : BitVec 32) (k0_hw56 : k0_chk56 v2482), ∀ a, (k0_off171 v2482) a + S1x2048.size a ≤ S8192x2048.size a := fun v2482 k0_hw56 => k0_hw56

@[reducible] def k0_t13_loop : Scf.Loop 32 :=
  let c0_i32_237 : BitVec 32 := 0#32
  let c64_i32_238 : BitVec 32 := 64#32
  let v293 : BitVec 32 := Scalar.addi c0_i32_237 c64_i32_238
  let c1_i32_239 : BitVec 32 := 1#32
  ⟨c0_i32_237, v293, c1_i32_239⟩
def k0_dev12 (d0 : Dev nD) : Nat :=
  let c0_i32_248 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_247 : BitVec 32 := 8#32
  let v306 : BitVec 32 := Scalar.muli v2 c8_i32_247
  let v307 : BitVec 32 := Scalar.addi c0_i32_248 v306
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_249 : BitVec 32 := 4#32
  let v308 : BitVec 32 := Scalar.muli v9 c4_i32_249
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v310 : BitVec 32 := Scalar.muli v8 c1_i32_250
  let v311 : BitVec 32 := Scalar.addi v309 v310
  v311.toNat
def k0_dev13 (d0 : Dev nD) : Nat :=
  let c0_i32_276 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_275 : BitVec 32 := 8#32
  let v340 : BitVec 32 := Scalar.muli v10 c8_i32_275
  let v341 : BitVec 32 := Scalar.addi c0_i32_276 v340
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_277 : BitVec 32 := 4#32
  let v342 : BitVec 32 := Scalar.muli v5 c4_i32_277
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v344 : BitVec 32 := Scalar.muli v8 c1_i32_278
  let v345 : BitVec 32 := Scalar.addi v343 v344
  v345.toNat
@[reducible] def k0_t14_loop : Scf.Loop 32 :=
  let c0_i32_281 : BitVec 32 := 0#32
  let c8_i32_282 : BitVec 32 := 8#32
  let v352 : BitVec 32 := Scalar.addi c0_i32_281 c8_i32_282
  let c1_i32_283 : BitVec 32 := 1#32
  ⟨c0_i32_281, v352, c1_i32_283⟩
def k0_off172 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_1971 : BitVec 32 := 448#32
  let v2395 : BitVec 32 := Scalar.addi v11 c448_i32_1971
  let c0_i32_281 : BitVec 32 := 0#32
  let c1_i32_283 : BitVec 32 := 1#32
  let arg11 : BitVec 32 := Scf.iv c0_i32_281 c1_i32_283 k0_t14
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off173 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off174 (v2398 : BitVec 32) : Fin 2 → Nat :=
  let c0_i32_1977 : BitVec 32 := 0#32
  ![v2398.toNat, 0]

def k0_chk57 (v2398 : BitVec 32) : Prop :=
  (∀ a, (k0_off174 v2398) a + S1x2048.size a ≤ S8192x2048.size a)
theorem k0_off174_inb : ∀ (v2398 : BitVec 32) (k0_hw57 : k0_chk57 v2398), ∀ a, (k0_off174 v2398) a + S1x2048.size a ≤ S8192x2048.size a := fun v2398 k0_hw57 => k0_hw57

def k0_off175 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_1980 : BitVec 32 := 448#32
  let v2407 : BitVec 32 := Scalar.addi v11 c448_i32_1980
  let c0_i32_281 : BitVec 32 := 0#32
  let c1_i32_283 : BitVec 32 := 1#32
  let arg11 : BitVec 32 := Scf.iv c0_i32_281 c1_i32_283 k0_t14
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off176 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off177 (v2410 : BitVec 32) : Fin 2 → Nat :=
  let c0_i32_1986 : BitVec 32 := 0#32
  ![v2410.toNat, 0]

def k0_chk58 (v2410 : BitVec 32) : Prop :=
  (∀ a, (k0_off177 v2410) a + S1x2048.size a ≤ S8192x2048.size a)
theorem k0_off177_inb : ∀ (v2410 : BitVec 32) (k0_hw58 : k0_chk58 v2410), ∀ a, (k0_off177 v2410) a + S1x2048.size a ≤ S8192x2048.size a := fun v2410 k0_hw58 => k0_hw58

def k0_off178 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_1989 : BitVec 32 := 448#32
  let v2419 : BitVec 32 := Scalar.addi v11 c448_i32_1989
  let c0_i32_281 : BitVec 32 := 0#32
  let c1_i32_283 : BitVec 32 := 1#32
  let arg11 : BitVec 32 := Scf.iv c0_i32_281 c1_i32_283 k0_t14
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off179 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off180 (v2422 : BitVec 32) : Fin 2 → Nat :=
  let c0_i32_1995 : BitVec 32 := 0#32
  ![v2422.toNat, 0]

def k0_chk59 (v2422 : BitVec 32) : Prop :=
  (∀ a, (k0_off180 v2422) a + S1x2048.size a ≤ S8192x2048.size a)
theorem k0_off180_inb : ∀ (v2422 : BitVec 32) (k0_hw59 : k0_chk59 v2422), ∀ a, (k0_off180 v2422) a + S1x2048.size a ≤ S8192x2048.size a := fun v2422 k0_hw59 => k0_hw59

def k0_off181 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_1998 : BitVec 32 := 448#32
  let v2431 : BitVec 32 := Scalar.addi v11 c448_i32_1998
  let c0_i32_281 : BitVec 32 := 0#32
  let c1_i32_283 : BitVec 32 := 1#32
  let arg11 : BitVec 32 := Scf.iv c0_i32_281 c1_i32_283 k0_t14
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off182 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off183 (v2434 : BitVec 32) : Fin 2 → Nat :=
  let c0_i32_2004 : BitVec 32 := 0#32
  ![v2434.toNat, 0]

def k0_chk60 (v2434 : BitVec 32) : Prop :=
  (∀ a, (k0_off183 v2434) a + S1x2048.size a ≤ S8192x2048.size a)
theorem k0_off183_inb : ∀ (v2434 : BitVec 32) (k0_hw60 : k0_chk60 v2434), ∀ a, (k0_off183 v2434) a + S1x2048.size a ≤ S8192x2048.size a := fun v2434 k0_hw60 => k0_hw60

def k0_off184 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_2007 : BitVec 32 := 448#32
  let v2443 : BitVec 32 := Scalar.addi v11 c448_i32_2007
  let c0_i32_281 : BitVec 32 := 0#32
  let c1_i32_283 : BitVec 32 := 1#32
  let arg11 : BitVec 32 := Scf.iv c0_i32_281 c1_i32_283 k0_t14
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off185 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off186 (v2446 : BitVec 32) : Fin 2 → Nat :=
  let c0_i32_2013 : BitVec 32 := 0#32
  ![v2446.toNat, 0]

def k0_chk61 (v2446 : BitVec 32) : Prop :=
  (∀ a, (k0_off186 v2446) a + S1x2048.size a ≤ S8192x2048.size a)
theorem k0_off186_inb : ∀ (v2446 : BitVec 32) (k0_hw61 : k0_chk61 v2446), ∀ a, (k0_off186 v2446) a + S1x2048.size a ≤ S8192x2048.size a := fun v2446 k0_hw61 => k0_hw61

def k0_off187 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_2016 : BitVec 32 := 448#32
  let v2455 : BitVec 32 := Scalar.addi v11 c448_i32_2016
  let c0_i32_281 : BitVec 32 := 0#32
  let c1_i32_283 : BitVec 32 := 1#32
  let arg11 : BitVec 32 := Scf.iv c0_i32_281 c1_i32_283 k0_t14
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off188 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off189 (v2458 : BitVec 32) : Fin 2 → Nat :=
  let c0_i32_2022 : BitVec 32 := 0#32
  ![v2458.toNat, 0]

def k0_chk62 (v2458 : BitVec 32) : Prop :=
  (∀ a, (k0_off189 v2458) a + S1x2048.size a ≤ S8192x2048.size a)
theorem k0_off189_inb : ∀ (v2458 : BitVec 32) (k0_hw62 : k0_chk62 v2458), ∀ a, (k0_off189 v2458) a + S1x2048.size a ≤ S8192x2048.size a := fun v2458 k0_hw62 => k0_hw62

def k0_off190 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_2025 : BitVec 32 := 448#32
  let v2467 : BitVec 32 := Scalar.addi v11 c448_i32_2025
  let c0_i32_281 : BitVec 32 := 0#32
  let c1_i32_283 : BitVec 32 := 1#32
  let arg11 : BitVec 32 := Scf.iv c0_i32_281 c1_i32_283 k0_t14
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off191 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off192 (v2470 : BitVec 32) : Fin 2 → Nat :=
  let c0_i32_2031 : BitVec 32 := 0#32
  ![v2470.toNat, 0]

def k0_chk63 (v2470 : BitVec 32) : Prop :=
  (∀ a, (k0_off192 v2470) a + S1x2048.size a ≤ S8192x2048.size a)
theorem k0_off192_inb : ∀ (v2470 : BitVec 32) (k0_hw63 : k0_chk63 v2470), ∀ a, (k0_off192 v2470) a + S1x2048.size a ≤ S8192x2048.size a := fun v2470 k0_hw63 => k0_hw63

def k0_off193 (d0 : Dev nD) (k0_t14 : Fin k0_t14_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c448_i32_2034 : BitVec 32 := 448#32
  let v2479 : BitVec 32 := Scalar.addi v11 c448_i32_2034
  let c0_i32_281 : BitVec 32 := 0#32
  let c1_i32_283 : BitVec 32 := 1#32
  let arg11 : BitVec 32 := Scf.iv c0_i32_281 c1_i32_283 k0_t14
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off194 (k0_t14 : Fin k0_t14_loop.trips) : Fin 2 → Nat :=
  let c0_i32_281 : BitVec 32 := 0#32
  let c1_i32_283 : BitVec 32 := 1#32
  let arg11 : BitVec 32 := Scf.iv c0_i32_281 c1_i32_283 k0_t14
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off195 (v2482 : BitVec 32) : Fin 2 → Nat :=
  let c0_i32_2040 : BitVec 32 := 0#32
  ![v2482.toNat, 0]

def k0_chk64 (v2482 : BitVec 32) : Prop :=
  (∀ a, (k0_off195 v2482) a + S1x2048.size a ≤ S8192x2048.size a)
theorem k0_off195_inb : ∀ (v2482 : BitVec 32) (k0_hw64 : k0_chk64 v2482), ∀ a, (k0_off195 v2482) a + S1x2048.size a ≤ S8192x2048.size a := fun v2482 k0_hw64 => k0_hw64

@[reducible] def k0_t15_loop : Scf.Loop 32 :=
  let c0_i32_285 : BitVec 32 := 0#32
  let c64_i32_286 : BitVec 32 := 64#32
  let v353 : BitVec 32 := Scalar.addi c0_i32_285 c64_i32_286
  let c1_i32_287 : BitVec 32 := 1#32
  ⟨c0_i32_285, v353, c1_i32_287⟩
def k0_dev14 (d0 : Dev nD) : Nat :=
  let c0_i32_296 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_295 : BitVec 32 := 8#32
  let v366 : BitVec 32 := Scalar.muli v2 c8_i32_295
  let v367 : BitVec 32 := Scalar.addi c0_i32_296 v366
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_297 : BitVec 32 := 4#32
  let v368 : BitVec 32 := Scalar.muli v9 c4_i32_297
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v370 : BitVec 32 := Scalar.muli v8 c1_i32_298
  let v371 : BitVec 32 := Scalar.addi v369 v370
  v371.toNat
def k0_dev15 (d0 : Dev nD) : Nat :=
  let c0_i32_324 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_323 : BitVec 32 := 8#32
  let v400 : BitVec 32 := Scalar.muli v10 c8_i32_323
  let v401 : BitVec 32 := Scalar.addi c0_i32_324 v400
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_325 : BitVec 32 := 4#32
  let v402 : BitVec 32 := Scalar.muli v5 c4_i32_325
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v404 : BitVec 32 := Scalar.muli v8 c1_i32_326
  let v405 : BitVec 32 := Scalar.addi v403 v404
  v405.toNat
@[reducible] def k0_t16_loop : Scf.Loop 32 :=
  let c0_i32_329 : BitVec 32 := 0#32
  let c8_i32_330 : BitVec 32 := 8#32
  let v412 : BitVec 32 := Scalar.addi c0_i32_329 c8_i32_330
  let c1_i32_331 : BitVec 32 := 1#32
  ⟨c0_i32_329, v412, c1_i32_331⟩
def k0_off196 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_1971 : BitVec 32 := 512#32
  let v2395 : BitVec 32 := Scalar.addi v11 c512_i32_1971
  let c0_i32_329 : BitVec 32 := 0#32
  let c1_i32_331 : BitVec 32 := 1#32
  let arg11 : BitVec 32 := Scf.iv c0_i32_329 c1_i32_331 k0_t16
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off197 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off198 (v2398 : BitVec 32) : Fin 2 → Nat :=
  let c0_i32_1977 : BitVec 32 := 0#32
  ![v2398.toNat, 0]

def k0_chk65 (v2398 : BitVec 32) : Prop :=
  (∀ a, (k0_off198 v2398) a + S1x2048.size a ≤ S8192x2048.size a)
theorem k0_off198_inb : ∀ (v2398 : BitVec 32) (k0_hw65 : k0_chk65 v2398), ∀ a, (k0_off198 v2398) a + S1x2048.size a ≤ S8192x2048.size a := fun v2398 k0_hw65 => k0_hw65

def k0_off199 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_1980 : BitVec 32 := 512#32
  let v2407 : BitVec 32 := Scalar.addi v11 c512_i32_1980
  let c0_i32_329 : BitVec 32 := 0#32
  let c1_i32_331 : BitVec 32 := 1#32
  let arg11 : BitVec 32 := Scf.iv c0_i32_329 c1_i32_331 k0_t16
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off200 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off201 (v2410 : BitVec 32) : Fin 2 → Nat :=
  let c0_i32_1986 : BitVec 32 := 0#32
  ![v2410.toNat, 0]

def k0_chk66 (v2410 : BitVec 32) : Prop :=
  (∀ a, (k0_off201 v2410) a + S1x2048.size a ≤ S8192x2048.size a)
theorem k0_off201_inb : ∀ (v2410 : BitVec 32) (k0_hw66 : k0_chk66 v2410), ∀ a, (k0_off201 v2410) a + S1x2048.size a ≤ S8192x2048.size a := fun v2410 k0_hw66 => k0_hw66

def k0_off202 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_1989 : BitVec 32 := 512#32
  let v2419 : BitVec 32 := Scalar.addi v11 c512_i32_1989
  let c0_i32_329 : BitVec 32 := 0#32
  let c1_i32_331 : BitVec 32 := 1#32
  let arg11 : BitVec 32 := Scf.iv c0_i32_329 c1_i32_331 k0_t16
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off203 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off204 (v2422 : BitVec 32) : Fin 2 → Nat :=
  let c0_i32_1995 : BitVec 32 := 0#32
  ![v2422.toNat, 0]

def k0_chk67 (v2422 : BitVec 32) : Prop :=
  (∀ a, (k0_off204 v2422) a + S1x2048.size a ≤ S8192x2048.size a)
theorem k0_off204_inb : ∀ (v2422 : BitVec 32) (k0_hw67 : k0_chk67 v2422), ∀ a, (k0_off204 v2422) a + S1x2048.size a ≤ S8192x2048.size a := fun v2422 k0_hw67 => k0_hw67

def k0_off205 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_1998 : BitVec 32 := 512#32
  let v2431 : BitVec 32 := Scalar.addi v11 c512_i32_1998
  let c0_i32_329 : BitVec 32 := 0#32
  let c1_i32_331 : BitVec 32 := 1#32
  let arg11 : BitVec 32 := Scf.iv c0_i32_329 c1_i32_331 k0_t16
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off206 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off207 (v2434 : BitVec 32) : Fin 2 → Nat :=
  let c0_i32_2004 : BitVec 32 := 0#32
  ![v2434.toNat, 0]

def k0_chk68 (v2434 : BitVec 32) : Prop :=
  (∀ a, (k0_off207 v2434) a + S1x2048.size a ≤ S8192x2048.size a)
theorem k0_off207_inb : ∀ (v2434 : BitVec 32) (k0_hw68 : k0_chk68 v2434), ∀ a, (k0_off207 v2434) a + S1x2048.size a ≤ S8192x2048.size a := fun v2434 k0_hw68 => k0_hw68

def k0_off208 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_2007 : BitVec 32 := 512#32
  let v2443 : BitVec 32 := Scalar.addi v11 c512_i32_2007
  let c0_i32_329 : BitVec 32 := 0#32
  let c1_i32_331 : BitVec 32 := 1#32
  let arg11 : BitVec 32 := Scf.iv c0_i32_329 c1_i32_331 k0_t16
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off209 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off210 (v2446 : BitVec 32) : Fin 2 → Nat :=
  let c0_i32_2013 : BitVec 32 := 0#32
  ![v2446.toNat, 0]

def k0_chk69 (v2446 : BitVec 32) : Prop :=
  (∀ a, (k0_off210 v2446) a + S1x2048.size a ≤ S8192x2048.size a)
theorem k0_off210_inb : ∀ (v2446 : BitVec 32) (k0_hw69 : k0_chk69 v2446), ∀ a, (k0_off210 v2446) a + S1x2048.size a ≤ S8192x2048.size a := fun v2446 k0_hw69 => k0_hw69

def k0_off211 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_2016 : BitVec 32 := 512#32
  let v2455 : BitVec 32 := Scalar.addi v11 c512_i32_2016
  let c0_i32_329 : BitVec 32 := 0#32
  let c1_i32_331 : BitVec 32 := 1#32
  let arg11 : BitVec 32 := Scf.iv c0_i32_329 c1_i32_331 k0_t16
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off212 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off213 (v2458 : BitVec 32) : Fin 2 → Nat :=
  let c0_i32_2022 : BitVec 32 := 0#32
  ![v2458.toNat, 0]

def k0_chk70 (v2458 : BitVec 32) : Prop :=
  (∀ a, (k0_off213 v2458) a + S1x2048.size a ≤ S8192x2048.size a)
theorem k0_off213_inb : ∀ (v2458 : BitVec 32) (k0_hw70 : k0_chk70 v2458), ∀ a, (k0_off213 v2458) a + S1x2048.size a ≤ S8192x2048.size a := fun v2458 k0_hw70 => k0_hw70

def k0_off214 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_2025 : BitVec 32 := 512#32
  let v2467 : BitVec 32 := Scalar.addi v11 c512_i32_2025
  let c0_i32_329 : BitVec 32 := 0#32
  let c1_i32_331 : BitVec 32 := 1#32
  let arg11 : BitVec 32 := Scf.iv c0_i32_329 c1_i32_331 k0_t16
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off215 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off216 (v2470 : BitVec 32) : Fin 2 → Nat :=
  let c0_i32_2031 : BitVec 32 := 0#32
  ![v2470.toNat, 0]

def k0_chk71 (v2470 : BitVec 32) : Prop :=
  (∀ a, (k0_off216 v2470) a + S1x2048.size a ≤ S8192x2048.size a)
theorem k0_off216_inb : ∀ (v2470 : BitVec 32) (k0_hw71 : k0_chk71 v2470), ∀ a, (k0_off216 v2470) a + S1x2048.size a ≤ S8192x2048.size a := fun v2470 k0_hw71 => k0_hw71

def k0_off217 (d0 : Dev nD) (k0_t16 : Fin k0_t16_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c512_i32_2034 : BitVec 32 := 512#32
  let v2479 : BitVec 32 := Scalar.addi v11 c512_i32_2034
  let c0_i32_329 : BitVec 32 := 0#32
  let c1_i32_331 : BitVec 32 := 1#32
  let arg11 : BitVec 32 := Scf.iv c0_i32_329 c1_i32_331 k0_t16
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off218 (k0_t16 : Fin k0_t16_loop.trips) : Fin 2 → Nat :=
  let c0_i32_329 : BitVec 32 := 0#32
  let c1_i32_331 : BitVec 32 := 1#32
  let arg11 : BitVec 32 := Scf.iv c0_i32_329 c1_i32_331 k0_t16
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off219 (v2482 : BitVec 32) : Fin 2 → Nat :=
  let c0_i32_2040 : BitVec 32 := 0#32
  ![v2482.toNat, 0]

def k0_chk72 (v2482 : BitVec 32) : Prop :=
  (∀ a, (k0_off219 v2482) a + S1x2048.size a ≤ S8192x2048.size a)
theorem k0_off219_inb : ∀ (v2482 : BitVec 32) (k0_hw72 : k0_chk72 v2482), ∀ a, (k0_off219 v2482) a + S1x2048.size a ≤ S8192x2048.size a := fun v2482 k0_hw72 => k0_hw72

@[reducible] def k0_t17_loop : Scf.Loop 32 :=
  let c0_i32_333 : BitVec 32 := 0#32
  let c64_i32_334 : BitVec 32 := 64#32
  let v413 : BitVec 32 := Scalar.addi c0_i32_333 c64_i32_334
  let c1_i32_335 : BitVec 32 := 1#32
  ⟨c0_i32_333, v413, c1_i32_335⟩
def k0_dev16 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343 : BitVec 32 := 8#32
  let v426 : BitVec 32 := Scalar.muli v2 c8_i32_343
  let v427 : BitVec 32 := Scalar.addi c0_i32_344 v426
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_345 : BitVec 32 := 4#32
  let v428 : BitVec 32 := Scalar.muli v9 c4_i32_345
  let v429 : BitVec 32 := Scalar.addi v427 v428
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v430 : BitVec 32 := Scalar.muli v8 c1_i32_346
  let v431 : BitVec 32 := Scalar.addi v429 v430
  v431.toNat
def k0_dev17 (d0 : Dev nD) : Nat :=
  let c0_i32_372 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_371 : BitVec 32 := 8#32
  let v460 : BitVec 32 := Scalar.muli v10 c8_i32_371
  let v461 : BitVec 32 := Scalar.addi c0_i32_372 v460
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v462 : BitVec 32 := Scalar.muli v5 c4_i32_373
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v464 : BitVec 32 := Scalar.muli v8 c1_i32_374
  let v465 : BitVec 32 := Scalar.addi v463 v464
  v465.toNat
@[reducible] def k0_t18_loop : Scf.Loop 32 :=
  let c0_i32_377 : BitVec 32 := 0#32
  let c8_i32_378 : BitVec 32 := 8#32
  let v472 : BitVec 32 := Scalar.addi c0_i32_377 c8_i32_378
  let c1_i32_379 : BitVec 32 := 1#32
  ⟨c0_i32_377, v472, c1_i32_379⟩
def k0_off220 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_1971 : BitVec 32 := 576#32
  let v2395 : BitVec 32 := Scalar.addi v11 c576_i32_1971
  let c0_i32_377 : BitVec 32 := 0#32
  let c1_i32_379 : BitVec 32 := 1#32
  let arg11 : BitVec 32 := Scf.iv c0_i32_377 c1_i32_379 k0_t18
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off221 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off222 (v2398 : BitVec 32) : Fin 2 → Nat :=
  let c0_i32_1977 : BitVec 32 := 0#32
  ![v2398.toNat, 0]

def k0_chk73 (v2398 : BitVec 32) : Prop :=
  (∀ a, (k0_off222 v2398) a + S1x2048.size a ≤ S8192x2048.size a)
theorem k0_off222_inb : ∀ (v2398 : BitVec 32) (k0_hw73 : k0_chk73 v2398), ∀ a, (k0_off222 v2398) a + S1x2048.size a ≤ S8192x2048.size a := fun v2398 k0_hw73 => k0_hw73

def k0_off223 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_1980 : BitVec 32 := 576#32
  let v2407 : BitVec 32 := Scalar.addi v11 c576_i32_1980
  let c0_i32_377 : BitVec 32 := 0#32
  let c1_i32_379 : BitVec 32 := 1#32
  let arg11 : BitVec 32 := Scf.iv c0_i32_377 c1_i32_379 k0_t18
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off224 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off225 (v2410 : BitVec 32) : Fin 2 → Nat :=
  let c0_i32_1986 : BitVec 32 := 0#32
  ![v2410.toNat, 0]

def k0_chk74 (v2410 : BitVec 32) : Prop :=
  (∀ a, (k0_off225 v2410) a + S1x2048.size a ≤ S8192x2048.size a)
theorem k0_off225_inb : ∀ (v2410 : BitVec 32) (k0_hw74 : k0_chk74 v2410), ∀ a, (k0_off225 v2410) a + S1x2048.size a ≤ S8192x2048.size a := fun v2410 k0_hw74 => k0_hw74

def k0_off226 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_1989 : BitVec 32 := 576#32
  let v2419 : BitVec 32 := Scalar.addi v11 c576_i32_1989
  let c0_i32_377 : BitVec 32 := 0#32
  let c1_i32_379 : BitVec 32 := 1#32
  let arg11 : BitVec 32 := Scf.iv c0_i32_377 c1_i32_379 k0_t18
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off227 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off228 (v2422 : BitVec 32) : Fin 2 → Nat :=
  let c0_i32_1995 : BitVec 32 := 0#32
  ![v2422.toNat, 0]

def k0_chk75 (v2422 : BitVec 32) : Prop :=
  (∀ a, (k0_off228 v2422) a + S1x2048.size a ≤ S8192x2048.size a)
theorem k0_off228_inb : ∀ (v2422 : BitVec 32) (k0_hw75 : k0_chk75 v2422), ∀ a, (k0_off228 v2422) a + S1x2048.size a ≤ S8192x2048.size a := fun v2422 k0_hw75 => k0_hw75

def k0_off229 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_1998 : BitVec 32 := 576#32
  let v2431 : BitVec 32 := Scalar.addi v11 c576_i32_1998
  let c0_i32_377 : BitVec 32 := 0#32
  let c1_i32_379 : BitVec 32 := 1#32
  let arg11 : BitVec 32 := Scf.iv c0_i32_377 c1_i32_379 k0_t18
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off230 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off231 (v2434 : BitVec 32) : Fin 2 → Nat :=
  let c0_i32_2004 : BitVec 32 := 0#32
  ![v2434.toNat, 0]

def k0_chk76 (v2434 : BitVec 32) : Prop :=
  (∀ a, (k0_off231 v2434) a + S1x2048.size a ≤ S8192x2048.size a)
theorem k0_off231_inb : ∀ (v2434 : BitVec 32) (k0_hw76 : k0_chk76 v2434), ∀ a, (k0_off231 v2434) a + S1x2048.size a ≤ S8192x2048.size a := fun v2434 k0_hw76 => k0_hw76

def k0_off232 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_2007 : BitVec 32 := 576#32
  let v2443 : BitVec 32 := Scalar.addi v11 c576_i32_2007
  let c0_i32_377 : BitVec 32 := 0#32
  let c1_i32_379 : BitVec 32 := 1#32
  let arg11 : BitVec 32 := Scf.iv c0_i32_377 c1_i32_379 k0_t18
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off233 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off234 (v2446 : BitVec 32) : Fin 2 → Nat :=
  let c0_i32_2013 : BitVec 32 := 0#32
  ![v2446.toNat, 0]

def k0_chk77 (v2446 : BitVec 32) : Prop :=
  (∀ a, (k0_off234 v2446) a + S1x2048.size a ≤ S8192x2048.size a)
theorem k0_off234_inb : ∀ (v2446 : BitVec 32) (k0_hw77 : k0_chk77 v2446), ∀ a, (k0_off234 v2446) a + S1x2048.size a ≤ S8192x2048.size a := fun v2446 k0_hw77 => k0_hw77

def k0_off235 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_2016 : BitVec 32 := 576#32
  let v2455 : BitVec 32 := Scalar.addi v11 c576_i32_2016
  let c0_i32_377 : BitVec 32 := 0#32
  let c1_i32_379 : BitVec 32 := 1#32
  let arg11 : BitVec 32 := Scf.iv c0_i32_377 c1_i32_379 k0_t18
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off236 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off237 (v2458 : BitVec 32) : Fin 2 → Nat :=
  let c0_i32_2022 : BitVec 32 := 0#32
  ![v2458.toNat, 0]

def k0_chk78 (v2458 : BitVec 32) : Prop :=
  (∀ a, (k0_off237 v2458) a + S1x2048.size a ≤ S8192x2048.size a)
theorem k0_off237_inb : ∀ (v2458 : BitVec 32) (k0_hw78 : k0_chk78 v2458), ∀ a, (k0_off237 v2458) a + S1x2048.size a ≤ S8192x2048.size a := fun v2458 k0_hw78 => k0_hw78

def k0_off238 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_2025 : BitVec 32 := 576#32
  let v2467 : BitVec 32 := Scalar.addi v11 c576_i32_2025
  let c0_i32_377 : BitVec 32 := 0#32
  let c1_i32_379 : BitVec 32 := 1#32
  let arg11 : BitVec 32 := Scf.iv c0_i32_377 c1_i32_379 k0_t18
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off239 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off240 (v2470 : BitVec 32) : Fin 2 → Nat :=
  let c0_i32_2031 : BitVec 32 := 0#32
  ![v2470.toNat, 0]

def k0_chk79 (v2470 : BitVec 32) : Prop :=
  (∀ a, (k0_off240 v2470) a + S1x2048.size a ≤ S8192x2048.size a)
theorem k0_off240_inb : ∀ (v2470 : BitVec 32) (k0_hw79 : k0_chk79 v2470), ∀ a, (k0_off240 v2470) a + S1x2048.size a ≤ S8192x2048.size a := fun v2470 k0_hw79 => k0_hw79

def k0_off241 (d0 : Dev nD) (k0_t18 : Fin k0_t18_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c576_i32_2034 : BitVec 32 := 576#32
  let v2479 : BitVec 32 := Scalar.addi v11 c576_i32_2034
  let c0_i32_377 : BitVec 32 := 0#32
  let c1_i32_379 : BitVec 32 := 1#32
  let arg11 : BitVec 32 := Scf.iv c0_i32_377 c1_i32_379 k0_t18
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off242 (k0_t18 : Fin k0_t18_loop.trips) : Fin 2 → Nat :=
  let c0_i32_377 : BitVec 32 := 0#32
  let c1_i32_379 : BitVec 32 := 1#32
  let arg11 : BitVec 32 := Scf.iv c0_i32_377 c1_i32_379 k0_t18
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off243 (v2482 : BitVec 32) : Fin 2 → Nat :=
  let c0_i32_2040 : BitVec 32 := 0#32
  ![v2482.toNat, 0]

def k0_chk80 (v2482 : BitVec 32) : Prop :=
  (∀ a, (k0_off243 v2482) a + S1x2048.size a ≤ S8192x2048.size a)
theorem k0_off243_inb : ∀ (v2482 : BitVec 32) (k0_hw80 : k0_chk80 v2482), ∀ a, (k0_off243 v2482) a + S1x2048.size a ≤ S8192x2048.size a := fun v2482 k0_hw80 => k0_hw80

@[reducible] def k0_t19_loop : Scf.Loop 32 :=
  let c0_i32_381 : BitVec 32 := 0#32
  let c64_i32_382 : BitVec 32 := 64#32
  let v473 : BitVec 32 := Scalar.addi c0_i32_381 c64_i32_382
  let c1_i32_383 : BitVec 32 := 1#32
  ⟨c0_i32_381, v473, c1_i32_383⟩
def k0_dev18 (d0 : Dev nD) : Nat :=
  let c0_i32_393 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_392 : BitVec 32 := 8#32
  let v486 : BitVec 32 := Scalar.muli v2 c8_i32_392
  let v487 : BitVec 32 := Scalar.addi c0_i32_393 v486
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_394 : BitVec 32 := 4#32
  let v488 : BitVec 32 := Scalar.muli v9 c4_i32_394
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_395 : BitVec 32 := 1#32
  let v490 : BitVec 32 := Scalar.muli v8 c1_i32_395
  let v491 : BitVec 32 := Scalar.addi v489 v490
  v491.toNat
def k0_dev19 (d0 : Dev nD) : Nat :=
  let c0_i32_421 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_420 : BitVec 32 := 8#32
  let v520 : BitVec 32 := Scalar.muli v10 c8_i32_420
  let v521 : BitVec 32 := Scalar.addi c0_i32_421 v520
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_422 : BitVec 32 := 4#32
  let v522 : BitVec 32 := Scalar.muli v5 c4_i32_422
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v524 : BitVec 32 := Scalar.muli v8 c1_i32_423
  let v525 : BitVec 32 := Scalar.addi v523 v524
  v525.toNat
@[reducible] def k0_t20_loop : Scf.Loop 32 :=
  let c0_i32_426 : BitVec 32 := 0#32
  let c8_i32_427 : BitVec 32 := 8#32
  let v532 : BitVec 32 := Scalar.addi c0_i32_426 c8_i32_427
  let c1_i32_428 : BitVec 32 := 1#32
  ⟨c0_i32_426, v532, c1_i32_428⟩
def k0_off244 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_1971 : BitVec 32 := 640#32
  let v2395 : BitVec 32 := Scalar.addi v11 c640_i32_1971
  let c0_i32_426 : BitVec 32 := 0#32
  let c1_i32_428 : BitVec 32 := 1#32
  let arg11 : BitVec 32 := Scf.iv c0_i32_426 c1_i32_428 k0_t20
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off245 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off246 (v2398 : BitVec 32) : Fin 2 → Nat :=
  let c0_i32_1977 : BitVec 32 := 0#32
  ![v2398.toNat, 0]

def k0_chk81 (v2398 : BitVec 32) : Prop :=
  (∀ a, (k0_off246 v2398) a + S1x2048.size a ≤ S8192x2048.size a)
theorem k0_off246_inb : ∀ (v2398 : BitVec 32) (k0_hw81 : k0_chk81 v2398), ∀ a, (k0_off246 v2398) a + S1x2048.size a ≤ S8192x2048.size a := fun v2398 k0_hw81 => k0_hw81

def k0_off247 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_1980 : BitVec 32 := 640#32
  let v2407 : BitVec 32 := Scalar.addi v11 c640_i32_1980
  let c0_i32_426 : BitVec 32 := 0#32
  let c1_i32_428 : BitVec 32 := 1#32
  let arg11 : BitVec 32 := Scf.iv c0_i32_426 c1_i32_428 k0_t20
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off248 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off249 (v2410 : BitVec 32) : Fin 2 → Nat :=
  let c0_i32_1986 : BitVec 32 := 0#32
  ![v2410.toNat, 0]

def k0_chk82 (v2410 : BitVec 32) : Prop :=
  (∀ a, (k0_off249 v2410) a + S1x2048.size a ≤ S8192x2048.size a)
theorem k0_off249_inb : ∀ (v2410 : BitVec 32) (k0_hw82 : k0_chk82 v2410), ∀ a, (k0_off249 v2410) a + S1x2048.size a ≤ S8192x2048.size a := fun v2410 k0_hw82 => k0_hw82

def k0_off250 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_1989 : BitVec 32 := 640#32
  let v2419 : BitVec 32 := Scalar.addi v11 c640_i32_1989
  let c0_i32_426 : BitVec 32 := 0#32
  let c1_i32_428 : BitVec 32 := 1#32
  let arg11 : BitVec 32 := Scf.iv c0_i32_426 c1_i32_428 k0_t20
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off251 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off252 (v2422 : BitVec 32) : Fin 2 → Nat :=
  let c0_i32_1995 : BitVec 32 := 0#32
  ![v2422.toNat, 0]

def k0_chk83 (v2422 : BitVec 32) : Prop :=
  (∀ a, (k0_off252 v2422) a + S1x2048.size a ≤ S8192x2048.size a)
theorem k0_off252_inb : ∀ (v2422 : BitVec 32) (k0_hw83 : k0_chk83 v2422), ∀ a, (k0_off252 v2422) a + S1x2048.size a ≤ S8192x2048.size a := fun v2422 k0_hw83 => k0_hw83

def k0_off253 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_1998 : BitVec 32 := 640#32
  let v2431 : BitVec 32 := Scalar.addi v11 c640_i32_1998
  let c0_i32_426 : BitVec 32 := 0#32
  let c1_i32_428 : BitVec 32 := 1#32
  let arg11 : BitVec 32 := Scf.iv c0_i32_426 c1_i32_428 k0_t20
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off254 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off255 (v2434 : BitVec 32) : Fin 2 → Nat :=
  let c0_i32_2004 : BitVec 32 := 0#32
  ![v2434.toNat, 0]

def k0_chk84 (v2434 : BitVec 32) : Prop :=
  (∀ a, (k0_off255 v2434) a + S1x2048.size a ≤ S8192x2048.size a)
theorem k0_off255_inb : ∀ (v2434 : BitVec 32) (k0_hw84 : k0_chk84 v2434), ∀ a, (k0_off255 v2434) a + S1x2048.size a ≤ S8192x2048.size a := fun v2434 k0_hw84 => k0_hw84

def k0_off256 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_2007 : BitVec 32 := 640#32
  let v2443 : BitVec 32 := Scalar.addi v11 c640_i32_2007
  let c0_i32_426 : BitVec 32 := 0#32
  let c1_i32_428 : BitVec 32 := 1#32
  let arg11 : BitVec 32 := Scf.iv c0_i32_426 c1_i32_428 k0_t20
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off257 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off258 (v2446 : BitVec 32) : Fin 2 → Nat :=
  let c0_i32_2013 : BitVec 32 := 0#32
  ![v2446.toNat, 0]

def k0_chk85 (v2446 : BitVec 32) : Prop :=
  (∀ a, (k0_off258 v2446) a + S1x2048.size a ≤ S8192x2048.size a)
theorem k0_off258_inb : ∀ (v2446 : BitVec 32) (k0_hw85 : k0_chk85 v2446), ∀ a, (k0_off258 v2446) a + S1x2048.size a ≤ S8192x2048.size a := fun v2446 k0_hw85 => k0_hw85

def k0_off259 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_2016 : BitVec 32 := 640#32
  let v2455 : BitVec 32 := Scalar.addi v11 c640_i32_2016
  let c0_i32_426 : BitVec 32 := 0#32
  let c1_i32_428 : BitVec 32 := 1#32
  let arg11 : BitVec 32 := Scf.iv c0_i32_426 c1_i32_428 k0_t20
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off260 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off261 (v2458 : BitVec 32) : Fin 2 → Nat :=
  let c0_i32_2022 : BitVec 32 := 0#32
  ![v2458.toNat, 0]

def k0_chk86 (v2458 : BitVec 32) : Prop :=
  (∀ a, (k0_off261 v2458) a + S1x2048.size a ≤ S8192x2048.size a)
theorem k0_off261_inb : ∀ (v2458 : BitVec 32) (k0_hw86 : k0_chk86 v2458), ∀ a, (k0_off261 v2458) a + S1x2048.size a ≤ S8192x2048.size a := fun v2458 k0_hw86 => k0_hw86

def k0_off262 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_2025 : BitVec 32 := 640#32
  let v2467 : BitVec 32 := Scalar.addi v11 c640_i32_2025
  let c0_i32_426 : BitVec 32 := 0#32
  let c1_i32_428 : BitVec 32 := 1#32
  let arg11 : BitVec 32 := Scf.iv c0_i32_426 c1_i32_428 k0_t20
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off263 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off264 (v2470 : BitVec 32) : Fin 2 → Nat :=
  let c0_i32_2031 : BitVec 32 := 0#32
  ![v2470.toNat, 0]

def k0_chk87 (v2470 : BitVec 32) : Prop :=
  (∀ a, (k0_off264 v2470) a + S1x2048.size a ≤ S8192x2048.size a)
theorem k0_off264_inb : ∀ (v2470 : BitVec 32) (k0_hw87 : k0_chk87 v2470), ∀ a, (k0_off264 v2470) a + S1x2048.size a ≤ S8192x2048.size a := fun v2470 k0_hw87 => k0_hw87

def k0_off265 (d0 : Dev nD) (k0_t20 : Fin k0_t20_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c640_i32_2034 : BitVec 32 := 640#32
  let v2479 : BitVec 32 := Scalar.addi v11 c640_i32_2034
  let c0_i32_426 : BitVec 32 := 0#32
  let c1_i32_428 : BitVec 32 := 1#32
  let arg11 : BitVec 32 := Scf.iv c0_i32_426 c1_i32_428 k0_t20
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off266 (k0_t20 : Fin k0_t20_loop.trips) : Fin 2 → Nat :=
  let c0_i32_426 : BitVec 32 := 0#32
  let c1_i32_428 : BitVec 32 := 1#32
  let arg11 : BitVec 32 := Scf.iv c0_i32_426 c1_i32_428 k0_t20
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off267 (v2482 : BitVec 32) : Fin 2 → Nat :=
  let c0_i32_2040 : BitVec 32 := 0#32
  ![v2482.toNat, 0]

def k0_chk88 (v2482 : BitVec 32) : Prop :=
  (∀ a, (k0_off267 v2482) a + S1x2048.size a ≤ S8192x2048.size a)
theorem k0_off267_inb : ∀ (v2482 : BitVec 32) (k0_hw88 : k0_chk88 v2482), ∀ a, (k0_off267 v2482) a + S1x2048.size a ≤ S8192x2048.size a := fun v2482 k0_hw88 => k0_hw88

@[reducible] def k0_t21_loop : Scf.Loop 32 :=
  let c0_i32_430 : BitVec 32 := 0#32
  let c64_i32_431 : BitVec 32 := 64#32
  let v533 : BitVec 32 := Scalar.addi c0_i32_430 c64_i32_431
  let c1_i32_432 : BitVec 32 := 1#32
  ⟨c0_i32_430, v533, c1_i32_432⟩
def k0_dev20 (d0 : Dev nD) : Nat :=
  let c0_i32_441 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_440 : BitVec 32 := 8#32
  let v546 : BitVec 32 := Scalar.muli v2 c8_i32_440
  let v547 : BitVec 32 := Scalar.addi c0_i32_441 v546
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_442 : BitVec 32 := 4#32
  let v548 : BitVec 32 := Scalar.muli v9 c4_i32_442
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v550 : BitVec 32 := Scalar.muli v8 c1_i32_443
  let v551 : BitVec 32 := Scalar.addi v549 v550
  v551.toNat
def k0_dev21 (d0 : Dev nD) : Nat :=
  let c0_i32_469 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_468 : BitVec 32 := 8#32
  let v580 : BitVec 32 := Scalar.muli v10 c8_i32_468
  let v581 : BitVec 32 := Scalar.addi c0_i32_469 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v582 : BitVec 32 := Scalar.muli v5 c4_i32_470
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v584 : BitVec 32 := Scalar.muli v8 c1_i32_471
  let v585 : BitVec 32 := Scalar.addi v583 v584
  v585.toNat
@[reducible] def k0_t22_loop : Scf.Loop 32 :=
  let c0_i32_474 : BitVec 32 := 0#32
  let c8_i32_475 : BitVec 32 := 8#32
  let v592 : BitVec 32 := Scalar.addi c0_i32_474 c8_i32_475
  let c1_i32_476 : BitVec 32 := 1#32
  ⟨c0_i32_474, v592, c1_i32_476⟩
def k0_off268 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_1971 : BitVec 32 := 704#32
  let v2395 : BitVec 32 := Scalar.addi v11 c704_i32_1971
  let c0_i32_474 : BitVec 32 := 0#32
  let c1_i32_476 : BitVec 32 := 1#32
  let arg11 : BitVec 32 := Scf.iv c0_i32_474 c1_i32_476 k0_t22
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off269 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off270 (v2398 : BitVec 32) : Fin 2 → Nat :=
  let c0_i32_1977 : BitVec 32 := 0#32
  ![v2398.toNat, 0]

def k0_chk89 (v2398 : BitVec 32) : Prop :=
  (∀ a, (k0_off270 v2398) a + S1x2048.size a ≤ S8192x2048.size a)
theorem k0_off270_inb : ∀ (v2398 : BitVec 32) (k0_hw89 : k0_chk89 v2398), ∀ a, (k0_off270 v2398) a + S1x2048.size a ≤ S8192x2048.size a := fun v2398 k0_hw89 => k0_hw89

def k0_off271 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_1980 : BitVec 32 := 704#32
  let v2407 : BitVec 32 := Scalar.addi v11 c704_i32_1980
  let c0_i32_474 : BitVec 32 := 0#32
  let c1_i32_476 : BitVec 32 := 1#32
  let arg11 : BitVec 32 := Scf.iv c0_i32_474 c1_i32_476 k0_t22
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off272 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off273 (v2410 : BitVec 32) : Fin 2 → Nat :=
  let c0_i32_1986 : BitVec 32 := 0#32
  ![v2410.toNat, 0]

def k0_chk90 (v2410 : BitVec 32) : Prop :=
  (∀ a, (k0_off273 v2410) a + S1x2048.size a ≤ S8192x2048.size a)
theorem k0_off273_inb : ∀ (v2410 : BitVec 32) (k0_hw90 : k0_chk90 v2410), ∀ a, (k0_off273 v2410) a + S1x2048.size a ≤ S8192x2048.size a := fun v2410 k0_hw90 => k0_hw90

def k0_off274 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_1989 : BitVec 32 := 704#32
  let v2419 : BitVec 32 := Scalar.addi v11 c704_i32_1989
  let c0_i32_474 : BitVec 32 := 0#32
  let c1_i32_476 : BitVec 32 := 1#32
  let arg11 : BitVec 32 := Scf.iv c0_i32_474 c1_i32_476 k0_t22
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off275 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off276 (v2422 : BitVec 32) : Fin 2 → Nat :=
  let c0_i32_1995 : BitVec 32 := 0#32
  ![v2422.toNat, 0]

def k0_chk91 (v2422 : BitVec 32) : Prop :=
  (∀ a, (k0_off276 v2422) a + S1x2048.size a ≤ S8192x2048.size a)
theorem k0_off276_inb : ∀ (v2422 : BitVec 32) (k0_hw91 : k0_chk91 v2422), ∀ a, (k0_off276 v2422) a + S1x2048.size a ≤ S8192x2048.size a := fun v2422 k0_hw91 => k0_hw91

def k0_off277 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_1998 : BitVec 32 := 704#32
  let v2431 : BitVec 32 := Scalar.addi v11 c704_i32_1998
  let c0_i32_474 : BitVec 32 := 0#32
  let c1_i32_476 : BitVec 32 := 1#32
  let arg11 : BitVec 32 := Scf.iv c0_i32_474 c1_i32_476 k0_t22
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off278 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off279 (v2434 : BitVec 32) : Fin 2 → Nat :=
  let c0_i32_2004 : BitVec 32 := 0#32
  ![v2434.toNat, 0]

def k0_chk92 (v2434 : BitVec 32) : Prop :=
  (∀ a, (k0_off279 v2434) a + S1x2048.size a ≤ S8192x2048.size a)
theorem k0_off279_inb : ∀ (v2434 : BitVec 32) (k0_hw92 : k0_chk92 v2434), ∀ a, (k0_off279 v2434) a + S1x2048.size a ≤ S8192x2048.size a := fun v2434 k0_hw92 => k0_hw92

def k0_off280 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_2007 : BitVec 32 := 704#32
  let v2443 : BitVec 32 := Scalar.addi v11 c704_i32_2007
  let c0_i32_474 : BitVec 32 := 0#32
  let c1_i32_476 : BitVec 32 := 1#32
  let arg11 : BitVec 32 := Scf.iv c0_i32_474 c1_i32_476 k0_t22
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off281 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off282 (v2446 : BitVec 32) : Fin 2 → Nat :=
  let c0_i32_2013 : BitVec 32 := 0#32
  ![v2446.toNat, 0]

def k0_chk93 (v2446 : BitVec 32) : Prop :=
  (∀ a, (k0_off282 v2446) a + S1x2048.size a ≤ S8192x2048.size a)
theorem k0_off282_inb : ∀ (v2446 : BitVec 32) (k0_hw93 : k0_chk93 v2446), ∀ a, (k0_off282 v2446) a + S1x2048.size a ≤ S8192x2048.size a := fun v2446 k0_hw93 => k0_hw93

def k0_off283 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_2016 : BitVec 32 := 704#32
  let v2455 : BitVec 32 := Scalar.addi v11 c704_i32_2016
  let c0_i32_474 : BitVec 32 := 0#32
  let c1_i32_476 : BitVec 32 := 1#32
  let arg11 : BitVec 32 := Scf.iv c0_i32_474 c1_i32_476 k0_t22
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off284 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off285 (v2458 : BitVec 32) : Fin 2 → Nat :=
  let c0_i32_2022 : BitVec 32 := 0#32
  ![v2458.toNat, 0]

def k0_chk94 (v2458 : BitVec 32) : Prop :=
  (∀ a, (k0_off285 v2458) a + S1x2048.size a ≤ S8192x2048.size a)
theorem k0_off285_inb : ∀ (v2458 : BitVec 32) (k0_hw94 : k0_chk94 v2458), ∀ a, (k0_off285 v2458) a + S1x2048.size a ≤ S8192x2048.size a := fun v2458 k0_hw94 => k0_hw94

def k0_off286 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_2025 : BitVec 32 := 704#32
  let v2467 : BitVec 32 := Scalar.addi v11 c704_i32_2025
  let c0_i32_474 : BitVec 32 := 0#32
  let c1_i32_476 : BitVec 32 := 1#32
  let arg11 : BitVec 32 := Scf.iv c0_i32_474 c1_i32_476 k0_t22
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off287 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off288 (v2470 : BitVec 32) : Fin 2 → Nat :=
  let c0_i32_2031 : BitVec 32 := 0#32
  ![v2470.toNat, 0]

def k0_chk95 (v2470 : BitVec 32) : Prop :=
  (∀ a, (k0_off288 v2470) a + S1x2048.size a ≤ S8192x2048.size a)
theorem k0_off288_inb : ∀ (v2470 : BitVec 32) (k0_hw95 : k0_chk95 v2470), ∀ a, (k0_off288 v2470) a + S1x2048.size a ≤ S8192x2048.size a := fun v2470 k0_hw95 => k0_hw95

def k0_off289 (d0 : Dev nD) (k0_t22 : Fin k0_t22_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c704_i32_2034 : BitVec 32 := 704#32
  let v2479 : BitVec 32 := Scalar.addi v11 c704_i32_2034
  let c0_i32_474 : BitVec 32 := 0#32
  let c1_i32_476 : BitVec 32 := 1#32
  let arg11 : BitVec 32 := Scf.iv c0_i32_474 c1_i32_476 k0_t22
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off290 (k0_t22 : Fin k0_t22_loop.trips) : Fin 2 → Nat :=
  let c0_i32_474 : BitVec 32 := 0#32
  let c1_i32_476 : BitVec 32 := 1#32
  let arg11 : BitVec 32 := Scf.iv c0_i32_474 c1_i32_476 k0_t22
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off291 (v2482 : BitVec 32) : Fin 2 → Nat :=
  let c0_i32_2040 : BitVec 32 := 0#32
  ![v2482.toNat, 0]

def k0_chk96 (v2482 : BitVec 32) : Prop :=
  (∀ a, (k0_off291 v2482) a + S1x2048.size a ≤ S8192x2048.size a)
theorem k0_off291_inb : ∀ (v2482 : BitVec 32) (k0_hw96 : k0_chk96 v2482), ∀ a, (k0_off291 v2482) a + S1x2048.size a ≤ S8192x2048.size a := fun v2482 k0_hw96 => k0_hw96

@[reducible] def k0_t23_loop : Scf.Loop 32 :=
  let c0_i32_478 : BitVec 32 := 0#32
  let c64_i32_479 : BitVec 32 := 64#32
  let v593 : BitVec 32 := Scalar.addi c0_i32_478 c64_i32_479
  let c1_i32_480 : BitVec 32 := 1#32
  ⟨c0_i32_478, v593, c1_i32_480⟩
def k0_dev22 (d0 : Dev nD) : Nat :=
  let c0_i32_489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_488 : BitVec 32 := 8#32
  let v606 : BitVec 32 := Scalar.muli v2 c8_i32_488
  let v607 : BitVec 32 := Scalar.addi c0_i32_489 v606
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_490 : BitVec 32 := 4#32
  let v608 : BitVec 32 := Scalar.muli v9 c4_i32_490
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v610 : BitVec 32 := Scalar.muli v8 c1_i32_491
  let v611 : BitVec 32 := Scalar.addi v609 v610
  v611.toNat
def k0_dev23 (d0 : Dev nD) : Nat :=
  let c0_i32_517 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_516 : BitVec 32 := 8#32
  let v640 : BitVec 32 := Scalar.muli v10 c8_i32_516
  let v641 : BitVec 32 := Scalar.addi c0_i32_517 v640
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_518 : BitVec 32 := 4#32
  let v642 : BitVec 32 := Scalar.muli v5 c4_i32_518
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v644 : BitVec 32 := Scalar.muli v8 c1_i32_519
  let v645 : BitVec 32 := Scalar.addi v643 v644
  v645.toNat
@[reducible] def k0_t24_loop : Scf.Loop 32 :=
  let c0_i32_522 : BitVec 32 := 0#32
  let c8_i32_523 : BitVec 32 := 8#32
  let v652 : BitVec 32 := Scalar.addi c0_i32_522 c8_i32_523
  let c1_i32_524 : BitVec 32 := 1#32
  ⟨c0_i32_522, v652, c1_i32_524⟩
def k0_off292 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_1971 : BitVec 32 := 768#32
  let v2395 : BitVec 32 := Scalar.addi v11 c768_i32_1971
  let c0_i32_522 : BitVec 32 := 0#32
  let c1_i32_524 : BitVec 32 := 1#32
  let arg11 : BitVec 32 := Scf.iv c0_i32_522 c1_i32_524 k0_t24
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off293 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off294 (v2398 : BitVec 32) : Fin 2 → Nat :=
  let c0_i32_1977 : BitVec 32 := 0#32
  ![v2398.toNat, 0]

def k0_chk97 (v2398 : BitVec 32) : Prop :=
  (∀ a, (k0_off294 v2398) a + S1x2048.size a ≤ S8192x2048.size a)
theorem k0_off294_inb : ∀ (v2398 : BitVec 32) (k0_hw97 : k0_chk97 v2398), ∀ a, (k0_off294 v2398) a + S1x2048.size a ≤ S8192x2048.size a := fun v2398 k0_hw97 => k0_hw97

def k0_off295 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_1980 : BitVec 32 := 768#32
  let v2407 : BitVec 32 := Scalar.addi v11 c768_i32_1980
  let c0_i32_522 : BitVec 32 := 0#32
  let c1_i32_524 : BitVec 32 := 1#32
  let arg11 : BitVec 32 := Scf.iv c0_i32_522 c1_i32_524 k0_t24
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off296 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off297 (v2410 : BitVec 32) : Fin 2 → Nat :=
  let c0_i32_1986 : BitVec 32 := 0#32
  ![v2410.toNat, 0]

def k0_chk98 (v2410 : BitVec 32) : Prop :=
  (∀ a, (k0_off297 v2410) a + S1x2048.size a ≤ S8192x2048.size a)
theorem k0_off297_inb : ∀ (v2410 : BitVec 32) (k0_hw98 : k0_chk98 v2410), ∀ a, (k0_off297 v2410) a + S1x2048.size a ≤ S8192x2048.size a := fun v2410 k0_hw98 => k0_hw98

def k0_off298 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_1989 : BitVec 32 := 768#32
  let v2419 : BitVec 32 := Scalar.addi v11 c768_i32_1989
  let c0_i32_522 : BitVec 32 := 0#32
  let c1_i32_524 : BitVec 32 := 1#32
  let arg11 : BitVec 32 := Scf.iv c0_i32_522 c1_i32_524 k0_t24
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off299 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off300 (v2422 : BitVec 32) : Fin 2 → Nat :=
  let c0_i32_1995 : BitVec 32 := 0#32
  ![v2422.toNat, 0]

def k0_chk99 (v2422 : BitVec 32) : Prop :=
  (∀ a, (k0_off300 v2422) a + S1x2048.size a ≤ S8192x2048.size a)
theorem k0_off300_inb : ∀ (v2422 : BitVec 32) (k0_hw99 : k0_chk99 v2422), ∀ a, (k0_off300 v2422) a + S1x2048.size a ≤ S8192x2048.size a := fun v2422 k0_hw99 => k0_hw99

def k0_off301 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_1998 : BitVec 32 := 768#32
  let v2431 : BitVec 32 := Scalar.addi v11 c768_i32_1998
  let c0_i32_522 : BitVec 32 := 0#32
  let c1_i32_524 : BitVec 32 := 1#32
  let arg11 : BitVec 32 := Scf.iv c0_i32_522 c1_i32_524 k0_t24
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off302 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off303 (v2434 : BitVec 32) : Fin 2 → Nat :=
  let c0_i32_2004 : BitVec 32 := 0#32
  ![v2434.toNat, 0]

def k0_chk100 (v2434 : BitVec 32) : Prop :=
  (∀ a, (k0_off303 v2434) a + S1x2048.size a ≤ S8192x2048.size a)
theorem k0_off303_inb : ∀ (v2434 : BitVec 32) (k0_hw100 : k0_chk100 v2434), ∀ a, (k0_off303 v2434) a + S1x2048.size a ≤ S8192x2048.size a := fun v2434 k0_hw100 => k0_hw100

def k0_off304 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_2007 : BitVec 32 := 768#32
  let v2443 : BitVec 32 := Scalar.addi v11 c768_i32_2007
  let c0_i32_522 : BitVec 32 := 0#32
  let c1_i32_524 : BitVec 32 := 1#32
  let arg11 : BitVec 32 := Scf.iv c0_i32_522 c1_i32_524 k0_t24
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off305 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off306 (v2446 : BitVec 32) : Fin 2 → Nat :=
  let c0_i32_2013 : BitVec 32 := 0#32
  ![v2446.toNat, 0]

def k0_chk101 (v2446 : BitVec 32) : Prop :=
  (∀ a, (k0_off306 v2446) a + S1x2048.size a ≤ S8192x2048.size a)
theorem k0_off306_inb : ∀ (v2446 : BitVec 32) (k0_hw101 : k0_chk101 v2446), ∀ a, (k0_off306 v2446) a + S1x2048.size a ≤ S8192x2048.size a := fun v2446 k0_hw101 => k0_hw101

def k0_off307 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_2016 : BitVec 32 := 768#32
  let v2455 : BitVec 32 := Scalar.addi v11 c768_i32_2016
  let c0_i32_522 : BitVec 32 := 0#32
  let c1_i32_524 : BitVec 32 := 1#32
  let arg11 : BitVec 32 := Scf.iv c0_i32_522 c1_i32_524 k0_t24
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off308 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off309 (v2458 : BitVec 32) : Fin 2 → Nat :=
  let c0_i32_2022 : BitVec 32 := 0#32
  ![v2458.toNat, 0]

def k0_chk102 (v2458 : BitVec 32) : Prop :=
  (∀ a, (k0_off309 v2458) a + S1x2048.size a ≤ S8192x2048.size a)
theorem k0_off309_inb : ∀ (v2458 : BitVec 32) (k0_hw102 : k0_chk102 v2458), ∀ a, (k0_off309 v2458) a + S1x2048.size a ≤ S8192x2048.size a := fun v2458 k0_hw102 => k0_hw102

def k0_off310 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_2025 : BitVec 32 := 768#32
  let v2467 : BitVec 32 := Scalar.addi v11 c768_i32_2025
  let c0_i32_522 : BitVec 32 := 0#32
  let c1_i32_524 : BitVec 32 := 1#32
  let arg11 : BitVec 32 := Scf.iv c0_i32_522 c1_i32_524 k0_t24
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off311 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off312 (v2470 : BitVec 32) : Fin 2 → Nat :=
  let c0_i32_2031 : BitVec 32 := 0#32
  ![v2470.toNat, 0]

def k0_chk103 (v2470 : BitVec 32) : Prop :=
  (∀ a, (k0_off312 v2470) a + S1x2048.size a ≤ S8192x2048.size a)
theorem k0_off312_inb : ∀ (v2470 : BitVec 32) (k0_hw103 : k0_chk103 v2470), ∀ a, (k0_off312 v2470) a + S1x2048.size a ≤ S8192x2048.size a := fun v2470 k0_hw103 => k0_hw103

def k0_off313 (d0 : Dev nD) (k0_t24 : Fin k0_t24_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c768_i32_2034 : BitVec 32 := 768#32
  let v2479 : BitVec 32 := Scalar.addi v11 c768_i32_2034
  let c0_i32_522 : BitVec 32 := 0#32
  let c1_i32_524 : BitVec 32 := 1#32
  let arg11 : BitVec 32 := Scf.iv c0_i32_522 c1_i32_524 k0_t24
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off314 (k0_t24 : Fin k0_t24_loop.trips) : Fin 2 → Nat :=
  let c0_i32_522 : BitVec 32 := 0#32
  let c1_i32_524 : BitVec 32 := 1#32
  let arg11 : BitVec 32 := Scf.iv c0_i32_522 c1_i32_524 k0_t24
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off315 (v2482 : BitVec 32) : Fin 2 → Nat :=
  let c0_i32_2040 : BitVec 32 := 0#32
  ![v2482.toNat, 0]

def k0_chk104 (v2482 : BitVec 32) : Prop :=
  (∀ a, (k0_off315 v2482) a + S1x2048.size a ≤ S8192x2048.size a)
theorem k0_off315_inb : ∀ (v2482 : BitVec 32) (k0_hw104 : k0_chk104 v2482), ∀ a, (k0_off315 v2482) a + S1x2048.size a ≤ S8192x2048.size a := fun v2482 k0_hw104 => k0_hw104

@[reducible] def k0_t25_loop : Scf.Loop 32 :=
  let c0_i32_526 : BitVec 32 := 0#32
  let c64_i32_527 : BitVec 32 := 64#32
  let v653 : BitVec 32 := Scalar.addi c0_i32_526 c64_i32_527
  let c1_i32_528 : BitVec 32 := 1#32
  ⟨c0_i32_526, v653, c1_i32_528⟩
def k0_dev24 (d0 : Dev nD) : Nat :=
  let c0_i32_537 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_536 : BitVec 32 := 8#32
  let v666 : BitVec 32 := Scalar.muli v2 c8_i32_536
  let v667 : BitVec 32 := Scalar.addi c0_i32_537 v666
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_538 : BitVec 32 := 4#32
  let v668 : BitVec 32 := Scalar.muli v9 c4_i32_538
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v670 : BitVec 32 := Scalar.muli v8 c1_i32_539
  let v671 : BitVec 32 := Scalar.addi v669 v670
  v671.toNat
def k0_dev25 (d0 : Dev nD) : Nat :=
  let c0_i32_565 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_564 : BitVec 32 := 8#32
  let v700 : BitVec 32 := Scalar.muli v10 c8_i32_564
  let v701 : BitVec 32 := Scalar.addi c0_i32_565 v700
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_566 : BitVec 32 := 4#32
  let v702 : BitVec 32 := Scalar.muli v5 c4_i32_566
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v704 : BitVec 32 := Scalar.muli v8 c1_i32_567
  let v705 : BitVec 32 := Scalar.addi v703 v704
  v705.toNat
@[reducible] def k0_t26_loop : Scf.Loop 32 :=
  let c0_i32_570 : BitVec 32 := 0#32
  let c8_i32_571 : BitVec 32 := 8#32
  let v712 : BitVec 32 := Scalar.addi c0_i32_570 c8_i32_571
  let c1_i32_572 : BitVec 32 := 1#32
  ⟨c0_i32_570, v712, c1_i32_572⟩
def k0_off316 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_1971 : BitVec 32 := 832#32
  let v2395 : BitVec 32 := Scalar.addi v11 c832_i32_1971
  let c0_i32_570 : BitVec 32 := 0#32
  let c1_i32_572 : BitVec 32 := 1#32
  let arg11 : BitVec 32 := Scf.iv c0_i32_570 c1_i32_572 k0_t26
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off317 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off318 (v2398 : BitVec 32) : Fin 2 → Nat :=
  let c0_i32_1977 : BitVec 32 := 0#32
  ![v2398.toNat, 0]

def k0_chk105 (v2398 : BitVec 32) : Prop :=
  (∀ a, (k0_off318 v2398) a + S1x2048.size a ≤ S8192x2048.size a)
theorem k0_off318_inb : ∀ (v2398 : BitVec 32) (k0_hw105 : k0_chk105 v2398), ∀ a, (k0_off318 v2398) a + S1x2048.size a ≤ S8192x2048.size a := fun v2398 k0_hw105 => k0_hw105

def k0_off319 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_1980 : BitVec 32 := 832#32
  let v2407 : BitVec 32 := Scalar.addi v11 c832_i32_1980
  let c0_i32_570 : BitVec 32 := 0#32
  let c1_i32_572 : BitVec 32 := 1#32
  let arg11 : BitVec 32 := Scf.iv c0_i32_570 c1_i32_572 k0_t26
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off320 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off321 (v2410 : BitVec 32) : Fin 2 → Nat :=
  let c0_i32_1986 : BitVec 32 := 0#32
  ![v2410.toNat, 0]

def k0_chk106 (v2410 : BitVec 32) : Prop :=
  (∀ a, (k0_off321 v2410) a + S1x2048.size a ≤ S8192x2048.size a)
theorem k0_off321_inb : ∀ (v2410 : BitVec 32) (k0_hw106 : k0_chk106 v2410), ∀ a, (k0_off321 v2410) a + S1x2048.size a ≤ S8192x2048.size a := fun v2410 k0_hw106 => k0_hw106

def k0_off322 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_1989 : BitVec 32 := 832#32
  let v2419 : BitVec 32 := Scalar.addi v11 c832_i32_1989
  let c0_i32_570 : BitVec 32 := 0#32
  let c1_i32_572 : BitVec 32 := 1#32
  let arg11 : BitVec 32 := Scf.iv c0_i32_570 c1_i32_572 k0_t26
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off323 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off324 (v2422 : BitVec 32) : Fin 2 → Nat :=
  let c0_i32_1995 : BitVec 32 := 0#32
  ![v2422.toNat, 0]

def k0_chk107 (v2422 : BitVec 32) : Prop :=
  (∀ a, (k0_off324 v2422) a + S1x2048.size a ≤ S8192x2048.size a)
theorem k0_off324_inb : ∀ (v2422 : BitVec 32) (k0_hw107 : k0_chk107 v2422), ∀ a, (k0_off324 v2422) a + S1x2048.size a ≤ S8192x2048.size a := fun v2422 k0_hw107 => k0_hw107

def k0_off325 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_1998 : BitVec 32 := 832#32
  let v2431 : BitVec 32 := Scalar.addi v11 c832_i32_1998
  let c0_i32_570 : BitVec 32 := 0#32
  let c1_i32_572 : BitVec 32 := 1#32
  let arg11 : BitVec 32 := Scf.iv c0_i32_570 c1_i32_572 k0_t26
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off326 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off327 (v2434 : BitVec 32) : Fin 2 → Nat :=
  let c0_i32_2004 : BitVec 32 := 0#32
  ![v2434.toNat, 0]

def k0_chk108 (v2434 : BitVec 32) : Prop :=
  (∀ a, (k0_off327 v2434) a + S1x2048.size a ≤ S8192x2048.size a)
theorem k0_off327_inb : ∀ (v2434 : BitVec 32) (k0_hw108 : k0_chk108 v2434), ∀ a, (k0_off327 v2434) a + S1x2048.size a ≤ S8192x2048.size a := fun v2434 k0_hw108 => k0_hw108

def k0_off328 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_2007 : BitVec 32 := 832#32
  let v2443 : BitVec 32 := Scalar.addi v11 c832_i32_2007
  let c0_i32_570 : BitVec 32 := 0#32
  let c1_i32_572 : BitVec 32 := 1#32
  let arg11 : BitVec 32 := Scf.iv c0_i32_570 c1_i32_572 k0_t26
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off329 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off330 (v2446 : BitVec 32) : Fin 2 → Nat :=
  let c0_i32_2013 : BitVec 32 := 0#32
  ![v2446.toNat, 0]

def k0_chk109 (v2446 : BitVec 32) : Prop :=
  (∀ a, (k0_off330 v2446) a + S1x2048.size a ≤ S8192x2048.size a)
theorem k0_off330_inb : ∀ (v2446 : BitVec 32) (k0_hw109 : k0_chk109 v2446), ∀ a, (k0_off330 v2446) a + S1x2048.size a ≤ S8192x2048.size a := fun v2446 k0_hw109 => k0_hw109

def k0_off331 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_2016 : BitVec 32 := 832#32
  let v2455 : BitVec 32 := Scalar.addi v11 c832_i32_2016
  let c0_i32_570 : BitVec 32 := 0#32
  let c1_i32_572 : BitVec 32 := 1#32
  let arg11 : BitVec 32 := Scf.iv c0_i32_570 c1_i32_572 k0_t26
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off332 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off333 (v2458 : BitVec 32) : Fin 2 → Nat :=
  let c0_i32_2022 : BitVec 32 := 0#32
  ![v2458.toNat, 0]

def k0_chk110 (v2458 : BitVec 32) : Prop :=
  (∀ a, (k0_off333 v2458) a + S1x2048.size a ≤ S8192x2048.size a)
theorem k0_off333_inb : ∀ (v2458 : BitVec 32) (k0_hw110 : k0_chk110 v2458), ∀ a, (k0_off333 v2458) a + S1x2048.size a ≤ S8192x2048.size a := fun v2458 k0_hw110 => k0_hw110

def k0_off334 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_2025 : BitVec 32 := 832#32
  let v2467 : BitVec 32 := Scalar.addi v11 c832_i32_2025
  let c0_i32_570 : BitVec 32 := 0#32
  let c1_i32_572 : BitVec 32 := 1#32
  let arg11 : BitVec 32 := Scf.iv c0_i32_570 c1_i32_572 k0_t26
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off335 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off336 (v2470 : BitVec 32) : Fin 2 → Nat :=
  let c0_i32_2031 : BitVec 32 := 0#32
  ![v2470.toNat, 0]

def k0_chk111 (v2470 : BitVec 32) : Prop :=
  (∀ a, (k0_off336 v2470) a + S1x2048.size a ≤ S8192x2048.size a)
theorem k0_off336_inb : ∀ (v2470 : BitVec 32) (k0_hw111 : k0_chk111 v2470), ∀ a, (k0_off336 v2470) a + S1x2048.size a ≤ S8192x2048.size a := fun v2470 k0_hw111 => k0_hw111

def k0_off337 (d0 : Dev nD) (k0_t26 : Fin k0_t26_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c832_i32_2034 : BitVec 32 := 832#32
  let v2479 : BitVec 32 := Scalar.addi v11 c832_i32_2034
  let c0_i32_570 : BitVec 32 := 0#32
  let c1_i32_572 : BitVec 32 := 1#32
  let arg11 : BitVec 32 := Scf.iv c0_i32_570 c1_i32_572 k0_t26
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off338 (k0_t26 : Fin k0_t26_loop.trips) : Fin 2 → Nat :=
  let c0_i32_570 : BitVec 32 := 0#32
  let c1_i32_572 : BitVec 32 := 1#32
  let arg11 : BitVec 32 := Scf.iv c0_i32_570 c1_i32_572 k0_t26
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off339 (v2482 : BitVec 32) : Fin 2 → Nat :=
  let c0_i32_2040 : BitVec 32 := 0#32
  ![v2482.toNat, 0]

def k0_chk112 (v2482 : BitVec 32) : Prop :=
  (∀ a, (k0_off339 v2482) a + S1x2048.size a ≤ S8192x2048.size a)
theorem k0_off339_inb : ∀ (v2482 : BitVec 32) (k0_hw112 : k0_chk112 v2482), ∀ a, (k0_off339 v2482) a + S1x2048.size a ≤ S8192x2048.size a := fun v2482 k0_hw112 => k0_hw112

@[reducible] def k0_t27_loop : Scf.Loop 32 :=
  let c0_i32_574 : BitVec 32 := 0#32
  let c64_i32_575 : BitVec 32 := 64#32
  let v713 : BitVec 32 := Scalar.addi c0_i32_574 c64_i32_575
  let c1_i32_576 : BitVec 32 := 1#32
  ⟨c0_i32_574, v713, c1_i32_576⟩
def k0_dev26 (d0 : Dev nD) : Nat :=
  let c0_i32_585 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_584 : BitVec 32 := 8#32
  let v726 : BitVec 32 := Scalar.muli v2 c8_i32_584
  let v727 : BitVec 32 := Scalar.addi c0_i32_585 v726
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_586 : BitVec 32 := 4#32
  let v728 : BitVec 32 := Scalar.muli v9 c4_i32_586
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v730 : BitVec 32 := Scalar.muli v8 c1_i32_587
  let v731 : BitVec 32 := Scalar.addi v729 v730
  v731.toNat
def k0_dev27 (d0 : Dev nD) : Nat :=
  let c0_i32_613 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_612 : BitVec 32 := 8#32
  let v760 : BitVec 32 := Scalar.muli v10 c8_i32_612
  let v761 : BitVec 32 := Scalar.addi c0_i32_613 v760
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_614 : BitVec 32 := 4#32
  let v762 : BitVec 32 := Scalar.muli v5 c4_i32_614
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_615 : BitVec 32 := 1#32
  let v764 : BitVec 32 := Scalar.muli v8 c1_i32_615
  let v765 : BitVec 32 := Scalar.addi v763 v764
  v765.toNat
@[reducible] def k0_t28_loop : Scf.Loop 32 :=
  let c0_i32_618 : BitVec 32 := 0#32
  let c8_i32_619 : BitVec 32 := 8#32
  let v772 : BitVec 32 := Scalar.addi c0_i32_618 c8_i32_619
  let c1_i32_620 : BitVec 32 := 1#32
  ⟨c0_i32_618, v772, c1_i32_620⟩
def k0_off340 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_1971 : BitVec 32 := 896#32
  let v2395 : BitVec 32 := Scalar.addi v11 c896_i32_1971
  let c0_i32_618 : BitVec 32 := 0#32
  let c1_i32_620 : BitVec 32 := 1#32
  let arg11 : BitVec 32 := Scf.iv c0_i32_618 c1_i32_620 k0_t28
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off341 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off342 (v2398 : BitVec 32) : Fin 2 → Nat :=
  let c0_i32_1977 : BitVec 32 := 0#32
  ![v2398.toNat, 0]

def k0_chk113 (v2398 : BitVec 32) : Prop :=
  (∀ a, (k0_off342 v2398) a + S1x2048.size a ≤ S8192x2048.size a)
theorem k0_off342_inb : ∀ (v2398 : BitVec 32) (k0_hw113 : k0_chk113 v2398), ∀ a, (k0_off342 v2398) a + S1x2048.size a ≤ S8192x2048.size a := fun v2398 k0_hw113 => k0_hw113

def k0_off343 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_1980 : BitVec 32 := 896#32
  let v2407 : BitVec 32 := Scalar.addi v11 c896_i32_1980
  let c0_i32_618 : BitVec 32 := 0#32
  let c1_i32_620 : BitVec 32 := 1#32
  let arg11 : BitVec 32 := Scf.iv c0_i32_618 c1_i32_620 k0_t28
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off344 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off345 (v2410 : BitVec 32) : Fin 2 → Nat :=
  let c0_i32_1986 : BitVec 32 := 0#32
  ![v2410.toNat, 0]

def k0_chk114 (v2410 : BitVec 32) : Prop :=
  (∀ a, (k0_off345 v2410) a + S1x2048.size a ≤ S8192x2048.size a)
theorem k0_off345_inb : ∀ (v2410 : BitVec 32) (k0_hw114 : k0_chk114 v2410), ∀ a, (k0_off345 v2410) a + S1x2048.size a ≤ S8192x2048.size a := fun v2410 k0_hw114 => k0_hw114

def k0_off346 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_1989 : BitVec 32 := 896#32
  let v2419 : BitVec 32 := Scalar.addi v11 c896_i32_1989
  let c0_i32_618 : BitVec 32 := 0#32
  let c1_i32_620 : BitVec 32 := 1#32
  let arg11 : BitVec 32 := Scf.iv c0_i32_618 c1_i32_620 k0_t28
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off347 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off348 (v2422 : BitVec 32) : Fin 2 → Nat :=
  let c0_i32_1995 : BitVec 32 := 0#32
  ![v2422.toNat, 0]

def k0_chk115 (v2422 : BitVec 32) : Prop :=
  (∀ a, (k0_off348 v2422) a + S1x2048.size a ≤ S8192x2048.size a)
theorem k0_off348_inb : ∀ (v2422 : BitVec 32) (k0_hw115 : k0_chk115 v2422), ∀ a, (k0_off348 v2422) a + S1x2048.size a ≤ S8192x2048.size a := fun v2422 k0_hw115 => k0_hw115

def k0_off349 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_1998 : BitVec 32 := 896#32
  let v2431 : BitVec 32 := Scalar.addi v11 c896_i32_1998
  let c0_i32_618 : BitVec 32 := 0#32
  let c1_i32_620 : BitVec 32 := 1#32
  let arg11 : BitVec 32 := Scf.iv c0_i32_618 c1_i32_620 k0_t28
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off350 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off351 (v2434 : BitVec 32) : Fin 2 → Nat :=
  let c0_i32_2004 : BitVec 32 := 0#32
  ![v2434.toNat, 0]

def k0_chk116 (v2434 : BitVec 32) : Prop :=
  (∀ a, (k0_off351 v2434) a + S1x2048.size a ≤ S8192x2048.size a)
theorem k0_off351_inb : ∀ (v2434 : BitVec 32) (k0_hw116 : k0_chk116 v2434), ∀ a, (k0_off351 v2434) a + S1x2048.size a ≤ S8192x2048.size a := fun v2434 k0_hw116 => k0_hw116

def k0_off352 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_2007 : BitVec 32 := 896#32
  let v2443 : BitVec 32 := Scalar.addi v11 c896_i32_2007
  let c0_i32_618 : BitVec 32 := 0#32
  let c1_i32_620 : BitVec 32 := 1#32
  let arg11 : BitVec 32 := Scf.iv c0_i32_618 c1_i32_620 k0_t28
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off353 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off354 (v2446 : BitVec 32) : Fin 2 → Nat :=
  let c0_i32_2013 : BitVec 32 := 0#32
  ![v2446.toNat, 0]

def k0_chk117 (v2446 : BitVec 32) : Prop :=
  (∀ a, (k0_off354 v2446) a + S1x2048.size a ≤ S8192x2048.size a)
theorem k0_off354_inb : ∀ (v2446 : BitVec 32) (k0_hw117 : k0_chk117 v2446), ∀ a, (k0_off354 v2446) a + S1x2048.size a ≤ S8192x2048.size a := fun v2446 k0_hw117 => k0_hw117

def k0_off355 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_2016 : BitVec 32 := 896#32
  let v2455 : BitVec 32 := Scalar.addi v11 c896_i32_2016
  let c0_i32_618 : BitVec 32 := 0#32
  let c1_i32_620 : BitVec 32 := 1#32
  let arg11 : BitVec 32 := Scf.iv c0_i32_618 c1_i32_620 k0_t28
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off356 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off357 (v2458 : BitVec 32) : Fin 2 → Nat :=
  let c0_i32_2022 : BitVec 32 := 0#32
  ![v2458.toNat, 0]

def k0_chk118 (v2458 : BitVec 32) : Prop :=
  (∀ a, (k0_off357 v2458) a + S1x2048.size a ≤ S8192x2048.size a)
theorem k0_off357_inb : ∀ (v2458 : BitVec 32) (k0_hw118 : k0_chk118 v2458), ∀ a, (k0_off357 v2458) a + S1x2048.size a ≤ S8192x2048.size a := fun v2458 k0_hw118 => k0_hw118

def k0_off358 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_2025 : BitVec 32 := 896#32
  let v2467 : BitVec 32 := Scalar.addi v11 c896_i32_2025
  let c0_i32_618 : BitVec 32 := 0#32
  let c1_i32_620 : BitVec 32 := 1#32
  let arg11 : BitVec 32 := Scf.iv c0_i32_618 c1_i32_620 k0_t28
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off359 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off360 (v2470 : BitVec 32) : Fin 2 → Nat :=
  let c0_i32_2031 : BitVec 32 := 0#32
  ![v2470.toNat, 0]

def k0_chk119 (v2470 : BitVec 32) : Prop :=
  (∀ a, (k0_off360 v2470) a + S1x2048.size a ≤ S8192x2048.size a)
theorem k0_off360_inb : ∀ (v2470 : BitVec 32) (k0_hw119 : k0_chk119 v2470), ∀ a, (k0_off360 v2470) a + S1x2048.size a ≤ S8192x2048.size a := fun v2470 k0_hw119 => k0_hw119

def k0_off361 (d0 : Dev nD) (k0_t28 : Fin k0_t28_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c896_i32_2034 : BitVec 32 := 896#32
  let v2479 : BitVec 32 := Scalar.addi v11 c896_i32_2034
  let c0_i32_618 : BitVec 32 := 0#32
  let c1_i32_620 : BitVec 32 := 1#32
  let arg11 : BitVec 32 := Scf.iv c0_i32_618 c1_i32_620 k0_t28
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off362 (k0_t28 : Fin k0_t28_loop.trips) : Fin 2 → Nat :=
  let c0_i32_618 : BitVec 32 := 0#32
  let c1_i32_620 : BitVec 32 := 1#32
  let arg11 : BitVec 32 := Scf.iv c0_i32_618 c1_i32_620 k0_t28
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off363 (v2482 : BitVec 32) : Fin 2 → Nat :=
  let c0_i32_2040 : BitVec 32 := 0#32
  ![v2482.toNat, 0]

def k0_chk120 (v2482 : BitVec 32) : Prop :=
  (∀ a, (k0_off363 v2482) a + S1x2048.size a ≤ S8192x2048.size a)
theorem k0_off363_inb : ∀ (v2482 : BitVec 32) (k0_hw120 : k0_chk120 v2482), ∀ a, (k0_off363 v2482) a + S1x2048.size a ≤ S8192x2048.size a := fun v2482 k0_hw120 => k0_hw120

@[reducible] def k0_t29_loop : Scf.Loop 32 :=
  let c0_i32_622 : BitVec 32 := 0#32
  let c64_i32_623 : BitVec 32 := 64#32
  let v773 : BitVec 32 := Scalar.addi c0_i32_622 c64_i32_623
  let c1_i32_624 : BitVec 32 := 1#32
  ⟨c0_i32_622, v773, c1_i32_624⟩
def k0_dev28 (d0 : Dev nD) : Nat :=
  let c0_i32_633 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_632 : BitVec 32 := 8#32
  let v786 : BitVec 32 := Scalar.muli v2 c8_i32_632
  let v787 : BitVec 32 := Scalar.addi c0_i32_633 v786
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_634 : BitVec 32 := 4#32
  let v788 : BitVec 32 := Scalar.muli v9 c4_i32_634
  let v789 : BitVec 32 := Scalar.addi v787 v788
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_635 : BitVec 32 := 1#32
  let v790 : BitVec 32 := Scalar.muli v8 c1_i32_635
  let v791 : BitVec 32 := Scalar.addi v789 v790
  v791.toNat
def k0_dev29 (d0 : Dev nD) : Nat :=
  let c0_i32_661 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_660 : BitVec 32 := 8#32
  let v820 : BitVec 32 := Scalar.muli v10 c8_i32_660
  let v821 : BitVec 32 := Scalar.addi c0_i32_661 v820
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_662 : BitVec 32 := 4#32
  let v822 : BitVec 32 := Scalar.muli v5 c4_i32_662
  let v823 : BitVec 32 := Scalar.addi v821 v822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_663 : BitVec 32 := 1#32
  let v824 : BitVec 32 := Scalar.muli v8 c1_i32_663
  let v825 : BitVec 32 := Scalar.addi v823 v824
  v825.toNat
@[reducible] def k0_t30_loop : Scf.Loop 32 :=
  let c0_i32_666 : BitVec 32 := 0#32
  let c8_i32_667 : BitVec 32 := 8#32
  let v832 : BitVec 32 := Scalar.addi c0_i32_666 c8_i32_667
  let c1_i32_668 : BitVec 32 := 1#32
  ⟨c0_i32_666, v832, c1_i32_668⟩
def k0_off364 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_1971 : BitVec 32 := 960#32
  let v2395 : BitVec 32 := Scalar.addi v11 c960_i32_1971
  let c0_i32_666 : BitVec 32 := 0#32
  let c1_i32_668 : BitVec 32 := 1#32
  let arg11 : BitVec 32 := Scf.iv c0_i32_666 c1_i32_668 k0_t30
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off365 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off366 (v2398 : BitVec 32) : Fin 2 → Nat :=
  let c0_i32_1977 : BitVec 32 := 0#32
  ![v2398.toNat, 0]

def k0_chk121 (v2398 : BitVec 32) : Prop :=
  (∀ a, (k0_off366 v2398) a + S1x2048.size a ≤ S8192x2048.size a)
theorem k0_off366_inb : ∀ (v2398 : BitVec 32) (k0_hw121 : k0_chk121 v2398), ∀ a, (k0_off366 v2398) a + S1x2048.size a ≤ S8192x2048.size a := fun v2398 k0_hw121 => k0_hw121

def k0_off367 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_1980 : BitVec 32 := 960#32
  let v2407 : BitVec 32 := Scalar.addi v11 c960_i32_1980
  let c0_i32_666 : BitVec 32 := 0#32
  let c1_i32_668 : BitVec 32 := 1#32
  let arg11 : BitVec 32 := Scf.iv c0_i32_666 c1_i32_668 k0_t30
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off368 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off369 (v2410 : BitVec 32) : Fin 2 → Nat :=
  let c0_i32_1986 : BitVec 32 := 0#32
  ![v2410.toNat, 0]

def k0_chk122 (v2410 : BitVec 32) : Prop :=
  (∀ a, (k0_off369 v2410) a + S1x2048.size a ≤ S8192x2048.size a)
theorem k0_off369_inb : ∀ (v2410 : BitVec 32) (k0_hw122 : k0_chk122 v2410), ∀ a, (k0_off369 v2410) a + S1x2048.size a ≤ S8192x2048.size a := fun v2410 k0_hw122 => k0_hw122

def k0_off370 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_1989 : BitVec 32 := 960#32
  let v2419 : BitVec 32 := Scalar.addi v11 c960_i32_1989
  let c0_i32_666 : BitVec 32 := 0#32
  let c1_i32_668 : BitVec 32 := 1#32
  let arg11 : BitVec 32 := Scf.iv c0_i32_666 c1_i32_668 k0_t30
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off371 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off372 (v2422 : BitVec 32) : Fin 2 → Nat :=
  let c0_i32_1995 : BitVec 32 := 0#32
  ![v2422.toNat, 0]

def k0_chk123 (v2422 : BitVec 32) : Prop :=
  (∀ a, (k0_off372 v2422) a + S1x2048.size a ≤ S8192x2048.size a)
theorem k0_off372_inb : ∀ (v2422 : BitVec 32) (k0_hw123 : k0_chk123 v2422), ∀ a, (k0_off372 v2422) a + S1x2048.size a ≤ S8192x2048.size a := fun v2422 k0_hw123 => k0_hw123

def k0_off373 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_1998 : BitVec 32 := 960#32
  let v2431 : BitVec 32 := Scalar.addi v11 c960_i32_1998
  let c0_i32_666 : BitVec 32 := 0#32
  let c1_i32_668 : BitVec 32 := 1#32
  let arg11 : BitVec 32 := Scf.iv c0_i32_666 c1_i32_668 k0_t30
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off374 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off375 (v2434 : BitVec 32) : Fin 2 → Nat :=
  let c0_i32_2004 : BitVec 32 := 0#32
  ![v2434.toNat, 0]

def k0_chk124 (v2434 : BitVec 32) : Prop :=
  (∀ a, (k0_off375 v2434) a + S1x2048.size a ≤ S8192x2048.size a)
theorem k0_off375_inb : ∀ (v2434 : BitVec 32) (k0_hw124 : k0_chk124 v2434), ∀ a, (k0_off375 v2434) a + S1x2048.size a ≤ S8192x2048.size a := fun v2434 k0_hw124 => k0_hw124

def k0_off376 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_2007 : BitVec 32 := 960#32
  let v2443 : BitVec 32 := Scalar.addi v11 c960_i32_2007
  let c0_i32_666 : BitVec 32 := 0#32
  let c1_i32_668 : BitVec 32 := 1#32
  let arg11 : BitVec 32 := Scf.iv c0_i32_666 c1_i32_668 k0_t30
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off377 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off378 (v2446 : BitVec 32) : Fin 2 → Nat :=
  let c0_i32_2013 : BitVec 32 := 0#32
  ![v2446.toNat, 0]

def k0_chk125 (v2446 : BitVec 32) : Prop :=
  (∀ a, (k0_off378 v2446) a + S1x2048.size a ≤ S8192x2048.size a)
theorem k0_off378_inb : ∀ (v2446 : BitVec 32) (k0_hw125 : k0_chk125 v2446), ∀ a, (k0_off378 v2446) a + S1x2048.size a ≤ S8192x2048.size a := fun v2446 k0_hw125 => k0_hw125

def k0_off379 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_2016 : BitVec 32 := 960#32
  let v2455 : BitVec 32 := Scalar.addi v11 c960_i32_2016
  let c0_i32_666 : BitVec 32 := 0#32
  let c1_i32_668 : BitVec 32 := 1#32
  let arg11 : BitVec 32 := Scf.iv c0_i32_666 c1_i32_668 k0_t30
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off380 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off381 (v2458 : BitVec 32) : Fin 2 → Nat :=
  let c0_i32_2022 : BitVec 32 := 0#32
  ![v2458.toNat, 0]

def k0_chk126 (v2458 : BitVec 32) : Prop :=
  (∀ a, (k0_off381 v2458) a + S1x2048.size a ≤ S8192x2048.size a)
theorem k0_off381_inb : ∀ (v2458 : BitVec 32) (k0_hw126 : k0_chk126 v2458), ∀ a, (k0_off381 v2458) a + S1x2048.size a ≤ S8192x2048.size a := fun v2458 k0_hw126 => k0_hw126

def k0_off382 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_2025 : BitVec 32 := 960#32
  let v2467 : BitVec 32 := Scalar.addi v11 c960_i32_2025
  let c0_i32_666 : BitVec 32 := 0#32
  let c1_i32_668 : BitVec 32 := 1#32
  let arg11 : BitVec 32 := Scf.iv c0_i32_666 c1_i32_668 k0_t30
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off383 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off384 (v2470 : BitVec 32) : Fin 2 → Nat :=
  let c0_i32_2031 : BitVec 32 := 0#32
  ![v2470.toNat, 0]

def k0_chk127 (v2470 : BitVec 32) : Prop :=
  (∀ a, (k0_off384 v2470) a + S1x2048.size a ≤ S8192x2048.size a)
theorem k0_off384_inb : ∀ (v2470 : BitVec 32) (k0_hw127 : k0_chk127 v2470), ∀ a, (k0_off384 v2470) a + S1x2048.size a ≤ S8192x2048.size a := fun v2470 k0_hw127 => k0_hw127

def k0_off385 (d0 : Dev nD) (k0_t30 : Fin k0_t30_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c960_i32_2034 : BitVec 32 := 960#32
  let v2479 : BitVec 32 := Scalar.addi v11 c960_i32_2034
  let c0_i32_666 : BitVec 32 := 0#32
  let c1_i32_668 : BitVec 32 := 1#32
  let arg11 : BitVec 32 := Scf.iv c0_i32_666 c1_i32_668 k0_t30
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off386 (k0_t30 : Fin k0_t30_loop.trips) : Fin 2 → Nat :=
  let c0_i32_666 : BitVec 32 := 0#32
  let c1_i32_668 : BitVec 32 := 1#32
  let arg11 : BitVec 32 := Scf.iv c0_i32_666 c1_i32_668 k0_t30
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off387 (v2482 : BitVec 32) : Fin 2 → Nat :=
  let c0_i32_2040 : BitVec 32 := 0#32
  ![v2482.toNat, 0]

def k0_chk128 (v2482 : BitVec 32) : Prop :=
  (∀ a, (k0_off387 v2482) a + S1x2048.size a ≤ S8192x2048.size a)
theorem k0_off387_inb : ∀ (v2482 : BitVec 32) (k0_hw128 : k0_chk128 v2482), ∀ a, (k0_off387 v2482) a + S1x2048.size a ≤ S8192x2048.size a := fun v2482 k0_hw128 => k0_hw128

@[reducible] def k0_t31_loop : Scf.Loop 32 :=
  let c0_i32_670 : BitVec 32 := 0#32
  let c64_i32_671 : BitVec 32 := 64#32
  let v833 : BitVec 32 := Scalar.addi c0_i32_670 c64_i32_671
  let c1_i32_672 : BitVec 32 := 1#32
  ⟨c0_i32_670, v833, c1_i32_672⟩
def k0_dev30 (d0 : Dev nD) : Nat :=
  let c0_i32_681 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_680 : BitVec 32 := 8#32
  let v846 : BitVec 32 := Scalar.muli v2 c8_i32_680
  let v847 : BitVec 32 := Scalar.addi c0_i32_681 v846
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_682 : BitVec 32 := 4#32
  let v848 : BitVec 32 := Scalar.muli v9 c4_i32_682
  let v849 : BitVec 32 := Scalar.addi v847 v848
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_683 : BitVec 32 := 1#32
  let v850 : BitVec 32 := Scalar.muli v8 c1_i32_683
  let v851 : BitVec 32 := Scalar.addi v849 v850
  v851.toNat
def k0_dev31 (d0 : Dev nD) : Nat :=
  let c0_i32_709 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_708 : BitVec 32 := 8#32
  let v880 : BitVec 32 := Scalar.muli v10 c8_i32_708
  let v881 : BitVec 32 := Scalar.addi c0_i32_709 v880
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_710 : BitVec 32 := 4#32
  let v882 : BitVec 32 := Scalar.muli v5 c4_i32_710
  let v883 : BitVec 32 := Scalar.addi v881 v882
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v884 : BitVec 32 := Scalar.muli v8 c1_i32_711
  let v885 : BitVec 32 := Scalar.addi v883 v884
  v885.toNat
@[reducible] def k0_t32_loop : Scf.Loop 32 :=
  let c0_i32_714 : BitVec 32 := 0#32
  let c8_i32_715 : BitVec 32 := 8#32
  let v892 : BitVec 32 := Scalar.addi c0_i32_714 c8_i32_715
  let c1_i32_716 : BitVec 32 := 1#32
  ⟨c0_i32_714, v892, c1_i32_716⟩
def k0_off388 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_1971 : BitVec 32 := 1024#32
  let v2395 : BitVec 32 := Scalar.addi v11 c1024_i32_1971
  let c0_i32_714 : BitVec 32 := 0#32
  let c1_i32_716 : BitVec 32 := 1#32
  let arg11 : BitVec 32 := Scf.iv c0_i32_714 c1_i32_716 k0_t32
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off389 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off390 (v2398 : BitVec 32) : Fin 2 → Nat :=
  let c0_i32_1977 : BitVec 32 := 0#32
  ![v2398.toNat, 0]

def k0_chk129 (v2398 : BitVec 32) : Prop :=
  (∀ a, (k0_off390 v2398) a + S1x2048.size a ≤ S8192x2048.size a)
theorem k0_off390_inb : ∀ (v2398 : BitVec 32) (k0_hw129 : k0_chk129 v2398), ∀ a, (k0_off390 v2398) a + S1x2048.size a ≤ S8192x2048.size a := fun v2398 k0_hw129 => k0_hw129

def k0_off391 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_1980 : BitVec 32 := 1024#32
  let v2407 : BitVec 32 := Scalar.addi v11 c1024_i32_1980
  let c0_i32_714 : BitVec 32 := 0#32
  let c1_i32_716 : BitVec 32 := 1#32
  let arg11 : BitVec 32 := Scf.iv c0_i32_714 c1_i32_716 k0_t32
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off392 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off393 (v2410 : BitVec 32) : Fin 2 → Nat :=
  let c0_i32_1986 : BitVec 32 := 0#32
  ![v2410.toNat, 0]

def k0_chk130 (v2410 : BitVec 32) : Prop :=
  (∀ a, (k0_off393 v2410) a + S1x2048.size a ≤ S8192x2048.size a)
theorem k0_off393_inb : ∀ (v2410 : BitVec 32) (k0_hw130 : k0_chk130 v2410), ∀ a, (k0_off393 v2410) a + S1x2048.size a ≤ S8192x2048.size a := fun v2410 k0_hw130 => k0_hw130

def k0_off394 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_1989 : BitVec 32 := 1024#32
  let v2419 : BitVec 32 := Scalar.addi v11 c1024_i32_1989
  let c0_i32_714 : BitVec 32 := 0#32
  let c1_i32_716 : BitVec 32 := 1#32
  let arg11 : BitVec 32 := Scf.iv c0_i32_714 c1_i32_716 k0_t32
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off395 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off396 (v2422 : BitVec 32) : Fin 2 → Nat :=
  let c0_i32_1995 : BitVec 32 := 0#32
  ![v2422.toNat, 0]

def k0_chk131 (v2422 : BitVec 32) : Prop :=
  (∀ a, (k0_off396 v2422) a + S1x2048.size a ≤ S8192x2048.size a)
theorem k0_off396_inb : ∀ (v2422 : BitVec 32) (k0_hw131 : k0_chk131 v2422), ∀ a, (k0_off396 v2422) a + S1x2048.size a ≤ S8192x2048.size a := fun v2422 k0_hw131 => k0_hw131

def k0_off397 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_1998 : BitVec 32 := 1024#32
  let v2431 : BitVec 32 := Scalar.addi v11 c1024_i32_1998
  let c0_i32_714 : BitVec 32 := 0#32
  let c1_i32_716 : BitVec 32 := 1#32
  let arg11 : BitVec 32 := Scf.iv c0_i32_714 c1_i32_716 k0_t32
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off398 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off399 (v2434 : BitVec 32) : Fin 2 → Nat :=
  let c0_i32_2004 : BitVec 32 := 0#32
  ![v2434.toNat, 0]

def k0_chk132 (v2434 : BitVec 32) : Prop :=
  (∀ a, (k0_off399 v2434) a + S1x2048.size a ≤ S8192x2048.size a)
theorem k0_off399_inb : ∀ (v2434 : BitVec 32) (k0_hw132 : k0_chk132 v2434), ∀ a, (k0_off399 v2434) a + S1x2048.size a ≤ S8192x2048.size a := fun v2434 k0_hw132 => k0_hw132

def k0_off400 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_2007 : BitVec 32 := 1024#32
  let v2443 : BitVec 32 := Scalar.addi v11 c1024_i32_2007
  let c0_i32_714 : BitVec 32 := 0#32
  let c1_i32_716 : BitVec 32 := 1#32
  let arg11 : BitVec 32 := Scf.iv c0_i32_714 c1_i32_716 k0_t32
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off401 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off402 (v2446 : BitVec 32) : Fin 2 → Nat :=
  let c0_i32_2013 : BitVec 32 := 0#32
  ![v2446.toNat, 0]

def k0_chk133 (v2446 : BitVec 32) : Prop :=
  (∀ a, (k0_off402 v2446) a + S1x2048.size a ≤ S8192x2048.size a)
theorem k0_off402_inb : ∀ (v2446 : BitVec 32) (k0_hw133 : k0_chk133 v2446), ∀ a, (k0_off402 v2446) a + S1x2048.size a ≤ S8192x2048.size a := fun v2446 k0_hw133 => k0_hw133

def k0_off403 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_2016 : BitVec 32 := 1024#32
  let v2455 : BitVec 32 := Scalar.addi v11 c1024_i32_2016
  let c0_i32_714 : BitVec 32 := 0#32
  let c1_i32_716 : BitVec 32 := 1#32
  let arg11 : BitVec 32 := Scf.iv c0_i32_714 c1_i32_716 k0_t32
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off404 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off405 (v2458 : BitVec 32) : Fin 2 → Nat :=
  let c0_i32_2022 : BitVec 32 := 0#32
  ![v2458.toNat, 0]

def k0_chk134 (v2458 : BitVec 32) : Prop :=
  (∀ a, (k0_off405 v2458) a + S1x2048.size a ≤ S8192x2048.size a)
theorem k0_off405_inb : ∀ (v2458 : BitVec 32) (k0_hw134 : k0_chk134 v2458), ∀ a, (k0_off405 v2458) a + S1x2048.size a ≤ S8192x2048.size a := fun v2458 k0_hw134 => k0_hw134

def k0_off406 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_2025 : BitVec 32 := 1024#32
  let v2467 : BitVec 32 := Scalar.addi v11 c1024_i32_2025
  let c0_i32_714 : BitVec 32 := 0#32
  let c1_i32_716 : BitVec 32 := 1#32
  let arg11 : BitVec 32 := Scf.iv c0_i32_714 c1_i32_716 k0_t32
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off407 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off408 (v2470 : BitVec 32) : Fin 2 → Nat :=
  let c0_i32_2031 : BitVec 32 := 0#32
  ![v2470.toNat, 0]

def k0_chk135 (v2470 : BitVec 32) : Prop :=
  (∀ a, (k0_off408 v2470) a + S1x2048.size a ≤ S8192x2048.size a)
theorem k0_off408_inb : ∀ (v2470 : BitVec 32) (k0_hw135 : k0_chk135 v2470), ∀ a, (k0_off408 v2470) a + S1x2048.size a ≤ S8192x2048.size a := fun v2470 k0_hw135 => k0_hw135

def k0_off409 (d0 : Dev nD) (k0_t32 : Fin k0_t32_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1024_i32_2034 : BitVec 32 := 1024#32
  let v2479 : BitVec 32 := Scalar.addi v11 c1024_i32_2034
  let c0_i32_714 : BitVec 32 := 0#32
  let c1_i32_716 : BitVec 32 := 1#32
  let arg11 : BitVec 32 := Scf.iv c0_i32_714 c1_i32_716 k0_t32
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off410 (k0_t32 : Fin k0_t32_loop.trips) : Fin 2 → Nat :=
  let c0_i32_714 : BitVec 32 := 0#32
  let c1_i32_716 : BitVec 32 := 1#32
  let arg11 : BitVec 32 := Scf.iv c0_i32_714 c1_i32_716 k0_t32
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off411 (v2482 : BitVec 32) : Fin 2 → Nat :=
  let c0_i32_2040 : BitVec 32 := 0#32
  ![v2482.toNat, 0]

def k0_chk136 (v2482 : BitVec 32) : Prop :=
  (∀ a, (k0_off411 v2482) a + S1x2048.size a ≤ S8192x2048.size a)
theorem k0_off411_inb : ∀ (v2482 : BitVec 32) (k0_hw136 : k0_chk136 v2482), ∀ a, (k0_off411 v2482) a + S1x2048.size a ≤ S8192x2048.size a := fun v2482 k0_hw136 => k0_hw136

@[reducible] def k0_t33_loop : Scf.Loop 32 :=
  let c0_i32_718 : BitVec 32 := 0#32
  let c64_i32_719 : BitVec 32 := 64#32
  let v893 : BitVec 32 := Scalar.addi c0_i32_718 c64_i32_719
  let c1_i32_720 : BitVec 32 := 1#32
  ⟨c0_i32_718, v893, c1_i32_720⟩
def k0_dev32 (d0 : Dev nD) : Nat :=
  let c0_i32_729 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_728 : BitVec 32 := 8#32
  let v906 : BitVec 32 := Scalar.muli v2 c8_i32_728
  let v907 : BitVec 32 := Scalar.addi c0_i32_729 v906
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_730 : BitVec 32 := 4#32
  let v908 : BitVec 32 := Scalar.muli v9 c4_i32_730
  let v909 : BitVec 32 := Scalar.addi v907 v908
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_731 : BitVec 32 := 1#32
  let v910 : BitVec 32 := Scalar.muli v8 c1_i32_731
  let v911 : BitVec 32 := Scalar.addi v909 v910
  v911.toNat
def k0_dev33 (d0 : Dev nD) : Nat :=
  let c0_i32_757 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_756 : BitVec 32 := 8#32
  let v940 : BitVec 32 := Scalar.muli v10 c8_i32_756
  let v941 : BitVec 32 := Scalar.addi c0_i32_757 v940
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_758 : BitVec 32 := 4#32
  let v942 : BitVec 32 := Scalar.muli v5 c4_i32_758
  let v943 : BitVec 32 := Scalar.addi v941 v942
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v944 : BitVec 32 := Scalar.muli v8 c1_i32_759
  let v945 : BitVec 32 := Scalar.addi v943 v944
  v945.toNat
@[reducible] def k0_t34_loop : Scf.Loop 32 :=
  let c0_i32_762 : BitVec 32 := 0#32
  let c8_i32_763 : BitVec 32 := 8#32
  let v952 : BitVec 32 := Scalar.addi c0_i32_762 c8_i32_763
  let c1_i32_764 : BitVec 32 := 1#32
  ⟨c0_i32_762, v952, c1_i32_764⟩
def k0_off412 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_1971 : BitVec 32 := 1088#32
  let v2395 : BitVec 32 := Scalar.addi v11 c1088_i32_1971
  let c0_i32_762 : BitVec 32 := 0#32
  let c1_i32_764 : BitVec 32 := 1#32
  let arg11 : BitVec 32 := Scf.iv c0_i32_762 c1_i32_764 k0_t34
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off413 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off414 (v2398 : BitVec 32) : Fin 2 → Nat :=
  let c0_i32_1977 : BitVec 32 := 0#32
  ![v2398.toNat, 0]

def k0_chk137 (v2398 : BitVec 32) : Prop :=
  (∀ a, (k0_off414 v2398) a + S1x2048.size a ≤ S8192x2048.size a)
theorem k0_off414_inb : ∀ (v2398 : BitVec 32) (k0_hw137 : k0_chk137 v2398), ∀ a, (k0_off414 v2398) a + S1x2048.size a ≤ S8192x2048.size a := fun v2398 k0_hw137 => k0_hw137

def k0_off415 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_1980 : BitVec 32 := 1088#32
  let v2407 : BitVec 32 := Scalar.addi v11 c1088_i32_1980
  let c0_i32_762 : BitVec 32 := 0#32
  let c1_i32_764 : BitVec 32 := 1#32
  let arg11 : BitVec 32 := Scf.iv c0_i32_762 c1_i32_764 k0_t34
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off416 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off417 (v2410 : BitVec 32) : Fin 2 → Nat :=
  let c0_i32_1986 : BitVec 32 := 0#32
  ![v2410.toNat, 0]

def k0_chk138 (v2410 : BitVec 32) : Prop :=
  (∀ a, (k0_off417 v2410) a + S1x2048.size a ≤ S8192x2048.size a)
theorem k0_off417_inb : ∀ (v2410 : BitVec 32) (k0_hw138 : k0_chk138 v2410), ∀ a, (k0_off417 v2410) a + S1x2048.size a ≤ S8192x2048.size a := fun v2410 k0_hw138 => k0_hw138

def k0_off418 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_1989 : BitVec 32 := 1088#32
  let v2419 : BitVec 32 := Scalar.addi v11 c1088_i32_1989
  let c0_i32_762 : BitVec 32 := 0#32
  let c1_i32_764 : BitVec 32 := 1#32
  let arg11 : BitVec 32 := Scf.iv c0_i32_762 c1_i32_764 k0_t34
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off419 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off420 (v2422 : BitVec 32) : Fin 2 → Nat :=
  let c0_i32_1995 : BitVec 32 := 0#32
  ![v2422.toNat, 0]

def k0_chk139 (v2422 : BitVec 32) : Prop :=
  (∀ a, (k0_off420 v2422) a + S1x2048.size a ≤ S8192x2048.size a)
theorem k0_off420_inb : ∀ (v2422 : BitVec 32) (k0_hw139 : k0_chk139 v2422), ∀ a, (k0_off420 v2422) a + S1x2048.size a ≤ S8192x2048.size a := fun v2422 k0_hw139 => k0_hw139

def k0_off421 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_1998 : BitVec 32 := 1088#32
  let v2431 : BitVec 32 := Scalar.addi v11 c1088_i32_1998
  let c0_i32_762 : BitVec 32 := 0#32
  let c1_i32_764 : BitVec 32 := 1#32
  let arg11 : BitVec 32 := Scf.iv c0_i32_762 c1_i32_764 k0_t34
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off422 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off423 (v2434 : BitVec 32) : Fin 2 → Nat :=
  let c0_i32_2004 : BitVec 32 := 0#32
  ![v2434.toNat, 0]

def k0_chk140 (v2434 : BitVec 32) : Prop :=
  (∀ a, (k0_off423 v2434) a + S1x2048.size a ≤ S8192x2048.size a)
theorem k0_off423_inb : ∀ (v2434 : BitVec 32) (k0_hw140 : k0_chk140 v2434), ∀ a, (k0_off423 v2434) a + S1x2048.size a ≤ S8192x2048.size a := fun v2434 k0_hw140 => k0_hw140

def k0_off424 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_2007 : BitVec 32 := 1088#32
  let v2443 : BitVec 32 := Scalar.addi v11 c1088_i32_2007
  let c0_i32_762 : BitVec 32 := 0#32
  let c1_i32_764 : BitVec 32 := 1#32
  let arg11 : BitVec 32 := Scf.iv c0_i32_762 c1_i32_764 k0_t34
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off425 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off426 (v2446 : BitVec 32) : Fin 2 → Nat :=
  let c0_i32_2013 : BitVec 32 := 0#32
  ![v2446.toNat, 0]

def k0_chk141 (v2446 : BitVec 32) : Prop :=
  (∀ a, (k0_off426 v2446) a + S1x2048.size a ≤ S8192x2048.size a)
theorem k0_off426_inb : ∀ (v2446 : BitVec 32) (k0_hw141 : k0_chk141 v2446), ∀ a, (k0_off426 v2446) a + S1x2048.size a ≤ S8192x2048.size a := fun v2446 k0_hw141 => k0_hw141

def k0_off427 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_2016 : BitVec 32 := 1088#32
  let v2455 : BitVec 32 := Scalar.addi v11 c1088_i32_2016
  let c0_i32_762 : BitVec 32 := 0#32
  let c1_i32_764 : BitVec 32 := 1#32
  let arg11 : BitVec 32 := Scf.iv c0_i32_762 c1_i32_764 k0_t34
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off428 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off429 (v2458 : BitVec 32) : Fin 2 → Nat :=
  let c0_i32_2022 : BitVec 32 := 0#32
  ![v2458.toNat, 0]

def k0_chk142 (v2458 : BitVec 32) : Prop :=
  (∀ a, (k0_off429 v2458) a + S1x2048.size a ≤ S8192x2048.size a)
theorem k0_off429_inb : ∀ (v2458 : BitVec 32) (k0_hw142 : k0_chk142 v2458), ∀ a, (k0_off429 v2458) a + S1x2048.size a ≤ S8192x2048.size a := fun v2458 k0_hw142 => k0_hw142

def k0_off430 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_2025 : BitVec 32 := 1088#32
  let v2467 : BitVec 32 := Scalar.addi v11 c1088_i32_2025
  let c0_i32_762 : BitVec 32 := 0#32
  let c1_i32_764 : BitVec 32 := 1#32
  let arg11 : BitVec 32 := Scf.iv c0_i32_762 c1_i32_764 k0_t34
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off431 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off432 (v2470 : BitVec 32) : Fin 2 → Nat :=
  let c0_i32_2031 : BitVec 32 := 0#32
  ![v2470.toNat, 0]

def k0_chk143 (v2470 : BitVec 32) : Prop :=
  (∀ a, (k0_off432 v2470) a + S1x2048.size a ≤ S8192x2048.size a)
theorem k0_off432_inb : ∀ (v2470 : BitVec 32) (k0_hw143 : k0_chk143 v2470), ∀ a, (k0_off432 v2470) a + S1x2048.size a ≤ S8192x2048.size a := fun v2470 k0_hw143 => k0_hw143

def k0_off433 (d0 : Dev nD) (k0_t34 : Fin k0_t34_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1088_i32_2034 : BitVec 32 := 1088#32
  let v2479 : BitVec 32 := Scalar.addi v11 c1088_i32_2034
  let c0_i32_762 : BitVec 32 := 0#32
  let c1_i32_764 : BitVec 32 := 1#32
  let arg11 : BitVec 32 := Scf.iv c0_i32_762 c1_i32_764 k0_t34
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off434 (k0_t34 : Fin k0_t34_loop.trips) : Fin 2 → Nat :=
  let c0_i32_762 : BitVec 32 := 0#32
  let c1_i32_764 : BitVec 32 := 1#32
  let arg11 : BitVec 32 := Scf.iv c0_i32_762 c1_i32_764 k0_t34
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off435 (v2482 : BitVec 32) : Fin 2 → Nat :=
  let c0_i32_2040 : BitVec 32 := 0#32
  ![v2482.toNat, 0]

def k0_chk144 (v2482 : BitVec 32) : Prop :=
  (∀ a, (k0_off435 v2482) a + S1x2048.size a ≤ S8192x2048.size a)
theorem k0_off435_inb : ∀ (v2482 : BitVec 32) (k0_hw144 : k0_chk144 v2482), ∀ a, (k0_off435 v2482) a + S1x2048.size a ≤ S8192x2048.size a := fun v2482 k0_hw144 => k0_hw144

@[reducible] def k0_t35_loop : Scf.Loop 32 :=
  let c0_i32_766 : BitVec 32 := 0#32
  let c64_i32_767 : BitVec 32 := 64#32
  let v953 : BitVec 32 := Scalar.addi c0_i32_766 c64_i32_767
  let c1_i32_768 : BitVec 32 := 1#32
  ⟨c0_i32_766, v953, c1_i32_768⟩
def k0_dev34 (d0 : Dev nD) : Nat :=
  let c0_i32_777 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_776 : BitVec 32 := 8#32
  let v966 : BitVec 32 := Scalar.muli v2 c8_i32_776
  let v967 : BitVec 32 := Scalar.addi c0_i32_777 v966
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_778 : BitVec 32 := 4#32
  let v968 : BitVec 32 := Scalar.muli v9 c4_i32_778
  let v969 : BitVec 32 := Scalar.addi v967 v968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_779 : BitVec 32 := 1#32
  let v970 : BitVec 32 := Scalar.muli v8 c1_i32_779
  let v971 : BitVec 32 := Scalar.addi v969 v970
  v971.toNat
def k0_dev35 (d0 : Dev nD) : Nat :=
  let c0_i32_805 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_804 : BitVec 32 := 8#32
  let v1000 : BitVec 32 := Scalar.muli v10 c8_i32_804
  let v1001 : BitVec 32 := Scalar.addi c0_i32_805 v1000
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_806 : BitVec 32 := 4#32
  let v1002 : BitVec 32 := Scalar.muli v5 c4_i32_806
  let v1003 : BitVec 32 := Scalar.addi v1001 v1002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v1004 : BitVec 32 := Scalar.muli v8 c1_i32_807
  let v1005 : BitVec 32 := Scalar.addi v1003 v1004
  v1005.toNat
@[reducible] def k0_t36_loop : Scf.Loop 32 :=
  let c0_i32_810 : BitVec 32 := 0#32
  let c8_i32_811 : BitVec 32 := 8#32
  let v1012 : BitVec 32 := Scalar.addi c0_i32_810 c8_i32_811
  let c1_i32_812 : BitVec 32 := 1#32
  ⟨c0_i32_810, v1012, c1_i32_812⟩
def k0_off436 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_1971 : BitVec 32 := 1152#32
  let v2395 : BitVec 32 := Scalar.addi v11 c1152_i32_1971
  let c0_i32_810 : BitVec 32 := 0#32
  let c1_i32_812 : BitVec 32 := 1#32
  let arg11 : BitVec 32 := Scf.iv c0_i32_810 c1_i32_812 k0_t36
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off437 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off438 (v2398 : BitVec 32) : Fin 2 → Nat :=
  let c0_i32_1977 : BitVec 32 := 0#32
  ![v2398.toNat, 0]

def k0_chk145 (v2398 : BitVec 32) : Prop :=
  (∀ a, (k0_off438 v2398) a + S1x2048.size a ≤ S8192x2048.size a)
theorem k0_off438_inb : ∀ (v2398 : BitVec 32) (k0_hw145 : k0_chk145 v2398), ∀ a, (k0_off438 v2398) a + S1x2048.size a ≤ S8192x2048.size a := fun v2398 k0_hw145 => k0_hw145

def k0_off439 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_1980 : BitVec 32 := 1152#32
  let v2407 : BitVec 32 := Scalar.addi v11 c1152_i32_1980
  let c0_i32_810 : BitVec 32 := 0#32
  let c1_i32_812 : BitVec 32 := 1#32
  let arg11 : BitVec 32 := Scf.iv c0_i32_810 c1_i32_812 k0_t36
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off440 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off441 (v2410 : BitVec 32) : Fin 2 → Nat :=
  let c0_i32_1986 : BitVec 32 := 0#32
  ![v2410.toNat, 0]

def k0_chk146 (v2410 : BitVec 32) : Prop :=
  (∀ a, (k0_off441 v2410) a + S1x2048.size a ≤ S8192x2048.size a)
theorem k0_off441_inb : ∀ (v2410 : BitVec 32) (k0_hw146 : k0_chk146 v2410), ∀ a, (k0_off441 v2410) a + S1x2048.size a ≤ S8192x2048.size a := fun v2410 k0_hw146 => k0_hw146

def k0_off442 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_1989 : BitVec 32 := 1152#32
  let v2419 : BitVec 32 := Scalar.addi v11 c1152_i32_1989
  let c0_i32_810 : BitVec 32 := 0#32
  let c1_i32_812 : BitVec 32 := 1#32
  let arg11 : BitVec 32 := Scf.iv c0_i32_810 c1_i32_812 k0_t36
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off443 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off444 (v2422 : BitVec 32) : Fin 2 → Nat :=
  let c0_i32_1995 : BitVec 32 := 0#32
  ![v2422.toNat, 0]

def k0_chk147 (v2422 : BitVec 32) : Prop :=
  (∀ a, (k0_off444 v2422) a + S1x2048.size a ≤ S8192x2048.size a)
theorem k0_off444_inb : ∀ (v2422 : BitVec 32) (k0_hw147 : k0_chk147 v2422), ∀ a, (k0_off444 v2422) a + S1x2048.size a ≤ S8192x2048.size a := fun v2422 k0_hw147 => k0_hw147

def k0_off445 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_1998 : BitVec 32 := 1152#32
  let v2431 : BitVec 32 := Scalar.addi v11 c1152_i32_1998
  let c0_i32_810 : BitVec 32 := 0#32
  let c1_i32_812 : BitVec 32 := 1#32
  let arg11 : BitVec 32 := Scf.iv c0_i32_810 c1_i32_812 k0_t36
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off446 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off447 (v2434 : BitVec 32) : Fin 2 → Nat :=
  let c0_i32_2004 : BitVec 32 := 0#32
  ![v2434.toNat, 0]

def k0_chk148 (v2434 : BitVec 32) : Prop :=
  (∀ a, (k0_off447 v2434) a + S1x2048.size a ≤ S8192x2048.size a)
theorem k0_off447_inb : ∀ (v2434 : BitVec 32) (k0_hw148 : k0_chk148 v2434), ∀ a, (k0_off447 v2434) a + S1x2048.size a ≤ S8192x2048.size a := fun v2434 k0_hw148 => k0_hw148

def k0_off448 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_2007 : BitVec 32 := 1152#32
  let v2443 : BitVec 32 := Scalar.addi v11 c1152_i32_2007
  let c0_i32_810 : BitVec 32 := 0#32
  let c1_i32_812 : BitVec 32 := 1#32
  let arg11 : BitVec 32 := Scf.iv c0_i32_810 c1_i32_812 k0_t36
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off449 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off450 (v2446 : BitVec 32) : Fin 2 → Nat :=
  let c0_i32_2013 : BitVec 32 := 0#32
  ![v2446.toNat, 0]

def k0_chk149 (v2446 : BitVec 32) : Prop :=
  (∀ a, (k0_off450 v2446) a + S1x2048.size a ≤ S8192x2048.size a)
theorem k0_off450_inb : ∀ (v2446 : BitVec 32) (k0_hw149 : k0_chk149 v2446), ∀ a, (k0_off450 v2446) a + S1x2048.size a ≤ S8192x2048.size a := fun v2446 k0_hw149 => k0_hw149

def k0_off451 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_2016 : BitVec 32 := 1152#32
  let v2455 : BitVec 32 := Scalar.addi v11 c1152_i32_2016
  let c0_i32_810 : BitVec 32 := 0#32
  let c1_i32_812 : BitVec 32 := 1#32
  let arg11 : BitVec 32 := Scf.iv c0_i32_810 c1_i32_812 k0_t36
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off452 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off453 (v2458 : BitVec 32) : Fin 2 → Nat :=
  let c0_i32_2022 : BitVec 32 := 0#32
  ![v2458.toNat, 0]

def k0_chk150 (v2458 : BitVec 32) : Prop :=
  (∀ a, (k0_off453 v2458) a + S1x2048.size a ≤ S8192x2048.size a)
theorem k0_off453_inb : ∀ (v2458 : BitVec 32) (k0_hw150 : k0_chk150 v2458), ∀ a, (k0_off453 v2458) a + S1x2048.size a ≤ S8192x2048.size a := fun v2458 k0_hw150 => k0_hw150

def k0_off454 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_2025 : BitVec 32 := 1152#32
  let v2467 : BitVec 32 := Scalar.addi v11 c1152_i32_2025
  let c0_i32_810 : BitVec 32 := 0#32
  let c1_i32_812 : BitVec 32 := 1#32
  let arg11 : BitVec 32 := Scf.iv c0_i32_810 c1_i32_812 k0_t36
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off455 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off456 (v2470 : BitVec 32) : Fin 2 → Nat :=
  let c0_i32_2031 : BitVec 32 := 0#32
  ![v2470.toNat, 0]

def k0_chk151 (v2470 : BitVec 32) : Prop :=
  (∀ a, (k0_off456 v2470) a + S1x2048.size a ≤ S8192x2048.size a)
theorem k0_off456_inb : ∀ (v2470 : BitVec 32) (k0_hw151 : k0_chk151 v2470), ∀ a, (k0_off456 v2470) a + S1x2048.size a ≤ S8192x2048.size a := fun v2470 k0_hw151 => k0_hw151

def k0_off457 (d0 : Dev nD) (k0_t36 : Fin k0_t36_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1152_i32_2034 : BitVec 32 := 1152#32
  let v2479 : BitVec 32 := Scalar.addi v11 c1152_i32_2034
  let c0_i32_810 : BitVec 32 := 0#32
  let c1_i32_812 : BitVec 32 := 1#32
  let arg11 : BitVec 32 := Scf.iv c0_i32_810 c1_i32_812 k0_t36
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off458 (k0_t36 : Fin k0_t36_loop.trips) : Fin 2 → Nat :=
  let c0_i32_810 : BitVec 32 := 0#32
  let c1_i32_812 : BitVec 32 := 1#32
  let arg11 : BitVec 32 := Scf.iv c0_i32_810 c1_i32_812 k0_t36
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off459 (v2482 : BitVec 32) : Fin 2 → Nat :=
  let c0_i32_2040 : BitVec 32 := 0#32
  ![v2482.toNat, 0]

def k0_chk152 (v2482 : BitVec 32) : Prop :=
  (∀ a, (k0_off459 v2482) a + S1x2048.size a ≤ S8192x2048.size a)
theorem k0_off459_inb : ∀ (v2482 : BitVec 32) (k0_hw152 : k0_chk152 v2482), ∀ a, (k0_off459 v2482) a + S1x2048.size a ≤ S8192x2048.size a := fun v2482 k0_hw152 => k0_hw152

@[reducible] def k0_t37_loop : Scf.Loop 32 :=
  let c0_i32_814 : BitVec 32 := 0#32
  let c64_i32_815 : BitVec 32 := 64#32
  let v1013 : BitVec 32 := Scalar.addi c0_i32_814 c64_i32_815
  let c1_i32_816 : BitVec 32 := 1#32
  ⟨c0_i32_814, v1013, c1_i32_816⟩
def k0_dev36 (d0 : Dev nD) : Nat :=
  let c0_i32_825 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_824 : BitVec 32 := 8#32
  let v1026 : BitVec 32 := Scalar.muli v2 c8_i32_824
  let v1027 : BitVec 32 := Scalar.addi c0_i32_825 v1026
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_826 : BitVec 32 := 4#32
  let v1028 : BitVec 32 := Scalar.muli v9 c4_i32_826
  let v1029 : BitVec 32 := Scalar.addi v1027 v1028
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_827 : BitVec 32 := 1#32
  let v1030 : BitVec 32 := Scalar.muli v8 c1_i32_827
  let v1031 : BitVec 32 := Scalar.addi v1029 v1030
  v1031.toNat
def k0_dev37 (d0 : Dev nD) : Nat :=
  let c0_i32_853 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_852 : BitVec 32 := 8#32
  let v1060 : BitVec 32 := Scalar.muli v10 c8_i32_852
  let v1061 : BitVec 32 := Scalar.addi c0_i32_853 v1060
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v1062 : BitVec 32 := Scalar.muli v5 c4_i32_854
  let v1063 : BitVec 32 := Scalar.addi v1061 v1062
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v1064 : BitVec 32 := Scalar.muli v8 c1_i32_855
  let v1065 : BitVec 32 := Scalar.addi v1063 v1064
  v1065.toNat
@[reducible] def k0_t38_loop : Scf.Loop 32 :=
  let c0_i32_858 : BitVec 32 := 0#32
  let c8_i32_859 : BitVec 32 := 8#32
  let v1072 : BitVec 32 := Scalar.addi c0_i32_858 c8_i32_859
  let c1_i32_860 : BitVec 32 := 1#32
  ⟨c0_i32_858, v1072, c1_i32_860⟩
def k0_off460 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_1971 : BitVec 32 := 1216#32
  let v2395 : BitVec 32 := Scalar.addi v11 c1216_i32_1971
  let c0_i32_858 : BitVec 32 := 0#32
  let c1_i32_860 : BitVec 32 := 1#32
  let arg11 : BitVec 32 := Scf.iv c0_i32_858 c1_i32_860 k0_t38
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off461 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off462 (v2398 : BitVec 32) : Fin 2 → Nat :=
  let c0_i32_1977 : BitVec 32 := 0#32
  ![v2398.toNat, 0]

def k0_chk153 (v2398 : BitVec 32) : Prop :=
  (∀ a, (k0_off462 v2398) a + S1x2048.size a ≤ S8192x2048.size a)
theorem k0_off462_inb : ∀ (v2398 : BitVec 32) (k0_hw153 : k0_chk153 v2398), ∀ a, (k0_off462 v2398) a + S1x2048.size a ≤ S8192x2048.size a := fun v2398 k0_hw153 => k0_hw153

def k0_off463 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_1980 : BitVec 32 := 1216#32
  let v2407 : BitVec 32 := Scalar.addi v11 c1216_i32_1980
  let c0_i32_858 : BitVec 32 := 0#32
  let c1_i32_860 : BitVec 32 := 1#32
  let arg11 : BitVec 32 := Scf.iv c0_i32_858 c1_i32_860 k0_t38
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off464 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off465 (v2410 : BitVec 32) : Fin 2 → Nat :=
  let c0_i32_1986 : BitVec 32 := 0#32
  ![v2410.toNat, 0]

def k0_chk154 (v2410 : BitVec 32) : Prop :=
  (∀ a, (k0_off465 v2410) a + S1x2048.size a ≤ S8192x2048.size a)
theorem k0_off465_inb : ∀ (v2410 : BitVec 32) (k0_hw154 : k0_chk154 v2410), ∀ a, (k0_off465 v2410) a + S1x2048.size a ≤ S8192x2048.size a := fun v2410 k0_hw154 => k0_hw154

def k0_off466 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_1989 : BitVec 32 := 1216#32
  let v2419 : BitVec 32 := Scalar.addi v11 c1216_i32_1989
  let c0_i32_858 : BitVec 32 := 0#32
  let c1_i32_860 : BitVec 32 := 1#32
  let arg11 : BitVec 32 := Scf.iv c0_i32_858 c1_i32_860 k0_t38
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off467 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off468 (v2422 : BitVec 32) : Fin 2 → Nat :=
  let c0_i32_1995 : BitVec 32 := 0#32
  ![v2422.toNat, 0]

def k0_chk155 (v2422 : BitVec 32) : Prop :=
  (∀ a, (k0_off468 v2422) a + S1x2048.size a ≤ S8192x2048.size a)
theorem k0_off468_inb : ∀ (v2422 : BitVec 32) (k0_hw155 : k0_chk155 v2422), ∀ a, (k0_off468 v2422) a + S1x2048.size a ≤ S8192x2048.size a := fun v2422 k0_hw155 => k0_hw155

def k0_off469 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_1998 : BitVec 32 := 1216#32
  let v2431 : BitVec 32 := Scalar.addi v11 c1216_i32_1998
  let c0_i32_858 : BitVec 32 := 0#32
  let c1_i32_860 : BitVec 32 := 1#32
  let arg11 : BitVec 32 := Scf.iv c0_i32_858 c1_i32_860 k0_t38
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off470 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off471 (v2434 : BitVec 32) : Fin 2 → Nat :=
  let c0_i32_2004 : BitVec 32 := 0#32
  ![v2434.toNat, 0]

def k0_chk156 (v2434 : BitVec 32) : Prop :=
  (∀ a, (k0_off471 v2434) a + S1x2048.size a ≤ S8192x2048.size a)
theorem k0_off471_inb : ∀ (v2434 : BitVec 32) (k0_hw156 : k0_chk156 v2434), ∀ a, (k0_off471 v2434) a + S1x2048.size a ≤ S8192x2048.size a := fun v2434 k0_hw156 => k0_hw156

def k0_off472 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_2007 : BitVec 32 := 1216#32
  let v2443 : BitVec 32 := Scalar.addi v11 c1216_i32_2007
  let c0_i32_858 : BitVec 32 := 0#32
  let c1_i32_860 : BitVec 32 := 1#32
  let arg11 : BitVec 32 := Scf.iv c0_i32_858 c1_i32_860 k0_t38
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off473 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off474 (v2446 : BitVec 32) : Fin 2 → Nat :=
  let c0_i32_2013 : BitVec 32 := 0#32
  ![v2446.toNat, 0]

def k0_chk157 (v2446 : BitVec 32) : Prop :=
  (∀ a, (k0_off474 v2446) a + S1x2048.size a ≤ S8192x2048.size a)
theorem k0_off474_inb : ∀ (v2446 : BitVec 32) (k0_hw157 : k0_chk157 v2446), ∀ a, (k0_off474 v2446) a + S1x2048.size a ≤ S8192x2048.size a := fun v2446 k0_hw157 => k0_hw157

def k0_off475 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_2016 : BitVec 32 := 1216#32
  let v2455 : BitVec 32 := Scalar.addi v11 c1216_i32_2016
  let c0_i32_858 : BitVec 32 := 0#32
  let c1_i32_860 : BitVec 32 := 1#32
  let arg11 : BitVec 32 := Scf.iv c0_i32_858 c1_i32_860 k0_t38
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off476 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off477 (v2458 : BitVec 32) : Fin 2 → Nat :=
  let c0_i32_2022 : BitVec 32 := 0#32
  ![v2458.toNat, 0]

def k0_chk158 (v2458 : BitVec 32) : Prop :=
  (∀ a, (k0_off477 v2458) a + S1x2048.size a ≤ S8192x2048.size a)
theorem k0_off477_inb : ∀ (v2458 : BitVec 32) (k0_hw158 : k0_chk158 v2458), ∀ a, (k0_off477 v2458) a + S1x2048.size a ≤ S8192x2048.size a := fun v2458 k0_hw158 => k0_hw158

def k0_off478 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_2025 : BitVec 32 := 1216#32
  let v2467 : BitVec 32 := Scalar.addi v11 c1216_i32_2025
  let c0_i32_858 : BitVec 32 := 0#32
  let c1_i32_860 : BitVec 32 := 1#32
  let arg11 : BitVec 32 := Scf.iv c0_i32_858 c1_i32_860 k0_t38
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off479 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off480 (v2470 : BitVec 32) : Fin 2 → Nat :=
  let c0_i32_2031 : BitVec 32 := 0#32
  ![v2470.toNat, 0]

def k0_chk159 (v2470 : BitVec 32) : Prop :=
  (∀ a, (k0_off480 v2470) a + S1x2048.size a ≤ S8192x2048.size a)
theorem k0_off480_inb : ∀ (v2470 : BitVec 32) (k0_hw159 : k0_chk159 v2470), ∀ a, (k0_off480 v2470) a + S1x2048.size a ≤ S8192x2048.size a := fun v2470 k0_hw159 => k0_hw159

def k0_off481 (d0 : Dev nD) (k0_t38 : Fin k0_t38_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1216_i32_2034 : BitVec 32 := 1216#32
  let v2479 : BitVec 32 := Scalar.addi v11 c1216_i32_2034
  let c0_i32_858 : BitVec 32 := 0#32
  let c1_i32_860 : BitVec 32 := 1#32
  let arg11 : BitVec 32 := Scf.iv c0_i32_858 c1_i32_860 k0_t38
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off482 (k0_t38 : Fin k0_t38_loop.trips) : Fin 2 → Nat :=
  let c0_i32_858 : BitVec 32 := 0#32
  let c1_i32_860 : BitVec 32 := 1#32
  let arg11 : BitVec 32 := Scf.iv c0_i32_858 c1_i32_860 k0_t38
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off483 (v2482 : BitVec 32) : Fin 2 → Nat :=
  let c0_i32_2040 : BitVec 32 := 0#32
  ![v2482.toNat, 0]

def k0_chk160 (v2482 : BitVec 32) : Prop :=
  (∀ a, (k0_off483 v2482) a + S1x2048.size a ≤ S8192x2048.size a)
theorem k0_off483_inb : ∀ (v2482 : BitVec 32) (k0_hw160 : k0_chk160 v2482), ∀ a, (k0_off483 v2482) a + S1x2048.size a ≤ S8192x2048.size a := fun v2482 k0_hw160 => k0_hw160

@[reducible] def k0_t39_loop : Scf.Loop 32 :=
  let c0_i32_862 : BitVec 32 := 0#32
  let c64_i32_863 : BitVec 32 := 64#32
  let v1073 : BitVec 32 := Scalar.addi c0_i32_862 c64_i32_863
  let c1_i32_864 : BitVec 32 := 1#32
  ⟨c0_i32_862, v1073, c1_i32_864⟩
def k0_dev38 (d0 : Dev nD) : Nat :=
  let c0_i32_873 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_872 : BitVec 32 := 8#32
  let v1086 : BitVec 32 := Scalar.muli v2 c8_i32_872
  let v1087 : BitVec 32 := Scalar.addi c0_i32_873 v1086
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_874 : BitVec 32 := 4#32
  let v1088 : BitVec 32 := Scalar.muli v9 c4_i32_874
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_875 : BitVec 32 := 1#32
  let v1090 : BitVec 32 := Scalar.muli v8 c1_i32_875
  let v1091 : BitVec 32 := Scalar.addi v1089 v1090
  v1091.toNat
def k0_dev39 (d0 : Dev nD) : Nat :=
  let c0_i32_901 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_900 : BitVec 32 := 8#32
  let v1120 : BitVec 32 := Scalar.muli v10 c8_i32_900
  let v1121 : BitVec 32 := Scalar.addi c0_i32_901 v1120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_902 : BitVec 32 := 4#32
  let v1122 : BitVec 32 := Scalar.muli v5 c4_i32_902
  let v1123 : BitVec 32 := Scalar.addi v1121 v1122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_903 : BitVec 32 := 1#32
  let v1124 : BitVec 32 := Scalar.muli v8 c1_i32_903
  let v1125 : BitVec 32 := Scalar.addi v1123 v1124
  v1125.toNat
@[reducible] def k0_t40_loop : Scf.Loop 32 :=
  let c0_i32_906 : BitVec 32 := 0#32
  let c8_i32_907 : BitVec 32 := 8#32
  let v1132 : BitVec 32 := Scalar.addi c0_i32_906 c8_i32_907
  let c1_i32_908 : BitVec 32 := 1#32
  ⟨c0_i32_906, v1132, c1_i32_908⟩
def k0_off484 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_1971 : BitVec 32 := 1280#32
  let v2395 : BitVec 32 := Scalar.addi v11 c1280_i32_1971
  let c0_i32_906 : BitVec 32 := 0#32
  let c1_i32_908 : BitVec 32 := 1#32
  let arg11 : BitVec 32 := Scf.iv c0_i32_906 c1_i32_908 k0_t40
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off485 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off486 (v2398 : BitVec 32) : Fin 2 → Nat :=
  let c0_i32_1977 : BitVec 32 := 0#32
  ![v2398.toNat, 0]

def k0_chk161 (v2398 : BitVec 32) : Prop :=
  (∀ a, (k0_off486 v2398) a + S1x2048.size a ≤ S8192x2048.size a)
theorem k0_off486_inb : ∀ (v2398 : BitVec 32) (k0_hw161 : k0_chk161 v2398), ∀ a, (k0_off486 v2398) a + S1x2048.size a ≤ S8192x2048.size a := fun v2398 k0_hw161 => k0_hw161

def k0_off487 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_1980 : BitVec 32 := 1280#32
  let v2407 : BitVec 32 := Scalar.addi v11 c1280_i32_1980
  let c0_i32_906 : BitVec 32 := 0#32
  let c1_i32_908 : BitVec 32 := 1#32
  let arg11 : BitVec 32 := Scf.iv c0_i32_906 c1_i32_908 k0_t40
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off488 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off489 (v2410 : BitVec 32) : Fin 2 → Nat :=
  let c0_i32_1986 : BitVec 32 := 0#32
  ![v2410.toNat, 0]

def k0_chk162 (v2410 : BitVec 32) : Prop :=
  (∀ a, (k0_off489 v2410) a + S1x2048.size a ≤ S8192x2048.size a)
theorem k0_off489_inb : ∀ (v2410 : BitVec 32) (k0_hw162 : k0_chk162 v2410), ∀ a, (k0_off489 v2410) a + S1x2048.size a ≤ S8192x2048.size a := fun v2410 k0_hw162 => k0_hw162

def k0_off490 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_1989 : BitVec 32 := 1280#32
  let v2419 : BitVec 32 := Scalar.addi v11 c1280_i32_1989
  let c0_i32_906 : BitVec 32 := 0#32
  let c1_i32_908 : BitVec 32 := 1#32
  let arg11 : BitVec 32 := Scf.iv c0_i32_906 c1_i32_908 k0_t40
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off491 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off492 (v2422 : BitVec 32) : Fin 2 → Nat :=
  let c0_i32_1995 : BitVec 32 := 0#32
  ![v2422.toNat, 0]

def k0_chk163 (v2422 : BitVec 32) : Prop :=
  (∀ a, (k0_off492 v2422) a + S1x2048.size a ≤ S8192x2048.size a)
theorem k0_off492_inb : ∀ (v2422 : BitVec 32) (k0_hw163 : k0_chk163 v2422), ∀ a, (k0_off492 v2422) a + S1x2048.size a ≤ S8192x2048.size a := fun v2422 k0_hw163 => k0_hw163

def k0_off493 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_1998 : BitVec 32 := 1280#32
  let v2431 : BitVec 32 := Scalar.addi v11 c1280_i32_1998
  let c0_i32_906 : BitVec 32 := 0#32
  let c1_i32_908 : BitVec 32 := 1#32
  let arg11 : BitVec 32 := Scf.iv c0_i32_906 c1_i32_908 k0_t40
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off494 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off495 (v2434 : BitVec 32) : Fin 2 → Nat :=
  let c0_i32_2004 : BitVec 32 := 0#32
  ![v2434.toNat, 0]

def k0_chk164 (v2434 : BitVec 32) : Prop :=
  (∀ a, (k0_off495 v2434) a + S1x2048.size a ≤ S8192x2048.size a)
theorem k0_off495_inb : ∀ (v2434 : BitVec 32) (k0_hw164 : k0_chk164 v2434), ∀ a, (k0_off495 v2434) a + S1x2048.size a ≤ S8192x2048.size a := fun v2434 k0_hw164 => k0_hw164

def k0_off496 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_2007 : BitVec 32 := 1280#32
  let v2443 : BitVec 32 := Scalar.addi v11 c1280_i32_2007
  let c0_i32_906 : BitVec 32 := 0#32
  let c1_i32_908 : BitVec 32 := 1#32
  let arg11 : BitVec 32 := Scf.iv c0_i32_906 c1_i32_908 k0_t40
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off497 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off498 (v2446 : BitVec 32) : Fin 2 → Nat :=
  let c0_i32_2013 : BitVec 32 := 0#32
  ![v2446.toNat, 0]

def k0_chk165 (v2446 : BitVec 32) : Prop :=
  (∀ a, (k0_off498 v2446) a + S1x2048.size a ≤ S8192x2048.size a)
theorem k0_off498_inb : ∀ (v2446 : BitVec 32) (k0_hw165 : k0_chk165 v2446), ∀ a, (k0_off498 v2446) a + S1x2048.size a ≤ S8192x2048.size a := fun v2446 k0_hw165 => k0_hw165

def k0_off499 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_2016 : BitVec 32 := 1280#32
  let v2455 : BitVec 32 := Scalar.addi v11 c1280_i32_2016
  let c0_i32_906 : BitVec 32 := 0#32
  let c1_i32_908 : BitVec 32 := 1#32
  let arg11 : BitVec 32 := Scf.iv c0_i32_906 c1_i32_908 k0_t40
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off500 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off501 (v2458 : BitVec 32) : Fin 2 → Nat :=
  let c0_i32_2022 : BitVec 32 := 0#32
  ![v2458.toNat, 0]

def k0_chk166 (v2458 : BitVec 32) : Prop :=
  (∀ a, (k0_off501 v2458) a + S1x2048.size a ≤ S8192x2048.size a)
theorem k0_off501_inb : ∀ (v2458 : BitVec 32) (k0_hw166 : k0_chk166 v2458), ∀ a, (k0_off501 v2458) a + S1x2048.size a ≤ S8192x2048.size a := fun v2458 k0_hw166 => k0_hw166

def k0_off502 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_2025 : BitVec 32 := 1280#32
  let v2467 : BitVec 32 := Scalar.addi v11 c1280_i32_2025
  let c0_i32_906 : BitVec 32 := 0#32
  let c1_i32_908 : BitVec 32 := 1#32
  let arg11 : BitVec 32 := Scf.iv c0_i32_906 c1_i32_908 k0_t40
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off503 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off504 (v2470 : BitVec 32) : Fin 2 → Nat :=
  let c0_i32_2031 : BitVec 32 := 0#32
  ![v2470.toNat, 0]

def k0_chk167 (v2470 : BitVec 32) : Prop :=
  (∀ a, (k0_off504 v2470) a + S1x2048.size a ≤ S8192x2048.size a)
theorem k0_off504_inb : ∀ (v2470 : BitVec 32) (k0_hw167 : k0_chk167 v2470), ∀ a, (k0_off504 v2470) a + S1x2048.size a ≤ S8192x2048.size a := fun v2470 k0_hw167 => k0_hw167

def k0_off505 (d0 : Dev nD) (k0_t40 : Fin k0_t40_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1280_i32_2034 : BitVec 32 := 1280#32
  let v2479 : BitVec 32 := Scalar.addi v11 c1280_i32_2034
  let c0_i32_906 : BitVec 32 := 0#32
  let c1_i32_908 : BitVec 32 := 1#32
  let arg11 : BitVec 32 := Scf.iv c0_i32_906 c1_i32_908 k0_t40
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off506 (k0_t40 : Fin k0_t40_loop.trips) : Fin 2 → Nat :=
  let c0_i32_906 : BitVec 32 := 0#32
  let c1_i32_908 : BitVec 32 := 1#32
  let arg11 : BitVec 32 := Scf.iv c0_i32_906 c1_i32_908 k0_t40
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off507 (v2482 : BitVec 32) : Fin 2 → Nat :=
  let c0_i32_2040 : BitVec 32 := 0#32
  ![v2482.toNat, 0]

def k0_chk168 (v2482 : BitVec 32) : Prop :=
  (∀ a, (k0_off507 v2482) a + S1x2048.size a ≤ S8192x2048.size a)
theorem k0_off507_inb : ∀ (v2482 : BitVec 32) (k0_hw168 : k0_chk168 v2482), ∀ a, (k0_off507 v2482) a + S1x2048.size a ≤ S8192x2048.size a := fun v2482 k0_hw168 => k0_hw168

@[reducible] def k0_t41_loop : Scf.Loop 32 :=
  let c0_i32_910 : BitVec 32 := 0#32
  let c64_i32_911 : BitVec 32 := 64#32
  let v1133 : BitVec 32 := Scalar.addi c0_i32_910 c64_i32_911
  let c1_i32_912 : BitVec 32 := 1#32
  ⟨c0_i32_910, v1133, c1_i32_912⟩
def k0_dev40 (d0 : Dev nD) : Nat :=
  let c0_i32_921 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_920 : BitVec 32 := 8#32
  let v1146 : BitVec 32 := Scalar.muli v2 c8_i32_920
  let v1147 : BitVec 32 := Scalar.addi c0_i32_921 v1146
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_922 : BitVec 32 := 4#32
  let v1148 : BitVec 32 := Scalar.muli v9 c4_i32_922
  let v1149 : BitVec 32 := Scalar.addi v1147 v1148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1150 : BitVec 32 := Scalar.muli v8 c1_i32_923
  let v1151 : BitVec 32 := Scalar.addi v1149 v1150
  v1151.toNat
def k0_dev41 (d0 : Dev nD) : Nat :=
  let c0_i32_949 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_948 : BitVec 32 := 8#32
  let v1180 : BitVec 32 := Scalar.muli v10 c8_i32_948
  let v1181 : BitVec 32 := Scalar.addi c0_i32_949 v1180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_950 : BitVec 32 := 4#32
  let v1182 : BitVec 32 := Scalar.muli v5 c4_i32_950
  let v1183 : BitVec 32 := Scalar.addi v1181 v1182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_951 : BitVec 32 := 1#32
  let v1184 : BitVec 32 := Scalar.muli v8 c1_i32_951
  let v1185 : BitVec 32 := Scalar.addi v1183 v1184
  v1185.toNat
@[reducible] def k0_t42_loop : Scf.Loop 32 :=
  let c0_i32_954 : BitVec 32 := 0#32
  let c8_i32_955 : BitVec 32 := 8#32
  let v1192 : BitVec 32 := Scalar.addi c0_i32_954 c8_i32_955
  let c1_i32_956 : BitVec 32 := 1#32
  ⟨c0_i32_954, v1192, c1_i32_956⟩
def k0_off508 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_1971 : BitVec 32 := 1344#32
  let v2395 : BitVec 32 := Scalar.addi v11 c1344_i32_1971
  let c0_i32_954 : BitVec 32 := 0#32
  let c1_i32_956 : BitVec 32 := 1#32
  let arg11 : BitVec 32 := Scf.iv c0_i32_954 c1_i32_956 k0_t42
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off509 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off510 (v2398 : BitVec 32) : Fin 2 → Nat :=
  let c0_i32_1977 : BitVec 32 := 0#32
  ![v2398.toNat, 0]

def k0_chk169 (v2398 : BitVec 32) : Prop :=
  (∀ a, (k0_off510 v2398) a + S1x2048.size a ≤ S8192x2048.size a)
theorem k0_off510_inb : ∀ (v2398 : BitVec 32) (k0_hw169 : k0_chk169 v2398), ∀ a, (k0_off510 v2398) a + S1x2048.size a ≤ S8192x2048.size a := fun v2398 k0_hw169 => k0_hw169

def k0_off511 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_1980 : BitVec 32 := 1344#32
  let v2407 : BitVec 32 := Scalar.addi v11 c1344_i32_1980
  let c0_i32_954 : BitVec 32 := 0#32
  let c1_i32_956 : BitVec 32 := 1#32
  let arg11 : BitVec 32 := Scf.iv c0_i32_954 c1_i32_956 k0_t42
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off512 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off513 (v2410 : BitVec 32) : Fin 2 → Nat :=
  let c0_i32_1986 : BitVec 32 := 0#32
  ![v2410.toNat, 0]

def k0_chk170 (v2410 : BitVec 32) : Prop :=
  (∀ a, (k0_off513 v2410) a + S1x2048.size a ≤ S8192x2048.size a)
theorem k0_off513_inb : ∀ (v2410 : BitVec 32) (k0_hw170 : k0_chk170 v2410), ∀ a, (k0_off513 v2410) a + S1x2048.size a ≤ S8192x2048.size a := fun v2410 k0_hw170 => k0_hw170

def k0_off514 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_1989 : BitVec 32 := 1344#32
  let v2419 : BitVec 32 := Scalar.addi v11 c1344_i32_1989
  let c0_i32_954 : BitVec 32 := 0#32
  let c1_i32_956 : BitVec 32 := 1#32
  let arg11 : BitVec 32 := Scf.iv c0_i32_954 c1_i32_956 k0_t42
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off515 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off516 (v2422 : BitVec 32) : Fin 2 → Nat :=
  let c0_i32_1995 : BitVec 32 := 0#32
  ![v2422.toNat, 0]

def k0_chk171 (v2422 : BitVec 32) : Prop :=
  (∀ a, (k0_off516 v2422) a + S1x2048.size a ≤ S8192x2048.size a)
theorem k0_off516_inb : ∀ (v2422 : BitVec 32) (k0_hw171 : k0_chk171 v2422), ∀ a, (k0_off516 v2422) a + S1x2048.size a ≤ S8192x2048.size a := fun v2422 k0_hw171 => k0_hw171

def k0_off517 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_1998 : BitVec 32 := 1344#32
  let v2431 : BitVec 32 := Scalar.addi v11 c1344_i32_1998
  let c0_i32_954 : BitVec 32 := 0#32
  let c1_i32_956 : BitVec 32 := 1#32
  let arg11 : BitVec 32 := Scf.iv c0_i32_954 c1_i32_956 k0_t42
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off518 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off519 (v2434 : BitVec 32) : Fin 2 → Nat :=
  let c0_i32_2004 : BitVec 32 := 0#32
  ![v2434.toNat, 0]

def k0_chk172 (v2434 : BitVec 32) : Prop :=
  (∀ a, (k0_off519 v2434) a + S1x2048.size a ≤ S8192x2048.size a)
theorem k0_off519_inb : ∀ (v2434 : BitVec 32) (k0_hw172 : k0_chk172 v2434), ∀ a, (k0_off519 v2434) a + S1x2048.size a ≤ S8192x2048.size a := fun v2434 k0_hw172 => k0_hw172

def k0_off520 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_2007 : BitVec 32 := 1344#32
  let v2443 : BitVec 32 := Scalar.addi v11 c1344_i32_2007
  let c0_i32_954 : BitVec 32 := 0#32
  let c1_i32_956 : BitVec 32 := 1#32
  let arg11 : BitVec 32 := Scf.iv c0_i32_954 c1_i32_956 k0_t42
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off521 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off522 (v2446 : BitVec 32) : Fin 2 → Nat :=
  let c0_i32_2013 : BitVec 32 := 0#32
  ![v2446.toNat, 0]

def k0_chk173 (v2446 : BitVec 32) : Prop :=
  (∀ a, (k0_off522 v2446) a + S1x2048.size a ≤ S8192x2048.size a)
theorem k0_off522_inb : ∀ (v2446 : BitVec 32) (k0_hw173 : k0_chk173 v2446), ∀ a, (k0_off522 v2446) a + S1x2048.size a ≤ S8192x2048.size a := fun v2446 k0_hw173 => k0_hw173

def k0_off523 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_2016 : BitVec 32 := 1344#32
  let v2455 : BitVec 32 := Scalar.addi v11 c1344_i32_2016
  let c0_i32_954 : BitVec 32 := 0#32
  let c1_i32_956 : BitVec 32 := 1#32
  let arg11 : BitVec 32 := Scf.iv c0_i32_954 c1_i32_956 k0_t42
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off524 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off525 (v2458 : BitVec 32) : Fin 2 → Nat :=
  let c0_i32_2022 : BitVec 32 := 0#32
  ![v2458.toNat, 0]

def k0_chk174 (v2458 : BitVec 32) : Prop :=
  (∀ a, (k0_off525 v2458) a + S1x2048.size a ≤ S8192x2048.size a)
theorem k0_off525_inb : ∀ (v2458 : BitVec 32) (k0_hw174 : k0_chk174 v2458), ∀ a, (k0_off525 v2458) a + S1x2048.size a ≤ S8192x2048.size a := fun v2458 k0_hw174 => k0_hw174

def k0_off526 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_2025 : BitVec 32 := 1344#32
  let v2467 : BitVec 32 := Scalar.addi v11 c1344_i32_2025
  let c0_i32_954 : BitVec 32 := 0#32
  let c1_i32_956 : BitVec 32 := 1#32
  let arg11 : BitVec 32 := Scf.iv c0_i32_954 c1_i32_956 k0_t42
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off527 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off528 (v2470 : BitVec 32) : Fin 2 → Nat :=
  let c0_i32_2031 : BitVec 32 := 0#32
  ![v2470.toNat, 0]

def k0_chk175 (v2470 : BitVec 32) : Prop :=
  (∀ a, (k0_off528 v2470) a + S1x2048.size a ≤ S8192x2048.size a)
theorem k0_off528_inb : ∀ (v2470 : BitVec 32) (k0_hw175 : k0_chk175 v2470), ∀ a, (k0_off528 v2470) a + S1x2048.size a ≤ S8192x2048.size a := fun v2470 k0_hw175 => k0_hw175

def k0_off529 (d0 : Dev nD) (k0_t42 : Fin k0_t42_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1344_i32_2034 : BitVec 32 := 1344#32
  let v2479 : BitVec 32 := Scalar.addi v11 c1344_i32_2034
  let c0_i32_954 : BitVec 32 := 0#32
  let c1_i32_956 : BitVec 32 := 1#32
  let arg11 : BitVec 32 := Scf.iv c0_i32_954 c1_i32_956 k0_t42
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off530 (k0_t42 : Fin k0_t42_loop.trips) : Fin 2 → Nat :=
  let c0_i32_954 : BitVec 32 := 0#32
  let c1_i32_956 : BitVec 32 := 1#32
  let arg11 : BitVec 32 := Scf.iv c0_i32_954 c1_i32_956 k0_t42
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off531 (v2482 : BitVec 32) : Fin 2 → Nat :=
  let c0_i32_2040 : BitVec 32 := 0#32
  ![v2482.toNat, 0]

def k0_chk176 (v2482 : BitVec 32) : Prop :=
  (∀ a, (k0_off531 v2482) a + S1x2048.size a ≤ S8192x2048.size a)
theorem k0_off531_inb : ∀ (v2482 : BitVec 32) (k0_hw176 : k0_chk176 v2482), ∀ a, (k0_off531 v2482) a + S1x2048.size a ≤ S8192x2048.size a := fun v2482 k0_hw176 => k0_hw176

@[reducible] def k0_t43_loop : Scf.Loop 32 :=
  let c0_i32_958 : BitVec 32 := 0#32
  let c64_i32_959 : BitVec 32 := 64#32
  let v1193 : BitVec 32 := Scalar.addi c0_i32_958 c64_i32_959
  let c1_i32_960 : BitVec 32 := 1#32
  ⟨c0_i32_958, v1193, c1_i32_960⟩
def k0_dev42 (d0 : Dev nD) : Nat :=
  let c0_i32_969 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_968 : BitVec 32 := 8#32
  let v1206 : BitVec 32 := Scalar.muli v2 c8_i32_968
  let v1207 : BitVec 32 := Scalar.addi c0_i32_969 v1206
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_970 : BitVec 32 := 4#32
  let v1208 : BitVec 32 := Scalar.muli v9 c4_i32_970
  let v1209 : BitVec 32 := Scalar.addi v1207 v1208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_971 : BitVec 32 := 1#32
  let v1210 : BitVec 32 := Scalar.muli v8 c1_i32_971
  let v1211 : BitVec 32 := Scalar.addi v1209 v1210
  v1211.toNat
def k0_dev43 (d0 : Dev nD) : Nat :=
  let c0_i32_997 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_996 : BitVec 32 := 8#32
  let v1240 : BitVec 32 := Scalar.muli v10 c8_i32_996
  let v1241 : BitVec 32 := Scalar.addi c0_i32_997 v1240
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_998 : BitVec 32 := 4#32
  let v1242 : BitVec 32 := Scalar.muli v5 c4_i32_998
  let v1243 : BitVec 32 := Scalar.addi v1241 v1242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_999 : BitVec 32 := 1#32
  let v1244 : BitVec 32 := Scalar.muli v8 c1_i32_999
  let v1245 : BitVec 32 := Scalar.addi v1243 v1244
  v1245.toNat
@[reducible] def k0_t44_loop : Scf.Loop 32 :=
  let c0_i32_1002 : BitVec 32 := 0#32
  let c8_i32_1003 : BitVec 32 := 8#32
  let v1252 : BitVec 32 := Scalar.addi c0_i32_1002 c8_i32_1003
  let c1_i32_1004 : BitVec 32 := 1#32
  ⟨c0_i32_1002, v1252, c1_i32_1004⟩
def k0_off532 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_1971 : BitVec 32 := 1408#32
  let v2395 : BitVec 32 := Scalar.addi v11 c1408_i32_1971
  let c0_i32_1002 : BitVec 32 := 0#32
  let c1_i32_1004 : BitVec 32 := 1#32
  let arg11 : BitVec 32 := Scf.iv c0_i32_1002 c1_i32_1004 k0_t44
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off533 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off534 (v2398 : BitVec 32) : Fin 2 → Nat :=
  let c0_i32_1977 : BitVec 32 := 0#32
  ![v2398.toNat, 0]

def k0_chk177 (v2398 : BitVec 32) : Prop :=
  (∀ a, (k0_off534 v2398) a + S1x2048.size a ≤ S8192x2048.size a)
theorem k0_off534_inb : ∀ (v2398 : BitVec 32) (k0_hw177 : k0_chk177 v2398), ∀ a, (k0_off534 v2398) a + S1x2048.size a ≤ S8192x2048.size a := fun v2398 k0_hw177 => k0_hw177

def k0_off535 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_1980 : BitVec 32 := 1408#32
  let v2407 : BitVec 32 := Scalar.addi v11 c1408_i32_1980
  let c0_i32_1002 : BitVec 32 := 0#32
  let c1_i32_1004 : BitVec 32 := 1#32
  let arg11 : BitVec 32 := Scf.iv c0_i32_1002 c1_i32_1004 k0_t44
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off536 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off537 (v2410 : BitVec 32) : Fin 2 → Nat :=
  let c0_i32_1986 : BitVec 32 := 0#32
  ![v2410.toNat, 0]

def k0_chk178 (v2410 : BitVec 32) : Prop :=
  (∀ a, (k0_off537 v2410) a + S1x2048.size a ≤ S8192x2048.size a)
theorem k0_off537_inb : ∀ (v2410 : BitVec 32) (k0_hw178 : k0_chk178 v2410), ∀ a, (k0_off537 v2410) a + S1x2048.size a ≤ S8192x2048.size a := fun v2410 k0_hw178 => k0_hw178

def k0_off538 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_1989 : BitVec 32 := 1408#32
  let v2419 : BitVec 32 := Scalar.addi v11 c1408_i32_1989
  let c0_i32_1002 : BitVec 32 := 0#32
  let c1_i32_1004 : BitVec 32 := 1#32
  let arg11 : BitVec 32 := Scf.iv c0_i32_1002 c1_i32_1004 k0_t44
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off539 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off540 (v2422 : BitVec 32) : Fin 2 → Nat :=
  let c0_i32_1995 : BitVec 32 := 0#32
  ![v2422.toNat, 0]

def k0_chk179 (v2422 : BitVec 32) : Prop :=
  (∀ a, (k0_off540 v2422) a + S1x2048.size a ≤ S8192x2048.size a)
theorem k0_off540_inb : ∀ (v2422 : BitVec 32) (k0_hw179 : k0_chk179 v2422), ∀ a, (k0_off540 v2422) a + S1x2048.size a ≤ S8192x2048.size a := fun v2422 k0_hw179 => k0_hw179

def k0_off541 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_1998 : BitVec 32 := 1408#32
  let v2431 : BitVec 32 := Scalar.addi v11 c1408_i32_1998
  let c0_i32_1002 : BitVec 32 := 0#32
  let c1_i32_1004 : BitVec 32 := 1#32
  let arg11 : BitVec 32 := Scf.iv c0_i32_1002 c1_i32_1004 k0_t44
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off542 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off543 (v2434 : BitVec 32) : Fin 2 → Nat :=
  let c0_i32_2004 : BitVec 32 := 0#32
  ![v2434.toNat, 0]

def k0_chk180 (v2434 : BitVec 32) : Prop :=
  (∀ a, (k0_off543 v2434) a + S1x2048.size a ≤ S8192x2048.size a)
theorem k0_off543_inb : ∀ (v2434 : BitVec 32) (k0_hw180 : k0_chk180 v2434), ∀ a, (k0_off543 v2434) a + S1x2048.size a ≤ S8192x2048.size a := fun v2434 k0_hw180 => k0_hw180

def k0_off544 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_2007 : BitVec 32 := 1408#32
  let v2443 : BitVec 32 := Scalar.addi v11 c1408_i32_2007
  let c0_i32_1002 : BitVec 32 := 0#32
  let c1_i32_1004 : BitVec 32 := 1#32
  let arg11 : BitVec 32 := Scf.iv c0_i32_1002 c1_i32_1004 k0_t44
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off545 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off546 (v2446 : BitVec 32) : Fin 2 → Nat :=
  let c0_i32_2013 : BitVec 32 := 0#32
  ![v2446.toNat, 0]

def k0_chk181 (v2446 : BitVec 32) : Prop :=
  (∀ a, (k0_off546 v2446) a + S1x2048.size a ≤ S8192x2048.size a)
theorem k0_off546_inb : ∀ (v2446 : BitVec 32) (k0_hw181 : k0_chk181 v2446), ∀ a, (k0_off546 v2446) a + S1x2048.size a ≤ S8192x2048.size a := fun v2446 k0_hw181 => k0_hw181

def k0_off547 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_2016 : BitVec 32 := 1408#32
  let v2455 : BitVec 32 := Scalar.addi v11 c1408_i32_2016
  let c0_i32_1002 : BitVec 32 := 0#32
  let c1_i32_1004 : BitVec 32 := 1#32
  let arg11 : BitVec 32 := Scf.iv c0_i32_1002 c1_i32_1004 k0_t44
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off548 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off549 (v2458 : BitVec 32) : Fin 2 → Nat :=
  let c0_i32_2022 : BitVec 32 := 0#32
  ![v2458.toNat, 0]

def k0_chk182 (v2458 : BitVec 32) : Prop :=
  (∀ a, (k0_off549 v2458) a + S1x2048.size a ≤ S8192x2048.size a)
theorem k0_off549_inb : ∀ (v2458 : BitVec 32) (k0_hw182 : k0_chk182 v2458), ∀ a, (k0_off549 v2458) a + S1x2048.size a ≤ S8192x2048.size a := fun v2458 k0_hw182 => k0_hw182

def k0_off550 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_2025 : BitVec 32 := 1408#32
  let v2467 : BitVec 32 := Scalar.addi v11 c1408_i32_2025
  let c0_i32_1002 : BitVec 32 := 0#32
  let c1_i32_1004 : BitVec 32 := 1#32
  let arg11 : BitVec 32 := Scf.iv c0_i32_1002 c1_i32_1004 k0_t44
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off551 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off552 (v2470 : BitVec 32) : Fin 2 → Nat :=
  let c0_i32_2031 : BitVec 32 := 0#32
  ![v2470.toNat, 0]

def k0_chk183 (v2470 : BitVec 32) : Prop :=
  (∀ a, (k0_off552 v2470) a + S1x2048.size a ≤ S8192x2048.size a)
theorem k0_off552_inb : ∀ (v2470 : BitVec 32) (k0_hw183 : k0_chk183 v2470), ∀ a, (k0_off552 v2470) a + S1x2048.size a ≤ S8192x2048.size a := fun v2470 k0_hw183 => k0_hw183

def k0_off553 (d0 : Dev nD) (k0_t44 : Fin k0_t44_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1408_i32_2034 : BitVec 32 := 1408#32
  let v2479 : BitVec 32 := Scalar.addi v11 c1408_i32_2034
  let c0_i32_1002 : BitVec 32 := 0#32
  let c1_i32_1004 : BitVec 32 := 1#32
  let arg11 : BitVec 32 := Scf.iv c0_i32_1002 c1_i32_1004 k0_t44
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off554 (k0_t44 : Fin k0_t44_loop.trips) : Fin 2 → Nat :=
  let c0_i32_1002 : BitVec 32 := 0#32
  let c1_i32_1004 : BitVec 32 := 1#32
  let arg11 : BitVec 32 := Scf.iv c0_i32_1002 c1_i32_1004 k0_t44
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off555 (v2482 : BitVec 32) : Fin 2 → Nat :=
  let c0_i32_2040 : BitVec 32 := 0#32
  ![v2482.toNat, 0]

def k0_chk184 (v2482 : BitVec 32) : Prop :=
  (∀ a, (k0_off555 v2482) a + S1x2048.size a ≤ S8192x2048.size a)
theorem k0_off555_inb : ∀ (v2482 : BitVec 32) (k0_hw184 : k0_chk184 v2482), ∀ a, (k0_off555 v2482) a + S1x2048.size a ≤ S8192x2048.size a := fun v2482 k0_hw184 => k0_hw184

@[reducible] def k0_t45_loop : Scf.Loop 32 :=
  let c0_i32_1006 : BitVec 32 := 0#32
  let c64_i32_1007 : BitVec 32 := 64#32
  let v1253 : BitVec 32 := Scalar.addi c0_i32_1006 c64_i32_1007
  let c1_i32_1008 : BitVec 32 := 1#32
  ⟨c0_i32_1006, v1253, c1_i32_1008⟩
def k0_dev44 (d0 : Dev nD) : Nat :=
  let c0_i32_1017 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1016 : BitVec 32 := 8#32
  let v1266 : BitVec 32 := Scalar.muli v2 c8_i32_1016
  let v1267 : BitVec 32 := Scalar.addi c0_i32_1017 v1266
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1018 : BitVec 32 := 4#32
  let v1268 : BitVec 32 := Scalar.muli v9 c4_i32_1018
  let v1269 : BitVec 32 := Scalar.addi v1267 v1268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1019 : BitVec 32 := 1#32
  let v1270 : BitVec 32 := Scalar.muli v8 c1_i32_1019
  let v1271 : BitVec 32 := Scalar.addi v1269 v1270
  v1271.toNat
def k0_dev45 (d0 : Dev nD) : Nat :=
  let c0_i32_1045 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1044 : BitVec 32 := 8#32
  let v1300 : BitVec 32 := Scalar.muli v10 c8_i32_1044
  let v1301 : BitVec 32 := Scalar.addi c0_i32_1045 v1300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1046 : BitVec 32 := 4#32
  let v1302 : BitVec 32 := Scalar.muli v5 c4_i32_1046
  let v1303 : BitVec 32 := Scalar.addi v1301 v1302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1304 : BitVec 32 := Scalar.muli v8 c1_i32_1047
  let v1305 : BitVec 32 := Scalar.addi v1303 v1304
  v1305.toNat
@[reducible] def k0_t46_loop : Scf.Loop 32 :=
  let c0_i32_1050 : BitVec 32 := 0#32
  let c8_i32_1051 : BitVec 32 := 8#32
  let v1312 : BitVec 32 := Scalar.addi c0_i32_1050 c8_i32_1051
  let c1_i32_1052 : BitVec 32 := 1#32
  ⟨c0_i32_1050, v1312, c1_i32_1052⟩
def k0_off556 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_1971 : BitVec 32 := 1472#32
  let v2395 : BitVec 32 := Scalar.addi v11 c1472_i32_1971
  let c0_i32_1050 : BitVec 32 := 0#32
  let c1_i32_1052 : BitVec 32 := 1#32
  let arg11 : BitVec 32 := Scf.iv c0_i32_1050 c1_i32_1052 k0_t46
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off557 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off558 (v2398 : BitVec 32) : Fin 2 → Nat :=
  let c0_i32_1977 : BitVec 32 := 0#32
  ![v2398.toNat, 0]

def k0_chk185 (v2398 : BitVec 32) : Prop :=
  (∀ a, (k0_off558 v2398) a + S1x2048.size a ≤ S8192x2048.size a)
theorem k0_off558_inb : ∀ (v2398 : BitVec 32) (k0_hw185 : k0_chk185 v2398), ∀ a, (k0_off558 v2398) a + S1x2048.size a ≤ S8192x2048.size a := fun v2398 k0_hw185 => k0_hw185

def k0_off559 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_1980 : BitVec 32 := 1472#32
  let v2407 : BitVec 32 := Scalar.addi v11 c1472_i32_1980
  let c0_i32_1050 : BitVec 32 := 0#32
  let c1_i32_1052 : BitVec 32 := 1#32
  let arg11 : BitVec 32 := Scf.iv c0_i32_1050 c1_i32_1052 k0_t46
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off560 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off561 (v2410 : BitVec 32) : Fin 2 → Nat :=
  let c0_i32_1986 : BitVec 32 := 0#32
  ![v2410.toNat, 0]

def k0_chk186 (v2410 : BitVec 32) : Prop :=
  (∀ a, (k0_off561 v2410) a + S1x2048.size a ≤ S8192x2048.size a)
theorem k0_off561_inb : ∀ (v2410 : BitVec 32) (k0_hw186 : k0_chk186 v2410), ∀ a, (k0_off561 v2410) a + S1x2048.size a ≤ S8192x2048.size a := fun v2410 k0_hw186 => k0_hw186

def k0_off562 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_1989 : BitVec 32 := 1472#32
  let v2419 : BitVec 32 := Scalar.addi v11 c1472_i32_1989
  let c0_i32_1050 : BitVec 32 := 0#32
  let c1_i32_1052 : BitVec 32 := 1#32
  let arg11 : BitVec 32 := Scf.iv c0_i32_1050 c1_i32_1052 k0_t46
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off563 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off564 (v2422 : BitVec 32) : Fin 2 → Nat :=
  let c0_i32_1995 : BitVec 32 := 0#32
  ![v2422.toNat, 0]

def k0_chk187 (v2422 : BitVec 32) : Prop :=
  (∀ a, (k0_off564 v2422) a + S1x2048.size a ≤ S8192x2048.size a)
theorem k0_off564_inb : ∀ (v2422 : BitVec 32) (k0_hw187 : k0_chk187 v2422), ∀ a, (k0_off564 v2422) a + S1x2048.size a ≤ S8192x2048.size a := fun v2422 k0_hw187 => k0_hw187

def k0_off565 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_1998 : BitVec 32 := 1472#32
  let v2431 : BitVec 32 := Scalar.addi v11 c1472_i32_1998
  let c0_i32_1050 : BitVec 32 := 0#32
  let c1_i32_1052 : BitVec 32 := 1#32
  let arg11 : BitVec 32 := Scf.iv c0_i32_1050 c1_i32_1052 k0_t46
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off566 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off567 (v2434 : BitVec 32) : Fin 2 → Nat :=
  let c0_i32_2004 : BitVec 32 := 0#32
  ![v2434.toNat, 0]

def k0_chk188 (v2434 : BitVec 32) : Prop :=
  (∀ a, (k0_off567 v2434) a + S1x2048.size a ≤ S8192x2048.size a)
theorem k0_off567_inb : ∀ (v2434 : BitVec 32) (k0_hw188 : k0_chk188 v2434), ∀ a, (k0_off567 v2434) a + S1x2048.size a ≤ S8192x2048.size a := fun v2434 k0_hw188 => k0_hw188

def k0_off568 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_2007 : BitVec 32 := 1472#32
  let v2443 : BitVec 32 := Scalar.addi v11 c1472_i32_2007
  let c0_i32_1050 : BitVec 32 := 0#32
  let c1_i32_1052 : BitVec 32 := 1#32
  let arg11 : BitVec 32 := Scf.iv c0_i32_1050 c1_i32_1052 k0_t46
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off569 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off570 (v2446 : BitVec 32) : Fin 2 → Nat :=
  let c0_i32_2013 : BitVec 32 := 0#32
  ![v2446.toNat, 0]

def k0_chk189 (v2446 : BitVec 32) : Prop :=
  (∀ a, (k0_off570 v2446) a + S1x2048.size a ≤ S8192x2048.size a)
theorem k0_off570_inb : ∀ (v2446 : BitVec 32) (k0_hw189 : k0_chk189 v2446), ∀ a, (k0_off570 v2446) a + S1x2048.size a ≤ S8192x2048.size a := fun v2446 k0_hw189 => k0_hw189

def k0_off571 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_2016 : BitVec 32 := 1472#32
  let v2455 : BitVec 32 := Scalar.addi v11 c1472_i32_2016
  let c0_i32_1050 : BitVec 32 := 0#32
  let c1_i32_1052 : BitVec 32 := 1#32
  let arg11 : BitVec 32 := Scf.iv c0_i32_1050 c1_i32_1052 k0_t46
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off572 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off573 (v2458 : BitVec 32) : Fin 2 → Nat :=
  let c0_i32_2022 : BitVec 32 := 0#32
  ![v2458.toNat, 0]

def k0_chk190 (v2458 : BitVec 32) : Prop :=
  (∀ a, (k0_off573 v2458) a + S1x2048.size a ≤ S8192x2048.size a)
theorem k0_off573_inb : ∀ (v2458 : BitVec 32) (k0_hw190 : k0_chk190 v2458), ∀ a, (k0_off573 v2458) a + S1x2048.size a ≤ S8192x2048.size a := fun v2458 k0_hw190 => k0_hw190

def k0_off574 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_2025 : BitVec 32 := 1472#32
  let v2467 : BitVec 32 := Scalar.addi v11 c1472_i32_2025
  let c0_i32_1050 : BitVec 32 := 0#32
  let c1_i32_1052 : BitVec 32 := 1#32
  let arg11 : BitVec 32 := Scf.iv c0_i32_1050 c1_i32_1052 k0_t46
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off575 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off576 (v2470 : BitVec 32) : Fin 2 → Nat :=
  let c0_i32_2031 : BitVec 32 := 0#32
  ![v2470.toNat, 0]

def k0_chk191 (v2470 : BitVec 32) : Prop :=
  (∀ a, (k0_off576 v2470) a + S1x2048.size a ≤ S8192x2048.size a)
theorem k0_off576_inb : ∀ (v2470 : BitVec 32) (k0_hw191 : k0_chk191 v2470), ∀ a, (k0_off576 v2470) a + S1x2048.size a ≤ S8192x2048.size a := fun v2470 k0_hw191 => k0_hw191

def k0_off577 (d0 : Dev nD) (k0_t46 : Fin k0_t46_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1472_i32_2034 : BitVec 32 := 1472#32
  let v2479 : BitVec 32 := Scalar.addi v11 c1472_i32_2034
  let c0_i32_1050 : BitVec 32 := 0#32
  let c1_i32_1052 : BitVec 32 := 1#32
  let arg11 : BitVec 32 := Scf.iv c0_i32_1050 c1_i32_1052 k0_t46
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off578 (k0_t46 : Fin k0_t46_loop.trips) : Fin 2 → Nat :=
  let c0_i32_1050 : BitVec 32 := 0#32
  let c1_i32_1052 : BitVec 32 := 1#32
  let arg11 : BitVec 32 := Scf.iv c0_i32_1050 c1_i32_1052 k0_t46
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off579 (v2482 : BitVec 32) : Fin 2 → Nat :=
  let c0_i32_2040 : BitVec 32 := 0#32
  ![v2482.toNat, 0]

def k0_chk192 (v2482 : BitVec 32) : Prop :=
  (∀ a, (k0_off579 v2482) a + S1x2048.size a ≤ S8192x2048.size a)
theorem k0_off579_inb : ∀ (v2482 : BitVec 32) (k0_hw192 : k0_chk192 v2482), ∀ a, (k0_off579 v2482) a + S1x2048.size a ≤ S8192x2048.size a := fun v2482 k0_hw192 => k0_hw192

@[reducible] def k0_t47_loop : Scf.Loop 32 :=
  let c0_i32_1054 : BitVec 32 := 0#32
  let c64_i32_1055 : BitVec 32 := 64#32
  let v1313 : BitVec 32 := Scalar.addi c0_i32_1054 c64_i32_1055
  let c1_i32_1056 : BitVec 32 := 1#32
  ⟨c0_i32_1054, v1313, c1_i32_1056⟩
def k0_dev46 (d0 : Dev nD) : Nat :=
  let c0_i32_1065 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1064 : BitVec 32 := 8#32
  let v1326 : BitVec 32 := Scalar.muli v2 c8_i32_1064
  let v1327 : BitVec 32 := Scalar.addi c0_i32_1065 v1326
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1066 : BitVec 32 := 4#32
  let v1328 : BitVec 32 := Scalar.muli v9 c4_i32_1066
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1067 : BitVec 32 := 1#32
  let v1330 : BitVec 32 := Scalar.muli v8 c1_i32_1067
  let v1331 : BitVec 32 := Scalar.addi v1329 v1330
  v1331.toNat
def k0_dev47 (d0 : Dev nD) : Nat :=
  let c0_i32_1093 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1092 : BitVec 32 := 8#32
  let v1360 : BitVec 32 := Scalar.muli v10 c8_i32_1092
  let v1361 : BitVec 32 := Scalar.addi c0_i32_1093 v1360
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1094 : BitVec 32 := 4#32
  let v1362 : BitVec 32 := Scalar.muli v5 c4_i32_1094
  let v1363 : BitVec 32 := Scalar.addi v1361 v1362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1364 : BitVec 32 := Scalar.muli v8 c1_i32_1095
  let v1365 : BitVec 32 := Scalar.addi v1363 v1364
  v1365.toNat
@[reducible] def k0_t48_loop : Scf.Loop 32 :=
  let c0_i32_1098 : BitVec 32 := 0#32
  let c8_i32_1099 : BitVec 32 := 8#32
  let v1372 : BitVec 32 := Scalar.addi c0_i32_1098 c8_i32_1099
  let c1_i32_1100 : BitVec 32 := 1#32
  ⟨c0_i32_1098, v1372, c1_i32_1100⟩
def k0_off580 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_1971 : BitVec 32 := 1536#32
  let v2395 : BitVec 32 := Scalar.addi v11 c1536_i32_1971
  let c0_i32_1098 : BitVec 32 := 0#32
  let c1_i32_1100 : BitVec 32 := 1#32
  let arg11 : BitVec 32 := Scf.iv c0_i32_1098 c1_i32_1100 k0_t48
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off581 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off582 (v2398 : BitVec 32) : Fin 2 → Nat :=
  let c0_i32_1977 : BitVec 32 := 0#32
  ![v2398.toNat, 0]

def k0_chk193 (v2398 : BitVec 32) : Prop :=
  (∀ a, (k0_off582 v2398) a + S1x2048.size a ≤ S8192x2048.size a)
theorem k0_off582_inb : ∀ (v2398 : BitVec 32) (k0_hw193 : k0_chk193 v2398), ∀ a, (k0_off582 v2398) a + S1x2048.size a ≤ S8192x2048.size a := fun v2398 k0_hw193 => k0_hw193

def k0_off583 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_1980 : BitVec 32 := 1536#32
  let v2407 : BitVec 32 := Scalar.addi v11 c1536_i32_1980
  let c0_i32_1098 : BitVec 32 := 0#32
  let c1_i32_1100 : BitVec 32 := 1#32
  let arg11 : BitVec 32 := Scf.iv c0_i32_1098 c1_i32_1100 k0_t48
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off584 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off585 (v2410 : BitVec 32) : Fin 2 → Nat :=
  let c0_i32_1986 : BitVec 32 := 0#32
  ![v2410.toNat, 0]

def k0_chk194 (v2410 : BitVec 32) : Prop :=
  (∀ a, (k0_off585 v2410) a + S1x2048.size a ≤ S8192x2048.size a)
theorem k0_off585_inb : ∀ (v2410 : BitVec 32) (k0_hw194 : k0_chk194 v2410), ∀ a, (k0_off585 v2410) a + S1x2048.size a ≤ S8192x2048.size a := fun v2410 k0_hw194 => k0_hw194

def k0_off586 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_1989 : BitVec 32 := 1536#32
  let v2419 : BitVec 32 := Scalar.addi v11 c1536_i32_1989
  let c0_i32_1098 : BitVec 32 := 0#32
  let c1_i32_1100 : BitVec 32 := 1#32
  let arg11 : BitVec 32 := Scf.iv c0_i32_1098 c1_i32_1100 k0_t48
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off587 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off588 (v2422 : BitVec 32) : Fin 2 → Nat :=
  let c0_i32_1995 : BitVec 32 := 0#32
  ![v2422.toNat, 0]

def k0_chk195 (v2422 : BitVec 32) : Prop :=
  (∀ a, (k0_off588 v2422) a + S1x2048.size a ≤ S8192x2048.size a)
theorem k0_off588_inb : ∀ (v2422 : BitVec 32) (k0_hw195 : k0_chk195 v2422), ∀ a, (k0_off588 v2422) a + S1x2048.size a ≤ S8192x2048.size a := fun v2422 k0_hw195 => k0_hw195

def k0_off589 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_1998 : BitVec 32 := 1536#32
  let v2431 : BitVec 32 := Scalar.addi v11 c1536_i32_1998
  let c0_i32_1098 : BitVec 32 := 0#32
  let c1_i32_1100 : BitVec 32 := 1#32
  let arg11 : BitVec 32 := Scf.iv c0_i32_1098 c1_i32_1100 k0_t48
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off590 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off591 (v2434 : BitVec 32) : Fin 2 → Nat :=
  let c0_i32_2004 : BitVec 32 := 0#32
  ![v2434.toNat, 0]

def k0_chk196 (v2434 : BitVec 32) : Prop :=
  (∀ a, (k0_off591 v2434) a + S1x2048.size a ≤ S8192x2048.size a)
theorem k0_off591_inb : ∀ (v2434 : BitVec 32) (k0_hw196 : k0_chk196 v2434), ∀ a, (k0_off591 v2434) a + S1x2048.size a ≤ S8192x2048.size a := fun v2434 k0_hw196 => k0_hw196

def k0_off592 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_2007 : BitVec 32 := 1536#32
  let v2443 : BitVec 32 := Scalar.addi v11 c1536_i32_2007
  let c0_i32_1098 : BitVec 32 := 0#32
  let c1_i32_1100 : BitVec 32 := 1#32
  let arg11 : BitVec 32 := Scf.iv c0_i32_1098 c1_i32_1100 k0_t48
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off593 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off594 (v2446 : BitVec 32) : Fin 2 → Nat :=
  let c0_i32_2013 : BitVec 32 := 0#32
  ![v2446.toNat, 0]

def k0_chk197 (v2446 : BitVec 32) : Prop :=
  (∀ a, (k0_off594 v2446) a + S1x2048.size a ≤ S8192x2048.size a)
theorem k0_off594_inb : ∀ (v2446 : BitVec 32) (k0_hw197 : k0_chk197 v2446), ∀ a, (k0_off594 v2446) a + S1x2048.size a ≤ S8192x2048.size a := fun v2446 k0_hw197 => k0_hw197

def k0_off595 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_2016 : BitVec 32 := 1536#32
  let v2455 : BitVec 32 := Scalar.addi v11 c1536_i32_2016
  let c0_i32_1098 : BitVec 32 := 0#32
  let c1_i32_1100 : BitVec 32 := 1#32
  let arg11 : BitVec 32 := Scf.iv c0_i32_1098 c1_i32_1100 k0_t48
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off596 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off597 (v2458 : BitVec 32) : Fin 2 → Nat :=
  let c0_i32_2022 : BitVec 32 := 0#32
  ![v2458.toNat, 0]

def k0_chk198 (v2458 : BitVec 32) : Prop :=
  (∀ a, (k0_off597 v2458) a + S1x2048.size a ≤ S8192x2048.size a)
theorem k0_off597_inb : ∀ (v2458 : BitVec 32) (k0_hw198 : k0_chk198 v2458), ∀ a, (k0_off597 v2458) a + S1x2048.size a ≤ S8192x2048.size a := fun v2458 k0_hw198 => k0_hw198

def k0_off598 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_2025 : BitVec 32 := 1536#32
  let v2467 : BitVec 32 := Scalar.addi v11 c1536_i32_2025
  let c0_i32_1098 : BitVec 32 := 0#32
  let c1_i32_1100 : BitVec 32 := 1#32
  let arg11 : BitVec 32 := Scf.iv c0_i32_1098 c1_i32_1100 k0_t48
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off599 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off600 (v2470 : BitVec 32) : Fin 2 → Nat :=
  let c0_i32_2031 : BitVec 32 := 0#32
  ![v2470.toNat, 0]

def k0_chk199 (v2470 : BitVec 32) : Prop :=
  (∀ a, (k0_off600 v2470) a + S1x2048.size a ≤ S8192x2048.size a)
theorem k0_off600_inb : ∀ (v2470 : BitVec 32) (k0_hw199 : k0_chk199 v2470), ∀ a, (k0_off600 v2470) a + S1x2048.size a ≤ S8192x2048.size a := fun v2470 k0_hw199 => k0_hw199

def k0_off601 (d0 : Dev nD) (k0_t48 : Fin k0_t48_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1536_i32_2034 : BitVec 32 := 1536#32
  let v2479 : BitVec 32 := Scalar.addi v11 c1536_i32_2034
  let c0_i32_1098 : BitVec 32 := 0#32
  let c1_i32_1100 : BitVec 32 := 1#32
  let arg11 : BitVec 32 := Scf.iv c0_i32_1098 c1_i32_1100 k0_t48
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off602 (k0_t48 : Fin k0_t48_loop.trips) : Fin 2 → Nat :=
  let c0_i32_1098 : BitVec 32 := 0#32
  let c1_i32_1100 : BitVec 32 := 1#32
  let arg11 : BitVec 32 := Scf.iv c0_i32_1098 c1_i32_1100 k0_t48
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off603 (v2482 : BitVec 32) : Fin 2 → Nat :=
  let c0_i32_2040 : BitVec 32 := 0#32
  ![v2482.toNat, 0]

def k0_chk200 (v2482 : BitVec 32) : Prop :=
  (∀ a, (k0_off603 v2482) a + S1x2048.size a ≤ S8192x2048.size a)
theorem k0_off603_inb : ∀ (v2482 : BitVec 32) (k0_hw200 : k0_chk200 v2482), ∀ a, (k0_off603 v2482) a + S1x2048.size a ≤ S8192x2048.size a := fun v2482 k0_hw200 => k0_hw200

@[reducible] def k0_t49_loop : Scf.Loop 32 :=
  let c0_i32_1102 : BitVec 32 := 0#32
  let c64_i32_1103 : BitVec 32 := 64#32
  let v1373 : BitVec 32 := Scalar.addi c0_i32_1102 c64_i32_1103
  let c1_i32_1104 : BitVec 32 := 1#32
  ⟨c0_i32_1102, v1373, c1_i32_1104⟩
def k0_dev48 (d0 : Dev nD) : Nat :=
  let c0_i32_1113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1112 : BitVec 32 := 8#32
  let v1386 : BitVec 32 := Scalar.muli v2 c8_i32_1112
  let v1387 : BitVec 32 := Scalar.addi c0_i32_1113 v1386
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1114 : BitVec 32 := 4#32
  let v1388 : BitVec 32 := Scalar.muli v9 c4_i32_1114
  let v1389 : BitVec 32 := Scalar.addi v1387 v1388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1115 : BitVec 32 := 1#32
  let v1390 : BitVec 32 := Scalar.muli v8 c1_i32_1115
  let v1391 : BitVec 32 := Scalar.addi v1389 v1390
  v1391.toNat
def k0_dev49 (d0 : Dev nD) : Nat :=
  let c0_i32_1141 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1140 : BitVec 32 := 8#32
  let v1420 : BitVec 32 := Scalar.muli v10 c8_i32_1140
  let v1421 : BitVec 32 := Scalar.addi c0_i32_1141 v1420
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1142 : BitVec 32 := 4#32
  let v1422 : BitVec 32 := Scalar.muli v5 c4_i32_1142
  let v1423 : BitVec 32 := Scalar.addi v1421 v1422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1143 : BitVec 32 := 1#32
  let v1424 : BitVec 32 := Scalar.muli v8 c1_i32_1143
  let v1425 : BitVec 32 := Scalar.addi v1423 v1424
  v1425.toNat
@[reducible] def k0_t50_loop : Scf.Loop 32 :=
  let c0_i32_1146 : BitVec 32 := 0#32
  let c8_i32_1147 : BitVec 32 := 8#32
  let v1432 : BitVec 32 := Scalar.addi c0_i32_1146 c8_i32_1147
  let c1_i32_1148 : BitVec 32 := 1#32
  ⟨c0_i32_1146, v1432, c1_i32_1148⟩
def k0_off604 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_1971 : BitVec 32 := 1600#32
  let v2395 : BitVec 32 := Scalar.addi v11 c1600_i32_1971
  let c0_i32_1146 : BitVec 32 := 0#32
  let c1_i32_1148 : BitVec 32 := 1#32
  let arg11 : BitVec 32 := Scf.iv c0_i32_1146 c1_i32_1148 k0_t50
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off605 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off606 (v2398 : BitVec 32) : Fin 2 → Nat :=
  let c0_i32_1977 : BitVec 32 := 0#32
  ![v2398.toNat, 0]

def k0_chk201 (v2398 : BitVec 32) : Prop :=
  (∀ a, (k0_off606 v2398) a + S1x2048.size a ≤ S8192x2048.size a)
theorem k0_off606_inb : ∀ (v2398 : BitVec 32) (k0_hw201 : k0_chk201 v2398), ∀ a, (k0_off606 v2398) a + S1x2048.size a ≤ S8192x2048.size a := fun v2398 k0_hw201 => k0_hw201

def k0_off607 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_1980 : BitVec 32 := 1600#32
  let v2407 : BitVec 32 := Scalar.addi v11 c1600_i32_1980
  let c0_i32_1146 : BitVec 32 := 0#32
  let c1_i32_1148 : BitVec 32 := 1#32
  let arg11 : BitVec 32 := Scf.iv c0_i32_1146 c1_i32_1148 k0_t50
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off608 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off609 (v2410 : BitVec 32) : Fin 2 → Nat :=
  let c0_i32_1986 : BitVec 32 := 0#32
  ![v2410.toNat, 0]

def k0_chk202 (v2410 : BitVec 32) : Prop :=
  (∀ a, (k0_off609 v2410) a + S1x2048.size a ≤ S8192x2048.size a)
theorem k0_off609_inb : ∀ (v2410 : BitVec 32) (k0_hw202 : k0_chk202 v2410), ∀ a, (k0_off609 v2410) a + S1x2048.size a ≤ S8192x2048.size a := fun v2410 k0_hw202 => k0_hw202

def k0_off610 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_1989 : BitVec 32 := 1600#32
  let v2419 : BitVec 32 := Scalar.addi v11 c1600_i32_1989
  let c0_i32_1146 : BitVec 32 := 0#32
  let c1_i32_1148 : BitVec 32 := 1#32
  let arg11 : BitVec 32 := Scf.iv c0_i32_1146 c1_i32_1148 k0_t50
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off611 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off612 (v2422 : BitVec 32) : Fin 2 → Nat :=
  let c0_i32_1995 : BitVec 32 := 0#32
  ![v2422.toNat, 0]

def k0_chk203 (v2422 : BitVec 32) : Prop :=
  (∀ a, (k0_off612 v2422) a + S1x2048.size a ≤ S8192x2048.size a)
theorem k0_off612_inb : ∀ (v2422 : BitVec 32) (k0_hw203 : k0_chk203 v2422), ∀ a, (k0_off612 v2422) a + S1x2048.size a ≤ S8192x2048.size a := fun v2422 k0_hw203 => k0_hw203

def k0_off613 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_1998 : BitVec 32 := 1600#32
  let v2431 : BitVec 32 := Scalar.addi v11 c1600_i32_1998
  let c0_i32_1146 : BitVec 32 := 0#32
  let c1_i32_1148 : BitVec 32 := 1#32
  let arg11 : BitVec 32 := Scf.iv c0_i32_1146 c1_i32_1148 k0_t50
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off614 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off615 (v2434 : BitVec 32) : Fin 2 → Nat :=
  let c0_i32_2004 : BitVec 32 := 0#32
  ![v2434.toNat, 0]

def k0_chk204 (v2434 : BitVec 32) : Prop :=
  (∀ a, (k0_off615 v2434) a + S1x2048.size a ≤ S8192x2048.size a)
theorem k0_off615_inb : ∀ (v2434 : BitVec 32) (k0_hw204 : k0_chk204 v2434), ∀ a, (k0_off615 v2434) a + S1x2048.size a ≤ S8192x2048.size a := fun v2434 k0_hw204 => k0_hw204

def k0_off616 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_2007 : BitVec 32 := 1600#32
  let v2443 : BitVec 32 := Scalar.addi v11 c1600_i32_2007
  let c0_i32_1146 : BitVec 32 := 0#32
  let c1_i32_1148 : BitVec 32 := 1#32
  let arg11 : BitVec 32 := Scf.iv c0_i32_1146 c1_i32_1148 k0_t50
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off617 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off618 (v2446 : BitVec 32) : Fin 2 → Nat :=
  let c0_i32_2013 : BitVec 32 := 0#32
  ![v2446.toNat, 0]

def k0_chk205 (v2446 : BitVec 32) : Prop :=
  (∀ a, (k0_off618 v2446) a + S1x2048.size a ≤ S8192x2048.size a)
theorem k0_off618_inb : ∀ (v2446 : BitVec 32) (k0_hw205 : k0_chk205 v2446), ∀ a, (k0_off618 v2446) a + S1x2048.size a ≤ S8192x2048.size a := fun v2446 k0_hw205 => k0_hw205

def k0_off619 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_2016 : BitVec 32 := 1600#32
  let v2455 : BitVec 32 := Scalar.addi v11 c1600_i32_2016
  let c0_i32_1146 : BitVec 32 := 0#32
  let c1_i32_1148 : BitVec 32 := 1#32
  let arg11 : BitVec 32 := Scf.iv c0_i32_1146 c1_i32_1148 k0_t50
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off620 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off621 (v2458 : BitVec 32) : Fin 2 → Nat :=
  let c0_i32_2022 : BitVec 32 := 0#32
  ![v2458.toNat, 0]

def k0_chk206 (v2458 : BitVec 32) : Prop :=
  (∀ a, (k0_off621 v2458) a + S1x2048.size a ≤ S8192x2048.size a)
theorem k0_off621_inb : ∀ (v2458 : BitVec 32) (k0_hw206 : k0_chk206 v2458), ∀ a, (k0_off621 v2458) a + S1x2048.size a ≤ S8192x2048.size a := fun v2458 k0_hw206 => k0_hw206

def k0_off622 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_2025 : BitVec 32 := 1600#32
  let v2467 : BitVec 32 := Scalar.addi v11 c1600_i32_2025
  let c0_i32_1146 : BitVec 32 := 0#32
  let c1_i32_1148 : BitVec 32 := 1#32
  let arg11 : BitVec 32 := Scf.iv c0_i32_1146 c1_i32_1148 k0_t50
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off623 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off624 (v2470 : BitVec 32) : Fin 2 → Nat :=
  let c0_i32_2031 : BitVec 32 := 0#32
  ![v2470.toNat, 0]

def k0_chk207 (v2470 : BitVec 32) : Prop :=
  (∀ a, (k0_off624 v2470) a + S1x2048.size a ≤ S8192x2048.size a)
theorem k0_off624_inb : ∀ (v2470 : BitVec 32) (k0_hw207 : k0_chk207 v2470), ∀ a, (k0_off624 v2470) a + S1x2048.size a ≤ S8192x2048.size a := fun v2470 k0_hw207 => k0_hw207

def k0_off625 (d0 : Dev nD) (k0_t50 : Fin k0_t50_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1600_i32_2034 : BitVec 32 := 1600#32
  let v2479 : BitVec 32 := Scalar.addi v11 c1600_i32_2034
  let c0_i32_1146 : BitVec 32 := 0#32
  let c1_i32_1148 : BitVec 32 := 1#32
  let arg11 : BitVec 32 := Scf.iv c0_i32_1146 c1_i32_1148 k0_t50
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off626 (k0_t50 : Fin k0_t50_loop.trips) : Fin 2 → Nat :=
  let c0_i32_1146 : BitVec 32 := 0#32
  let c1_i32_1148 : BitVec 32 := 1#32
  let arg11 : BitVec 32 := Scf.iv c0_i32_1146 c1_i32_1148 k0_t50
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off627 (v2482 : BitVec 32) : Fin 2 → Nat :=
  let c0_i32_2040 : BitVec 32 := 0#32
  ![v2482.toNat, 0]

def k0_chk208 (v2482 : BitVec 32) : Prop :=
  (∀ a, (k0_off627 v2482) a + S1x2048.size a ≤ S8192x2048.size a)
theorem k0_off627_inb : ∀ (v2482 : BitVec 32) (k0_hw208 : k0_chk208 v2482), ∀ a, (k0_off627 v2482) a + S1x2048.size a ≤ S8192x2048.size a := fun v2482 k0_hw208 => k0_hw208

@[reducible] def k0_t51_loop : Scf.Loop 32 :=
  let c0_i32_1150 : BitVec 32 := 0#32
  let c64_i32_1151 : BitVec 32 := 64#32
  let v1433 : BitVec 32 := Scalar.addi c0_i32_1150 c64_i32_1151
  let c1_i32_1152 : BitVec 32 := 1#32
  ⟨c0_i32_1150, v1433, c1_i32_1152⟩
def k0_dev50 (d0 : Dev nD) : Nat :=
  let c0_i32_1161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1160 : BitVec 32 := 8#32
  let v1446 : BitVec 32 := Scalar.muli v2 c8_i32_1160
  let v1447 : BitVec 32 := Scalar.addi c0_i32_1161 v1446
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1162 : BitVec 32 := 4#32
  let v1448 : BitVec 32 := Scalar.muli v9 c4_i32_1162
  let v1449 : BitVec 32 := Scalar.addi v1447 v1448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1163 : BitVec 32 := 1#32
  let v1450 : BitVec 32 := Scalar.muli v8 c1_i32_1163
  let v1451 : BitVec 32 := Scalar.addi v1449 v1450
  v1451.toNat
def k0_dev51 (d0 : Dev nD) : Nat :=
  let c0_i32_1189 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1188 : BitVec 32 := 8#32
  let v1480 : BitVec 32 := Scalar.muli v10 c8_i32_1188
  let v1481 : BitVec 32 := Scalar.addi c0_i32_1189 v1480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1190 : BitVec 32 := 4#32
  let v1482 : BitVec 32 := Scalar.muli v5 c4_i32_1190
  let v1483 : BitVec 32 := Scalar.addi v1481 v1482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1191 : BitVec 32 := 1#32
  let v1484 : BitVec 32 := Scalar.muli v8 c1_i32_1191
  let v1485 : BitVec 32 := Scalar.addi v1483 v1484
  v1485.toNat
@[reducible] def k0_t52_loop : Scf.Loop 32 :=
  let c0_i32_1194 : BitVec 32 := 0#32
  let c8_i32_1195 : BitVec 32 := 8#32
  let v1492 : BitVec 32 := Scalar.addi c0_i32_1194 c8_i32_1195
  let c1_i32_1196 : BitVec 32 := 1#32
  ⟨c0_i32_1194, v1492, c1_i32_1196⟩
def k0_off628 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_1971 : BitVec 32 := 1664#32
  let v2395 : BitVec 32 := Scalar.addi v11 c1664_i32_1971
  let c0_i32_1194 : BitVec 32 := 0#32
  let c1_i32_1196 : BitVec 32 := 1#32
  let arg11 : BitVec 32 := Scf.iv c0_i32_1194 c1_i32_1196 k0_t52
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off629 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off630 (v2398 : BitVec 32) : Fin 2 → Nat :=
  let c0_i32_1977 : BitVec 32 := 0#32
  ![v2398.toNat, 0]

def k0_chk209 (v2398 : BitVec 32) : Prop :=
  (∀ a, (k0_off630 v2398) a + S1x2048.size a ≤ S8192x2048.size a)
theorem k0_off630_inb : ∀ (v2398 : BitVec 32) (k0_hw209 : k0_chk209 v2398), ∀ a, (k0_off630 v2398) a + S1x2048.size a ≤ S8192x2048.size a := fun v2398 k0_hw209 => k0_hw209

def k0_off631 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_1980 : BitVec 32 := 1664#32
  let v2407 : BitVec 32 := Scalar.addi v11 c1664_i32_1980
  let c0_i32_1194 : BitVec 32 := 0#32
  let c1_i32_1196 : BitVec 32 := 1#32
  let arg11 : BitVec 32 := Scf.iv c0_i32_1194 c1_i32_1196 k0_t52
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off632 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off633 (v2410 : BitVec 32) : Fin 2 → Nat :=
  let c0_i32_1986 : BitVec 32 := 0#32
  ![v2410.toNat, 0]

def k0_chk210 (v2410 : BitVec 32) : Prop :=
  (∀ a, (k0_off633 v2410) a + S1x2048.size a ≤ S8192x2048.size a)
theorem k0_off633_inb : ∀ (v2410 : BitVec 32) (k0_hw210 : k0_chk210 v2410), ∀ a, (k0_off633 v2410) a + S1x2048.size a ≤ S8192x2048.size a := fun v2410 k0_hw210 => k0_hw210

def k0_off634 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_1989 : BitVec 32 := 1664#32
  let v2419 : BitVec 32 := Scalar.addi v11 c1664_i32_1989
  let c0_i32_1194 : BitVec 32 := 0#32
  let c1_i32_1196 : BitVec 32 := 1#32
  let arg11 : BitVec 32 := Scf.iv c0_i32_1194 c1_i32_1196 k0_t52
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off635 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off636 (v2422 : BitVec 32) : Fin 2 → Nat :=
  let c0_i32_1995 : BitVec 32 := 0#32
  ![v2422.toNat, 0]

def k0_chk211 (v2422 : BitVec 32) : Prop :=
  (∀ a, (k0_off636 v2422) a + S1x2048.size a ≤ S8192x2048.size a)
theorem k0_off636_inb : ∀ (v2422 : BitVec 32) (k0_hw211 : k0_chk211 v2422), ∀ a, (k0_off636 v2422) a + S1x2048.size a ≤ S8192x2048.size a := fun v2422 k0_hw211 => k0_hw211

def k0_off637 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_1998 : BitVec 32 := 1664#32
  let v2431 : BitVec 32 := Scalar.addi v11 c1664_i32_1998
  let c0_i32_1194 : BitVec 32 := 0#32
  let c1_i32_1196 : BitVec 32 := 1#32
  let arg11 : BitVec 32 := Scf.iv c0_i32_1194 c1_i32_1196 k0_t52
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off638 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off639 (v2434 : BitVec 32) : Fin 2 → Nat :=
  let c0_i32_2004 : BitVec 32 := 0#32
  ![v2434.toNat, 0]

def k0_chk212 (v2434 : BitVec 32) : Prop :=
  (∀ a, (k0_off639 v2434) a + S1x2048.size a ≤ S8192x2048.size a)
theorem k0_off639_inb : ∀ (v2434 : BitVec 32) (k0_hw212 : k0_chk212 v2434), ∀ a, (k0_off639 v2434) a + S1x2048.size a ≤ S8192x2048.size a := fun v2434 k0_hw212 => k0_hw212

def k0_off640 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_2007 : BitVec 32 := 1664#32
  let v2443 : BitVec 32 := Scalar.addi v11 c1664_i32_2007
  let c0_i32_1194 : BitVec 32 := 0#32
  let c1_i32_1196 : BitVec 32 := 1#32
  let arg11 : BitVec 32 := Scf.iv c0_i32_1194 c1_i32_1196 k0_t52
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off641 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off642 (v2446 : BitVec 32) : Fin 2 → Nat :=
  let c0_i32_2013 : BitVec 32 := 0#32
  ![v2446.toNat, 0]

def k0_chk213 (v2446 : BitVec 32) : Prop :=
  (∀ a, (k0_off642 v2446) a + S1x2048.size a ≤ S8192x2048.size a)
theorem k0_off642_inb : ∀ (v2446 : BitVec 32) (k0_hw213 : k0_chk213 v2446), ∀ a, (k0_off642 v2446) a + S1x2048.size a ≤ S8192x2048.size a := fun v2446 k0_hw213 => k0_hw213

def k0_off643 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_2016 : BitVec 32 := 1664#32
  let v2455 : BitVec 32 := Scalar.addi v11 c1664_i32_2016
  let c0_i32_1194 : BitVec 32 := 0#32
  let c1_i32_1196 : BitVec 32 := 1#32
  let arg11 : BitVec 32 := Scf.iv c0_i32_1194 c1_i32_1196 k0_t52
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off644 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off645 (v2458 : BitVec 32) : Fin 2 → Nat :=
  let c0_i32_2022 : BitVec 32 := 0#32
  ![v2458.toNat, 0]

def k0_chk214 (v2458 : BitVec 32) : Prop :=
  (∀ a, (k0_off645 v2458) a + S1x2048.size a ≤ S8192x2048.size a)
theorem k0_off645_inb : ∀ (v2458 : BitVec 32) (k0_hw214 : k0_chk214 v2458), ∀ a, (k0_off645 v2458) a + S1x2048.size a ≤ S8192x2048.size a := fun v2458 k0_hw214 => k0_hw214

def k0_off646 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_2025 : BitVec 32 := 1664#32
  let v2467 : BitVec 32 := Scalar.addi v11 c1664_i32_2025
  let c0_i32_1194 : BitVec 32 := 0#32
  let c1_i32_1196 : BitVec 32 := 1#32
  let arg11 : BitVec 32 := Scf.iv c0_i32_1194 c1_i32_1196 k0_t52
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off647 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off648 (v2470 : BitVec 32) : Fin 2 → Nat :=
  let c0_i32_2031 : BitVec 32 := 0#32
  ![v2470.toNat, 0]

def k0_chk215 (v2470 : BitVec 32) : Prop :=
  (∀ a, (k0_off648 v2470) a + S1x2048.size a ≤ S8192x2048.size a)
theorem k0_off648_inb : ∀ (v2470 : BitVec 32) (k0_hw215 : k0_chk215 v2470), ∀ a, (k0_off648 v2470) a + S1x2048.size a ≤ S8192x2048.size a := fun v2470 k0_hw215 => k0_hw215

def k0_off649 (d0 : Dev nD) (k0_t52 : Fin k0_t52_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1664_i32_2034 : BitVec 32 := 1664#32
  let v2479 : BitVec 32 := Scalar.addi v11 c1664_i32_2034
  let c0_i32_1194 : BitVec 32 := 0#32
  let c1_i32_1196 : BitVec 32 := 1#32
  let arg11 : BitVec 32 := Scf.iv c0_i32_1194 c1_i32_1196 k0_t52
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off650 (k0_t52 : Fin k0_t52_loop.trips) : Fin 2 → Nat :=
  let c0_i32_1194 : BitVec 32 := 0#32
  let c1_i32_1196 : BitVec 32 := 1#32
  let arg11 : BitVec 32 := Scf.iv c0_i32_1194 c1_i32_1196 k0_t52
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off651 (v2482 : BitVec 32) : Fin 2 → Nat :=
  let c0_i32_2040 : BitVec 32 := 0#32
  ![v2482.toNat, 0]

def k0_chk216 (v2482 : BitVec 32) : Prop :=
  (∀ a, (k0_off651 v2482) a + S1x2048.size a ≤ S8192x2048.size a)
theorem k0_off651_inb : ∀ (v2482 : BitVec 32) (k0_hw216 : k0_chk216 v2482), ∀ a, (k0_off651 v2482) a + S1x2048.size a ≤ S8192x2048.size a := fun v2482 k0_hw216 => k0_hw216

@[reducible] def k0_t53_loop : Scf.Loop 32 :=
  let c0_i32_1198 : BitVec 32 := 0#32
  let c64_i32_1199 : BitVec 32 := 64#32
  let v1493 : BitVec 32 := Scalar.addi c0_i32_1198 c64_i32_1199
  let c1_i32_1200 : BitVec 32 := 1#32
  ⟨c0_i32_1198, v1493, c1_i32_1200⟩
def k0_dev52 (d0 : Dev nD) : Nat :=
  let c0_i32_1209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1208 : BitVec 32 := 8#32
  let v1506 : BitVec 32 := Scalar.muli v2 c8_i32_1208
  let v1507 : BitVec 32 := Scalar.addi c0_i32_1209 v1506
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1210 : BitVec 32 := 4#32
  let v1508 : BitVec 32 := Scalar.muli v9 c4_i32_1210
  let v1509 : BitVec 32 := Scalar.addi v1507 v1508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1211 : BitVec 32 := 1#32
  let v1510 : BitVec 32 := Scalar.muli v8 c1_i32_1211
  let v1511 : BitVec 32 := Scalar.addi v1509 v1510
  v1511.toNat
def k0_dev53 (d0 : Dev nD) : Nat :=
  let c0_i32_1237 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1236 : BitVec 32 := 8#32
  let v1540 : BitVec 32 := Scalar.muli v10 c8_i32_1236
  let v1541 : BitVec 32 := Scalar.addi c0_i32_1237 v1540
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1238 : BitVec 32 := 4#32
  let v1542 : BitVec 32 := Scalar.muli v5 c4_i32_1238
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1239 : BitVec 32 := 1#32
  let v1544 : BitVec 32 := Scalar.muli v8 c1_i32_1239
  let v1545 : BitVec 32 := Scalar.addi v1543 v1544
  v1545.toNat
@[reducible] def k0_t54_loop : Scf.Loop 32 :=
  let c0_i32_1242 : BitVec 32 := 0#32
  let c8_i32_1243 : BitVec 32 := 8#32
  let v1552 : BitVec 32 := Scalar.addi c0_i32_1242 c8_i32_1243
  let c1_i32_1244 : BitVec 32 := 1#32
  ⟨c0_i32_1242, v1552, c1_i32_1244⟩
def k0_off652 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_1971 : BitVec 32 := 1728#32
  let v2395 : BitVec 32 := Scalar.addi v11 c1728_i32_1971
  let c0_i32_1242 : BitVec 32 := 0#32
  let c1_i32_1244 : BitVec 32 := 1#32
  let arg11 : BitVec 32 := Scf.iv c0_i32_1242 c1_i32_1244 k0_t54
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off653 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off654 (v2398 : BitVec 32) : Fin 2 → Nat :=
  let c0_i32_1977 : BitVec 32 := 0#32
  ![v2398.toNat, 0]

def k0_chk217 (v2398 : BitVec 32) : Prop :=
  (∀ a, (k0_off654 v2398) a + S1x2048.size a ≤ S8192x2048.size a)
theorem k0_off654_inb : ∀ (v2398 : BitVec 32) (k0_hw217 : k0_chk217 v2398), ∀ a, (k0_off654 v2398) a + S1x2048.size a ≤ S8192x2048.size a := fun v2398 k0_hw217 => k0_hw217

def k0_off655 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_1980 : BitVec 32 := 1728#32
  let v2407 : BitVec 32 := Scalar.addi v11 c1728_i32_1980
  let c0_i32_1242 : BitVec 32 := 0#32
  let c1_i32_1244 : BitVec 32 := 1#32
  let arg11 : BitVec 32 := Scf.iv c0_i32_1242 c1_i32_1244 k0_t54
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off656 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off657 (v2410 : BitVec 32) : Fin 2 → Nat :=
  let c0_i32_1986 : BitVec 32 := 0#32
  ![v2410.toNat, 0]

def k0_chk218 (v2410 : BitVec 32) : Prop :=
  (∀ a, (k0_off657 v2410) a + S1x2048.size a ≤ S8192x2048.size a)
theorem k0_off657_inb : ∀ (v2410 : BitVec 32) (k0_hw218 : k0_chk218 v2410), ∀ a, (k0_off657 v2410) a + S1x2048.size a ≤ S8192x2048.size a := fun v2410 k0_hw218 => k0_hw218

def k0_off658 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_1989 : BitVec 32 := 1728#32
  let v2419 : BitVec 32 := Scalar.addi v11 c1728_i32_1989
  let c0_i32_1242 : BitVec 32 := 0#32
  let c1_i32_1244 : BitVec 32 := 1#32
  let arg11 : BitVec 32 := Scf.iv c0_i32_1242 c1_i32_1244 k0_t54
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off659 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off660 (v2422 : BitVec 32) : Fin 2 → Nat :=
  let c0_i32_1995 : BitVec 32 := 0#32
  ![v2422.toNat, 0]

def k0_chk219 (v2422 : BitVec 32) : Prop :=
  (∀ a, (k0_off660 v2422) a + S1x2048.size a ≤ S8192x2048.size a)
theorem k0_off660_inb : ∀ (v2422 : BitVec 32) (k0_hw219 : k0_chk219 v2422), ∀ a, (k0_off660 v2422) a + S1x2048.size a ≤ S8192x2048.size a := fun v2422 k0_hw219 => k0_hw219

def k0_off661 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_1998 : BitVec 32 := 1728#32
  let v2431 : BitVec 32 := Scalar.addi v11 c1728_i32_1998
  let c0_i32_1242 : BitVec 32 := 0#32
  let c1_i32_1244 : BitVec 32 := 1#32
  let arg11 : BitVec 32 := Scf.iv c0_i32_1242 c1_i32_1244 k0_t54
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off662 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off663 (v2434 : BitVec 32) : Fin 2 → Nat :=
  let c0_i32_2004 : BitVec 32 := 0#32
  ![v2434.toNat, 0]

def k0_chk220 (v2434 : BitVec 32) : Prop :=
  (∀ a, (k0_off663 v2434) a + S1x2048.size a ≤ S8192x2048.size a)
theorem k0_off663_inb : ∀ (v2434 : BitVec 32) (k0_hw220 : k0_chk220 v2434), ∀ a, (k0_off663 v2434) a + S1x2048.size a ≤ S8192x2048.size a := fun v2434 k0_hw220 => k0_hw220

def k0_off664 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_2007 : BitVec 32 := 1728#32
  let v2443 : BitVec 32 := Scalar.addi v11 c1728_i32_2007
  let c0_i32_1242 : BitVec 32 := 0#32
  let c1_i32_1244 : BitVec 32 := 1#32
  let arg11 : BitVec 32 := Scf.iv c0_i32_1242 c1_i32_1244 k0_t54
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off665 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off666 (v2446 : BitVec 32) : Fin 2 → Nat :=
  let c0_i32_2013 : BitVec 32 := 0#32
  ![v2446.toNat, 0]

def k0_chk221 (v2446 : BitVec 32) : Prop :=
  (∀ a, (k0_off666 v2446) a + S1x2048.size a ≤ S8192x2048.size a)
theorem k0_off666_inb : ∀ (v2446 : BitVec 32) (k0_hw221 : k0_chk221 v2446), ∀ a, (k0_off666 v2446) a + S1x2048.size a ≤ S8192x2048.size a := fun v2446 k0_hw221 => k0_hw221

def k0_off667 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_2016 : BitVec 32 := 1728#32
  let v2455 : BitVec 32 := Scalar.addi v11 c1728_i32_2016
  let c0_i32_1242 : BitVec 32 := 0#32
  let c1_i32_1244 : BitVec 32 := 1#32
  let arg11 : BitVec 32 := Scf.iv c0_i32_1242 c1_i32_1244 k0_t54
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off668 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off669 (v2458 : BitVec 32) : Fin 2 → Nat :=
  let c0_i32_2022 : BitVec 32 := 0#32
  ![v2458.toNat, 0]

def k0_chk222 (v2458 : BitVec 32) : Prop :=
  (∀ a, (k0_off669 v2458) a + S1x2048.size a ≤ S8192x2048.size a)
theorem k0_off669_inb : ∀ (v2458 : BitVec 32) (k0_hw222 : k0_chk222 v2458), ∀ a, (k0_off669 v2458) a + S1x2048.size a ≤ S8192x2048.size a := fun v2458 k0_hw222 => k0_hw222

def k0_off670 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_2025 : BitVec 32 := 1728#32
  let v2467 : BitVec 32 := Scalar.addi v11 c1728_i32_2025
  let c0_i32_1242 : BitVec 32 := 0#32
  let c1_i32_1244 : BitVec 32 := 1#32
  let arg11 : BitVec 32 := Scf.iv c0_i32_1242 c1_i32_1244 k0_t54
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off671 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off672 (v2470 : BitVec 32) : Fin 2 → Nat :=
  let c0_i32_2031 : BitVec 32 := 0#32
  ![v2470.toNat, 0]

def k0_chk223 (v2470 : BitVec 32) : Prop :=
  (∀ a, (k0_off672 v2470) a + S1x2048.size a ≤ S8192x2048.size a)
theorem k0_off672_inb : ∀ (v2470 : BitVec 32) (k0_hw223 : k0_chk223 v2470), ∀ a, (k0_off672 v2470) a + S1x2048.size a ≤ S8192x2048.size a := fun v2470 k0_hw223 => k0_hw223

def k0_off673 (d0 : Dev nD) (k0_t54 : Fin k0_t54_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1728_i32_2034 : BitVec 32 := 1728#32
  let v2479 : BitVec 32 := Scalar.addi v11 c1728_i32_2034
  let c0_i32_1242 : BitVec 32 := 0#32
  let c1_i32_1244 : BitVec 32 := 1#32
  let arg11 : BitVec 32 := Scf.iv c0_i32_1242 c1_i32_1244 k0_t54
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off674 (k0_t54 : Fin k0_t54_loop.trips) : Fin 2 → Nat :=
  let c0_i32_1242 : BitVec 32 := 0#32
  let c1_i32_1244 : BitVec 32 := 1#32
  let arg11 : BitVec 32 := Scf.iv c0_i32_1242 c1_i32_1244 k0_t54
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off675 (v2482 : BitVec 32) : Fin 2 → Nat :=
  let c0_i32_2040 : BitVec 32 := 0#32
  ![v2482.toNat, 0]

def k0_chk224 (v2482 : BitVec 32) : Prop :=
  (∀ a, (k0_off675 v2482) a + S1x2048.size a ≤ S8192x2048.size a)
theorem k0_off675_inb : ∀ (v2482 : BitVec 32) (k0_hw224 : k0_chk224 v2482), ∀ a, (k0_off675 v2482) a + S1x2048.size a ≤ S8192x2048.size a := fun v2482 k0_hw224 => k0_hw224

@[reducible] def k0_t55_loop : Scf.Loop 32 :=
  let c0_i32_1246 : BitVec 32 := 0#32
  let c64_i32_1247 : BitVec 32 := 64#32
  let v1553 : BitVec 32 := Scalar.addi c0_i32_1246 c64_i32_1247
  let c1_i32_1248 : BitVec 32 := 1#32
  ⟨c0_i32_1246, v1553, c1_i32_1248⟩
def k0_dev54 (d0 : Dev nD) : Nat :=
  let c0_i32_1257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1256 : BitVec 32 := 8#32
  let v1566 : BitVec 32 := Scalar.muli v2 c8_i32_1256
  let v1567 : BitVec 32 := Scalar.addi c0_i32_1257 v1566
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1258 : BitVec 32 := 4#32
  let v1568 : BitVec 32 := Scalar.muli v9 c4_i32_1258
  let v1569 : BitVec 32 := Scalar.addi v1567 v1568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1259 : BitVec 32 := 1#32
  let v1570 : BitVec 32 := Scalar.muli v8 c1_i32_1259
  let v1571 : BitVec 32 := Scalar.addi v1569 v1570
  v1571.toNat
def k0_dev55 (d0 : Dev nD) : Nat :=
  let c0_i32_1285 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1284 : BitVec 32 := 8#32
  let v1600 : BitVec 32 := Scalar.muli v10 c8_i32_1284
  let v1601 : BitVec 32 := Scalar.addi c0_i32_1285 v1600
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1286 : BitVec 32 := 4#32
  let v1602 : BitVec 32 := Scalar.muli v5 c4_i32_1286
  let v1603 : BitVec 32 := Scalar.addi v1601 v1602
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1287 : BitVec 32 := 1#32
  let v1604 : BitVec 32 := Scalar.muli v8 c1_i32_1287
  let v1605 : BitVec 32 := Scalar.addi v1603 v1604
  v1605.toNat
@[reducible] def k0_t56_loop : Scf.Loop 32 :=
  let c0_i32_1290 : BitVec 32 := 0#32
  let c8_i32_1291 : BitVec 32 := 8#32
  let v1612 : BitVec 32 := Scalar.addi c0_i32_1290 c8_i32_1291
  let c1_i32_1292 : BitVec 32 := 1#32
  ⟨c0_i32_1290, v1612, c1_i32_1292⟩
def k0_off676 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_1971 : BitVec 32 := 1792#32
  let v2395 : BitVec 32 := Scalar.addi v11 c1792_i32_1971
  let c0_i32_1290 : BitVec 32 := 0#32
  let c1_i32_1292 : BitVec 32 := 1#32
  let arg11 : BitVec 32 := Scf.iv c0_i32_1290 c1_i32_1292 k0_t56
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off677 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off678 (v2398 : BitVec 32) : Fin 2 → Nat :=
  let c0_i32_1977 : BitVec 32 := 0#32
  ![v2398.toNat, 0]

def k0_chk225 (v2398 : BitVec 32) : Prop :=
  (∀ a, (k0_off678 v2398) a + S1x2048.size a ≤ S8192x2048.size a)
theorem k0_off678_inb : ∀ (v2398 : BitVec 32) (k0_hw225 : k0_chk225 v2398), ∀ a, (k0_off678 v2398) a + S1x2048.size a ≤ S8192x2048.size a := fun v2398 k0_hw225 => k0_hw225

def k0_off679 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_1980 : BitVec 32 := 1792#32
  let v2407 : BitVec 32 := Scalar.addi v11 c1792_i32_1980
  let c0_i32_1290 : BitVec 32 := 0#32
  let c1_i32_1292 : BitVec 32 := 1#32
  let arg11 : BitVec 32 := Scf.iv c0_i32_1290 c1_i32_1292 k0_t56
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off680 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off681 (v2410 : BitVec 32) : Fin 2 → Nat :=
  let c0_i32_1986 : BitVec 32 := 0#32
  ![v2410.toNat, 0]

def k0_chk226 (v2410 : BitVec 32) : Prop :=
  (∀ a, (k0_off681 v2410) a + S1x2048.size a ≤ S8192x2048.size a)
theorem k0_off681_inb : ∀ (v2410 : BitVec 32) (k0_hw226 : k0_chk226 v2410), ∀ a, (k0_off681 v2410) a + S1x2048.size a ≤ S8192x2048.size a := fun v2410 k0_hw226 => k0_hw226

def k0_off682 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_1989 : BitVec 32 := 1792#32
  let v2419 : BitVec 32 := Scalar.addi v11 c1792_i32_1989
  let c0_i32_1290 : BitVec 32 := 0#32
  let c1_i32_1292 : BitVec 32 := 1#32
  let arg11 : BitVec 32 := Scf.iv c0_i32_1290 c1_i32_1292 k0_t56
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off683 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off684 (v2422 : BitVec 32) : Fin 2 → Nat :=
  let c0_i32_1995 : BitVec 32 := 0#32
  ![v2422.toNat, 0]

def k0_chk227 (v2422 : BitVec 32) : Prop :=
  (∀ a, (k0_off684 v2422) a + S1x2048.size a ≤ S8192x2048.size a)
theorem k0_off684_inb : ∀ (v2422 : BitVec 32) (k0_hw227 : k0_chk227 v2422), ∀ a, (k0_off684 v2422) a + S1x2048.size a ≤ S8192x2048.size a := fun v2422 k0_hw227 => k0_hw227

def k0_off685 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_1998 : BitVec 32 := 1792#32
  let v2431 : BitVec 32 := Scalar.addi v11 c1792_i32_1998
  let c0_i32_1290 : BitVec 32 := 0#32
  let c1_i32_1292 : BitVec 32 := 1#32
  let arg11 : BitVec 32 := Scf.iv c0_i32_1290 c1_i32_1292 k0_t56
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off686 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off687 (v2434 : BitVec 32) : Fin 2 → Nat :=
  let c0_i32_2004 : BitVec 32 := 0#32
  ![v2434.toNat, 0]

def k0_chk228 (v2434 : BitVec 32) : Prop :=
  (∀ a, (k0_off687 v2434) a + S1x2048.size a ≤ S8192x2048.size a)
theorem k0_off687_inb : ∀ (v2434 : BitVec 32) (k0_hw228 : k0_chk228 v2434), ∀ a, (k0_off687 v2434) a + S1x2048.size a ≤ S8192x2048.size a := fun v2434 k0_hw228 => k0_hw228

def k0_off688 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_2007 : BitVec 32 := 1792#32
  let v2443 : BitVec 32 := Scalar.addi v11 c1792_i32_2007
  let c0_i32_1290 : BitVec 32 := 0#32
  let c1_i32_1292 : BitVec 32 := 1#32
  let arg11 : BitVec 32 := Scf.iv c0_i32_1290 c1_i32_1292 k0_t56
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off689 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off690 (v2446 : BitVec 32) : Fin 2 → Nat :=
  let c0_i32_2013 : BitVec 32 := 0#32
  ![v2446.toNat, 0]

def k0_chk229 (v2446 : BitVec 32) : Prop :=
  (∀ a, (k0_off690 v2446) a + S1x2048.size a ≤ S8192x2048.size a)
theorem k0_off690_inb : ∀ (v2446 : BitVec 32) (k0_hw229 : k0_chk229 v2446), ∀ a, (k0_off690 v2446) a + S1x2048.size a ≤ S8192x2048.size a := fun v2446 k0_hw229 => k0_hw229

def k0_off691 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_2016 : BitVec 32 := 1792#32
  let v2455 : BitVec 32 := Scalar.addi v11 c1792_i32_2016
  let c0_i32_1290 : BitVec 32 := 0#32
  let c1_i32_1292 : BitVec 32 := 1#32
  let arg11 : BitVec 32 := Scf.iv c0_i32_1290 c1_i32_1292 k0_t56
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off692 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off693 (v2458 : BitVec 32) : Fin 2 → Nat :=
  let c0_i32_2022 : BitVec 32 := 0#32
  ![v2458.toNat, 0]

def k0_chk230 (v2458 : BitVec 32) : Prop :=
  (∀ a, (k0_off693 v2458) a + S1x2048.size a ≤ S8192x2048.size a)
theorem k0_off693_inb : ∀ (v2458 : BitVec 32) (k0_hw230 : k0_chk230 v2458), ∀ a, (k0_off693 v2458) a + S1x2048.size a ≤ S8192x2048.size a := fun v2458 k0_hw230 => k0_hw230

def k0_off694 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_2025 : BitVec 32 := 1792#32
  let v2467 : BitVec 32 := Scalar.addi v11 c1792_i32_2025
  let c0_i32_1290 : BitVec 32 := 0#32
  let c1_i32_1292 : BitVec 32 := 1#32
  let arg11 : BitVec 32 := Scf.iv c0_i32_1290 c1_i32_1292 k0_t56
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off695 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off696 (v2470 : BitVec 32) : Fin 2 → Nat :=
  let c0_i32_2031 : BitVec 32 := 0#32
  ![v2470.toNat, 0]

def k0_chk231 (v2470 : BitVec 32) : Prop :=
  (∀ a, (k0_off696 v2470) a + S1x2048.size a ≤ S8192x2048.size a)
theorem k0_off696_inb : ∀ (v2470 : BitVec 32) (k0_hw231 : k0_chk231 v2470), ∀ a, (k0_off696 v2470) a + S1x2048.size a ≤ S8192x2048.size a := fun v2470 k0_hw231 => k0_hw231

def k0_off697 (d0 : Dev nD) (k0_t56 : Fin k0_t56_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1792_i32_2034 : BitVec 32 := 1792#32
  let v2479 : BitVec 32 := Scalar.addi v11 c1792_i32_2034
  let c0_i32_1290 : BitVec 32 := 0#32
  let c1_i32_1292 : BitVec 32 := 1#32
  let arg11 : BitVec 32 := Scf.iv c0_i32_1290 c1_i32_1292 k0_t56
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off698 (k0_t56 : Fin k0_t56_loop.trips) : Fin 2 → Nat :=
  let c0_i32_1290 : BitVec 32 := 0#32
  let c1_i32_1292 : BitVec 32 := 1#32
  let arg11 : BitVec 32 := Scf.iv c0_i32_1290 c1_i32_1292 k0_t56
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off699 (v2482 : BitVec 32) : Fin 2 → Nat :=
  let c0_i32_2040 : BitVec 32 := 0#32
  ![v2482.toNat, 0]

def k0_chk232 (v2482 : BitVec 32) : Prop :=
  (∀ a, (k0_off699 v2482) a + S1x2048.size a ≤ S8192x2048.size a)
theorem k0_off699_inb : ∀ (v2482 : BitVec 32) (k0_hw232 : k0_chk232 v2482), ∀ a, (k0_off699 v2482) a + S1x2048.size a ≤ S8192x2048.size a := fun v2482 k0_hw232 => k0_hw232

@[reducible] def k0_t57_loop : Scf.Loop 32 :=
  let c0_i32_1294 : BitVec 32 := 0#32
  let c64_i32_1295 : BitVec 32 := 64#32
  let v1613 : BitVec 32 := Scalar.addi c0_i32_1294 c64_i32_1295
  let c1_i32_1296 : BitVec 32 := 1#32
  ⟨c0_i32_1294, v1613, c1_i32_1296⟩
def k0_dev56 (d0 : Dev nD) : Nat :=
  let c0_i32_1305 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1304 : BitVec 32 := 8#32
  let v1626 : BitVec 32 := Scalar.muli v2 c8_i32_1304
  let v1627 : BitVec 32 := Scalar.addi c0_i32_1305 v1626
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1306 : BitVec 32 := 4#32
  let v1628 : BitVec 32 := Scalar.muli v9 c4_i32_1306
  let v1629 : BitVec 32 := Scalar.addi v1627 v1628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1307 : BitVec 32 := 1#32
  let v1630 : BitVec 32 := Scalar.muli v8 c1_i32_1307
  let v1631 : BitVec 32 := Scalar.addi v1629 v1630
  v1631.toNat
def k0_dev57 (d0 : Dev nD) : Nat :=
  let c0_i32_1333 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1332 : BitVec 32 := 8#32
  let v1660 : BitVec 32 := Scalar.muli v10 c8_i32_1332
  let v1661 : BitVec 32 := Scalar.addi c0_i32_1333 v1660
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1334 : BitVec 32 := 4#32
  let v1662 : BitVec 32 := Scalar.muli v5 c4_i32_1334
  let v1663 : BitVec 32 := Scalar.addi v1661 v1662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1335 : BitVec 32 := 1#32
  let v1664 : BitVec 32 := Scalar.muli v8 c1_i32_1335
  let v1665 : BitVec 32 := Scalar.addi v1663 v1664
  v1665.toNat
@[reducible] def k0_t58_loop : Scf.Loop 32 :=
  let c0_i32_1338 : BitVec 32 := 0#32
  let c8_i32_1339 : BitVec 32 := 8#32
  let v1672 : BitVec 32 := Scalar.addi c0_i32_1338 c8_i32_1339
  let c1_i32_1340 : BitVec 32 := 1#32
  ⟨c0_i32_1338, v1672, c1_i32_1340⟩
def k0_off700 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_1971 : BitVec 32 := 1856#32
  let v2395 : BitVec 32 := Scalar.addi v11 c1856_i32_1971
  let c0_i32_1338 : BitVec 32 := 0#32
  let c1_i32_1340 : BitVec 32 := 1#32
  let arg11 : BitVec 32 := Scf.iv c0_i32_1338 c1_i32_1340 k0_t58
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off701 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off702 (v2398 : BitVec 32) : Fin 2 → Nat :=
  let c0_i32_1977 : BitVec 32 := 0#32
  ![v2398.toNat, 0]

def k0_chk233 (v2398 : BitVec 32) : Prop :=
  (∀ a, (k0_off702 v2398) a + S1x2048.size a ≤ S8192x2048.size a)
theorem k0_off702_inb : ∀ (v2398 : BitVec 32) (k0_hw233 : k0_chk233 v2398), ∀ a, (k0_off702 v2398) a + S1x2048.size a ≤ S8192x2048.size a := fun v2398 k0_hw233 => k0_hw233

def k0_off703 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_1980 : BitVec 32 := 1856#32
  let v2407 : BitVec 32 := Scalar.addi v11 c1856_i32_1980
  let c0_i32_1338 : BitVec 32 := 0#32
  let c1_i32_1340 : BitVec 32 := 1#32
  let arg11 : BitVec 32 := Scf.iv c0_i32_1338 c1_i32_1340 k0_t58
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off704 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off705 (v2410 : BitVec 32) : Fin 2 → Nat :=
  let c0_i32_1986 : BitVec 32 := 0#32
  ![v2410.toNat, 0]

def k0_chk234 (v2410 : BitVec 32) : Prop :=
  (∀ a, (k0_off705 v2410) a + S1x2048.size a ≤ S8192x2048.size a)
theorem k0_off705_inb : ∀ (v2410 : BitVec 32) (k0_hw234 : k0_chk234 v2410), ∀ a, (k0_off705 v2410) a + S1x2048.size a ≤ S8192x2048.size a := fun v2410 k0_hw234 => k0_hw234

def k0_off706 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_1989 : BitVec 32 := 1856#32
  let v2419 : BitVec 32 := Scalar.addi v11 c1856_i32_1989
  let c0_i32_1338 : BitVec 32 := 0#32
  let c1_i32_1340 : BitVec 32 := 1#32
  let arg11 : BitVec 32 := Scf.iv c0_i32_1338 c1_i32_1340 k0_t58
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off707 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off708 (v2422 : BitVec 32) : Fin 2 → Nat :=
  let c0_i32_1995 : BitVec 32 := 0#32
  ![v2422.toNat, 0]

def k0_chk235 (v2422 : BitVec 32) : Prop :=
  (∀ a, (k0_off708 v2422) a + S1x2048.size a ≤ S8192x2048.size a)
theorem k0_off708_inb : ∀ (v2422 : BitVec 32) (k0_hw235 : k0_chk235 v2422), ∀ a, (k0_off708 v2422) a + S1x2048.size a ≤ S8192x2048.size a := fun v2422 k0_hw235 => k0_hw235

def k0_off709 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_1998 : BitVec 32 := 1856#32
  let v2431 : BitVec 32 := Scalar.addi v11 c1856_i32_1998
  let c0_i32_1338 : BitVec 32 := 0#32
  let c1_i32_1340 : BitVec 32 := 1#32
  let arg11 : BitVec 32 := Scf.iv c0_i32_1338 c1_i32_1340 k0_t58
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off710 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off711 (v2434 : BitVec 32) : Fin 2 → Nat :=
  let c0_i32_2004 : BitVec 32 := 0#32
  ![v2434.toNat, 0]

def k0_chk236 (v2434 : BitVec 32) : Prop :=
  (∀ a, (k0_off711 v2434) a + S1x2048.size a ≤ S8192x2048.size a)
theorem k0_off711_inb : ∀ (v2434 : BitVec 32) (k0_hw236 : k0_chk236 v2434), ∀ a, (k0_off711 v2434) a + S1x2048.size a ≤ S8192x2048.size a := fun v2434 k0_hw236 => k0_hw236

def k0_off712 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_2007 : BitVec 32 := 1856#32
  let v2443 : BitVec 32 := Scalar.addi v11 c1856_i32_2007
  let c0_i32_1338 : BitVec 32 := 0#32
  let c1_i32_1340 : BitVec 32 := 1#32
  let arg11 : BitVec 32 := Scf.iv c0_i32_1338 c1_i32_1340 k0_t58
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off713 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off714 (v2446 : BitVec 32) : Fin 2 → Nat :=
  let c0_i32_2013 : BitVec 32 := 0#32
  ![v2446.toNat, 0]

def k0_chk237 (v2446 : BitVec 32) : Prop :=
  (∀ a, (k0_off714 v2446) a + S1x2048.size a ≤ S8192x2048.size a)
theorem k0_off714_inb : ∀ (v2446 : BitVec 32) (k0_hw237 : k0_chk237 v2446), ∀ a, (k0_off714 v2446) a + S1x2048.size a ≤ S8192x2048.size a := fun v2446 k0_hw237 => k0_hw237

def k0_off715 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_2016 : BitVec 32 := 1856#32
  let v2455 : BitVec 32 := Scalar.addi v11 c1856_i32_2016
  let c0_i32_1338 : BitVec 32 := 0#32
  let c1_i32_1340 : BitVec 32 := 1#32
  let arg11 : BitVec 32 := Scf.iv c0_i32_1338 c1_i32_1340 k0_t58
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off716 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off717 (v2458 : BitVec 32) : Fin 2 → Nat :=
  let c0_i32_2022 : BitVec 32 := 0#32
  ![v2458.toNat, 0]

def k0_chk238 (v2458 : BitVec 32) : Prop :=
  (∀ a, (k0_off717 v2458) a + S1x2048.size a ≤ S8192x2048.size a)
theorem k0_off717_inb : ∀ (v2458 : BitVec 32) (k0_hw238 : k0_chk238 v2458), ∀ a, (k0_off717 v2458) a + S1x2048.size a ≤ S8192x2048.size a := fun v2458 k0_hw238 => k0_hw238

def k0_off718 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_2025 : BitVec 32 := 1856#32
  let v2467 : BitVec 32 := Scalar.addi v11 c1856_i32_2025
  let c0_i32_1338 : BitVec 32 := 0#32
  let c1_i32_1340 : BitVec 32 := 1#32
  let arg11 : BitVec 32 := Scf.iv c0_i32_1338 c1_i32_1340 k0_t58
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off719 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off720 (v2470 : BitVec 32) : Fin 2 → Nat :=
  let c0_i32_2031 : BitVec 32 := 0#32
  ![v2470.toNat, 0]

def k0_chk239 (v2470 : BitVec 32) : Prop :=
  (∀ a, (k0_off720 v2470) a + S1x2048.size a ≤ S8192x2048.size a)
theorem k0_off720_inb : ∀ (v2470 : BitVec 32) (k0_hw239 : k0_chk239 v2470), ∀ a, (k0_off720 v2470) a + S1x2048.size a ≤ S8192x2048.size a := fun v2470 k0_hw239 => k0_hw239

def k0_off721 (d0 : Dev nD) (k0_t58 : Fin k0_t58_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1856_i32_2034 : BitVec 32 := 1856#32
  let v2479 : BitVec 32 := Scalar.addi v11 c1856_i32_2034
  let c0_i32_1338 : BitVec 32 := 0#32
  let c1_i32_1340 : BitVec 32 := 1#32
  let arg11 : BitVec 32 := Scf.iv c0_i32_1338 c1_i32_1340 k0_t58
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off722 (k0_t58 : Fin k0_t58_loop.trips) : Fin 2 → Nat :=
  let c0_i32_1338 : BitVec 32 := 0#32
  let c1_i32_1340 : BitVec 32 := 1#32
  let arg11 : BitVec 32 := Scf.iv c0_i32_1338 c1_i32_1340 k0_t58
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off723 (v2482 : BitVec 32) : Fin 2 → Nat :=
  let c0_i32_2040 : BitVec 32 := 0#32
  ![v2482.toNat, 0]

def k0_chk240 (v2482 : BitVec 32) : Prop :=
  (∀ a, (k0_off723 v2482) a + S1x2048.size a ≤ S8192x2048.size a)
theorem k0_off723_inb : ∀ (v2482 : BitVec 32) (k0_hw240 : k0_chk240 v2482), ∀ a, (k0_off723 v2482) a + S1x2048.size a ≤ S8192x2048.size a := fun v2482 k0_hw240 => k0_hw240

@[reducible] def k0_t59_loop : Scf.Loop 32 :=
  let c0_i32_1342 : BitVec 32 := 0#32
  let c64_i32_1343 : BitVec 32 := 64#32
  let v1673 : BitVec 32 := Scalar.addi c0_i32_1342 c64_i32_1343
  let c1_i32_1344 : BitVec 32 := 1#32
  ⟨c0_i32_1342, v1673, c1_i32_1344⟩
def k0_dev58 (d0 : Dev nD) : Nat :=
  let c0_i32_1353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1352 : BitVec 32 := 8#32
  let v1686 : BitVec 32 := Scalar.muli v2 c8_i32_1352
  let v1687 : BitVec 32 := Scalar.addi c0_i32_1353 v1686
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1354 : BitVec 32 := 4#32
  let v1688 : BitVec 32 := Scalar.muli v9 c4_i32_1354
  let v1689 : BitVec 32 := Scalar.addi v1687 v1688
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1355 : BitVec 32 := 1#32
  let v1690 : BitVec 32 := Scalar.muli v8 c1_i32_1355
  let v1691 : BitVec 32 := Scalar.addi v1689 v1690
  v1691.toNat
def k0_dev59 (d0 : Dev nD) : Nat :=
  let c0_i32_1381 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1380 : BitVec 32 := 8#32
  let v1720 : BitVec 32 := Scalar.muli v10 c8_i32_1380
  let v1721 : BitVec 32 := Scalar.addi c0_i32_1381 v1720
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1382 : BitVec 32 := 4#32
  let v1722 : BitVec 32 := Scalar.muli v5 c4_i32_1382
  let v1723 : BitVec 32 := Scalar.addi v1721 v1722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1383 : BitVec 32 := 1#32
  let v1724 : BitVec 32 := Scalar.muli v8 c1_i32_1383
  let v1725 : BitVec 32 := Scalar.addi v1723 v1724
  v1725.toNat
@[reducible] def k0_t60_loop : Scf.Loop 32 :=
  let c0_i32_1386 : BitVec 32 := 0#32
  let c8_i32_1387 : BitVec 32 := 8#32
  let v1732 : BitVec 32 := Scalar.addi c0_i32_1386 c8_i32_1387
  let c1_i32_1388 : BitVec 32 := 1#32
  ⟨c0_i32_1386, v1732, c1_i32_1388⟩
def k0_off724 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_1971 : BitVec 32 := 1920#32
  let v2395 : BitVec 32 := Scalar.addi v11 c1920_i32_1971
  let c0_i32_1386 : BitVec 32 := 0#32
  let c1_i32_1388 : BitVec 32 := 1#32
  let arg11 : BitVec 32 := Scf.iv c0_i32_1386 c1_i32_1388 k0_t60
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off725 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off726 (v2398 : BitVec 32) : Fin 2 → Nat :=
  let c0_i32_1977 : BitVec 32 := 0#32
  ![v2398.toNat, 0]

def k0_chk241 (v2398 : BitVec 32) : Prop :=
  (∀ a, (k0_off726 v2398) a + S1x2048.size a ≤ S8192x2048.size a)
theorem k0_off726_inb : ∀ (v2398 : BitVec 32) (k0_hw241 : k0_chk241 v2398), ∀ a, (k0_off726 v2398) a + S1x2048.size a ≤ S8192x2048.size a := fun v2398 k0_hw241 => k0_hw241

def k0_off727 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_1980 : BitVec 32 := 1920#32
  let v2407 : BitVec 32 := Scalar.addi v11 c1920_i32_1980
  let c0_i32_1386 : BitVec 32 := 0#32
  let c1_i32_1388 : BitVec 32 := 1#32
  let arg11 : BitVec 32 := Scf.iv c0_i32_1386 c1_i32_1388 k0_t60
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off728 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off729 (v2410 : BitVec 32) : Fin 2 → Nat :=
  let c0_i32_1986 : BitVec 32 := 0#32
  ![v2410.toNat, 0]

def k0_chk242 (v2410 : BitVec 32) : Prop :=
  (∀ a, (k0_off729 v2410) a + S1x2048.size a ≤ S8192x2048.size a)
theorem k0_off729_inb : ∀ (v2410 : BitVec 32) (k0_hw242 : k0_chk242 v2410), ∀ a, (k0_off729 v2410) a + S1x2048.size a ≤ S8192x2048.size a := fun v2410 k0_hw242 => k0_hw242

def k0_off730 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_1989 : BitVec 32 := 1920#32
  let v2419 : BitVec 32 := Scalar.addi v11 c1920_i32_1989
  let c0_i32_1386 : BitVec 32 := 0#32
  let c1_i32_1388 : BitVec 32 := 1#32
  let arg11 : BitVec 32 := Scf.iv c0_i32_1386 c1_i32_1388 k0_t60
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off731 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off732 (v2422 : BitVec 32) : Fin 2 → Nat :=
  let c0_i32_1995 : BitVec 32 := 0#32
  ![v2422.toNat, 0]

def k0_chk243 (v2422 : BitVec 32) : Prop :=
  (∀ a, (k0_off732 v2422) a + S1x2048.size a ≤ S8192x2048.size a)
theorem k0_off732_inb : ∀ (v2422 : BitVec 32) (k0_hw243 : k0_chk243 v2422), ∀ a, (k0_off732 v2422) a + S1x2048.size a ≤ S8192x2048.size a := fun v2422 k0_hw243 => k0_hw243

def k0_off733 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_1998 : BitVec 32 := 1920#32
  let v2431 : BitVec 32 := Scalar.addi v11 c1920_i32_1998
  let c0_i32_1386 : BitVec 32 := 0#32
  let c1_i32_1388 : BitVec 32 := 1#32
  let arg11 : BitVec 32 := Scf.iv c0_i32_1386 c1_i32_1388 k0_t60
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off734 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off735 (v2434 : BitVec 32) : Fin 2 → Nat :=
  let c0_i32_2004 : BitVec 32 := 0#32
  ![v2434.toNat, 0]

def k0_chk244 (v2434 : BitVec 32) : Prop :=
  (∀ a, (k0_off735 v2434) a + S1x2048.size a ≤ S8192x2048.size a)
theorem k0_off735_inb : ∀ (v2434 : BitVec 32) (k0_hw244 : k0_chk244 v2434), ∀ a, (k0_off735 v2434) a + S1x2048.size a ≤ S8192x2048.size a := fun v2434 k0_hw244 => k0_hw244

def k0_off736 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_2007 : BitVec 32 := 1920#32
  let v2443 : BitVec 32 := Scalar.addi v11 c1920_i32_2007
  let c0_i32_1386 : BitVec 32 := 0#32
  let c1_i32_1388 : BitVec 32 := 1#32
  let arg11 : BitVec 32 := Scf.iv c0_i32_1386 c1_i32_1388 k0_t60
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off737 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off738 (v2446 : BitVec 32) : Fin 2 → Nat :=
  let c0_i32_2013 : BitVec 32 := 0#32
  ![v2446.toNat, 0]

def k0_chk245 (v2446 : BitVec 32) : Prop :=
  (∀ a, (k0_off738 v2446) a + S1x2048.size a ≤ S8192x2048.size a)
theorem k0_off738_inb : ∀ (v2446 : BitVec 32) (k0_hw245 : k0_chk245 v2446), ∀ a, (k0_off738 v2446) a + S1x2048.size a ≤ S8192x2048.size a := fun v2446 k0_hw245 => k0_hw245

def k0_off739 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_2016 : BitVec 32 := 1920#32
  let v2455 : BitVec 32 := Scalar.addi v11 c1920_i32_2016
  let c0_i32_1386 : BitVec 32 := 0#32
  let c1_i32_1388 : BitVec 32 := 1#32
  let arg11 : BitVec 32 := Scf.iv c0_i32_1386 c1_i32_1388 k0_t60
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off740 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off741 (v2458 : BitVec 32) : Fin 2 → Nat :=
  let c0_i32_2022 : BitVec 32 := 0#32
  ![v2458.toNat, 0]

def k0_chk246 (v2458 : BitVec 32) : Prop :=
  (∀ a, (k0_off741 v2458) a + S1x2048.size a ≤ S8192x2048.size a)
theorem k0_off741_inb : ∀ (v2458 : BitVec 32) (k0_hw246 : k0_chk246 v2458), ∀ a, (k0_off741 v2458) a + S1x2048.size a ≤ S8192x2048.size a := fun v2458 k0_hw246 => k0_hw246

def k0_off742 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_2025 : BitVec 32 := 1920#32
  let v2467 : BitVec 32 := Scalar.addi v11 c1920_i32_2025
  let c0_i32_1386 : BitVec 32 := 0#32
  let c1_i32_1388 : BitVec 32 := 1#32
  let arg11 : BitVec 32 := Scf.iv c0_i32_1386 c1_i32_1388 k0_t60
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off743 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off744 (v2470 : BitVec 32) : Fin 2 → Nat :=
  let c0_i32_2031 : BitVec 32 := 0#32
  ![v2470.toNat, 0]

def k0_chk247 (v2470 : BitVec 32) : Prop :=
  (∀ a, (k0_off744 v2470) a + S1x2048.size a ≤ S8192x2048.size a)
theorem k0_off744_inb : ∀ (v2470 : BitVec 32) (k0_hw247 : k0_chk247 v2470), ∀ a, (k0_off744 v2470) a + S1x2048.size a ≤ S8192x2048.size a := fun v2470 k0_hw247 => k0_hw247

def k0_off745 (d0 : Dev nD) (k0_t60 : Fin k0_t60_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1920_i32_2034 : BitVec 32 := 1920#32
  let v2479 : BitVec 32 := Scalar.addi v11 c1920_i32_2034
  let c0_i32_1386 : BitVec 32 := 0#32
  let c1_i32_1388 : BitVec 32 := 1#32
  let arg11 : BitVec 32 := Scf.iv c0_i32_1386 c1_i32_1388 k0_t60
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off746 (k0_t60 : Fin k0_t60_loop.trips) : Fin 2 → Nat :=
  let c0_i32_1386 : BitVec 32 := 0#32
  let c1_i32_1388 : BitVec 32 := 1#32
  let arg11 : BitVec 32 := Scf.iv c0_i32_1386 c1_i32_1388 k0_t60
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off747 (v2482 : BitVec 32) : Fin 2 → Nat :=
  let c0_i32_2040 : BitVec 32 := 0#32
  ![v2482.toNat, 0]

def k0_chk248 (v2482 : BitVec 32) : Prop :=
  (∀ a, (k0_off747 v2482) a + S1x2048.size a ≤ S8192x2048.size a)
theorem k0_off747_inb : ∀ (v2482 : BitVec 32) (k0_hw248 : k0_chk248 v2482), ∀ a, (k0_off747 v2482) a + S1x2048.size a ≤ S8192x2048.size a := fun v2482 k0_hw248 => k0_hw248

@[reducible] def k0_t61_loop : Scf.Loop 32 :=
  let c0_i32_1390 : BitVec 32 := 0#32
  let c64_i32_1391 : BitVec 32 := 64#32
  let v1733 : BitVec 32 := Scalar.addi c0_i32_1390 c64_i32_1391
  let c1_i32_1392 : BitVec 32 := 1#32
  ⟨c0_i32_1390, v1733, c1_i32_1392⟩
def k0_dev60 (d0 : Dev nD) : Nat :=
  let c0_i32_1401 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1400 : BitVec 32 := 8#32
  let v1746 : BitVec 32 := Scalar.muli v2 c8_i32_1400
  let v1747 : BitVec 32 := Scalar.addi c0_i32_1401 v1746
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1402 : BitVec 32 := 4#32
  let v1748 : BitVec 32 := Scalar.muli v9 c4_i32_1402
  let v1749 : BitVec 32 := Scalar.addi v1747 v1748
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1403 : BitVec 32 := 1#32
  let v1750 : BitVec 32 := Scalar.muli v8 c1_i32_1403
  let v1751 : BitVec 32 := Scalar.addi v1749 v1750
  v1751.toNat
def k0_dev61 (d0 : Dev nD) : Nat :=
  let c0_i32_1429 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1428 : BitVec 32 := 8#32
  let v1780 : BitVec 32 := Scalar.muli v10 c8_i32_1428
  let v1781 : BitVec 32 := Scalar.addi c0_i32_1429 v1780
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1430 : BitVec 32 := 4#32
  let v1782 : BitVec 32 := Scalar.muli v5 c4_i32_1430
  let v1783 : BitVec 32 := Scalar.addi v1781 v1782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1431 : BitVec 32 := 1#32
  let v1784 : BitVec 32 := Scalar.muli v8 c1_i32_1431
  let v1785 : BitVec 32 := Scalar.addi v1783 v1784
  v1785.toNat
@[reducible] def k0_t62_loop : Scf.Loop 32 :=
  let c0_i32_1434 : BitVec 32 := 0#32
  let c8_i32_1435 : BitVec 32 := 8#32
  let v1792 : BitVec 32 := Scalar.addi c0_i32_1434 c8_i32_1435
  let c1_i32_1436 : BitVec 32 := 1#32
  ⟨c0_i32_1434, v1792, c1_i32_1436⟩
def k0_off748 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_1971 : BitVec 32 := 1984#32
  let v2395 : BitVec 32 := Scalar.addi v11 c1984_i32_1971
  let c0_i32_1434 : BitVec 32 := 0#32
  let c1_i32_1436 : BitVec 32 := 1#32
  let arg11 : BitVec 32 := Scf.iv c0_i32_1434 c1_i32_1436 k0_t62
  let c8_i32_1969 : BitVec 32 := 8#32
  let v2393 : BitVec 32 := Scalar.muli arg11 c8_i32_1969
  let c0_i32_1970 : BitVec 32 := 0#32
  let v2394 : BitVec 32 := Scalar.addi v2393 c0_i32_1970
  let v2396 : BitVec 32 := Scalar.addi v2395 v2394
  let v2397 : Index := Scalar.indexCast v2396
  ![v2397.toNat]
def k0_off749 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_1969 : BitVec 32 := 8#32
  let v2393 : BitVec 32 := Scalar.muli arg11 c8_i32_1969
  let c0_i32_1970 : BitVec 32 := 0#32
  let v2394 : BitVec 32 := Scalar.addi v2393 c0_i32_1970
  let c0_i32_1976 : BitVec 32 := 0#32
  ![v2394.toNat, 0]
def k0_off750 (v2398 : BitVec 32) : Fin 2 → Nat :=
  let c0_i32_1977 : BitVec 32 := 0#32
  ![v2398.toNat, 0]

def k0_chk249 (v2398 : BitVec 32) : Prop :=
  (∀ a, (k0_off750 v2398) a + S1x2048.size a ≤ S8192x2048.size a)
theorem k0_off750_inb : ∀ (v2398 : BitVec 32) (k0_hw249 : k0_chk249 v2398), ∀ a, (k0_off750 v2398) a + S1x2048.size a ≤ S8192x2048.size a := fun v2398 k0_hw249 => k0_hw249

def k0_off751 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_1980 : BitVec 32 := 1984#32
  let v2407 : BitVec 32 := Scalar.addi v11 c1984_i32_1980
  let c0_i32_1434 : BitVec 32 := 0#32
  let c1_i32_1436 : BitVec 32 := 1#32
  let arg11 : BitVec 32 := Scf.iv c0_i32_1434 c1_i32_1436 k0_t62
  let c8_i32_1978 : BitVec 32 := 8#32
  let v2405 : BitVec 32 := Scalar.muli arg11 c8_i32_1978
  let c1_i32_1979 : BitVec 32 := 1#32
  let v2406 : BitVec 32 := Scalar.addi v2405 c1_i32_1979
  let v2408 : BitVec 32 := Scalar.addi v2407 v2406
  let v2409 : Index := Scalar.indexCast v2408
  ![v2409.toNat]
def k0_off752 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_1978 : BitVec 32 := 8#32
  let v2405 : BitVec 32 := Scalar.muli arg11 c8_i32_1978
  let c1_i32_1979 : BitVec 32 := 1#32
  let v2406 : BitVec 32 := Scalar.addi v2405 c1_i32_1979
  let c0_i32_1985 : BitVec 32 := 0#32
  ![v2406.toNat, 0]
def k0_off753 (v2410 : BitVec 32) : Fin 2 → Nat :=
  let c0_i32_1986 : BitVec 32 := 0#32
  ![v2410.toNat, 0]

def k0_chk250 (v2410 : BitVec 32) : Prop :=
  (∀ a, (k0_off753 v2410) a + S1x2048.size a ≤ S8192x2048.size a)
theorem k0_off753_inb : ∀ (v2410 : BitVec 32) (k0_hw250 : k0_chk250 v2410), ∀ a, (k0_off753 v2410) a + S1x2048.size a ≤ S8192x2048.size a := fun v2410 k0_hw250 => k0_hw250

def k0_off754 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_1989 : BitVec 32 := 1984#32
  let v2419 : BitVec 32 := Scalar.addi v11 c1984_i32_1989
  let c0_i32_1434 : BitVec 32 := 0#32
  let c1_i32_1436 : BitVec 32 := 1#32
  let arg11 : BitVec 32 := Scf.iv c0_i32_1434 c1_i32_1436 k0_t62
  let c8_i32_1987 : BitVec 32 := 8#32
  let v2417 : BitVec 32 := Scalar.muli arg11 c8_i32_1987
  let c2_i32_1988 : BitVec 32 := 2#32
  let v2418 : BitVec 32 := Scalar.addi v2417 c2_i32_1988
  let v2420 : BitVec 32 := Scalar.addi v2419 v2418
  let v2421 : Index := Scalar.indexCast v2420
  ![v2421.toNat]
def k0_off755 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_1987 : BitVec 32 := 8#32
  let v2417 : BitVec 32 := Scalar.muli arg11 c8_i32_1987
  let c2_i32_1988 : BitVec 32 := 2#32
  let v2418 : BitVec 32 := Scalar.addi v2417 c2_i32_1988
  let c0_i32_1994 : BitVec 32 := 0#32
  ![v2418.toNat, 0]
def k0_off756 (v2422 : BitVec 32) : Fin 2 → Nat :=
  let c0_i32_1995 : BitVec 32 := 0#32
  ![v2422.toNat, 0]

def k0_chk251 (v2422 : BitVec 32) : Prop :=
  (∀ a, (k0_off756 v2422) a + S1x2048.size a ≤ S8192x2048.size a)
theorem k0_off756_inb : ∀ (v2422 : BitVec 32) (k0_hw251 : k0_chk251 v2422), ∀ a, (k0_off756 v2422) a + S1x2048.size a ≤ S8192x2048.size a := fun v2422 k0_hw251 => k0_hw251

def k0_off757 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_1998 : BitVec 32 := 1984#32
  let v2431 : BitVec 32 := Scalar.addi v11 c1984_i32_1998
  let c0_i32_1434 : BitVec 32 := 0#32
  let c1_i32_1436 : BitVec 32 := 1#32
  let arg11 : BitVec 32 := Scf.iv c0_i32_1434 c1_i32_1436 k0_t62
  let c8_i32_1996 : BitVec 32 := 8#32
  let v2429 : BitVec 32 := Scalar.muli arg11 c8_i32_1996
  let c3_i32_1997 : BitVec 32 := 3#32
  let v2430 : BitVec 32 := Scalar.addi v2429 c3_i32_1997
  let v2432 : BitVec 32 := Scalar.addi v2431 v2430
  let v2433 : Index := Scalar.indexCast v2432
  ![v2433.toNat]
def k0_off758 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_1996 : BitVec 32 := 8#32
  let v2429 : BitVec 32 := Scalar.muli arg11 c8_i32_1996
  let c3_i32_1997 : BitVec 32 := 3#32
  let v2430 : BitVec 32 := Scalar.addi v2429 c3_i32_1997
  let c0_i32_2003 : BitVec 32 := 0#32
  ![v2430.toNat, 0]
def k0_off759 (v2434 : BitVec 32) : Fin 2 → Nat :=
  let c0_i32_2004 : BitVec 32 := 0#32
  ![v2434.toNat, 0]

def k0_chk252 (v2434 : BitVec 32) : Prop :=
  (∀ a, (k0_off759 v2434) a + S1x2048.size a ≤ S8192x2048.size a)
theorem k0_off759_inb : ∀ (v2434 : BitVec 32) (k0_hw252 : k0_chk252 v2434), ∀ a, (k0_off759 v2434) a + S1x2048.size a ≤ S8192x2048.size a := fun v2434 k0_hw252 => k0_hw252

def k0_off760 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_2007 : BitVec 32 := 1984#32
  let v2443 : BitVec 32 := Scalar.addi v11 c1984_i32_2007
  let c0_i32_1434 : BitVec 32 := 0#32
  let c1_i32_1436 : BitVec 32 := 1#32
  let arg11 : BitVec 32 := Scf.iv c0_i32_1434 c1_i32_1436 k0_t62
  let c8_i32_2005 : BitVec 32 := 8#32
  let v2441 : BitVec 32 := Scalar.muli arg11 c8_i32_2005
  let c4_i32_2006 : BitVec 32 := 4#32
  let v2442 : BitVec 32 := Scalar.addi v2441 c4_i32_2006
  let v2444 : BitVec 32 := Scalar.addi v2443 v2442
  let v2445 : Index := Scalar.indexCast v2444
  ![v2445.toNat]
def k0_off761 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_2005 : BitVec 32 := 8#32
  let v2441 : BitVec 32 := Scalar.muli arg11 c8_i32_2005
  let c4_i32_2006 : BitVec 32 := 4#32
  let v2442 : BitVec 32 := Scalar.addi v2441 c4_i32_2006
  let c0_i32_2012 : BitVec 32 := 0#32
  ![v2442.toNat, 0]
def k0_off762 (v2446 : BitVec 32) : Fin 2 → Nat :=
  let c0_i32_2013 : BitVec 32 := 0#32
  ![v2446.toNat, 0]

def k0_chk253 (v2446 : BitVec 32) : Prop :=
  (∀ a, (k0_off762 v2446) a + S1x2048.size a ≤ S8192x2048.size a)
theorem k0_off762_inb : ∀ (v2446 : BitVec 32) (k0_hw253 : k0_chk253 v2446), ∀ a, (k0_off762 v2446) a + S1x2048.size a ≤ S8192x2048.size a := fun v2446 k0_hw253 => k0_hw253

def k0_off763 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_2016 : BitVec 32 := 1984#32
  let v2455 : BitVec 32 := Scalar.addi v11 c1984_i32_2016
  let c0_i32_1434 : BitVec 32 := 0#32
  let c1_i32_1436 : BitVec 32 := 1#32
  let arg11 : BitVec 32 := Scf.iv c0_i32_1434 c1_i32_1436 k0_t62
  let c8_i32_2014 : BitVec 32 := 8#32
  let v2453 : BitVec 32 := Scalar.muli arg11 c8_i32_2014
  let c5_i32_2015 : BitVec 32 := 5#32
  let v2454 : BitVec 32 := Scalar.addi v2453 c5_i32_2015
  let v2456 : BitVec 32 := Scalar.addi v2455 v2454
  let v2457 : Index := Scalar.indexCast v2456
  ![v2457.toNat]
def k0_off764 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_2014 : BitVec 32 := 8#32
  let v2453 : BitVec 32 := Scalar.muli arg11 c8_i32_2014
  let c5_i32_2015 : BitVec 32 := 5#32
  let v2454 : BitVec 32 := Scalar.addi v2453 c5_i32_2015
  let c0_i32_2021 : BitVec 32 := 0#32
  ![v2454.toNat, 0]
def k0_off765 (v2458 : BitVec 32) : Fin 2 → Nat :=
  let c0_i32_2022 : BitVec 32 := 0#32
  ![v2458.toNat, 0]

def k0_chk254 (v2458 : BitVec 32) : Prop :=
  (∀ a, (k0_off765 v2458) a + S1x2048.size a ≤ S8192x2048.size a)
theorem k0_off765_inb : ∀ (v2458 : BitVec 32) (k0_hw254 : k0_chk254 v2458), ∀ a, (k0_off765 v2458) a + S1x2048.size a ≤ S8192x2048.size a := fun v2458 k0_hw254 => k0_hw254

def k0_off766 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_2025 : BitVec 32 := 1984#32
  let v2467 : BitVec 32 := Scalar.addi v11 c1984_i32_2025
  let c0_i32_1434 : BitVec 32 := 0#32
  let c1_i32_1436 : BitVec 32 := 1#32
  let arg11 : BitVec 32 := Scf.iv c0_i32_1434 c1_i32_1436 k0_t62
  let c8_i32_2023 : BitVec 32 := 8#32
  let v2465 : BitVec 32 := Scalar.muli arg11 c8_i32_2023
  let c6_i32_2024 : BitVec 32 := 6#32
  let v2466 : BitVec 32 := Scalar.addi v2465 c6_i32_2024
  let v2468 : BitVec 32 := Scalar.addi v2467 v2466
  let v2469 : Index := Scalar.indexCast v2468
  ![v2469.toNat]
def k0_off767 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_2023 : BitVec 32 := 8#32
  let v2465 : BitVec 32 := Scalar.muli arg11 c8_i32_2023
  let c6_i32_2024 : BitVec 32 := 6#32
  let v2466 : BitVec 32 := Scalar.addi v2465 c6_i32_2024
  let c0_i32_2030 : BitVec 32 := 0#32
  ![v2466.toNat, 0]
def k0_off768 (v2470 : BitVec 32) : Fin 2 → Nat :=
  let c0_i32_2031 : BitVec 32 := 0#32
  ![v2470.toNat, 0]

def k0_chk255 (v2470 : BitVec 32) : Prop :=
  (∀ a, (k0_off768 v2470) a + S1x2048.size a ≤ S8192x2048.size a)
theorem k0_off768_inb : ∀ (v2470 : BitVec 32) (k0_hw255 : k0_chk255 v2470), ∀ a, (k0_off768 v2470) a + S1x2048.size a ≤ S8192x2048.size a := fun v2470 k0_hw255 => k0_hw255

def k0_off769 (d0 : Dev nD) (k0_t62 : Fin k0_t62_loop.trips) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c1984_i32_2034 : BitVec 32 := 1984#32
  let v2479 : BitVec 32 := Scalar.addi v11 c1984_i32_2034
  let c0_i32_1434 : BitVec 32 := 0#32
  let c1_i32_1436 : BitVec 32 := 1#32
  let arg11 : BitVec 32 := Scf.iv c0_i32_1434 c1_i32_1436 k0_t62
  let c8_i32_2032 : BitVec 32 := 8#32
  let v2477 : BitVec 32 := Scalar.muli arg11 c8_i32_2032
  let c7_i32_2033 : BitVec 32 := 7#32
  let v2478 : BitVec 32 := Scalar.addi v2477 c7_i32_2033
  let v2480 : BitVec 32 := Scalar.addi v2479 v2478
  let v2481 : Index := Scalar.indexCast v2480
  ![v2481.toNat]
def k0_off770 (k0_t62 : Fin k0_t62_loop.trips) : Fin 2 → Nat :=
  let c0_i32_1434 : BitVec 32 := 0#32
  let c1_i32_1436 : BitVec 32 := 1#32
  let arg11 : BitVec 32 := Scf.iv c0_i32_1434 c1_i32_1436 k0_t62
  let c8_i32_2032 : BitVec 32 := 8#32
  let v2477 : BitVec 32 := Scalar.muli arg11 c8_i32_2032
  let c7_i32_2033 : BitVec 32 := 7#32
  let v2478 : BitVec 32 := Scalar.addi v2477 c7_i32_2033
  let c0_i32_2039 : BitVec 32 := 0#32
  ![v2478.toNat, 0]
def k0_off771 (v2482 : BitVec 32) : Fin 2 → Nat :=
  let c0_i32_2040 : BitVec 32 := 0#32
  ![v2482.toNat, 0]

def k0_chk256 (v2482 : BitVec 32) : Prop :=
  (∀ a, (k0_off771 v2482) a + S1x2048.size a ≤ S8192x2048.size a)
theorem k0_off771_inb : ∀ (v2482 : BitVec 32) (k0_hw256 : k0_chk256 v2482), ∀ a, (k0_off771 v2482) a + S1x2048.size a ≤ S8192x2048.size a := fun v2482 k0_hw256 => k0_hw256

@[reducible] def k0_t63_loop : Scf.Loop 32 :=
  let c0_i32_1438 : BitVec 32 := 0#32
  let c64_i32_1439 : BitVec 32 := 64#32
  let v1793 : BitVec 32 := Scalar.addi c0_i32_1438 c64_i32_1439
  let c1_i32_1440 : BitVec 32 := 1#32
  ⟨c0_i32_1438, v1793, c1_i32_1440⟩
def k0_dev62 (d0 : Dev nD) : Nat :=
  let c0_i32_1449 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1448 : BitVec 32 := 8#32
  let v1806 : BitVec 32 := Scalar.muli v2 c8_i32_1448
  let v1807 : BitVec 32 := Scalar.addi c0_i32_1449 v1806
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1450 : BitVec 32 := 4#32
  let v1808 : BitVec 32 := Scalar.muli v9 c4_i32_1450
  let v1809 : BitVec 32 := Scalar.addi v1807 v1808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1451 : BitVec 32 := 1#32
  let v1810 : BitVec 32 := Scalar.muli v8 c1_i32_1451
  let v1811 : BitVec 32 := Scalar.addi v1809 v1810
  v1811.toNat
def k0_dev63 (d0 : Dev nD) : Nat :=
  let c0_i32_1477 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1476 : BitVec 32 := 8#32
  let v1840 : BitVec 32 := Scalar.muli v10 c8_i32_1476
  let v1841 : BitVec 32 := Scalar.addi c0_i32_1477 v1840
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1478 : BitVec 32 := 4#32
  let v1842 : BitVec 32 := Scalar.muli v5 c4_i32_1478
  let v1843 : BitVec 32 := Scalar.addi v1841 v1842
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1479 : BitVec 32 := 1#32
  let v1844 : BitVec 32 := Scalar.muli v8 c1_i32_1479
  let v1845 : BitVec 32 := Scalar.addi v1843 v1844
  v1845.toNat
@[reducible] def k0_t64_loop : Scf.Loop 32 :=
  let c0_i32_1482 : BitVec 32 := 0#32
  let c64_i32_1483 : BitVec 32 := 64#32
  let v1852 : BitVec 32 := Scalar.addi c0_i32_1482 c64_i32_1483
  let c1_i32_1484 : BitVec 32 := 1#32
  ⟨c0_i32_1482, v1852, c1_i32_1484⟩
def k0_dev64 (d0 : Dev nD) : Nat :=
  let c0_i32_1493 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1492 : BitVec 32 := 8#32
  let v1865 : BitVec 32 := Scalar.muli v2 c8_i32_1492
  let v1866 : BitVec 32 := Scalar.addi c0_i32_1493 v1865
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1494 : BitVec 32 := 4#32
  let v1867 : BitVec 32 := Scalar.muli v9 c4_i32_1494
  let v1868 : BitVec 32 := Scalar.addi v1866 v1867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1495 : BitVec 32 := 1#32
  let v1869 : BitVec 32 := Scalar.muli v8 c1_i32_1495
  let v1870 : BitVec 32 := Scalar.addi v1868 v1869
  v1870.toNat
def k0_dev65 (d0 : Dev nD) : Nat :=
  let c0_i32_1521 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1520 : BitVec 32 := 8#32
  let v1899 : BitVec 32 := Scalar.muli v10 c8_i32_1520
  let v1900 : BitVec 32 := Scalar.addi c0_i32_1521 v1899
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1522 : BitVec 32 := 4#32
  let v1901 : BitVec 32 := Scalar.muli v5 c4_i32_1522
  let v1902 : BitVec 32 := Scalar.addi v1900 v1901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1523 : BitVec 32 := 1#32
  let v1903 : BitVec 32 := Scalar.muli v8 c1_i32_1523
  let v1904 : BitVec 32 := Scalar.addi v1902 v1903
  v1904.toNat
def k0_dev66 (d0 : Dev nD) : Nat :=
  let c0_i32_1548 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1547 : BitVec 32 := 8#32
  let v1933 : BitVec 32 := Scalar.muli v10 c8_i32_1547
  let v1934 : BitVec 32 := Scalar.addi c0_i32_1548 v1933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1549 : BitVec 32 := 4#32
  let v1935 : BitVec 32 := Scalar.muli v5 c4_i32_1549
  let v1936 : BitVec 32 := Scalar.addi v1934 v1935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1550 : BitVec 32 := 1#32
  let v1937 : BitVec 32 := Scalar.muli v8 c1_i32_1550
  let v1938 : BitVec 32 := Scalar.addi v1936 v1937
  v1938.toNat
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | .hbm, ⟨11, _⟩ => ⟨S4096x2048, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Ideal.Common.lean ====
module

public import proofs.«01_k».proof.Proof.Gen.KernelIdeal.Skeleton
public import proofs.«01_k».proof.Proof.Gen.KernelIdeal.Regions

@[expose] public section
noncomputable section
namespace Cert.KernelIdeal.Emb

open Cert.KernelIdeal Cert.KernelIdeal.Gen
open Idealize.ShloMosaic Idealize.ShloMosaic.TcCoe
open Idealize.SL.Sem

variable {F : FTy → Type} [FloatOps F]

/-- The device that differs in the mesh's first coordinate. -/
def xn (c : Dev nD) : Dev nD := ⟨k0_dev2 c, k0_dev2_lt c⟩
/-- The device that differs in the mesh's second coordinate. -/
def yn (c : Dev nD) : Dev nD := ⟨k0_dev1 c, k0_dev1_lt c⟩

/-- The neighbour along x of the neighbour along x is the device itself. -/
theorem xn_xn (c : Dev nD) : xn (xn c) = c := by revert c; decide
/-- The neighbour along y of the neighbour along y is the device itself. -/
theorem yn_yn (c : Dev nD) : yn (yn c) = c := by revert c; decide
/-- A step along x changes the x coordinate. -/
theorem xn_val (c : Dev nD) : (xn c).val / 8 = 1 - c.val / 8 := by revert c; decide
/-- A step along y keeps the x coordinate. -/
theorem yn_val (c : Dev nD) : (yn c).val / 8 = c.val / 8 := by revert c; decide
/-- A step along y changes the y coordinate. -/
theorem yn_y (c : Dev nD) : (yn c).val / 4 % 2 = 1 - c.val / 4 % 2 := by revert c; decide
/-- A step along x keeps the y coordinate. -/
theorem xn_y (c : Dev nD) : (xn c).val / 4 % 2 = c.val / 4 % 2 := by revert c; decide

/-- The row numbers, in scalar memory. -/
abbrev mI : Memref sig .tc .smem S4096 .i32 := Memref.whole cc0_stg0_0
/-- The scales, in vector memory. -/
abbrev mS : Memref sig .tc .vmem S4096x1 .f32 := Memref.whole cc0_stg1_0
/-- The device's block of the table. -/
abbrev mE : Memref sig .tc .hbm S8192x2048 .f32 := Memref.whole main_arg1
/-- The result, in vector memory. -/
abbrev mO : Memref sig .tc .vmem S4096x2048 .bf16 := Memref.whole cc0_stg2_0
/-- The ring of four slots that the table's rows land in. -/
abbrev mG : Memref sig .tc .vmem S4x64x2048 .f32 := Memref.whole cc0_scratch0
/-- The buffer that the y neighbour's rows land in. -/
abbrev mY : Memref sig .tc .vmem S2048x2048 .bf16 := Memref.whole cc0_scratch1

/-- The kernel's arithmetic on the device number gives the x coordinate. -/
theorem xword (c : Dev nD) : Scalar.remsi (Scalar.divsi (Dev.word c) 8#32) 2#32 = BitVec.ofNat 32 (c.val / 8) := by revert c; decide

/-- The position of a row number that the kernel computes, as a number. -/
theorem rowWord (c : Dev nD) (s t j : ℕ) (hs : s < 32) (ht : t < 8) (hj : j < 8) :
    (Scalar.indexCast (Scalar.addi (Scalar.addi (Scalar.muli (Scalar.remsi (Scalar.divsi (Dev.word c) 8#32) 2#32) 2048#32) (BitVec.ofNat 32 (64 * s)))
      (Scalar.addi (Scalar.muli (Scf.iv 0#32 1#32 t) 8#32) (BitVec.ofNat 32 j)))).toNat = 2048 * (c.val / 8) + 64 * s + (8 * t + j) := by
  rw [xword]
  have : c.val / 8 < 2 := Nat.div_lt_of_lt_mul c.isLt
  simp only [Scalar.indexCast, Scalar.addi, Scalar.muli, IntOp.addi, IntOp.muli, Scf.iv, BitVec.toNat_add, BitVec.toNat_mul, BitVec.toNat_ofNat]
  omega

/-- Where row `8 t + j` of chunk `s` has its number. -/
def offI (c : Dev nD) (s t j : ℕ) : Fin 1 → ℕ :=
  ![(Scalar.indexCast (Scalar.addi (Scalar.addi (Scalar.muli (Scalar.remsi (Scalar.divsi (Dev.word c) 8#32) 2#32) 2048#32) (BitVec.ofNat 32 (64 * s)))
      (Scalar.addi (Scalar.muli (Scf.iv 0#32 1#32 t) 8#32) (BitVec.ofNat 32 j)))).toNat]
/-- Where row `8 t + j` lies in a slot. -/
def offR (t j : ℕ) : Fin 2 → ℕ := ![(Scalar.addi (Scalar.muli (Scf.iv 0#32 1#32 t) 8#32) (BitVec.ofNat 32 j)).toNat, 0]
/-- Where the row numbered `v` lies in the table. -/
def offE (v : BitVec 32) : Fin 2 → ℕ := ![v.toNat, 0]
/-- The row numbered `v` is a row of the table. -/
def chkE (v : BitVec 32) : Prop := ∀ a, offE v a + S1x2048.size a ≤ S8192x2048.size a
/-- A row that is checked lies in the table. -/
theorem chkE_inb (v : BitVec 32) (h : chkE v) : ∀ a, offE v a + S1x2048.size a ≤ S8192x2048.size a := h

/-- Every row number read lies in the array of row numbers. -/
theorem offI_inb (c : Dev nD) (s : Fin 32) (t j : Fin 8) : ∀ a, offI c s t j a + S1.size a ≤ S4096.size a := fun a => by
  have h : c.val / 8 < 2 := Nat.div_lt_of_lt_mul c.isLt
  fin_cases a
  show (Scalar.indexCast _).toNat + 1 ≤ 4096
  rw [rowWord c s t j s.isLt t.isLt j.isLt]
  omega
/-- Every row lies in its slot. -/
theorem offR_inb (t j : Fin 8) : ∀ a, offR t j a + S1x2048.size a ≤ S64x2048.size a := by revert t j; decide
/-- Every slot lies in the ring. -/
theorem slot_inb (n : Fin 4) : ∀ a, (![n.val, 0, 0] : Fin 3 → ℕ) a + S1x64x2048.size a ≤ S4x64x2048.size a := by revert n; decide
/-- Every slot has its semaphore. -/
theorem gsem_inb (n : Fin 4) : ∀ a, (![n.val] : Fin 1 → ℕ) a + S1.size a ≤ S4.size a := by revert n; decide

/-- Slot `n` of the ring. -/
abbrev ringM (n : Fin 4) : Memref sig .tc .vmem S64x2048 .f32 :=
  (mG.slice (Rect.unit (s := S4x64x2048) ![n.val, 0, 0] S1x64x2048.size (slot_inb n)) (fun _ => rfl)).squeeze S64x2048 squeezes_S1x64x2048_S64x2048
/-- The semaphore of slot `n`. -/
abbrev gsem (n : Fin 4) : DmaSem sig := ((cc0_scratch2.slice (Rect.unit (s := S4) ![n.val] S1.size (gsem_inb n))).squeeze S_ squeezes_S1_S_).sem

/-- One row's copy: read its number, check it, start the copy into its place in the slot. -/
def row (c : Dev nD) (s : Fin 32) (n : Fin 4) (t j : Fin 8) : Prog (TpuEff nD τ sig (Elt F) Λ₀ .tc) PUnit := do
  let v : Elt F .i32 ← smemLoad mI (Rect.unit (s := S4096) (offI c s t j) S1.size (offI_inb c s t j)) numel1_S1 rfl
  have h : chkE v := (← Prog.lift (TpuEff.assume (chkE v) (k0_chk1.dec v))).down
  Prog.lift (.enqueueDma (mE.slice (Rect.unit (s := S8192x2048) (offE v) S1x2048.size (chkE_inb v h)) (fun _ => rfl))
    (.here ((ringM n).slice (Rect.unit (s := S64x2048) (offR t j) S1x2048.size (offR_inb t j)) (fun _ => rfl))) (.dma (gsem n))
    (View.wordExact_bits rfl) (View.wordExact_bits rfl) ⟨Or.inl rfl, trivial⟩)

/-- The loop that starts a chunk's copies: eight trips. -/
@[reducible] def issueLoop : Scf.Loop 32 := ⟨0#32, Scalar.addi 0#32 8#32, 1#32⟩
/-- It makes eight trips. -/
theorem issue_trips : issueLoop.trips = 8 := by decide
/-- A trip of it: eight rows' copies. -/
def issueBody (c : Dev nD) (s : Fin 32) (n : Fin 4) : Fin issueLoop.trips → Unit → Prog (TpuEff nD τ sig (Elt F) Λ₀ .tc) Unit := fun t _ => do
  row c s n (t.cast issue_trips) 0
  row c s n (t.cast issue_trips) 1
  row c s n (t.cast issue_trips) 2
  row c s n (t.cast issue_trips) 3
  row c s n (t.cast issue_trips) 4
  row c s n (t.cast issue_trips) 5
  row c s n (t.cast issue_trips) 6
  row c s n (t.cast issue_trips) 7
  pure ⟨⟩

/-- The loop that waits for a chunk's copies: sixty-four trips. -/
@[reducible] def waitLoop : Scf.Loop 32 := ⟨0#32, Scalar.addi 0#32 64#32, 1#32⟩
/-- It makes sixty-four trips. -/
theorem wait_trips : waitLoop.trips = 64 := by decide
/-- A slot has a first row. -/
theorem row0_inb : ∀ a, (![0, 0] : Fin 2 → ℕ) a + S1x2048.size a ≤ S64x2048.size a := by decide
/-- The table has a first row. -/
theorem erow0_inb : ∀ a, (![0, 0] : Fin 2 → ℕ) a + S1x2048.size a ≤ S8192x2048.size a := by decide
/-- The first row of slot `n`, which the waits name as the destination. -/
abbrev wdst (n : Fin 4) : Memref sig .tc .vmem S1x2048 .f32 :=
  (ringM n).slice (Rect.unit (s := S64x2048) ![0, 0] S1x2048.size row0_inb) (fun _ => rfl)
/-- The first row of the table, which the waits name as the source. -/
abbrev wsrc : Memref sig .tc .hbm S1x2048 .f32 :=
  mE.slice (Rect.unit (s := S8192x2048) ![0, 0] S1x2048.size erow0_inb) (fun _ => rfl)
/-- A trip of the waiting loop: one row's wait. -/
def waitBody (n : Fin 4) : Fin waitLoop.trips → Unit → Prog (TpuEff nD τ sig (Elt F) Λ₀ .tc) Unit := fun _ _ => do
  Prog.lift (.waitDma2 (gsem n) wsrc (wdst n) (View.wordExact_bits rfl) (View.wordExact_bits rfl))
  pure ⟨⟩

/-- The starting loop's bounds do not overflow. -/
theorem issue_ok : issueLoop.OK := by decide
/-- The waiting loop's bounds do not overflow. -/
theorem wait_ok : waitLoop.OK := by decide

/-- Chunk `s`'s copies into slot `n`, all started. -/
abbrev issue (c : Dev nD) (s : Fin 32) (n : Fin 4) : Prog (TpuEff nD τ sig (Elt F) Λ₀ .tc) Unit :=
  Scf.Loop.for issueLoop issue_ok ⟨⟩ (issueBody c s n)
/-- The waits for all the copies into slot `n`. -/
abbrev waits (n : Fin 4) : Prog (TpuEff nD τ sig (Elt F) Λ₀ .tc) Unit :=
  Scf.Loop.for waitLoop wait_ok ⟨⟩ (waitBody n)

/-- The first row of chunk `k`, as a word. -/
abbrev w64 (k : Fin 32) : BitVec 32 := BitVec.ofNat 32 (64 * k.val)
/-- The rows of chunk `k` in the result. -/
abbrev rectO (c : Dev nD) (k : Fin 32) : Rect S4096x2048 := Rect.unit (s := S4096x2048) (k0_off50 c (w64 k)) S64x2048.size (k0_off50_inb c k)
/-- The rows of chunk `k` in the scales. -/
abbrev rectS (c : Dev nD) (k : Fin 32) : Rect S4096x1 := Rect.unit (s := S4096x1) (k0_off49 c (w64 k)) S64x1.size (k0_off49_inb c k)
/-- Slot `n` in the ring. -/
abbrev rectG (n : Fin 4) : Rect S4x64x2048 := Rect.unit (s := S4x64x2048) ![n.val, 0, 0] S1x64x2048.size (slot_inb n)
/-- Every chunk lies in the landing buffer. -/
theorem yb_inb (k : Fin 32) : ∀ a, (![64 * k.val, 0] : Fin 2 → ℕ) a + S64x2048.size a ≤ S2048x2048.size a := by revert k; decide
/-- The rows of chunk `k` in the landing buffer. -/
abbrev rectY (k : Fin 32) : Rect S2048x2048 := Rect.unit (s := S2048x2048) ![64 * k.val, 0] S64x2048.size (yb_inb k)
/-- These rows are whole words. -/
theorem yb_words (k : Fin 32) : (rectY k).WholeWords (EltTy.packing .bf16) := by revert k; decide
/-- The rows of chunk `k` in the result, as a view. -/
abbrev outM (c : Dev nD) (k : Fin 32) : Memref sig .tc .vmem S64x2048 .bf16 :=
  mO.slice (Rect.unit (s := S4096x2048) (k0_off51 c (w64 k)) S64x2048.size (k0_off51_inb c k)) (fun _ => rfl)
/-- The rows of chunk `k` in the landing buffer, as a view. -/
abbrev ybM (k : Fin 32) : Memref sig .tc .vmem S64x2048 .bf16 := mY.slice (rectY k) (fun _ => rfl)
/-- A chunk of the result is whole words, so that it can be copied. -/
theorem outM_exact (c : Dev nD) (k : Fin 32) : (outM c k).view.WordExact := (Memref.isWhole_whole _).wordExact_slice rfl _ (k0_off51_wordsbf16 c k)
/-- A chunk of the landing buffer is whole words, so that it can be copied. -/
theorem ybM_exact (k : Fin 32) : (ybM k).view.WordExact := (Memref.isWhole_whole _).wordExact_slice rfl _ (yb_words k)

/-- Chunk `k`'s transfer semaphore of kind `kd`: sent along y, received along y, sent along x, received along x. -/
abbrev tsem (kd : Fin 4) (k : Fin 32) : DmaSem sig := ⟨7 + 32 * kd.val + k.val, by have := kd.isLt; have := k.isLt; show _ < 135; omega⟩

/-- A store into chunk `k` of the result. -/
abbrev storeO (c : Dev nD) (k : Fin 32) (v : FVec F S64x2048 .bf16) : Prog (TpuEff nD τ sig (Elt F) Λ₀ .tc) PUnit :=
  Prog.lift (.store mO (rectO c k) v Finset.univ (View.stores_vmem h_S64x2048 ((Memref.isWhole_whole _).storeExact_slice rfl _ (k0_off50_packedbf16 c k)) (fun _ => rfl)) (.inl rfl))

/-- Scale the rows of slot `n`, round them and store them as chunk `k` of the result. -/
abbrev convert (c : Dev nD) (k : Fin 32) (n : Fin 4) : Prog (TpuEff nD τ sig (Elt F) Λ₀ .tc) PUnit := do
  let g : Vec F S1x64x2048 .f32 ← Prog.lift (.load mG (rectG n).toLoadRect (View.loadsAt_vmem h_S1x64x2048))
  let s : Vec F S64x1 .f32 ← Prog.lift (.load mS (rectS c k).toLoadRect (View.loadsAt_vmem h_S64x1))
  let _ : Vec F S64x2048 .bf16 ← Prog.lift (.load mO (rectO c k).toLoadRect (View.loadsAt_vmem h_S64x2048))
  storeO c k (k0_pay1 g s)

/-- Send chunk `k` to the y neighbour's landing buffer. -/
abbrev ysend (c : Dev nD) (k : Fin 32) : Prog (TpuEff nD τ sig (Elt F) Λ₀ .tc) PUnit :=
  Prog.lift (.enqueueDma (outM c k) (.remote (Dev.tc (yn c)) (ybM k) (.dma (tsem 0 k))) (.dma (tsem 1 k)) (outM_exact c k) (ybM_exact k) ⟨⟨rfl, Or.inl rfl⟩, trivial⟩)

/-- Send chunk `k` to the same place of the x neighbour's result. -/
abbrev xsend (c : Dev nD) (k : Fin 32) : Prog (TpuEff nD τ sig (Elt F) Λ₀ .tc) PUnit :=
  Prog.lift (.enqueueDma (outM c k) (.remote (Dev.tc (xn c)) (outM c k) (.dma (tsem 2 k))) (.dma (tsem 3 k)) (outM_exact c k) (outM_exact c k) ⟨⟨rfl, Or.inl rfl⟩, trivial⟩)

/-- Wait for both ends of chunk `k`'s exchange along y, add what landed, send the sum along x. -/
abbrev yproc (c : Dev nD) (k : Fin 32) : Prog (TpuEff nD τ sig (Elt F) Λ₀ .tc) PUnit := do
  Prog.lift (.waitDma2 (tsem 0 k) (ybM k) (outM c k) (ybM_exact k) (outM_exact c k))
  Prog.lift (.waitDma2 (tsem 1 k) (outM c k) (ybM k) (outM_exact c k) (ybM_exact k))
  let a : Vec F S64x2048 .bf16 ← Prog.lift (.load mO (rectO c k).toLoadRect (View.loadsAt_vmem h_S64x2048))
  let b : Vec F S64x2048 .bf16 ← Prog.lift (.load mY (rectY k).toLoadRect (View.loadsAt_vmem h_S64x2048))
  let _ : Vec F S64x2048 .bf16 ← Prog.lift (.load mO (rectO c k).toLoadRect (View.loadsAt_vmem h_S64x2048))
  storeO c k (k0_pay3 a b)
  xsend c k

/-- The wait for chunk `k`'s transfer of kind `kd` along x. -/
abbrev xwait (c : Dev nD) (kd : Fin 4) (k : Fin 32) : Prog (TpuEff nD τ sig (Elt F) Λ₀ .tc) PUnit :=
  Prog.lift (.waitDma2 (tsem kd k) (outM c k) (outM c k) (outM_exact c k) (outM_exact c k))

/-- Chunk `k`'s first half: its rows awaited, scaled, stored and sent along y. -/
abbrev front (c : Dev nD) (k : Fin 32) (n : Fin 4) : Prog (TpuEff nD τ sig (Elt F) Λ₀ .tc) PUnit := do
  waits n
  convert c k n
  ysend c k

/-- `f` at `i`, `i + 1`, …, `n` times. -/
def times (f : ℕ → Prog (TpuEff nD τ sig (Elt F) Λ₀ .tc) PUnit) : ℕ → ℕ → Prog (TpuEff nD τ sig (Elt F) Λ₀ .tc) PUnit
  | 0, _ => pure ⟨⟩
  | n + 1, i => do
    f i
    times f n (i + 1)

/-- The chunk numbered `i`. -/
abbrev ch (i : ℕ) : Fin 32 := Fin.ofNat 32 i
/-- The slot numbered `i`. -/
abbrev sl (i : ℕ) : Fin 4 := Fin.ofNat 4 i
/-- One round of the steady state: start chunk `i + 2`, convert and send chunk `i + 1`, sum chunk `i`. -/
abbrev step (c : Dev nD) (i : ℕ) : Prog (TpuEff nD τ sig (Elt F) Λ₀ .tc) PUnit := do
  issue c (ch (i + 2)) (sl (i + 2))
  front c (ch (i + 1)) (sl (i + 1))
  yproc c (ch i)

/-- The handshake with both neighbours. -/
abbrev enter (c : Dev nD) : Prog (TpuEff nD τ sig (Elt F) Λ₀ .tc) PUnit := do
  semSignalWord (yn c) barrier0 1#32
  semSignalWord (xn c) barrier0 1#32
  semWaitWord barrier0 2#32

/-- The kernel on device `c`, written with loops where the program is unrolled. -/
abbrev work (c : Dev nD) : Prog (TpuEff nD τ sig (Elt F) Λ₀ .tc) PUnit := do
  enter c
  issue c 0 0
  issue c 1 1
  front c 0 0
  times (step c) 30 0
  front c 31 3
  yproc c 30
  yproc c 31
  times (fun i => xwait c 3 (ch i)) 32 0
  times (fun i => xwait c 2 (ch i)) 32 0
  pure ⟨⟩

/-- The kernel: it reads its device number and works. -/
abbrev prog : Prog (TpuEff nD τ sig (Elt F) Λ₀ .tc) PUnit := do
  let c : Dev nD ← Prog.lift .deviceId
  work c
end Cert.KernelIdeal.Emb
-- ==== Proof.Ideal.Contents.lean ====
module

public import proofs.«01_k».proof.Proof.Ideal.Common
public import Idealize.ShloMosaic.Lib.ValueLayout
public import Idealize.ShloMosaic.Lib.Pipeline.Value

@[expose] public section
noncomputable section
namespace Cert.KernelIdeal.Emb

open Cert.KernelIdeal Cert.KernelIdeal.Gen
open Idealize.ShloMosaic Idealize.ShloMosaic.TcCoe
open Idealize.ShloMosaic.ValueIdx
open Idealize.SL.Sem

variable {F : FTy → Type} [FloatOps F]

/-- What the kernel reads: on each device the clipped row numbers, the scales and the shard of the table. -/
structure Ins (F : FTy → Type) where
  /-- the clipped row numbers -/
  ids : Dev nD → S4096.Idx → Elt F .i32
  /-- the scale of each output row -/
  sc : Dev nD → S4096x1.Idx → Elt F .f32
  /-- the shard of the table -/
  tab : Dev nD → S8192x2048.Idx → Elt F .f32

variable (J : Ins F)

/-- The first output row of device `c`'s half. -/
abbrev my (c : Dev nD) : ℕ := 2048 * (c.val / 8)
/-- The x coordinate is 0 or 1. -/
theorem my_lt (c : Dev nD) : c.val / 8 < 2 := Nat.div_lt_of_lt_mul c.isLt
/-- The y neighbour works on the same half of the rows. -/
theorem my_yn (c : Dev nD) : my (yn c) = my c := by unfold my; rw [yn_val]

/-- The table row that output row `i` reads on device `c`. -/
def rowIx (c : Dev nD) (i : Fin 4096) : Fin 8192 := Fin.ofNat 8192 (J.ids c (ix1 i)).toNat

/-- What ring rows hold after the copies of chunk `k`: row `r` is the table row of output row `my c + 64 k + r`. -/
def ringT (c : Dev nD) (k : Fin 32) : S4x64x2048.Idx → Elt F .f32 := fun i =>
  J.tab c (ix2 (rowIx J c (Fin.ofNat 4096 (my c + 64 * k.val + (i 1).val))) (i 2))

/-- The partial row sum of device `c`: its table row times its scale, rounded. -/
def partT (c : Dev nD) : S4096x2048.Idx → Elt F .bf16 := fun i =>
  FloatOps.truncf (φ := .f32) .bf16 bitsLt_bf16_f32 (FloatOps.mulf (J.tab c (ix2 (rowIx J c (i 0)) (i 1))) (J.sc c (ix2 (i 0) 0)))

/-- What the receive buffer of device `c` gets: the partials of its partner along the second mesh axis. -/
def ybT (c : Dev nD) : S2048x2048.Idx → Elt F .bf16 := fun i =>
  partT J (yn c) (ix2 (Fin.ofNat 4096 (my c + (i 0).val)) (i 1))

/-- The sum of the two partials. -/
def sumT (c : Dev nD) : S4096x2048.Idx → Elt F .bf16 := fun i => FloatOps.addf (partT J c i) (partT J (yn c) i)

/-- The rows of output chunk `k` of device `c`'s half. -/
def outSet (c : Dev nD) (k : Fin 32) : Finset S4096x2048.Idx :=
  Finset.univ.filter fun i => my c + 64 * k.val ≤ (i 0).val ∧ (i 0).val < my c + 64 * k.val + 64
/-- The rows of chunk `k` of the receive buffer. -/
def ySet (k : Fin 32) : Finset S2048x2048.Idx :=
  Finset.univ.filter fun i => 64 * k.val ≤ (i 0).val ∧ (i 0).val < 64 * k.val + 64
/-- Slot `n` of the ring. -/
def slotSet (n : Fin 4) : Finset S4x64x2048.Idx := Finset.univ.filter fun i => (i 0).val = n.val
/-- Row `r` of slot `n` of the ring. -/
def rowSet (n : Fin 4) (r : Fin 64) : Finset S4x64x2048.Idx := Finset.univ.filter fun i => (i 0).val = n.val ∧ (i 1).val = r.val

/-- Chunk `k` of the result starts at its row. -/
theorem off50_0 (c : Dev nD) (k : Fin 32) : k0_off50 c (w64 k) 0 = my c + 64 * k.val := by
  have h := my_lt c
  have h' := k.isLt
  show (Scalar.addi (Scalar.muli (Scalar.remsi (Scalar.divsi (Dev.word c) 8#32) 2#32) 2048#32) (BitVec.ofNat 32 (64 * k.val))).toNat = _
  rw [xword]
  simp only [Scalar.addi, Scalar.muli, IntOp.addi, IntOp.muli, BitVec.toNat_add, BitVec.toNat_mul, BitVec.toNat_ofNat]
  unfold my
  omega
/-- So does the view of it that is sent. -/
theorem off51_0 (c : Dev nD) (k : Fin 32) : k0_off51 c (w64 k) 0 = my c + 64 * k.val := off50_0 c k
/-- So does the chunk of the scales. -/
theorem off49_0 (c : Dev nD) (k : Fin 32) : k0_off49 c (w64 k) 0 = my c + 64 * k.val := off50_0 c k

/-- A chunk starts at the first column. -/
theorem off50_1 (c : Dev nD) (k : Fin 32) : k0_off50 c (w64 k) 1 = 0 := rfl

/-- The elements of chunk `k` of the result. -/
theorem rectO_set (c : Dev nD) (k : Fin 32) : (mO.access (rectO c k)).set = outSet c k := by
  refine (View.set_slice_whole _ _).trans ?_
  ext i
  rw [Rect.mem_set_unit]
  simp only [outSet, Finset.mem_filter, Finset.mem_univ, true_and]
  have h : (i 1).val < 2048 := (i 1).isLt
  constructor
  · intro H
    have := H 0
    rw [off50_0] at this
    exact this
  · intro H a
    match a with
    | ⟨0, _⟩ => show k0_off50 c (w64 k) 0 ≤ (i 0).val ∧ (i 0).val < k0_off50 c (w64 k) 0 + 64; rw [off50_0]; exact H
    | ⟨1, _⟩ => show 0 ≤ (i 1).val ∧ (i 1).val < 0 + 2048; omega
/-- The elements of the view that is sent. -/
theorem outM_set (c : Dev nD) (k : Fin 32) : (outM c k).view.set = outSet c k := rectO_set c k
/-- The elements of chunk `k` of the landing buffer. -/
theorem rectY_set (k : Fin 32) : (mY.access (rectY k)).set = ySet k := by
  refine (View.set_slice_whole _ _).trans ?_
  ext i
  rw [Rect.mem_set_unit]
  simp only [ySet, Finset.mem_filter, Finset.mem_univ, true_and]
  have h : (i 1).val < 2048 := (i 1).isLt
  constructor
  · intro H
    exact H 0
  · intro H a
    match a with
    | ⟨0, _⟩ => exact H
    | ⟨1, _⟩ => show 0 ≤ (i 1).val ∧ (i 1).val < 0 + 2048; omega
/-- The elements of the view that is landed in. -/
theorem ybM_set (k : Fin 32) : (ybM k).view.set = ySet k := rectY_set k
/-- The elements of slot `n`. -/
theorem rectG_set (n : Fin 4) : (mG.access (rectG n)).set = slotSet n := by
  refine (View.set_slice_whole _ _).trans ?_
  ext i
  rw [Rect.mem_set_unit]
  simp only [slotSet, Finset.mem_filter, Finset.mem_univ, true_and]
  have h : (i 1).val < 64 := (i 1).isLt
  have h' : (i 2).val < 2048 := (i 2).isLt
  constructor
  · intro H
    have := H 0
    change n.val ≤ (i 0).val ∧ (i 0).val < n.val + 1 at this
    omega
  · intro H a
    match a with
    | ⟨0, _⟩ => show n.val ≤ (i 0).val ∧ (i 0).val < n.val + 1; omega
    | ⟨1, _⟩ => show 0 ≤ (i 1).val ∧ (i 1).val < 0 + 64; omega
    | ⟨2, _⟩ => show 0 ≤ (i 2).val ∧ (i 2).val < 0 + 2048; omega

/-- A write through a view agrees with `g` on the view's elements when it does at each index of the view. -/
theorem write_eq_on {κ : Kind} {sp : Space} {s : Shape} {e : EltTy} (v : View sig κ sp s e) (f g : v.ty.Contents (Elt F)) (w : s.Idx → Elt F e)
    (h : ∀ x, cast (congrArg (Elt F) v.elt_eq.symm) (w x) = g (v.emb x)) : ∀ i ∈ v.set, v.write (Elt F) f w Finset.univ i = g i := by
  intro i hi
  obtain ⟨x, -, rfl⟩ := Finset.mem_map.mp hi
  rw [View.write_emb_of_mem _ _ (Finset.mem_univ x), h]

/-- Two indices of a matrix are equal if both their coordinates are. -/
theorem ix_ext2 {a b : ℕ} {i j : (⟨2, ![a, b]⟩ : Shape).Idx} (h0 : (i 0).val = (j 0).val) (h1 : (i 1).val = (j 1).val) : i = j := by
  funext d
  match d with
  | ⟨0, _⟩ => exact Fin.ext h0
  | ⟨1, _⟩ => exact Fin.ext h1

/-- Where an element of chunk `k` lies in the result. -/
theorem outEmb (c : Dev nD) (k : Fin 32) (x : S64x2048.Idx) :
    (mO.access (rectO c k)).emb x = ix2 (Fin.ofNat 4096 (my c + 64 * k.val + (x 0).val)) (x 1) := by
  have h := my_lt c
  have h' := k.isLt
  have hx : (x 0).val < 64 := (x 0).isLt
  refine ix_ext2 ?_ ?_
  · show k0_off50 c (w64 k) 0 + 1 * (x 0).val = (my c + 64 * k.val + (x 0).val) % 4096
    rw [off50_0]
    unfold my
    omega
  · exact (by omega : 0 + 1 * (x 1).val = (x 1).val)
/-- Where an element of chunk `k` lies in the landing buffer. -/
theorem yEmb (k : Fin 32) (x : S64x2048.Idx) :
    (mY.access (rectY k)).emb x = ix2 (Fin.ofNat 2048 (64 * k.val + (x 0).val)) (x 1) := by
  have h' := k.isLt
  have hx : (x 0).val < 64 := (x 0).isLt
  refine ix_ext2 ?_ ?_
  · show 64 * k.val + 1 * (x 0).val = (64 * k.val + (x 0).val) % 2048
    omega
  · exact (by omega : 0 + 1 * (x 1).val = (x 1).val)

/-- What lands is the y neighbour's part of the same element. -/
theorem ybT_at (c : Dev nD) (k : Fin 32) (x : S64x2048.Idx) :
    ybT J c ((mY.access (rectY k)).emb x) = partT J (yn c) ((mO.access (rectO c k)).emb x) := by
  rw [outEmb, yEmb]
  have h := my_lt c
  have h' := k.isLt
  have hx : (x 0).val < 64 := (x 0).isLt
  show partT J (yn c) _ = _
  congr 1
  refine ix_ext2 ?_ rfl
  show (my c + (64 * k.val + (x 0).val) % 2048) % 4096 = (my c + 64 * k.val + (x 0).val) % 4096
  unfold my
  omega

/-- The y neighbour's chunk lies where the device's own does. -/
theorem off50_yn (c : Dev nD) (k : Fin 32) (x : S64x2048.Idx) : (mO.access (rectO (yn c) k)).emb x = (mO.access (rectO c k)).emb x := by
  rw [outEmb, outEmb, my_yn]

/-- The copy along the second axis delivers the sender's partials. -/
theorem ysend_val (c : Dev nD) (k : Fin 32) (fd : S2048x2048.Idx → Elt F .bf16) :
    ∀ i ∈ ySet k, (ybM k).view.write (Elt F) fd ((outM c k).view.read (Elt F) (partT J c)) Finset.univ i = ybT J (yn c) i := by
  rw [← ybM_set]
  refine write_eq_on (ybM k).view fd (ybT J (yn c)) _ fun x => ?_
  refine Eq.trans ?_ (ybT_at J (yn c) k x).symm
  rw [yn_yn, off50_yn]
  rfl

/-- The copy along the first axis delivers the sender's sums. -/
theorem xsend_val (c : Dev nD) (k : Fin 32) (fd : S4096x2048.Idx → Elt F .bf16) :
    ∀ i ∈ outSet c k, (outM c k).view.write (Elt F) fd ((outM c k).view.read (Elt F) (sumT J c)) Finset.univ i = sumT J c i := by
  rw [← outM_set]
  exact write_eq_on (outM c k).view fd (sumT J c) _ fun x => rfl

/-- Adding the received chunk to the own one gives the sums. -/
theorem add_val (c : Dev nD) (k : Fin 32) (f : S4096x2048.Idx → Elt F .bf16) :
    ∀ i ∈ outSet c k, (mO.access (rectO c k)).write (Elt F) f
      (k0_pay3 ((mO.access (rectO c k)).read (Elt F) (partT J c)) ((mY.access (rectY k)).read (Elt F) (ybT J c))) Finset.univ i = sumT J c i := by
  rw [← rectO_set]
  refine write_eq_on (mO.access (rectO c k)) f (sumT J c) _ fun x => ?_
  show FloatOps.addf (shapeCast S64x2048 _ shapeCasts_S64x2048_S64x2048 x) (ybT J c ((mY.access (rectY k)).emb x)) = _
  rw [ybT_at]
  unfold shapeCast
  rw [Shape.reshapeEquiv_self]
  rfl

/-- A scaled ring slot is the chunk of partials. -/
theorem convert_val (c : Dev nD) (k : Fin 32) (n : Fin 4) (f : S4096x2048.Idx → Elt F .bf16) :
    ∀ i ∈ outSet c k, (mO.access (rectO c k)).write (Elt F) f
      (k0_pay1 ((mG.access (rectG n)).read (Elt F) (ringT J c k)) ((mS.access (rectS c k)).read (Elt F) (J.sc c))) Finset.univ i = partT J c i := by
  rw [← rectO_set]
  refine write_eq_on (mO.access (rectO c k)) f (partT J c) _ fun x => ?_
  rw [outEmb]
  have h := my_lt c
  have h' := k.isLt
  have hx : (x 0).val < 64 := (x 0).isLt
  have h1 : shapeCast S64x2048 ((mG.access (rectG n)).read (Elt F) (ringT J c k)) shapeCasts_S1x64x2048_S64x2048 x
      = J.tab c (ix2 (rowIx J c (Fin.ofNat 4096 (my c + 64 * k.val + (x 0).val))) (x 1)) := by
    rw [eq_ix2 x]
    refine (shapeCast_1ab_ab_apply _ _ _ _).trans ?_
    show J.tab c (ix2 (rowIx J c (Fin.ofNat 4096 (my c + 64 * k.val + (0 + 1 * (x 0).val)))) _) = _
    rw [Nat.zero_add, Nat.one_mul]
    congr 1
    refine ix_ext2 rfl ?_
    show 0 + 1 * (x 1).val = (x 1).val
    omega
  have h2 : broadcastTo S64x2048 (shapeCast S64x1 ((mS.access (rectS c k)).read (Elt F) (J.sc c)) shapeCasts_S64x1_S64x1) broadcasts_S64x1_S64x2048 x
      = J.sc c (ix2 (Fin.ofNat 4096 (my c + 64 * k.val + (x 0).val)) 0) := by
    refine (broadcastTo_apply _ _ _ (ix2 (n0 := 64) (x 0) (0 : Fin 1)) ?_).trans ?_
    · intro a
      match a with
      | ⟨0, _⟩ => rfl
      | ⟨1, _⟩ => rfl
    · unfold shapeCast
      rw [Shape.reshapeEquiv_self]
      refine congrArg (J.sc c) (ix_ext2 ?_ rfl)
      show k0_off49 c (w64 k) 0 + 1 * (x 0).val = (my c + 64 * k.val + (x 0).val) % 4096
      rw [off49_0]
      unfold my
      omega
  show FloatOps.truncf (φ := .f32) .bf16 bitsLt_bf16_f32 (FloatOps.mulf (shapeCast S64x2048 _ shapeCasts_S1x64x2048_S64x2048 x) (broadcastTo S64x2048 _ broadcasts_S64x1_S64x2048 x)) = _
  rw [h1, h2]
  rfl

/-- The destination row of a row copy, as a view. -/
abbrev rowM (n : Fin 4) (t j : Fin 8) : Memref sig .tc .vmem S1x2048 .f32 :=
  (ringM n).slice (Rect.unit (s := S64x2048) (offR t j) S1x2048.size (offR_inb t j)) (fun _ => rfl)
/-- The source row of a row copy, as a view. -/
abbrev tabM (v : BitVec 32) (h : chkE v) : Memref sig .tc .hbm S1x2048 .f32 :=
  mE.slice (Rect.unit (s := S8192x2048) (offE v) S1x2048.size (chkE_inb v h)) (fun _ => rfl)

/-- Two indices of a three-dimensional array are equal if their coordinates are. -/
theorem ix_ext3 {a b c : ℕ} {i j : (⟨3, ![a, b, c]⟩ : Shape).Idx} (h0 : (i 0).val = (j 0).val) (h1 : (i 1).val = (j 1).val) (h2 : (i 2).val = (j 2).val) : i = j := by
  funext d
  match d with
  | ⟨0, _⟩ => exact Fin.ext h0
  | ⟨1, _⟩ => exact Fin.ext h1
  | ⟨2, _⟩ => exact Fin.ext h2

/-- Row `8 t + j` of a slot starts at that row. -/
theorem offR_0 (t j : Fin 8) : offR t j 0 = 8 * t.val + j.val := by revert t j; decide

/-- The row number `8 t + j` of a slot. -/
def rw8 (t j : Fin 8) : Fin 64 := ⟨8 * t.val + j.val, by have := t.isLt; have := j.isLt; omega⟩

/-- The squeeze that drops the slot axis keeps the other two coordinates. -/
theorem squeeze_at (a : Fin 64) (b : Fin 2048) : Shape.reshapeEquiv (s := S1x64x2048) (s' := S64x2048) squeezes_S1x64x2048_S64x2048.numel_eq (ix2 a b) = ix3 (0 : Fin 1) a b := by
  refine Shape.reshapeEquiv_eq_of_rowMajor _ ?_
  refine (Shape.rowMajor_val_three (d := ![1, 64, 2048]) (ix3 (0 : Fin 1) a b)).trans (Eq.trans ?_ (Shape.rowMajor_val_two (d := ![64, 2048]) (ix2 a b)).symm)
  exact (by omega : (0 * 64 + a.val) * 2048 + b.val = a.val * 2048 + b.val)

/-- Where an element of row `8 t + j` lies in the ring. -/
theorem rowEmb (n : Fin 4) (t j : Fin 8) (x : S1x2048.Idx) : (rowM n t j).view.emb x = ix3 n (rw8 t j) (x 1) := by
  show (rectG n).emb (Shape.reshapeEquiv _ ((Rect.unit (s := S64x2048) (offR t j) S1x2048.size (offR_inb t j)).emb x)) = _
  have e : (Rect.unit (s := S64x2048) (offR t j) S1x2048.size (offR_inb t j)).emb x = ix2 (rw8 t j) (x 1) := by
    have hx : (x 0).val < 1 := (x 0).isLt
    refine ix_ext2 ?_ ?_
    · show offR t j 0 + 1 * (x 0).val = 8 * t.val + j.val
      rw [offR_0]
      omega
    · exact (by omega : 0 + 1 * (x 1).val = (x 1).val)
  rw [e]
  have e2 := squeeze_at (rw8 t j) (x 1)
  refine (congrArg (rectG n).emb e2).trans ?_
  refine ix_ext3 ?_ ?_ ?_
  · exact (by omega : n.val + 1 * 0 = n.val)
  · exact (by omega : 0 + 1 * (rw8 t j).val = (rw8 t j).val)
  · exact (by omega : 0 + 1 * (x 1).val = (x 1).val)

/-- The elements of row `8 t + j` of a slot. -/
theorem rowM_set (n : Fin 4) (t j : Fin 8) : (rowM n t j).view.set = rowSet n (rw8 t j) := by
  ext i
  simp only [rowSet, Finset.mem_filter, Finset.mem_univ, true_and]
  constructor
  · intro hi
    obtain ⟨x, -, rfl⟩ := Finset.mem_map.mp hi
    rw [rowEmb]
    exact ⟨rfl, rfl⟩
  · rintro ⟨h0, h1⟩
    refine Finset.mem_map.mpr ⟨ix2 (0 : Fin 1) (i 2), Finset.mem_univ _, ?_⟩
    rw [rowEmb]
    exact ix_ext3 h0.symm h1.symm rfl

/-- The row number that the copy of row `8 t + j` of chunk `s` reads. -/
theorem ids_val (c : Dev nD) (s : Fin 32) (t j : Fin 8) (x : S1.Idx) :
    (mI.access (Rect.unit (s := S4096) (offI c s t j) S1.size (offI_inb c s t j))).read (Elt F) (J.ids c) x
      = J.ids c (ix1 (Fin.ofNat 4096 (my c + 64 * s.val + (rw8 t j).val))) := by
  have h := my_lt c
  have h' := s.isLt
  have hr := (rw8 t j).isLt
  have hx : (x 0).val < 1 := (x 0).isLt
  refine congrArg (J.ids c) (funext fun d => ?_)
  match d with
  | ⟨0, _⟩ =>
    refine Fin.ext ?_
    show (Scalar.indexCast _).toNat + 1 * (x 0).val = (my c + 64 * s.val + (rw8 t j).val) % 4096
    rw [rowWord c s t j s.isLt t.isLt j.isLt]
    show _ = (2048 * (c.val / 8) + 64 * s.val + (8 * t.val + j.val)) % 4096
    have ht := t.isLt
    have hj := j.isLt
    omega

/-- A landed row copy leaves the ring row at its contents. -/
theorem row_val (c : Dev nD) (s : Fin 32) (n : Fin 4) (t j : Fin 8) (hc : chkE (J.ids c (ix1 (Fin.ofNat 4096 (my c + 64 * s.val + (rw8 t j).val)))))
    (hb : (J.ids c (ix1 (Fin.ofNat 4096 (my c + 64 * s.val + (rw8 t j).val)))).toNat < 8192) (fd : S4x64x2048.Idx → Elt F .f32) :
    ∀ i ∈ rowSet n (rw8 t j), (rowM n t j).view.write (Elt F) fd ((tabM _ hc).view.read (Elt F) (J.tab c)) Finset.univ i = ringT J c s i := by
  rw [← rowM_set]
  refine write_eq_on (rowM n t j).view fd (ringT J c s) _ fun x => ?_
  rw [rowEmb]
  have hx : (x 0).val < 1 := (x 0).isLt
  refine congrArg (J.tab c) (ix_ext2 ?_ ?_)
  · show (J.ids c _).toNat + 1 * (x 0).val = (J.ids c _).toNat % 8192
    rw [Nat.mod_eq_of_lt hb]
    omega
  · exact (by omega : 0 + 1 * (x 1).val = (x 1).val)

/-- Rows of one slot are apart, and together they are the slot. -/
theorem rowSet_disj (n : Fin 4) : ∀ r ∈ (Finset.univ : Finset (Fin 64)), ∀ r' ∈ (Finset.univ : Finset (Fin 64)), r ≠ r' → Disjoint (rowSet n r) (rowSet n r') := by
  intro r _ r' _ h
  rw [Finset.disjoint_left]
  intro i hi hi'
  simp only [rowSet, Finset.mem_filter, Finset.mem_univ, true_and] at hi hi'
  exact h (Fin.ext (hi.2.symm.trans hi'.2))
/-- A slot is its sixty-four rows. -/
theorem rowSet_cover (n : Fin 4) : (Finset.univ : Finset (Fin 64)).biUnion (rowSet n) = slotSet n := by
  ext i
  simp only [rowSet, slotSet, Finset.mem_biUnion, Finset.mem_filter, Finset.mem_univ, true_and]
  exact ⟨fun ⟨_, h, _⟩ => h, fun h => ⟨i 1, h, rfl⟩⟩

/-- Slots do not meet. -/
theorem slotSet_disj : ∀ r ∈ (Finset.univ : Finset (Fin 4)), ∀ r' ∈ (Finset.univ : Finset (Fin 4)), r ≠ r' → Disjoint (slotSet r) (slotSet r') := by
  intro r _ r' _ h
  rw [Finset.disjoint_left]
  intro i hi hi'
  simp only [slotSet, Finset.mem_filter, Finset.mem_univ, true_and] at hi hi'
  exact h (Fin.ext (hi.symm.trans hi'))
/-- The ring is its four slots. -/
theorem slotSet_cover : (Finset.univ : Finset (Fin 4)).biUnion slotSet = Finset.univ := by
  ext i
  simp only [slotSet, Finset.mem_biUnion, Finset.mem_filter, Finset.mem_univ, true_and, iff_true]
  exact ⟨i 0, rfl⟩

/-- Chunks of the landing buffer do not meet. -/
theorem ySet_disj : ∀ r ∈ (Finset.univ : Finset (Fin 32)), ∀ r' ∈ (Finset.univ : Finset (Fin 32)), r ≠ r' → Disjoint (ySet r) (ySet r') := by
  intro r _ r' _ h
  rw [Finset.disjoint_left]
  intro i hi hi'
  simp only [ySet, Finset.mem_filter, Finset.mem_univ, true_and] at hi hi'
  exact h (Fin.ext (by omega))
/-- The landing buffer is its thirty-two chunks. -/
theorem ySet_cover : (Finset.univ : Finset (Fin 32)).biUnion ySet = Finset.univ := by
  ext i
  simp only [ySet, Finset.mem_biUnion, Finset.mem_filter, Finset.mem_univ, true_and, iff_true]
  have h : (i 0).val < 2048 := (i 0).isLt
  exact ⟨⟨(i 0).val / 64, by omega⟩, by show 64 * ((i 0).val / 64) ≤ _ ∧ _ < 64 * ((i 0).val / 64) + 64; omega⟩

/-- The chunks of the own half (`false`) and of the other half (`true`). -/
def halfSet (c : Dev nD) (p : Bool × Fin 32) : Finset S4096x2048.Idx := outSet (if p.1 then xn c else c) p.2

/-- Chunks of the two halves of the result do not meet. -/
theorem halfSet_disj (c : Dev nD) : ∀ r ∈ (Finset.univ : Finset (Bool × Fin 32)), ∀ r' ∈ (Finset.univ : Finset (Bool × Fin 32)), r ≠ r' → Disjoint (halfSet c r) (halfSet c r') := by
  rintro ⟨b, k⟩ _ ⟨b', k'⟩ _ h
  rw [Finset.disjoint_left]
  intro i hi hi'
  simp only [halfSet, outSet, Finset.mem_filter, Finset.mem_univ, true_and] at hi hi'
  have hk := k.isLt
  have hk' := k'.isLt
  have hx := xn_val c
  have hc := my_lt c
  unfold my at hi hi'
  refine h ?_
  cases b <;> cases b' <;> simp only [Bool.false_eq_true, if_false, if_true] at hi hi'
  · exact Prod.ext rfl (Fin.ext (show k.val = k'.val by omega))
  · omega
  · omega
  · exact Prod.ext rfl (Fin.ext (show k.val = k'.val by omega))
/-- The result is the chunks of its two halves. -/
theorem halfSet_cover (c : Dev nD) : (Finset.univ : Finset (Bool × Fin 32)).biUnion (halfSet c) = Finset.univ := by
  ext i
  simp only [halfSet, outSet, Finset.mem_biUnion, Finset.mem_filter, Finset.mem_univ, true_and, iff_true]
  have h : (i 0).val < 4096 := (i 0).isLt
  have hx := xn_val c
  have hc := my_lt c
  by_cases hh : (i 0).val / 2048 = c.val / 8
  · refine ⟨(false, ⟨(i 0).val % 2048 / 64, by omega⟩), ?_⟩
    show 2048 * (c.val / 8) + 64 * ((i 0).val % 2048 / 64) ≤ (i 0).val ∧ (i 0).val < 2048 * (c.val / 8) + 64 * ((i 0).val % 2048 / 64) + 64
    omega
  · refine ⟨(true, ⟨(i 0).val % 2048 / 64, by omega⟩), ?_⟩
    show 2048 * ((xn c).val / 8) + 64 * ((i 0).val % 2048 / 64) ≤ (i 0).val ∧ (i 0).val < 2048 * ((xn c).val / 8) + 64 * ((i 0).val % 2048 / 64) + 64
    omega

/-- The whole output: the sums of the device that owns the row's half. -/
def finT (c : Dev nD) : S4096x2048.Idx → Elt F .bf16 := fun i => if (i 0).val / 2048 = c.val / 8 then sumT J c i else sumT J (xn c) i

/-- On its own half a device's result is its sum. -/
theorem finT_own (c : Dev nD) (k : Fin 32) : ∀ i ∈ outSet c k, finT J c i = sumT J c i := by
  intro i hi
  simp only [outSet, Finset.mem_filter, Finset.mem_univ, true_and] at hi
  have hk := k.isLt
  unfold my at hi
  exact if_pos (by omega)
/-- On the other half it is the x neighbour's sum. -/
theorem finT_other (c : Dev nD) (k : Fin 32) : ∀ i ∈ outSet (xn c) k, finT J c i = sumT J (xn c) i := by
  intro i hi
  simp only [outSet, Finset.mem_filter, Finset.mem_univ, true_and] at hi
  have hk := k.isLt
  have hx := xn_val c
  have hc := my_lt c
  unfold my at hi
  exact if_neg (by omega)

end Cert.KernelIdeal.Emb
-- ==== Proof.Ideal.Setup.lean ====
module

public import proofs.«01_k».proof.Proof.Ideal.Contents
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Batch
public import Idealize.ShloMosaic.Lib.Tactic

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's, the cells' rounds, the copies' counters -/

/-- The ghost state of the signals' rounds. -/
abbrev UB : Type := URounds (GSem nD τ sig) Bool
/-- The whole ghost state: the staging's rounds, the kernel's, and the copies' counters. -/
abbrev UU : Type := URounds (GSem nD τ sig) Unit × (UB × Counters)

local notation "𝕄" => MT nD τ sig Unit (Elt F) ℕ UU ℕ

/-- Where the staging's rounds live. -/
abbrev EP : Emb (URounds (GSem nD τ sig) Unit) (MT nD τ sig Unit (Elt F) ℕ UU ℕ) := embL
/-- The rounds of the cells on which devices meet: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The kernel's rounds are part of the ghost state. -/
instance ER_landsIn : (ER : Emb UB 𝕄).LandsIn (upEmb : UEmb _ 𝕄) := by unfold ER; infer_instance

/-- Where the copies' counters live. -/
abbrev EC : UEmb Counters (MT nD τ sig Unit (Elt F) ℕ UU ℕ) := countersEmb

/-- The kernel needs no variants. -/
abbrev 𝒱₀ : Variants := Variants.none

variable (J : Ins F)

/-! ## The cells -/

/-- The entry barrier's cell of device `c`. -/
abbrev barC (c : Dev nD) : GSem nD τ sig := ((c : Thread nD τ), .reg barrier0)
/-- The cell of chunk `k` of kind `kd` (0: sent along the second axis, 1: received there, 2, 3: the same along the first axis). -/
abbrev tc (kd : Fin 4) (k : Fin 32) (c : Dev nD) : GSem nD τ sig := ((c : Thread nD τ), .dma (tsem kd k))

/-- A transfer cell determines its kind, chunk and device. -/
theorem tc_inj {kd kd' : Fin 4} {k k' : Fin 32} {c c' : Dev nD} (h : tc kd k c = tc kd' k' c') : kd = kd' ∧ k = k' ∧ c = c' := by
  have h1 : c = c' := congrArg (fun g : GSem nD τ sig => g.1.1) h
  have h2 : 7 + 32 * kd.val + k.val = 7 + 32 * kd'.val + k'.val := congrArg Fin.val (SemLoc.dma.inj (Prod.mk.inj h).2)
  have := k.isLt
  have := k'.isLt
  exact ⟨Fin.ext (by omega), Fin.ext (by omega), h1⟩

/-! ## Buffers of a device -/

/-- Rows of the output window of device `c`. -/
abbrev oPt (c : Dev nD) (S : Finset S4096x2048.Idx) (f : S4096x2048.Idx → Elt F .bf16) : sProp 𝕄 :=
  mO.view.loc (c : Thread nD τ) ↦[S]{fullShare} f
/-- Rows of the receive buffer of device `c`. -/
abbrev yPt (c : Dev nD) (S : Finset S2048x2048.Idx) (f : S2048x2048.Idx → Elt F .bf16) : sProp 𝕄 :=
  mY.view.loc (c : Thread nD τ) ↦[S]{fullShare} f
/-- Rows of the ring of device `c`. -/
abbrev gPt (c : Dev nD) (S : Finset S4x64x2048.Idx) (f : S4x64x2048.Idx → Elt F .f32) : sProp 𝕄 :=
  mG.view.loc (c : Thread nD τ) ↦[S]{fullShare} f

/-- The units one chunk copy signals. -/
abbrev NC : ℕ := (ybM 0).view.dmaCredit
/-- A chunk's transfer pays something. -/
theorem NC_pos : 0 < NC := View.dmaCredit_pos _ (by decide)
/-- A chunk sent pays a chunk's amount. -/
theorem out_credit (c : Dev nD) (k : Fin 32) : (outM c k).view.dmaCredit = NC := rfl
/-- A chunk landed pays a chunk's amount. -/
theorem yb_credit (k : Fin 32) : (ybM k).view.dmaCredit = NC := rfl

/-! ## The schedule -/

/-- What device `yn c` hands device `c` at the barrier about chunk `k`: its receive rows, and that its receive cell is open. -/
def yWin (c : Dev nD) (k : Fin 32) : sProp 𝕄 :=
  iprop((∃ f, yPt (yn c) (ySet k) f) ∗ reached ER (tc 1 k (yn c)) 0)
/-- What device `xn c` hands device `c` at the barrier about chunk `k`: the rows of its output, and that its receive cell is open. -/
def xWin (c : Dev nD) (k : Fin 32) : sProp 𝕄 :=
  iprop((∃ f, oPt (xn c) (outSet c k) f) ∗ reached ER (tc 3 k (xn c)) 0)

/-- What a copy of kind `kd` of chunk `k` hands the owner of its cell. -/
def pay (kd : ℕ) (c : Dev nD) (k : Fin 32) : sProp 𝕄 :=
  if kd = 0 then oPt c (outSet c k) (partT J c)
  else if kd = 1 then yPt c (ySet k) (ybT J c)
  else if kd = 2 then oPt c (outSet c k) (sumT J c)
  else oPt c (outSet (xn c) k) (sumT J (xn c))

/-- What a signal of the entry barrier hands over: `false` from the neighbour along the second axis, `true` along the first. -/
def bpay (c : Dev nD) (d : Bool) : sProp 𝕄 :=
  if d then bigSep Finset.univ (xWin c) else bigSep Finset.univ (yWin c)

/-- One round per cell: two signals on a barrier cell, one copy on a chunk's cell. -/
def sched : Schedule (GSem nD τ sig) Bool 𝕄 where
  duties g r := if r = 0 ∧ g.1.2 = .tc then
      (match g.2 with
        | .reg s => if s = barrier0 then Finset.univ else ∅
        | .dma s => if 7 ≤ s.val then {false} else ∅) else ∅
  amount g _ _ := match g.2 with
    | .reg _ => 1
    | .dma _ => NC
  payload g _ d := match g.2 with
    | .reg _ => bpay g.1.1 d
    | .dma s => pay J ((s.val - 7) / 32) g.1.1 (Fin.ofNat 32 (s.val - 7))
  amount_pos g _ _ _ := by
    rcases g with ⟨t, sm⟩
    cases sm with
    | reg s => exact Nat.one_pos
    | dma s => exact NC_pos

/-- The lent landing chunk can be kept in an invariant. -/
instance yWin_storable (c : Dev nD) (k : Fin 32) : BI.Storable (upEmb : UEmb _ 𝕄) (yWin (F := F) c k) := by unfold yWin; infer_instance
/-- The lent result chunk can be kept in an invariant. -/
instance xWin_storable (c : Dev nD) (k : Fin 32) : BI.Storable (upEmb : UEmb _ 𝕄) (xWin (F := F) c k) := by unfold xWin; infer_instance
/-- What a handshake's signal carries can be kept in an invariant. -/
instance bpay_storable (c : Dev nD) (d : Bool) : BI.Storable (upEmb : UEmb _ 𝕄) (bpay (F := F) c d) := by unfold bpay; split <;> infer_instance
/-- What a transfer carries can be kept in an invariant. -/
instance pay_storable (kd : ℕ) (c : Dev nD) (k : Fin 32) : BI.Storable (upEmb : UEmb _ 𝕄) (pay J kd c k) := by
  unfold pay; (repeat' split) <;> infer_instance

/-- Everything in the schedule can be kept in an invariant. -/
instance sched_storable (g : GSem nD τ sig) (r : ℕ) (d : Bool) : BI.Storable (upEmb : UEmb _ 𝕄) ((sched J).payload g r d) := by
  rcases g with ⟨t, sm⟩
  cases sm with
  | reg s => exact bpay_storable _ _
  | dma s => exact pay_storable J _ _ _

/-- Two signals are due at a barrier cell. -/
theorem duties_bar (c : Dev nD) : (sched J).duties (barC c) 0 = Finset.univ := rfl
/-- One payment is due at a transfer cell. -/
theorem duties_t (kd : Fin 4) (k : Fin 32) (c : Dev nD) : (sched J).duties (tc kd k c) 0 = {false} := by
  dsimp only [sched]
  rw [if_pos ⟨rfl, rfl⟩]
  exact if_pos (show 7 ≤ 7 + 32 * kd.val + k.val by omega)
/-- Nothing is due after the first round. -/
theorem duties_later (g : GSem nD τ sig) (r : ℕ) (h : 0 < r) : (sched J).duties g r = ∅ := by
  dsimp only [sched]; exact if_neg fun h' => by omega
/-- A handshake's signal is worth one. -/
theorem amount_bar (c : Dev nD) (d : Bool) : (sched J).amount (barC c) 0 d = 1 := rfl
/-- A transfer pays a chunk's amount. -/
theorem amount_t (kd : Fin 4) (k : Fin 32) (c : Dev nD) (d : Bool) : (sched J).amount (tc kd k c) 0 d = NC := rfl
/-- What a handshake's signal carries. -/
theorem payload_bar (c : Dev nD) (d : Bool) : (sched J).payload (barC c) 0 d = bpay c d := rfl
/-- What a transfer carries. -/
theorem payload_t (kd : Fin 4) (k : Fin 32) (c : Dev nD) (d : Bool) : (sched J).payload (tc kd k c) 0 d = pay J kd.val c k := by
  have h := k.isLt
  show pay J ((7 + 32 * kd.val + k.val - 7) / 32) c (Fin.ofNat 32 (7 + 32 * kd.val + k.val - 7)) = _
  rw [show (7 + 32 * kd.val + k.val - 7) / 32 = kd.val by omega]
  congr 1
  exact Fin.ext (show (7 + 32 * kd.val + k.val - 7) % 32 = k.val by omega)
/-- A barrier cell's round is complete at two. -/
theorem expect_bar (c : Dev nD) : (sched J).expect (barC c) 0 = 2 := rfl
/-- A transfer cell's round is complete at a chunk's amount. -/
theorem expect_t (kd : Fin 4) (k : Fin 32) (c : Dev nD) : (sched J).expect (tc kd k c) 0 = NC := by
  unfold Schedule.expect Schedule.amountOf
  rw [duties_t, Finset.sum_singleton, amount_t]
/-- A complete handshake hands over every chunk that the device may copy into. -/
theorem rest_bar (c : Dev nD) : bigSep ((sched J).duties (barC c) 0 \ ∅) ((sched J).payload (barC c) 0)
    = (iprop(bigSep Finset.univ (yWin c) ∗ bigSep Finset.univ (xWin c)) : sProp 𝕄) := by
  rw [Finset.sdiff_empty, duties_bar, show (Finset.univ : Finset Bool) = insert false {true} by decide, bigSep_insert (by decide), bigSep_singleton, payload_bar, payload_bar]
  rfl
/-- A complete transfer hands over what it carries. -/
theorem rest_t (kd : Fin 4) (k : Fin 32) (c : Dev nD) :
    bigSep ((sched J).duties (tc kd k c) 0 \ ∅) ((sched J).payload (tc kd k c) 0) = (pay J kd.val c k : sProp 𝕄) := by
  rw [Finset.sdiff_empty, duties_t, bigSep_singleton, payload_t]

/-! ## Levels and what a device owes -/

/-- Every cell of a TensorCore is waited on at the one index. -/
def L (g : GSem nD τ sig) : Finset Unit := if g.1.2 = .tc then {()} else ∅
/-- The order of the waits: local copies, the barrier, the receives along the second axis by chunk, those along the first. -/
def lv (g : GSem nD τ sig) (_ : Unit) : ℕ := match g.2 with
  | .reg _ => 1
  | .dma s => if s.val < 39 then 0 else if s.val < 71 then s.val - 37 else if s.val < 103 then 0 else 64

/-- Every cell of a device's core has the one tag. -/
theorem L_tc (c : Dev nD) (sm : SemLoc sig) : L ((c : Thread nD τ), sm) = {()} := if_pos rfl
/-- The level at which chunk `k`'s arrival along y is awaited. -/
theorem lv_one (k : Fin 32) (c : Dev nD) : lv (tc 1 k c) () = 2 + k.val := by
  have := k.isLt
  show (if 7 + 32 * 1 + k.val < 39 then 0 else if 7 + 32 * 1 + k.val < 71 then 7 + 32 * 1 + k.val - 37 else _) = _
  rw [if_neg (by omega), if_pos (by omega)]; omega
/-- The level of what was sent along y. -/
theorem lv_zero (k : Fin 32) (c : Dev nD) : lv (tc 0 k c) () = 0 := by
  have := k.isLt
  exact if_pos (show 7 + 32 * 0 + k.val < 39 by omega)
/-- The level of the arrivals along x. -/
theorem lv_three (k : Fin 32) (c : Dev nD) : lv (tc 3 k c) () = 64 := by
  show (if 7 + 32 * 3 + k.val < 39 then 0 else if 7 + 32 * 3 + k.val < 71 then 7 + 32 * 3 + k.val - 37 else if 7 + 32 * 3 + k.val < 103 then 0 else 64) = _
  rw [if_neg (by omega), if_neg (by omega), if_neg (by omega)]

/-- The copies of chunks `i`, `i + 1`, … that device `p` is still to receive on its cells of kind `kd`. -/
def owed (kd : Fin 4) (p : Dev nD) (i : ℕ) : CellTallies nD τ sig Unit :=
  ∑ k ∈ Finset.univ.filter (fun k : Fin 32 => i ≤ k.val), tallyAt (tc kd k p) () NC

/-- What is owed from chunk `k` on is chunk `k` and what is owed from the next. -/
theorem owed_step (kd : Fin 4) (p : Dev nD) (k : Fin 32) : owed kd p k.val = owed kd p (k.val + 1) + tallyAt (tc kd k p) () NC := by
  unfold owed
  rw [show (Finset.univ.filter fun k' : Fin 32 => k.val ≤ k'.val) = insert k (Finset.univ.filter fun k' : Fin 32 => k.val + 1 ≤ k'.val) by
    ext x; simp only [Finset.mem_filter, Finset.mem_univ, true_and, Finset.mem_insert, Fin.ext_iff]; omega,
    Finset.sum_insert (by simp), add_comm]
/-- After the last chunk nothing is owed. -/
theorem owed_last (kd : Fin 4) (p : Dev nD) : owed kd p 32 = 0 := by
  unfold owed
  rw [Finset.filter_false_of_mem (fun k _ => by have := k.isLt; omega), Finset.sum_empty]
/-- Whatever is owed is owed to a chunk not yet sent. -/
theorem owed_pos {kd : Fin 4} {p : Dev nD} {i : ℕ} {g : GSem nD τ sig} {u : Unit} (h : 0 < owed kd p i g u) : ∃ k : Fin 32, i ≤ k.val ∧ g = tc kd k p := by
  unfold owed at h
  rw [Finset.sum_apply, Finsupp.finsetSum_apply] at h
  obtain ⟨k, hk, h'⟩ := Finset.exists_ne_zero_of_sum_ne_zero (Nat.pos_iff_ne_zero.mp h)
  rw [tallyAt_apply] at h'
  exact ⟨k, (Finset.mem_filter.mp hk).2, (of_not_not fun hn => h' (if_neg hn) : _ ∧ _).1⟩

/-- What device `c` owes once it has met the others: the copies of chunks from `i` along the second axis, from `j` along the first. -/
abbrev owe (c : Dev nD) (i j : ℕ) : CellTallies nD τ sig Unit := owed 1 (yn c) i + owed 3 (xn c) j

/-- Sending chunk `k` along y pays its part of the debt. -/
theorem owe_y (c : Dev nD) (k : Fin 32) (j : ℕ) : owe c k.val j = owe c (k.val + 1) j + tallyAt (tc 1 k (yn c)) () NC := by
  unfold owe; rw [owed_step 1 (yn c) k]; exact add_right_comm _ _ _
/-- Sending chunk `k` along x pays its part of the debt. -/
theorem owe_x (c : Dev nD) (k : Fin 32) (i : ℕ) : owe c i k.val = owe c i (k.val + 1) + tallyAt (tc 3 k (xn c)) () NC := by
  unfold owe; rw [owed_step 3 (xn c) k]; exact (add_assoc _ _ _).symm
/-- When all is sent nothing is owed. -/
theorem owe_last (c : Dev nD) : owe c 32 32 = 0 := by unfold owe; rw [owed_last, owed_last, add_zero]

/-- The waits a device makes are in order: the cell waited on lies below all it owes. -/
theorem mayWait (c : Dev nD) (sm : SemLoc sig) (b i j : ℕ) (hb : lv ((c : Thread nD τ), sm) () ≤ b) (hi : b < 2 + i) (hj : b < 64) :
    (levAts L lv : sProp 𝕄) ⊢ MayWait (c : Thread nD τ) sm () (owe c i j) := by
  have key : ∀ (g : GSem nD τ sig) (u : Unit), 0 < owe c i j g u → (∃ k : Fin 32, i ≤ k.val ∧ g = tc 1 k (yn c)) ∨ ∃ k : Fin 32, j ≤ k.val ∧ g = tc 3 k (xn c) := by
    intro g u h
    have h' : 0 < owed 1 (yn c) i g u + owed 3 (xn c) j g u := h
    rcases Nat.eq_zero_or_pos (owed 1 (yn c) i g u) with h0 | h0
    · exact .inr (owed_pos (show 0 < owed 3 (xn c) j g u by omega))
    · exact .inl (owed_pos h0)
  exact MayOwe.of_cut (L := L) (lev := lv) b (fun p hp => by rw [Finset.mem_singleton.mp hp, L_tc]; exact Finset.mem_singleton_self _)
    (fun g u hg => by
      rcases key g u hg with ⟨k, _, rfl⟩ | ⟨k, _, rfl⟩ <;> rw [L_tc] <;> exact Finset.mem_singleton_self _)
    (fun p hp => by rw [Finset.mem_singleton.mp hp]; exact hb)
    (fun g u hg => by
      rcases key g u hg with ⟨k, hk, rfl⟩ | ⟨k, _, rfl⟩
      · rw [lv_one]; omega
      · rw [lv_three]; exact hj)

/-! ## The cells' invariants -/

/-- The invariants of every cell on which devices meet. -/
def invs (K : GSem nD τ sig → ℕ) : sProp 𝕄 :=
  iprop((bigSep Finset.univ fun c : Dev nD => cellInv ER (sched J) (K (barC c)) (barC c))
    ∗ bigSep Finset.univ fun p : Fin 4 × Fin 32 × Dev nD => cellInv ER (sched J) (K (tc p.1 p.2.1 p.2.2)) (tc p.1 p.2.1 p.2.2))
/-- The cells' invariants can be used again and again. -/
instance invs_persistent (K : GSem nD τ sig → ℕ) : BI.Persistent (invs J K) := by unfold invs; infer_instance

/-- The invariant of a barrier cell is among them. -/
theorem inv_bar (K : GSem nD τ sig → ℕ) (c : Dev nD) : invs J K ⊢ cellInv ER (sched J) (K (barC c)) (barC c) :=
  sep_elim_left.trans (bigSep_elim (Φ := fun c : Dev nD => cellInv ER (sched J) (K (barC c)) (barC c)) (Finset.mem_univ c))
/-- The invariant of a transfer cell is among them. -/
theorem inv_t (K : GSem nD τ sig → ℕ) (kd : Fin 4) (k : Fin 32) (c : Dev nD) : invs J K ⊢ cellInv ER (sched J) (K (tc kd k c)) (tc kd k c) :=
  sep_elim_right.trans (bigSep_elim (Φ := fun p : Fin 4 × Fin 32 × Dev nD => cellInv ER (sched J) (K (tc p.1 p.2.1 p.2.2)) (tc p.1 p.2.1 p.2.2)) (Finset.mem_univ (kd, k, c)))

/-! ## Families over the chunks -/

/-- Take one member out of a family and put another back, the other members the same. -/
theorem swap_one {I : Type} [Fintype I] [DecidableEq I] (a : I) {Φ Φ' : I → sProp 𝕄} (h : ∀ i, i ≠ a → Φ i = Φ' i) :
    bigSep Finset.univ Φ ⊢ iprop(Φ a ∗ (Φ' a -∗ bigSep Finset.univ Φ')) := by
  have h' : bigSep (Finset.univ.erase a) Φ = bigSep (Finset.univ.erase a) Φ' := bigSep_congr fun i hi => h i (Finset.ne_of_mem_erase hi)
  refine (Entails.of_eq (bigSep_univ_split a)).trans ?_
  rw [h']
  show iprop(Φ a ∗ bigSep (Finset.univ.erase a) Φ') ⊢ _
  iintro ⟨H, HR⟩
  isplitl [H]; · iexact H
  iintro H
  iapply (show iprop(Φ' a ∗ bigSep (Finset.univ.erase a) Φ') ⊢ bigSep Finset.univ Φ' from Entails.of_eq (bigSep_univ_split a).symm)
  isplitl [H]; · iexact H
  iexact HR

/-- Two families side by side are a family of pairs. -/
theorem bs_join {I : Type} (S : Finset I) (Φ Ψ : I → sProp 𝕄) : iprop(bigSep S Φ ∗ bigSep S Ψ) ⊢ bigSep S fun i => iprop(Φ i ∗ Ψ i) :=
  Entails.of_eq (bigSep_sep S Φ Ψ).symm
/-- A family of pairs is two families side by side. -/
theorem bs_split {I : Type} (S : Finset I) (Φ Ψ : I → sProp 𝕄) : (bigSep S fun i => iprop(Φ i ∗ Ψ i)) ⊢ iprop(bigSep S Φ ∗ bigSep S Ψ) :=
  Entails.of_eq (bigSep_sep S Φ Ψ)

/-- A family grows member by member. -/
theorem bs_mono {I : Type} (S : Finset I) {Φ Ψ : I → sProp 𝕄} (h : ∀ i, Φ i ⊢ Ψ i) : bigSep S Φ ⊢ bigSep S Ψ :=
  bigSep_mono fun i _ => h i

/-- Elements of a buffer, part by part. -/
theorem pts_family {ℓ : Loc nD τ sig} {q : PosShare TreeShare} {f : Buf (Elt F) ℓ} {T : Type} [Fintype T] (K : T → Finset (Idx ℓ)) {S : Finset (Idx ℓ)}
    (hd : ∀ t ∈ (Finset.univ : Finset T), ∀ t' ∈ (Finset.univ : Finset T), t ≠ t' → Disjoint (K t) (K t')) (hc : Finset.univ.biUnion K = S) :
    (ℓ ↦[S]{q} f : sProp 𝕄) = bigSep Finset.univ fun t => ℓ ↦[K t]{q} f := by
  rw [← hc]; exact pointsTo_biUnion Finset.univ K hd

end Cert.KernelIdeal.Emb
-- ==== Proof.Ideal.Gather.lean ====
module

public import proofs.«01_k».proof.Proof.Ideal.Setup

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Ins F)

/-! ## Row copies into a slot of the ring -/

/-- The row numbers of device `c`. -/
abbrev iPt (c : Dev nD) : sProp 𝕄 := mI.view.loc (c : Thread nD τ) ↦[Finset.univ]{fullShare} J.ids c

/-- The share of the table that the copy into row `r` of slot `n` reads with. -/
abbrev tShare (n : Fin 4) (r : Fin 64) : PosShare TreeShare := Transfers.shareTok fullShare 256 ⟨64 * n.val + r.val, by have := n.isLt; have := r.isLt; omega⟩
/-- A share of the table, kept for row `r` of slot `n`, on the elements of `S`. -/
abbrev tPt (c : Dev nD) (n : Fin 4) (r : Fin 64) (S : Finset S8192x2048.Idx) : sProp 𝕄 :=
  mE.view.loc (c : Thread nD τ) ↦[S]{tShare n r} J.tab c

/-- The number of the table row that the copy into ring row `r` of chunk `s` reads. -/
abbrev idAt (c : Dev nD) (s : Fin 32) (r : Fin 64) : BitVec 32 := J.ids c (ix1 (Fin.ofNat 4096 (my c + 64 * s.val + r.val)))
/-- The elements of that table row. -/
def srcSet (c : Dev nD) (s : Fin 32) (r : Fin 64) : Finset S8192x2048.Idx :=
  Finset.univ.filter fun i => (i 0).val = (idAt J c s r).toNat

/-- The elements of the row numbered `v`. -/
theorem tabM_set (v : BitVec 32) (h : chkE v) : (tabM v h).view.set = Finset.univ.filter fun i : S8192x2048.Idx => (i 0).val = v.toNat := by
  refine (View.set_slice_whole _ _).trans ?_
  ext i
  rw [Rect.mem_set_unit]
  simp only [Finset.mem_filter, Finset.mem_univ, true_and]
  have h : (i 1).val < 2048 := (i 1).isLt
  constructor
  · intro H
    have := H 0
    have h1 : v.toNat ≤ (i 0).val ∧ (i 0).val < v.toNat + 1 := this
    omega
  · intro H a
    match a with
    | ⟨0, _⟩ => show v.toNat ≤ (i 0).val ∧ (i 0).val < v.toNat + 1; omega
    | ⟨1, _⟩ => show 0 ≤ (i 1).val ∧ (i 1).val < 0 + 2048; omega

/-- What the copy into row `r` of slot `n` delivers: the row of the table, and the share it read with. -/
def deliv (c : Dev nD) (s : Fin 32) (n : Fin 4) (r : Fin 64) : sProp 𝕄 :=
  iprop(gPt c (rowSet n r) (ringT J c s) ∗ tPt J c n r (srcSet J c s r))
/-- What a row's copy delivers can be kept in an invariant. -/
instance deliv_storable (c : Dev nD) (s : Fin 32) (n : Fin 4) (r : Fin 64) : BI.Storable (upEmb : UEmb _ 𝕄) (deliv J c s n r) := by unfold deliv; infer_instance

/-- The units of one row copy. -/
abbrev NR : ℕ := (wdst 0).view.dmaCredit
/-- A row's copy pays something. -/
theorem NR_pos : 0 < NR := View.dmaCredit_pos _ (by decide)

/-- The rows of slot `n` while the copies of chunk `s` are issued, `j` of them so far. -/
abbrev rowFam (c : Dev nD) (s : Fin 32) (n : Fin 4) (j : ℕ) : sProp 𝕄 :=
  bigSep Finset.univ fun r : Fin 64 => if r.val < j then tPt J c n r (Finset.univ \ srcSet J c s r)
    else iprop((∃ f, gPt c (rowSet n r) f) ∗ tPt J c n r Finset.univ)
/-- Of chunk `s`'s copies into slot `n`, `j` are started and `u` are awaited. -/
abbrev batch (c : Dev nD) (s : Fin 32) (n : Fin 4) (j u : ℕ) : sProp 𝕄 :=
  Transfers.Batch EC (c : Thread nD τ) (.dma (gsem n)) () NR (deliv J c s n) j u

/-- One row copy of the gather. -/
theorem row_wp (hJ : ∀ c i, (J.ids c i).toNat < 8192) (c : Dev nD) (s : Fin 32) (n : Fin 4) (t j : Fin 8) {Q : PUnit → sProp 𝕄} :
    iprop((iPt J c ∗ batch J c s n (rw8 t j).val 0 ∗ rowFam J c s n (rw8 t j).val)
      ∗ ((iPt J c ∗ batch J c s n ((rw8 t j).val + 1) 0 ∗ rowFam J c s n ((rw8 t j).val + 1)) -∗ Q ⟨⟩))
    ⊢ wp frame (wpE (defs₀ (F := F)) 𝒱₀ (c : Thread nD τ) none) Set.univ (row c s n t j) Q := by
  have hb : (idAt J c s (rw8 t j)).toNat < 8192 := hJ c _
  have hc : chkE (idAt J c s (rw8 t j)) := fun a => by
    match a with
    | ⟨0, _⟩ => show (idAt J c s (rw8 t j)).toNat + 1 ≤ 8192; omega
    | ⟨1, _⟩ => show 0 + 2048 ≤ 2048; omega
  iintro ⟨⟨HI, HB, HF⟩, HK⟩
  unfold row smemLoad
  rw [wp_bind]
  iapply (wp_smemLoadElt 𝒱₀ (c : Thread nD τ) none Set.univ (m := mI) (r := Rect.unit (s := S4096) (offI c s t j) S1.size (offI_inb c s t j)) (k := Prog.ret) (S := Finset.univ) (q := fullShare) (f := J.ids c) (Finset.subset_univ _)) $$ HI
  iintro HI
  rw [wp_ret]
  imodintro
  rw [ids_val, wp_bind]
  iapply (wp_assume 𝒱₀ (c : Thread nD τ) none Set.univ hc)
  rw [wp_ret]
  imodintro
  ihave HF' := (swap_one (rw8 t j) (Φ' := fun r : Fin 64 => if r.val < (rw8 t j).val + 1 then tPt J c n r (Finset.univ \ srcSet J c s r)
    else iprop((∃ f, gPt c (rowSet n r) f) ∗ tPt J c n r Finset.univ)) (fun i hi => by
      have : i.val ≠ (rw8 t j).val := fun h => hi (Fin.ext h)
      by_cases h : i.val < (rw8 t j).val
      · rw [if_pos h, if_pos (by omega)]
      · rw [if_neg h, if_neg (by omega)])) $$ HF
  rw [if_neg (Nat.lt_irrefl _), if_pos (Nat.lt_succ_self _)]
  icases HF' with ⟨⟨⟨%f, HG⟩, HT⟩, HF⟩
  ihave HT' := (pointsTo_split_subset (Finset.subset_univ (srcSet J c s (rw8 t j)))).mp $$ HT
  icases HT' with ⟨HT, HR⟩
  iapply (Transfers.wp_dmaBatch EC 𝒱₀ (c : Thread nD τ) none (src := tabM _ hc) (dst := rowM n t j) (sm := .dma (gsem n))
    (q := tShare n (rw8 t j)) (fs := J.tab c) (Sd := rowSet n (rw8 t j)) (fd := f) (D := deliv J c s n) () NR rfl
    (by rw [rowM_set]) (j := (rw8 t j).val) (u := 0) (rw8 t j).isLt (Nat.zero_le _) (by
      unfold deliv
      rw [tabM_set]
      refine sep_mono (Entails.of_eq (pointsTo_congr (row_val J c s n t j hc hb f))) .rfl)) $$ [HT HG HB]
  · rw [tabM_set]
    isplitl [HT]; · iexact HT
    isplitl [HG]; · iexact HG
    iexact HB
  iintro HB
  rw [wp_ret]
  imodintro
  iapply HK
  isplitl [HI]; · iexact HI
  isplitl [HB]; · iexact HB
  iapply HF $$ HR

/-- What a device owes, whatever waits it has recorded. -/
abbrev ow (c : Dev nD) (O : CellTallies nD τ sig Unit) : sProp 𝕄 := iprop(∃ W, owes (c : Thread nD τ) O W)

/-- A slot with no copy in flight. -/
def slotFree (c : Dev nD) (n : Fin 4) : sProp 𝕄 :=
  iprop((∃ f, gPt c (slotSet n) f) ∗ semVal ((c : Thread nD τ), .dma (gsem n)) 0 ∗ bigSep Finset.univ fun r : Fin 64 => tPt J c n r Finset.univ)
/-- A slot into which the copies of chunk `s` are in flight. -/
def slotBusy (c : Dev nD) (s : Fin 32) (n : Fin 4) : sProp 𝕄 :=
  iprop(batch J c s n 64 0 ∗ bigSep Finset.univ fun r : Fin 64 => tPt J c n r (Finset.univ \ srcSet J c s r))

/-- The rows of a slot, and the slot whole. -/
theorem slot_rows (c : Dev nD) (n : Fin 4) (f : S4x64x2048.Idx → Elt F .f32) :
    gPt c (slotSet n) f = (bigSep Finset.univ fun r : Fin 64 => gPt c (rowSet n r) f : sProp 𝕄) := by
  exact pts_family (ℓ := mG.view.loc (c : Thread nD τ)) (rowSet n) (rowSet_disj n) (rowSet_cover n)

/-- One trip of the issuing loop: eight row copies. -/
theorem issue_trip (hJ : ∀ c i, (J.ids c i).toNat < 8192) (c : Dev nD) (s : Fin 32) (n : Fin 4) (t : Fin issueLoop.trips) (u : Unit) :
    iprop(iPt J c ∗ batch J c s n (8 * t.val) 0 ∗ rowFam J c s n (8 * t.val))
    ⊢ wp frame (wpE (defs₀ (F := F)) 𝒱₀ (c : Thread nD τ) none) Set.univ (issueBody c s n t u)
      (fun _ => iprop(iPt J c ∗ batch J c s n (8 * (t.val + 1)) 0 ∗ rowFam J c s n (8 * (t.val + 1)))) := by
  unfold issueBody
  have hr := fun (j : Fin 8) (Q : PUnit → sProp 𝕄) (hQ : iprop(iPt J c ∗ batch J c s n ((rw8 (t.cast issue_trips) j).val + 1) 0
      ∗ rowFam J c s n ((rw8 (t.cast issue_trips) j).val + 1)) ⊢ Q ⟨⟩) =>
    (show iprop(iPt J c ∗ batch J c s n (rw8 (t.cast issue_trips) j).val 0 ∗ rowFam J c s n (rw8 (t.cast issue_trips) j).val)
      ⊢ wp frame (wpE (defs₀ (F := F)) 𝒱₀ (c : Thread nD τ) none) Set.univ (row c s n (t.cast issue_trips) j) Q from by
        refine BIBase.Entails.trans ?_ (row_wp J hJ c s n (t.cast issue_trips) j)
        iintro H
        isplitl [H]; · iexact H
        iintro H
        iapply hQ $$ H)
  rw [wp_bind]
  refine hr 0 _ ?_
  rw [wp_bind]
  refine hr 1 _ ?_
  rw [wp_bind]
  refine hr 2 _ ?_
  rw [wp_bind]
  refine hr 3 _ ?_
  rw [wp_bind]
  refine hr 4 _ ?_
  rw [wp_bind]
  refine hr 5 _ ?_
  rw [wp_bind]
  refine hr 6 _ ?_
  rw [wp_bind]
  refine hr 7 _ ?_
  rw [wp_pure]
  iintro H
  imodintro
  iexact H

/-- The 64 row copies of chunk `s`, issued into slot `n`. -/
theorem issue_wp (hJ : ∀ c i, (J.ids c i).toNat < 8192) (c : Dev nD) (s : Fin 32) (n : Fin 4) {Q : Unit → sProp 𝕄} :
    iprop((iPt J c ∗ slotFree J c n) ∗ ((iPt J c ∗ slotBusy J c s n) -∗ Q ⟨⟩))
    ⊢ wp frame (wpE (defs₀ (F := F)) 𝒱₀ (c : Thread nD τ) none) Set.univ (issue c s n) Q := by
  unfold slotFree slotBusy
  iintro ⟨⟨HI, ⟨%f, HG⟩, Hv, HT⟩, HK⟩
  imod (Transfers.batch_alloc' EC (c : Thread nD τ) () NR (deliv J c s n) (E := Set.univ)) $$ Hv with HB
  ihave HG' := (Entails.of_eq (slot_rows c n f)) $$ HG
  ihave HF := (show iprop((bigSep Finset.univ fun r : Fin 64 => gPt c (rowSet n r) f) ∗ bigSep Finset.univ fun r : Fin 64 => tPt J c n r Finset.univ)
      ⊢ rowFam J c s n 0 from by
    refine (bs_join _ _ _).trans (bs_mono _ fun r => ?_)
    rw [if_neg (Nat.not_lt_zero _)]
    iintro ⟨H, HT⟩
    isplitl [H]; · iexists f; iexact H
    iexact HT) $$ [HG' HT]
  · isplitl [HG']; · iexact HG'
    iexact HT
  iapply (Scf.wp_for frame (wpE (defs₀ (F := F)) 𝒱₀ (c : Thread nD τ) none) Set.univ issueLoop.lb issueLoop.ub issueLoop.st issue_ok ⟨⟩ (issueBody c s n)
    (fun t _ => iprop(iPt J c ∗ batch J c s n (8 * t) 0 ∗ rowFam J c s n (8 * t))) (fun t u => issue_trip J hJ c s n t u))
  isplitl [HI HB HF]
  · isplitl [HI]; · iexact HI
    isplitl [HB]; · iexact HB
    iexact HF
  iintro %u
  obtain rfl : u = PUnit.unit := rfl
  iintro ⟨HI, HB, HF⟩
  iapply HK
  isplitl [HI]; · iexact HI
  isplitl [HB]; · iexact HB
  rw [show Scf.trips issueLoop.lb issueLoop.ub issueLoop.st = 8 from issue_trips]
  iapply (show rowFam J c s n (8 * 8) ⊢ bigSep Finset.univ fun r : Fin 64 => tPt J c n r (Finset.univ \ srcSet J c s r) from
    bs_mono _ fun r => by rw [if_pos r.isLt]) $$ HF

/-- The slots' semaphores are of the lowest level. -/
theorem gsem_level (c : Dev nD) (n : Fin 4) : lv ((c : Thread nD τ), .dma (gsem n)) () = 0 := by
  have h := n.isLt
  show (if (gsem n).val < 39 then 0 else _) = 0
  rw [if_pos]
  revert n; decide

/-- The state of slot `n` after `t` of the 64 waits. -/
def waitInv (c : Dev nD) (s : Fin 32) (n : Fin 4) (i j t : ℕ) : sProp 𝕄 :=
  iprop(MayWait (c : Thread nD τ) (.dma (gsem n)) () (owe c i j) ∗ (if t < 64 then batch J c s n 64 (t * NR)
      else iprop(bigSep Finset.univ (deliv J c s n) ∗ semVal ((c : Thread nD τ), .dma (gsem n)) 0)) ∗ ow c (owe c i j))

/-- One wait for a row copy of slot `n`. -/
theorem wait_trip (c : Dev nD) (s : Fin 32) (n : Fin 4) (i j : ℕ) (t : Fin waitLoop.trips) (u : Unit) :
    waitInv J c s n i j t.val
    ⊢ wp frame (wpE (defs₀ (F := F)) 𝒱₀ (c : Thread nD τ) none) Set.univ (waitBody n t u) (fun _ => waitInv J c s n i j (t.val + 1)) := by
  unfold waitInv
  have ht : t.val < 64 := t.isLt.trans_eq wait_trips
  have hN := NR_pos
  unfold waitBody
  rw [if_pos ht, wp_bind]
  iintro ⟨#Hm, HB, ⟨%W, HO⟩⟩
  rcases Nat.lt_or_ge (t.val + 1) 64 with h | h
  · rw [if_pos h]
    iapply (Transfers.wp_waitBatchO EC 𝒱₀ (c : Thread nD τ) none () (N := NR) (srcw := wsrc) (dstw := wdst n) rfl (D := deliv J c s n) (u := t.val * NR)
      (by rw [← Nat.succ_mul, Nat.mul_comm NR 64]; exact Nat.mul_lt_mul_of_pos_right h hN)) $$ [HB HO]
    · isplitl [HB]; · iexact HB
      isplitl [HO]; · iexact HO
      iexact Hm
    iintro ⟨HB, HO⟩
    rw [wp_ret]; imodintro
    rw [wp_pure]; imodintro
    isplitr; · iexact Hm
    isplitl [HB]
    · rw [Nat.succ_mul]; iexact HB
    iexists _; iexact HO
  · rw [if_neg (by omega)]
    iapply (Transfers.wp_waitBatchLastO EC 𝒱₀ (c : Thread nD τ) none () (N := NR) (srcw := wsrc) (dstw := wdst n) rfl NR_pos (D := deliv J c s n) (u := t.val * NR)
      (by rw [show t.val = 63 by omega, ← Nat.succ_mul, Nat.mul_comm])) $$ [HB HO]
    · isplitl [HB]; · iexact HB
      isplitl [HO]; · iexact HO
      iexact Hm
    iintro ⟨HD, Hv, HO⟩
    rw [wp_ret]; imodintro
    rw [wp_pure]; imodintro
    isplitr; · iexact Hm
    isplitl [HD Hv]
    · isplitl [HD]; · iexact HD
      iexact Hv
    iexists _; iexact HO

/-- The 64 waits for the row copies of slot `n`: afterwards the slot holds the rows. -/
theorem waits_wp (c : Dev nD) (s : Fin 32) (n : Fin 4) (i j : ℕ) {Q : Unit → sProp 𝕄} :
    iprop((levAts L lv ∗ slotBusy J c s n ∗ ow c (owe c i j)) ∗ ((gPt c (slotSet n) (ringT J c s) ∗ semVal ((c : Thread nD τ), .dma (gsem n)) 0
        ∗ (bigSep Finset.univ fun r : Fin 64 => tPt J c n r Finset.univ) ∗ ow c (owe c i j)) -∗ Q ⟨⟩))
    ⊢ wp frame (wpE (defs₀ (F := F)) 𝒱₀ (c : Thread nD τ) none) Set.univ (waits n) Q := by
  unfold slotBusy
  iintro ⟨⟨#Hlev, ⟨HB, HT⟩, ⟨%W, HO⟩⟩, HK⟩
  ihave #Hmay := (mayWait (F := F) c (.dma (gsem n)) 0 i j (by rw [gsem_level]) (by omega) (by omega)) $$ Hlev
  iapply (Scf.wp_for frame (wpE (defs₀ (F := F)) 𝒱₀ (c : Thread nD τ) none) Set.univ waitLoop.lb waitLoop.ub waitLoop.st wait_ok ⟨⟩ (waitBody n)
    (fun t _ => waitInv J c s n i j t) (fun t u => wait_trip J c s n i j t u))
  unfold waitInv
  isplitl [HB HO]
  · isplitr; · iexact Hmay
    isplitl [HB]
    · rw [if_pos (by decide), Nat.zero_mul]; iexact HB
    iexists W; iexact HO
  rw [show Scf.trips waitLoop.lb waitLoop.ub waitLoop.st = 64 from wait_trips]
  iintro %u
  obtain rfl : u = PUnit.unit := rfl
  iintro ⟨-, HD, HO⟩
  ihave HD := (Entails.of_eq (if_neg (Nat.lt_irrefl 64))) $$ HD
  icases HD with ⟨HD, Hv⟩
  iapply HK
  ihave HA := (show iprop(bigSep Finset.univ (deliv J c s n) ∗ bigSep Finset.univ fun r : Fin 64 => tPt J c n r (Finset.univ \ srcSet J c s r))
      ⊢ iprop((bigSep Finset.univ fun r : Fin 64 => gPt c (rowSet n r) (ringT J c s)) ∗ bigSep Finset.univ fun r : Fin 64 => tPt J c n r Finset.univ) from by
    refine (bs_join _ _ _).trans ((bs_mono _ fun r => ?_).trans (bs_split _ _ _))
    unfold deliv
    iintro ⟨⟨HG, HS⟩, HR⟩
    isplitl [HG]; · iexact HG
    iapply (pointsTo_split_subset (Finset.subset_univ (srcSet J c s r))).mpr
    isplitl [HS]; · iexact HS
    iexact HR) $$ [HD HT]
  · isplitl [HD]; · iexact HD
    iexact HT
  icases HA with ⟨HG, HT⟩
  isplitl [HG]; · iapply (Entails.of_eq (slot_rows c n (ringT J c s)).symm); iexact HG
  isplitl [Hv]; · iexact Hv
  isplitl [HT]; · iexact HT
  iexact HO

end Cert.KernelIdeal.Emb
-- ==== Proof.Ideal.Blocks.lean ====
module

public import proofs.«01_k».proof.Proof.Ideal.Gather

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Ins F) (K : GSem nD τ sig → ℕ)

/-! ## Waits and copies on the chunks' cells -/

/-- The scales of device `c`. -/
abbrev sPt (c : Dev nD) : sProp 𝕄 := mS.view.loc (c : Thread nD τ) ↦[Finset.univ]{fullShare} J.sc c

/-- The position of device `c` on its cell of chunk `k` of kind `kd`. -/
abbrev at' (kd : Fin 4) (k : Fin 32) (c : Dev nD) (r : ℕ) : sProp 𝕄 := atPos ER (tc kd k c) r ∅ 0
/-- The right to the one copy onto that cell. -/
abbrev tok (kd : Fin 4) (k : Fin 32) (c : Dev nD) : sProp 𝕄 := dutyTok ER (tc kd k c) 0 false
/-- The credit for that copy. -/
abbrev crd (kd : Fin 4) (k : Fin 32) (c : Dev nD) : sProp 𝕄 := cred (tallyAt (tc kd k c) () NC)

/-- A wait for the one copy on a chunk's cell takes what that copy hands over. -/
theorem cell_wait (c : Dev nD) (kd : Fin 4) (k : Fin 32) (i j : ℕ) (hl : lv (tc kd k c) () < 2 + i ∧ lv (tc kd k c) () < 64 ∨ owe c i j = 0)
    {srcw dstw : Memref sig .tc .vmem S64x2048 .bf16} {h1 : srcw.view.WordExact} {h2 : dstw.view.WordExact} (hc : dstw.view.dmaCredit = NC) {Q : PUnit → sProp 𝕄} :
    iprop((invs J K ∗ levAts L lv ∗ at' kd k c 0 ∗ crd kd k c ∗ ow c (owe c i j))
      ∗ ((at' kd k c 1 ∗ pay J kd.val c k ∗ ow c (owe c i j)) -∗ Q ⟨⟩))
    ⊢ wp frame (wpE (defs₀ (F := F)) 𝒱₀ (c : Thread nD τ) none) Set.univ (Prog.lift (.waitDma2 (tsem kd k) srcw dstw h1 h2)) Q := by
  iintro ⟨⟨#HI, #Hlev, Hat, Hcr, ⟨%W, HO⟩⟩, HK⟩
  ihave #HC := (inv_t J K kd k c) $$ HI
  iapply (Rounds.wp_wait_rest_token 𝒱₀ ER (sched J) (c : Thread nD τ) none (κ := K (tc kd k c))
      (wpE_waitDma2_eq (src := srcw) (dst := dstw) 𝒱₀ (c : Thread nD τ) none Set.univ) (Set.mem_univ _) () (O := owe c i j) (W := W) (R := 0) (m := 0) (T := ∅)
      ((Nat.zero_add _).trans (hc.trans (expect_t J kd k c).symm))) $$ [Hcr HO Hat]
  · isplitr; · iexact HC
    isplitl [Hcr]; · rw [hc]; iexact Hcr
    isplitl [HO]; · iexact HO
    isplitr
    · rcases hl with h | h
      · iapply (mayWait (F := F) c (.dma (tsem kd k)) (lv (tc kd k c) ()) i j (Nat.le_refl _) h.1 h.2); iexact Hlev
      · rw [h, MayWait_zero]; iempintro
    iexact Hat
  iintro ⟨HO, Hat, -, Hpay⟩
  ihave Hp := (Entails.of_eq (rest_t J kd k c)) $$ Hpay
  rw [wp_ret]; imodintro
  iapply HK
  isplitl [Hat]; · iexact Hat
  isplitl [Hp]; · iexact Hp
  iexists _; iexact HO

/-- The copy of a partial chunk to the neighbour along the second axis. -/
theorem ysend_wp (c : Dev nD) (k : Fin 32) (j : ℕ) {Q : PUnit → sProp 𝕄} :
    iprop((invs J K ∗ oPt c (outSet c k) (partT J c) ∗ tok 0 k c ∗ reached ER (tc 0 k c) 0 ∗ tok 1 k (yn c) ∗ yWin c k ∗ ow c (owe c k.val j))
      ∗ ((crd 0 k c ∗ ow c (owe c (k.val + 1) j)) -∗ Q ⟨⟩))
    ⊢ wp frame (wpE (defs₀ (F := F)) 𝒱₀ (c : Thread nD τ) none) Set.univ (ysend c k) Q := by
  unfold yWin
  iintro ⟨⟨#HI, Ho, Ht, #Hr, Ht', ⟨⟨%f, Hy⟩, #Hr'⟩, ⟨%W, HO⟩⟩, HK⟩
  ihave #HC := (inv_t J K 0 k c) $$ HI
  ihave #HC' := (inv_t J K 1 k (yn c)) $$ HI
  iapply (Rounds.wp_send_pointsTo 𝒱₀ ER (sched J) (c : Thread nD τ) none (c' := (yn c : Thread nD τ)) (src := outM c k) (dst := ybM k)
      (sS := .dma (tsem 0 k)) (sem := .dma (tsem 1 k)) (q := fullShare) (fs := partT J c) (κ₁ := K (tc 0 k c)) (κ₂ := K (tc 1 k (yn c)))
      (r₁ := 0) (r₂ := 0) (d₁ := false) (d₂ := false) (fd := f)
      (by rw [duties_t]; exact Finset.mem_singleton_self _) (by rw [duties_t]; exact Finset.mem_singleton_self _)
      () () NC rfl (amount_t J 0 k c false) (amount_t J 1 k (yn c) false) (owe c (k.val + 1) j)
      (owe_y c k j) (W := W)
      (by rw [payload_t, outM_set]; exact BI.Entails.refl _)
      (by rw [payload_t, ybM_set]; exact Entails.of_eq (pointsTo_congr (ysend_val J c k f)))) $$ [Ho Hy HO Ht Ht']
  · isplitr; · iexact HC
    isplitr; · iexact HC'
    isplitl [Ho]; · rw [outM_set]; iexact Ho
    isplitl [Hy]; · rw [ybM_set]; iexact Hy
    isplitl [HO]; · iexact HO
    isplitl [Ht]; · iexact Ht
    isplitr; · iexact Hr
    isplitl [Ht']; · iexact Ht'
    iexact Hr'
  iintro ⟨Hc, HO⟩
  rw [wp_ret]; imodintro
  iapply HK
  isplitl [Hc]; · iexact Hc
  iexists _; iexact HO

/-- The copy of a summed chunk to the neighbour along the first axis. -/
theorem xsend_wp (c : Dev nD) (k : Fin 32) (i : ℕ) {Q : PUnit → sProp 𝕄} :
    iprop((invs J K ∗ oPt c (outSet c k) (sumT J c) ∗ tok 2 k c ∗ reached ER (tc 2 k c) 0 ∗ tok 3 k (xn c) ∗ xWin c k ∗ ow c (owe c i k.val))
      ∗ ((crd 2 k c ∗ ow c (owe c i (k.val + 1))) -∗ Q ⟨⟩))
    ⊢ wp frame (wpE (defs₀ (F := F)) 𝒱₀ (c : Thread nD τ) none) Set.univ (xsend c k) Q := by
  unfold xWin
  iintro ⟨⟨#HI, Ho, Ht, #Hr, Ht', ⟨⟨%f, Hy⟩, #Hr'⟩, ⟨%W, HO⟩⟩, HK⟩
  ihave #HC := (inv_t J K 2 k c) $$ HI
  ihave #HC' := (inv_t J K 3 k (xn c)) $$ HI
  iapply (Rounds.wp_send_pointsTo 𝒱₀ ER (sched J) (c : Thread nD τ) none (c' := (xn c : Thread nD τ)) (src := outM c k) (dst := outM c k)
      (sS := .dma (tsem 2 k)) (sem := .dma (tsem 3 k)) (q := fullShare) (fs := sumT J c) (κ₁ := K (tc 2 k c)) (κ₂ := K (tc 3 k (xn c)))
      (r₁ := 0) (r₂ := 0) (d₁ := false) (d₂ := false) (fd := f)
      (by rw [duties_t]; exact Finset.mem_singleton_self _) (by rw [duties_t]; exact Finset.mem_singleton_self _)
      () () NC rfl (amount_t J 2 k c false) (amount_t J 3 k (xn c) false) (owe c i (k.val + 1))
      (owe_x c k i) (W := W)
      (by rw [payload_t, outM_set]; exact BI.Entails.refl _)
      (by
        rw [payload_t, outM_set]
        show _ ⊢ oPt (xn c) (outSet (xn (xn c)) k) (sumT J (xn (xn c)))
        rw [xn_xn]
        exact Entails.of_eq (pointsTo_congr (xsend_val J c k f)))) $$ [Ho Hy HO Ht Ht']
  · isplitr; · iexact HC
    isplitr; · iexact HC'
    isplitl [Ho]; · rw [outM_set]; iexact Ho
    isplitl [Hy]; · rw [outM_set]; iexact Hy
    isplitl [HO]; · iexact HO
    isplitl [Ht]; · iexact Ht
    isplitr; · iexact Hr
    isplitl [Ht']; · iexact Ht'
    iexact Hr'
  iintro ⟨Hc, HO⟩
  rw [wp_ret]; imodintro
  iapply HK
  isplitl [Hc]; · iexact Hc
  iexists _; iexact HO

/-- Scaling and rounding a gathered chunk into the output. -/
theorem convert_wp (c : Dev nD) (k : Fin 32) (n : Fin 4) (f : S4096x2048.Idx → Elt F .bf16) {Q : PUnit → sProp 𝕄} :
    iprop((gPt c (slotSet n) (ringT J c k) ∗ sPt J c ∗ oPt c (outSet c k) f)
      ∗ ((gPt c (slotSet n) (ringT J c k) ∗ sPt J c ∗ oPt c (outSet c k) (partT J c)) -∗ Q ⟨⟩))
    ⊢ wp frame (wpE (defs₀ (F := F)) 𝒱₀ (c : Thread nD τ) none) Set.univ (convert c k n) Q := by
  iintro ⟨⟨HG, HS, Ho⟩, HK⟩
  unfold convert storeO
  rw [wp_bind]
  iapply (wp_load_rect 𝒱₀ (c : Thread nD τ) none Set.univ (m := mG) (r := rectG n) (k := Prog.ret) (S := slotSet n) (q := fullShare) (f := ringT J c k) (rectG_set n).subset) $$ HG
  iintro HG
  rw [wp_ret, wp_bind]; imodintro
  iapply (wp_load_rect 𝒱₀ (c : Thread nD τ) none Set.univ (m := mS) (r := rectS c k) (k := Prog.ret) (S := Finset.univ) (q := fullShare) (f := J.sc c) (Finset.subset_univ _)) $$ HS
  iintro HS
  rw [wp_ret, wp_bind]; imodintro
  iapply (wp_load_rect 𝒱₀ (c : Thread nD τ) none Set.univ (m := mO) (r := rectO c k) (k := Prog.ret) (S := outSet c k) (q := fullShare) (f := f) (rectO_set c k).subset) $$ Ho
  iintro Ho
  rw [wp_ret]; imodintro
  iapply (wp_store 𝒱₀ (c : Thread nD τ) none Set.univ (m := mO) (r := rectO c k) (S := outSet c k) (f := f) (by rw [View.setOn_univ]; exact (rectO_set c k).subset)) $$ Ho
  iintro Ho
  rw [wp_ret]; imodintro
  iapply HK
  isplitl [HG]; · iexact HG
  isplitl [HS]; · iexact HS
  iapply (Entails.of_eq (pointsTo_congr (convert_val J c k n f))) $$ Ho

/-! ## The state of a chunk, and the blocks of the kernel -/

/-- What chunk `k` needs from when its partial has been sent on. -/
def ckRest (c : Dev nD) (k : Fin 32) : sProp 𝕄 :=
  iprop(at' 0 k c 0 ∗ at' 1 k c 0 ∗ crd 1 k c ∗ tok 2 k c ∗ tok 3 k (xn c) ∗ reached ER (tc 2 k c) 0 ∗ xWin c k ∗ at' 2 k c 0 ∗ at' 3 k c 0 ∗ crd 3 k c)
/-- Chunk `k` before it is gathered. -/
def ckTodo (c : Dev nD) (k : Fin 32) : sProp 𝕄 :=
  iprop((∃ f, oPt c (outSet c k) f) ∗ tok 0 k c ∗ reached ER (tc 0 k c) 0 ∗ tok 1 k (yn c) ∗ yWin c k ∗ ckRest c k)
/-- Chunk `k` with its partial on the way to the neighbour along the second axis. -/
def ckMid (c : Dev nD) (k : Fin 32) : sProp 𝕄 := iprop(crd 0 k c ∗ ckRest c k)
/-- Chunk `k` with its sum on the way to the neighbour along the first axis. -/
def ckDone (c : Dev nD) (k : Fin 32) : sProp 𝕄 :=
  iprop(at' 0 k c 1 ∗ at' 1 k c 1 ∗ yPt c (ySet k) (ybT J c) ∗ crd 2 k c ∗ at' 2 k c 0 ∗ at' 3 k c 0 ∗ crd 3 k c)
/-- Chunk `k` once the other half's chunk has come in. -/
def ckIn (c : Dev nD) (k : Fin 32) : sProp 𝕄 :=
  iprop(at' 0 k c 1 ∗ at' 1 k c 1 ∗ yPt c (ySet k) (ybT J c) ∗ crd 2 k c ∗ at' 2 k c 0 ∗ at' 3 k c 1 ∗ oPt c (outSet (xn c) k) (sumT J (xn c)))
/-- Chunk `k` at the end. -/
def ckEnd (c : Dev nD) (k : Fin 32) : sProp 𝕄 :=
  iprop(at' 0 k c 1 ∗ at' 1 k c 1 ∗ yPt c (ySet k) (ybT J c) ∗ at' 2 k c 1 ∗ at' 3 k c 1 ∗ oPt c (outSet (xn c) k) (sumT J (xn c)) ∗ oPt c (outSet c k) (sumT J c))

/-- The chunks with those below `lo` summed and those below `hi` sent. -/
def chunks (c : Dev nD) (lo hi : ℕ) : sProp 𝕄 :=
  bigSep Finset.univ fun k : Fin 32 => if k.val < lo then ckDone J c k else if k.val < hi then ckMid c k else ckTodo c k
/-- A family of chunks of which those below `i` are in the second state. -/
def upto (A B : Fin 32 → sProp 𝕄) (i : ℕ) : sProp 𝕄 := bigSep Finset.univ fun k : Fin 32 => if k.val < i then B k else A k

/-- Taking chunk `k` from those still in the first state; it comes back in the second. -/
theorem upto_step (A B : Fin 32 → sProp 𝕄) (k : Fin 32) : upto A B k.val ⊢ iprop(A k ∗ (B k -∗ upto A B (k.val + 1))) := by
  have h := swap_one k (Φ := fun j : Fin 32 => if j.val < k.val then B j else A j) (Φ' := fun j : Fin 32 => if j.val < k.val + 1 then B j else A j) (fun j hj => by
    have : j.val ≠ k.val := fun e => hj (Fin.ext e)
    by_cases h : j.val < k.val
    · rw [if_pos h, if_pos (by omega)]
    · rw [if_neg h, if_neg (by omega)])
  rw [if_neg (Nat.lt_irrefl _), if_pos (Nat.lt_succ_self _)] at h
  exact h
/-- Taking chunk `k` to convert and send it. -/
theorem chunks_send (c : Dev nD) (lo : ℕ) (k : Fin 32) (h : lo ≤ k.val) : chunks J c lo k.val ⊢ iprop(ckTodo c k ∗ (ckMid c k -∗ chunks J c lo (k.val + 1))) := by
  have h := swap_one k (Φ := fun j : Fin 32 => if j.val < lo then ckDone J c j else if j.val < k.val then ckMid c j else ckTodo c j)
    (Φ' := fun j : Fin 32 => if j.val < lo then ckDone J c j else if j.val < k.val + 1 then ckMid c j else ckTodo c j) (fun j hj => by
    have : j.val ≠ k.val := fun e => hj (Fin.ext e)
    by_cases h : j.val < k.val
    · rw [if_pos h, if_pos (show j.val < k.val + 1 by omega)]
    · rw [if_neg h, if_neg (show ¬ j.val < k.val + 1 by omega)])
  rw [if_neg (by omega), if_neg (Nat.lt_irrefl _), if_neg (by omega), if_pos (Nat.lt_succ_self _)] at h
  exact h
/-- Taking chunk `k` to sum it and send it on. -/
theorem chunks_sum (c : Dev nD) (hi : ℕ) (k : Fin 32) (h : k.val < hi) : chunks J c k.val hi ⊢ iprop(ckMid c k ∗ (ckDone J c k -∗ chunks J c (k.val + 1) hi)) := by
  have h := swap_one k (Φ := fun j : Fin 32 => if j.val < k.val then ckDone J c j else if j.val < hi then ckMid c j else ckTodo c j)
    (Φ' := fun j : Fin 32 => if j.val < k.val + 1 then ckDone J c j else if j.val < hi then ckMid c j else ckTodo c j) (fun j hj => by
    have : j.val ≠ k.val := fun e => hj (Fin.ext e)
    by_cases h : j.val < k.val
    · rw [if_pos h, if_pos (show j.val < k.val + 1 by omega)]
    · rw [if_neg h, if_neg (show ¬ j.val < k.val + 1 by omega)])
  rw [if_neg (Nat.lt_irrefl _), if_pos ‹k.val < hi›, if_pos (Nat.lt_succ_self _)] at h
  exact h

/-- Slot `n`, free or with a chunk's copies in flight. -/
def slotSt (c : Dev nD) (n : Fin 4) : Option (Fin 32) → sProp 𝕄
  | none => slotFree J c n
  | some s => slotBusy J c s n
/-- The ring. -/
def ring (c : Dev nD) (S : Fin 4 → Option (Fin 32)) : sProp 𝕄 := bigSep Finset.univ fun n => slotSt J c n (S n)
/-- Taking a slot from the ring; it comes back in another state. -/
theorem ring_step (c : Dev nD) (S : Fin 4 → Option (Fin 32)) (n : Fin 4) (o : Option (Fin 32)) :
    ring J c S ⊢ iprop(slotSt J c n (S n) ∗ (slotSt J c n o -∗ ring J c (Function.update S n o))) := by
  have h := swap_one n (Φ := fun n' => slotSt J c n' (S n')) (Φ' := fun n' => slotSt J c n' (Function.update S n o n')) (fun n' hn => by rw [Function.update_of_ne hn])
  rw [Function.update_self] at h
  exact h
/-- Taking a free slot, to be filled. -/
theorem ring_put (c : Dev nD) (S : Fin 4 → Option (Fin 32)) (n : Fin 4) (s : Fin 32) (hS : S n = none) :
    ring J c S ⊢ iprop(slotFree J c n ∗ (slotBusy J c s n -∗ ring J c (Function.update S n (some s)))) := by
  have h := ring_step J c S n (some s)
  rw [hS] at h
  exact h
/-- Taking a filled slot, to be emptied. -/
theorem ring_take (c : Dev nD) (S : Fin 4 → Option (Fin 32)) (n : Fin 4) (s : Fin 32) (hS : S n = some s) :
    ring J c S ⊢ iprop(slotBusy J c s n ∗ (slotFree J c n -∗ ring J c (Function.update S n none))) := by
  have h := ring_step J c S n none
  rw [hS] at h
  exact h

/-- Issuing the row copies of chunk `s` into a free slot. -/
theorem ring_issue (hJ : ∀ c i, (J.ids c i).toNat < 8192) (c : Dev nD) (s : Fin 32) (n : Fin 4) (S : Fin 4 → Option (Fin 32)) (hS : S n = none) {Q : Unit → sProp 𝕄} :
    iprop((iPt J c ∗ ring J c S) ∗ ((iPt J c ∗ ring J c (Function.update S n (some s))) -∗ Q ⟨⟩))
    ⊢ wp frame (wpE (defs₀ (F := F)) 𝒱₀ (c : Thread nD τ) none) Set.univ (issue c s n) Q := by
  iintro ⟨⟨HI, HR⟩, HK⟩
  ihave HR := (ring_put J c S n s hS) $$ HR
  icases HR with ⟨Hn, HR⟩
  iapply (issue_wp J hJ c s n)
  isplitl [HI Hn]
  · isplitl [HI]; · iexact HI
    iexact Hn
  iintro ⟨HI, Hn⟩
  iapply HK
  isplitl [HI]; · iexact HI
  iapply HR $$ Hn

/-- The first half of a chunk: its rows come in, are scaled, and leave for the neighbour along the second axis. -/
theorem front_wp (c : Dev nD) (k : Fin 32) (n : Fin 4) (S : Fin 4 → Option (Fin 32)) (hS : S n = some k) (lo j : ℕ) (hlo : lo ≤ k.val) {Q : PUnit → sProp 𝕄} :
    iprop((invs J K ∗ levAts L lv ∗ sPt J c ∗ ring J c S ∗ chunks J c lo k.val ∗ ow c (owe c k.val j))
      ∗ ((sPt J c ∗ ring J c (Function.update S n none) ∗ chunks J c lo (k.val + 1) ∗ ow c (owe c (k.val + 1) j)) -∗ Q ⟨⟩))
    ⊢ wp frame (wpE (defs₀ (F := F)) 𝒱₀ (c : Thread nD τ) none) Set.univ (front c k n) Q := by
  iintro ⟨⟨#HI, #Hlev, HS, HR, HC, HO⟩, HK⟩
  unfold front
  ihave HR := (ring_take J c S n k hS) $$ HR
  icases HR with ⟨Hn, HR⟩
  ihave HC := (chunks_send J c lo k hlo) $$ HC
  icases HC with ⟨Hk, HC⟩
  unfold ckTodo
  icases Hk with ⟨⟨%f, Ho⟩, Ht, #Hr, Ht', Hy, Hrest⟩
  rw [wp_bind]
  iapply (waits_wp J c k n k.val j)
  isplitl [Hn HO]
  · isplitr; · iexact Hlev
    isplitl [Hn]; · iexact Hn
    iexact HO
  iintro ⟨HG, Hv, HT, HO⟩
  rw [wp_bind]
  iapply (convert_wp J c k n f)
  isplitl [HG HS Ho]
  · isplitl [HG]; · iexact HG
    isplitl [HS]; · iexact HS
    iexact Ho
  iintro ⟨HG, HS, Ho⟩
  iapply (ysend_wp J K c k j)
  isplitl [Ho Ht Ht' Hy HO]
  · isplitr; · iexact HI
    isplitl [Ho]; · iexact Ho
    isplitl [Ht]; · iexact Ht
    isplitr; · iexact Hr
    isplitl [Ht']; · iexact Ht'
    isplitl [Hy]; · iexact Hy
    iexact HO
  iintro ⟨Hc, HO⟩
  iapply HK
  isplitl [HS]; · iexact HS
  isplitl [HR HG Hv HT]
  · iapply HR
    unfold slotFree
    isplitl [HG]; · iexists _; iexact HG
    isplitl [Hv]; · iexact Hv
    iexact HT
  isplitl [HC Hc Hrest]
  · iapply HC
    unfold ckMid
    isplitl [Hc]; · iexact Hc
    iexact Hrest
  iexact HO

/-- The second half of a chunk: the neighbour's partial comes in and is added, and the sum leaves for the neighbour along the first axis. -/
theorem yproc_wp (c : Dev nD) (k : Fin 32) (hi : ℕ) (hk : k.val < hi) {Q : PUnit → sProp 𝕄} :
    iprop((invs J K ∗ levAts L lv ∗ chunks J c k.val hi ∗ ow c (owe c hi k.val))
      ∗ ((chunks J c (k.val + 1) hi ∗ ow c (owe c hi (k.val + 1))) -∗ Q ⟨⟩))
    ⊢ wp frame (wpE (defs₀ (F := F)) 𝒱₀ (c : Thread nD τ) none) Set.univ (yproc c k) Q := by
  iintro ⟨⟨#HI, #Hlev, HC, HO⟩, HK⟩
  unfold yproc storeO
  ihave HC := (chunks_sum J c hi k hk) $$ HC
  icases HC with ⟨Hk, HC⟩
  unfold ckMid ckRest
  icases Hk with ⟨Hc0, Ha0, Ha1, Hc1, Ht, Ht', #Hr, Hx, Ha2, Ha3, Hc3⟩
  rw [wp_bind]
  iapply (cell_wait J K c 0 k hi k.val (.inl (by rw [lv_zero]; omega)) (out_credit c k))
  isplitl [Ha0 Hc0 HO]
  · isplitr; · iexact HI
    isplitr; · iexact Hlev
    isplitl [Ha0]; · iexact Ha0
    isplitl [Hc0]; · iexact Hc0
    iexact HO
  iintro ⟨Ha0, Ho, HO⟩
  rw [wp_bind]
  iapply (cell_wait J K c 1 k hi k.val (.inl (by rw [lv_one]; have := k.isLt; omega)) (yb_credit k))
  isplitl [Ha1 Hc1 HO]
  · isplitr; · iexact HI
    isplitr; · iexact Hlev
    isplitl [Ha1]; · iexact Ha1
    isplitl [Hc1]; · iexact Hc1
    iexact HO
  iintro ⟨Ha1, Hy, HO⟩
  ihave Ho := (show pay J (0 : Fin 4).val c k ⊢ oPt c (outSet c k) (partT J c) from BIBase.Entails.rfl) $$ Ho
  ihave Hy := (show pay J (1 : Fin 4).val c k ⊢ yPt c (ySet k) (ybT J c) from BIBase.Entails.rfl) $$ Hy
  rw [wp_bind]
  iapply (wp_load_rect 𝒱₀ (c : Thread nD τ) none Set.univ (m := mO) (r := rectO c k) (k := Prog.ret) (S := outSet c k) (q := fullShare) (f := partT J c) (rectO_set c k).subset) $$ Ho
  iintro Ho
  rw [wp_ret, wp_bind]; imodintro
  iapply (wp_load_rect 𝒱₀ (c : Thread nD τ) none Set.univ (m := mY) (r := rectY k) (k := Prog.ret) (S := ySet k) (q := fullShare) (f := ybT J c) (rectY_set k).subset) $$ Hy
  iintro Hy
  rw [wp_ret, wp_bind]; imodintro
  iapply (wp_load_rect 𝒱₀ (c : Thread nD τ) none Set.univ (m := mO) (r := rectO c k) (k := Prog.ret) (S := outSet c k) (q := fullShare) (f := partT J c) (rectO_set c k).subset) $$ Ho
  iintro Ho
  rw [wp_ret, wp_bind]; imodintro
  iapply (wp_store 𝒱₀ (c : Thread nD τ) none Set.univ (m := mO) (r := rectO c k) (S := outSet c k) (f := partT J c) (by rw [View.setOn_univ]; exact (rectO_set c k).subset)) $$ Ho
  iintro Ho
  rw [wp_ret]; imodintro
  ihave Ho := (Entails.of_eq (pointsTo_congr (add_val J c k (partT J c)))) $$ Ho
  iapply (xsend_wp J K c k hi)
  isplitl [Ho Ht Ht' Hx HO]
  · isplitr; · iexact HI
    isplitl [Ho]; · iexact Ho
    isplitl [Ht]; · iexact Ht
    isplitr; · iexact Hr
    isplitl [Ht']; · iexact Ht'
    isplitl [Hx]; · iexact Hx
    iexact HO
  iintro ⟨Hc, HO⟩
  iapply HK
  isplitl [HC Ha0 Ha1 Hy Hc Ha2 Ha3 Hc3]
  · iapply HC
    unfold ckDone
    isplitl [Ha0]; · iexact Ha0
    isplitl [Ha1]; · iexact Ha1
    isplitl [Hy]; · iexact Hy
    isplitl [Hc]; · iexact Hc
    isplitl [Ha2]; · iexact Ha2
    isplitl [Ha3]; · iexact Ha3
    iexact Hc3
  iexact HO

end Cert.KernelIdeal.Emb
-- ==== Proof.Ideal.Run.lean ====
module

public import proofs.«01_k».proof.Proof.Ideal.Blocks

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Ins F) (K : GSem nD τ sig → ℕ)

/-! ## The kernel from end to end -/

/-- A program repeated along a state that each turn moves one on. -/
theorem wp_times (c : Dev nD) (f : ℕ → Prog (TpuEff nD τ sig (Elt F) Λ₀ .tc) PUnit) (I : ℕ → sProp 𝕄) (n : ℕ) : ∀ (i : ℕ)
    (_ : ∀ (j : ℕ) (Q : PUnit → sProp 𝕄), i ≤ j → j < i + n → iprop(I j ∗ (I (j + 1) -∗ Q ⟨⟩)) ⊢ wp frame (wpE (defs₀ (F := F)) 𝒱₀ (c : Thread nD τ) none) Set.univ (f j) Q)
    (Q : PUnit → sProp 𝕄),
    iprop(I i ∗ (I (i + n) -∗ Q ⟨⟩)) ⊢ wp frame (wpE (defs₀ (F := F)) 𝒱₀ (c : Thread nD τ) none) Set.univ (times f n i) Q := by
  induction n with
  | zero =>
    intro i _ Q
    unfold times
    rw [wp_pure]
    iintro ⟨H, HK⟩
    imodintro
    iapply HK $$ H
  | succ n ih =>
    intro i h Q
    unfold times
    rw [wp_bind]
    have h1 := ih (i + 1) (fun j Q hj hj' => h j Q (by omega) (by omega)) Q
    rw [show i + 1 + n = i + (n + 1) by omega] at h1
    iintro ⟨H, HK⟩
    iapply (h i _ (Nat.le_refl _) (by omega))
    isplitl [H]; · iexact H
    iintro H
    iapply h1
    isplitl [H]; · iexact H
    iexact HK

/-- What device `c` owes from the start: a signal to each neighbour and its copies. -/
def O₀ (c : Dev nD) : CellTallies nD τ sig Unit := owe c 0 0 + tallyAt (barC (xn c)) () 1 + tallyAt (barC (yn c)) () 1

/-- What device `c` lends its neighbours at the barrier. -/
def lend (c : Dev nD) : sProp 𝕄 :=
  iprop((bigSep Finset.univ fun k : Fin 32 => iprop((∃ f, yPt c (ySet k) f) ∗ reached ER (tc 1 k c) 0))
    ∗ bigSep Finset.univ fun k : Fin 32 => iprop((∃ f, oPt c (outSet (xn c) k) f) ∗ reached ER (tc 3 k c) 0))
/-- What device `c` brings to the barrier. -/
def atBar (c : Dev nD) : sProp 𝕄 :=
  iprop(atPos ER (barC c) 0 ∅ 0 ∗ cred (tallyAt (barC c) () 2) ∗ reached ER (barC (yn c)) 0 ∗ reached ER (barC (xn c)) 0
    ∗ dutyTok ER (barC (yn c)) 0 false ∗ dutyTok ER (barC (xn c)) 0 true)

/-- The meeting with both neighbours. -/
theorem enter_wp (K : GSem nD τ sig → ℕ) (c : Dev nD) {Q : PUnit → sProp 𝕄} :
    iprop((invs J K ∗ levAts L lv ∗ atBar c ∗ lend (F := F) c ∗ ow c (O₀ c))
      ∗ ((atPos ER (barC c) 1 ∅ 0 ∗ bigSep Finset.univ (yWin (F := F) c) ∗ bigSep Finset.univ (xWin (F := F) c) ∗ ow c (owe c 0 0)) -∗ Q ⟨⟩))
    ⊢ wp frame (wpE (defs₀ (F := F)) 𝒱₀ (c : Thread nD τ) none) Set.univ (enter c) Q := by
  unfold atBar lend
  iintro ⟨⟨#HI, #Hlev, ⟨Hat, Hcr, #HrY, #HrX, HtY, HtX⟩, ⟨HlY, HlX⟩, ⟨%W, HO⟩⟩, HK⟩
  ihave #HC := (inv_bar J K c) $$ HI
  ihave #HCy := (inv_bar J K (yn c)) $$ HI
  ihave #HCx := (inv_bar J K (xn c)) $$ HI
  unfold enter
  rw [wp_bind]
  iapply (Rounds.wp_signal 𝒱₀ ER (sched J) (c : Thread nD τ) none (dst := (yn c : Thread nD τ)) (sem := barrier0) (r := 0) (d := false) (κ := K (barC (yn c)))
      (by rw [duties_bar]; exact Finset.mem_univ _) (amount_bar J (yn c) false) () (owe c 0 0 + tallyAt (barC (xn c)) () 1) rfl (k := Prog.ret)) $$ [HO HtY HlY]
  · isplitr; · iexact HCy
    isplitl [HO]; · iexact HO
    isplitl [HtY]; · iexact HtY
    isplitl [HlY]
    · rw [payload_bar]
      iapply (show (bigSep Finset.univ fun k : Fin 32 => iprop((∃ f, yPt c (ySet k) f) ∗ reached ER (tc 1 k c) 0)) ⊢ bpay (F := F) (yn c) false from by
        unfold bpay
        rw [if_neg (by decide)]
        refine bs_mono _ fun k => ?_
        unfold yWin
        rw [yn_yn]) $$ HlY
    iexact HrY
  iintro HO
  rw [wp_ret, wp_bind]; imodintro
  iapply (Rounds.wp_signal 𝒱₀ ER (sched J) (c : Thread nD τ) none (dst := (xn c : Thread nD τ)) (sem := barrier0) (r := 0) (d := true) (κ := K (barC (xn c)))
      (by rw [duties_bar]; exact Finset.mem_univ _) (amount_bar J (xn c) true) () (owe c 0 0) rfl (k := Prog.ret)) $$ [HO HtX HlX]
  · isplitr; · iexact HCx
    isplitl [HO]; · iexact HO
    isplitl [HtX]; · iexact HtX
    isplitl [HlX]
    · rw [payload_bar]
      iapply (show (bigSep Finset.univ fun k : Fin 32 => iprop((∃ f, oPt c (outSet (xn c) k) f) ∗ reached ER (tc 3 k c) 0)) ⊢ bpay (F := F) (xn c) true from by
        unfold bpay
        rw [if_pos rfl]
        refine bs_mono _ fun k => ?_
        unfold xWin
        rw [xn_xn]) $$ HlX
    iexact HrX
  iintro HO
  rw [wp_ret]; imodintro
  iapply (Rounds.wp_wait_rest_token 𝒱₀ ER (sched J) (c : Thread nD τ) none (κ := K (barC c))
      (wpE_semWait_eq 𝒱₀ (c : Thread nD τ) none Set.univ) (Set.mem_univ _) () (O := owe c 0 0) (R := 0) (m := 0) (T := ∅)
      ((Nat.zero_add 2).trans (expect_bar J c).symm) (k := Prog.ret)) $$ [Hcr HO Hat]
  · isplitr; · iexact HC
    isplitl [Hcr]; · iexact Hcr
    isplitl [HO]; · iexact HO
    isplitr; · iapply (mayWait (F := F) c (.reg barrier0) 1 0 0 (Nat.le_refl 1) (by omega) (by omega)); iexact Hlev
    iexact Hat
  iintro ⟨HO, Hat, -, Hpay⟩
  ihave Hp := (Entails.of_eq (rest_bar J c)) $$ Hpay
  icases Hp with ⟨Hy, Hx⟩
  rw [wp_ret]; imodintro
  iapply HK
  isplitl [Hat]; · iexact Hat
  isplitl [Hy]; · iexact Hy
  isplitl [Hx]; · iexact Hx
  iexists _; iexact HO

/-- Chunk `k` before the neighbours have lent their rows. -/
def ckBare (c : Dev nD) (k : Fin 32) : sProp 𝕄 :=
  iprop((∃ f, oPt c (outSet c k) f) ∗ (tok 0 k c ∗ reached ER (tc 0 k c) 0 ∗ tok 1 k (yn c))
    ∗ at' 0 k c 0 ∗ at' 1 k c 0 ∗ crd 1 k c ∗ tok 2 k c ∗ tok 3 k (xn c) ∗ reached ER (tc 2 k c) 0 ∗ at' 2 k c 0 ∗ at' 3 k c 0 ∗ crd 3 k c)

/-- With every chunk bare and both neighbours' chunks lent, no chunk is yet begun. -/
theorem chunks_start (c : Dev nD) :
    iprop((bigSep Finset.univ fun k => ckBare (F := F) c k) ∗ bigSep Finset.univ (yWin (F := F) c) ∗ bigSep Finset.univ (xWin (F := F) c)) ⊢ chunks J c 0 0 := by
  refine (sep_mono_right (bs_join _ _ _)).trans ((bs_join _ _ _).trans (bs_mono _ fun k => ?_))
  rw [if_neg (Nat.not_lt_zero _), if_neg (Nat.not_lt_zero _)]
  unfold ckBare ckTodo ckRest
  iintro ⟨⟨Ho, ⟨Ht0, Hr0, Ht1⟩, Ha0, Ha1, Hc1, Ht2, Ht3, Hr2, Ha2, Ha3, Hc3⟩, Hy, Hx⟩
  isplitl [Ho]; · iexact Ho
  isplitl [Ht0]; · iexact Ht0
  isplitl [Hr0]; · iexact Hr0
  isplitl [Ht1]; · iexact Ht1
  isplitl [Hy]; · iexact Hy
  isplitl [Ha0]; · iexact Ha0
  isplitl [Ha1]; · iexact Ha1
  isplitl [Hc1]; · iexact Hc1
  isplitl [Ht2]; · iexact Ht2
  isplitl [Ht3]; · iexact Ht3
  isplitl [Hr2]; · iexact Hr2
  isplitl [Hx]; · iexact Hx
  isplitl [Ha2]; · iexact Ha2
  isplitl [Ha3]; · iexact Ha3
  iexact Hc3

variable (K : GSem nD τ sig → ℕ)

/-- A chunk's number is the number of the round. -/
theorem ch_val (i : ℕ) (h : i < 32) : (ch i).val = i := Nat.mod_eq_of_lt h
/-- Two chunks in a row lie in different slots. -/
theorem sl_ne (i : ℕ) : sl (i + 2) ≠ sl (i + 1) := fun h => by
  have : (i + 2) % 4 = (i + 1) % 4 := congrArg Fin.val h
  omega

/-- The ring with the copies of chunk `i` in flight. -/
abbrev oneBusy (i : ℕ) : Fin 4 → Option (Fin 32) := Function.update (fun _ => none) (sl i) (some (ch i))
/-- The state at the top of turn `i` of the main loop. -/
def turn (c : Dev nD) (i : ℕ) : sProp 𝕄 :=
  iprop(invs J K ∗ levAts L lv ∗ iPt J c ∗ sPt J c ∗ ring J c (oneBusy (i + 1)) ∗ chunks J c i (i + 1) ∗ ow c (owe c (i + 1) i))

/-- One turn of the main loop. -/
theorem step_wp (hJ : ∀ c i, (J.ids c i).toNat < 8192) (c : Dev nD) (i : ℕ) (hi : i < 30) {Q : PUnit → sProp 𝕄} :
    iprop(turn J K c i ∗ (turn J K c (i + 1) -∗ Q ⟨⟩))
    ⊢ wp frame (wpE (defs₀ (F := F)) 𝒱₀ (c : Thread nD τ) none) Set.univ (step c i) Q := by
  have e1 : (ch (i + 1)).val = i + 1 := ch_val _ (by omega)
  have e0 : (ch i).val = i := ch_val _ (by omega)
  have hf := fun Q => front_wp J K c (ch (i + 1)) (sl (i + 1)) (Function.update (oneBusy (i + 1)) (sl (i + 2)) (some (ch (i + 2))))
    (by rw [Function.update_of_ne (sl_ne i).symm]; exact Function.update_self _ _ _) i i (by omega) (Q := Q)
  have hy := fun Q => yproc_wp J K c (ch i) (i + 2) (by omega) (Q := Q)
  rw [e1] at hf
  rw [e0] at hy
  have er : Function.update (Function.update (oneBusy (i + 1)) (sl (i + 2)) (some (ch (i + 2)))) (sl (i + 1)) none = oneBusy (i + 2) := by
    rw [Function.update_comm (sl_ne i), Function.update_idem]
    congr 1
    exact Function.update_eq_self (sl (i + 1)) (fun _ : Fin 4 => (none : Option (Fin 32)))
  rw [er] at hf
  unfold turn step
  iintro ⟨⟨#HI, #Hlev, Hi, Hs, HR, HC, HO⟩, HK⟩
  rw [wp_bind]
  iapply (ring_issue J hJ c (ch (i + 2)) (sl (i + 2)) (oneBusy (i + 1)) (Function.update_of_ne (sl_ne i) _ _))
  isplitl [Hi HR]
  · isplitl [Hi]; · iexact Hi
    iexact HR
  iintro ⟨Hi, HR⟩
  rw [wp_bind]
  iapply (hf _)
  isplitl [Hs HR HC HO]
  · isplitr; · iexact HI
    isplitr; · iexact Hlev
    isplitl [Hs]; · iexact Hs
    isplitl [HR]; · iexact HR
    isplitl [HC]; · iexact HC
    iexact HO
  iintro ⟨Hs, HR, HC, HO⟩
  iapply (hy _)
  isplitl [HC HO]
  · isplitr; · iexact HI
    isplitr; · iexact Hlev
    isplitl [HC]; · iexact HC
    iexact HO
  iintro ⟨HC, HO⟩
  iapply HK
  isplitr; · iexact HI
  isplitr; · iexact Hlev
  isplitl [Hi]; · iexact Hi
  isplitl [Hs]; · iexact Hs
  isplitl [HR]; · iexact HR
  isplitl [HC]; · iexact HC
  iexact HO

/-- A wait for a chunk of the other half. -/
theorem xin_wp (c : Dev nD) (i : ℕ) (hi : i < 32) {Q : PUnit → sProp 𝕄} :
    iprop((invs J K ∗ levAts L lv ∗ upto (ckDone J c) (ckIn J c) i ∗ ow c (owe c 32 32))
      ∗ ((invs J K ∗ levAts L lv ∗ upto (ckDone J c) (ckIn J c) (i + 1) ∗ ow c (owe c 32 32)) -∗ Q ⟨⟩))
    ⊢ wp frame (wpE (defs₀ (F := F)) 𝒱₀ (c : Thread nD τ) none) Set.univ (xwait c 3 (ch i)) Q := by
  have hu := upto_step (ckDone J c) (ckIn J c) (ch i)
  rw [ch_val i hi] at hu
  iintro ⟨⟨#HI, #Hlev, HU, HO⟩, HK⟩
  ihave HU := hu $$ HU
  icases HU with ⟨Hk, HU⟩
  unfold ckDone
  icases Hk with ⟨Ha0, Ha1, Hy, Hc2, Ha2, Ha3, Hc3⟩
  unfold xwait
  iapply (cell_wait J K c 3 (ch i) 32 32 (.inr (owe_last c)) (out_credit c (ch i)))
  isplitl [Ha3 Hc3 HO]
  · isplitr; · iexact HI
    isplitr; · iexact Hlev
    isplitl [Ha3]; · iexact Ha3
    isplitl [Hc3]; · iexact Hc3
    iexact HO
  iintro ⟨Ha3, Ho, HO⟩
  ihave Ho := (show pay J (3 : Fin 4).val c (ch i) ⊢ oPt c (outSet (xn c) (ch i)) (sumT J (xn c)) from BIBase.Entails.rfl) $$ Ho
  iapply HK
  isplitr; · iexact HI
  isplitr; · iexact Hlev
  isplitr [HO]
  · iapply HU
    unfold ckIn
    isplitl [Ha0]; · iexact Ha0
    isplitl [Ha1]; · iexact Ha1
    isplitl [Hy]; · iexact Hy
    isplitl [Hc2]; · iexact Hc2
    isplitl [Ha2]; · iexact Ha2
    isplitl [Ha3]; · iexact Ha3
    iexact Ho
  iexact HO

/-- A wait for a chunk sent along the first axis. -/
theorem xout_wp (c : Dev nD) (i : ℕ) (hi : i < 32) {Q : PUnit → sProp 𝕄} :
    iprop((invs J K ∗ levAts L lv ∗ upto (ckIn J c) (ckEnd J c) i ∗ ow c (owe c 32 32))
      ∗ ((invs J K ∗ levAts L lv ∗ upto (ckIn J c) (ckEnd J c) (i + 1) ∗ ow c (owe c 32 32)) -∗ Q ⟨⟩))
    ⊢ wp frame (wpE (defs₀ (F := F)) 𝒱₀ (c : Thread nD τ) none) Set.univ (xwait c 2 (ch i)) Q := by
  have hu := upto_step (ckIn J c) (ckEnd J c) (ch i)
  rw [ch_val i hi] at hu
  iintro ⟨⟨#HI, #Hlev, HU, HO⟩, HK⟩
  ihave HU := hu $$ HU
  icases HU with ⟨Hk, HU⟩
  unfold ckIn
  icases Hk with ⟨Ha0, Ha1, Hy, Hc2, Ha2, Ha3, Hx⟩
  unfold xwait
  iapply (cell_wait J K c 2 (ch i) 32 32 (.inr (owe_last c)) (out_credit c (ch i)))
  isplitl [Ha2 Hc2 HO]
  · isplitr; · iexact HI
    isplitr; · iexact Hlev
    isplitl [Ha2]; · iexact Ha2
    isplitl [Hc2]; · iexact Hc2
    iexact HO
  iintro ⟨Ha2, Ho, HO⟩
  ihave Ho := (show pay J (2 : Fin 4).val c (ch i) ⊢ oPt c (outSet c (ch i)) (sumT J c) from BIBase.Entails.rfl) $$ Ho
  iapply HK
  isplitr; · iexact HI
  isplitr; · iexact Hlev
  isplitr [HO]
  · iapply HU
    unfold ckEnd
    isplitl [Ha0]; · iexact Ha0
    isplitl [Ha1]; · iexact Ha1
    isplitl [Hy]; · iexact Hy
    isplitl [Ha2]; · iexact Ha2
    isplitl [Ha3]; · iexact Ha3
    isplitl [Hx]; · iexact Hx
    iexact Ho
  iexact HO

/-- Before any chunk has moved on, all stand at the first state. -/
theorem upto_zero (A B : Fin 32 → sProp 𝕄) : upto A B 0 = bigSep Finset.univ A := by
  unfold upto
  exact congrArg _ (funext fun k => if_neg (Nat.not_lt_zero _))
/-- After all have moved on, all stand at the second state. -/
theorem upto_all (A B : Fin 32 → sProp 𝕄) : upto A B 32 = bigSep Finset.univ B := by
  unfold upto
  exact congrArg _ (funext fun k => if_pos k.isLt)
/-- After the main loop every chunk is done. -/
theorem chunks_all (c : Dev nD) : chunks J c 32 32 = bigSep Finset.univ (ckDone J c) := by
  unfold chunks
  exact congrArg _ (funext fun k => if_pos k.isLt)

/-- What device `c` brings to the kernel. -/
def workPre (c : Dev nD) : sProp 𝕄 :=
  iprop(atBar (F := F) c ∗ lend (F := F) c ∗ (bigSep Finset.univ fun k => ckBare (F := F) c k) ∗ ring J c (fun _ => none) ∗ iPt J c ∗ sPt J c ∗ ow c (O₀ c))
/-- What the kernel leaves on device `c`. -/
def workPost (c : Dev nD) : sProp 𝕄 :=
  iprop(atPos ER (barC c) 1 ∅ 0 ∗ bigSep Finset.univ (ckEnd J c) ∗ ring J c (fun _ => none) ∗ iPt J c ∗ sPt J c ∗ ow c 0)

/-- The kernel on one device. -/
theorem work_wp (hJ : ∀ c i, (J.ids c i).toNat < 8192) (c : Dev nD) {Q : PUnit → sProp 𝕄} :
    iprop((invs J K ∗ levAts L lv ∗ workPre J c) ∗ (workPost J c -∗ Q ⟨⟩))
    ⊢ wp frame (wpE (defs₀ (F := F)) 𝒱₀ (c : Thread nD τ) none) Set.univ (work c) Q := by
  have e0 : Function.update (Function.update (Function.update (fun _ : Fin 4 => (none : Option (Fin 32))) 0 (some 0)) 1 (some 1)) 0 none = oneBusy (0 + 1) := by
    rw [Function.update_comm (by decide : (1 : Fin 4) ≠ 0), Function.update_idem]
    congr 1
    exact Function.update_eq_self (0 : Fin 4) (fun _ : Fin 4 => (none : Option (Fin 32)))
  have hf0 := fun Q => front_wp J K c 0 0 (Function.update (Function.update (fun _ => none) 0 (some 0)) 1 (some 1))
    (by rw [Function.update_of_ne (by decide)]; exact Function.update_self _ _ _) 0 0 (Nat.le_refl 0) (Q := Q)
  rw [e0] at hf0
  have e1 : Function.update (oneBusy (30 + 1)) (3 : Fin 4) none = fun _ => none := by
    refine (Function.update_idem _ _ _).trans ?_
    exact Function.update_eq_self (3 : Fin 4) (fun _ : Fin 4 => (none : Option (Fin 32)))
  have hf1 := fun Q => front_wp J K c 31 3 (oneBusy (30 + 1)) (Function.update_self _ _ _) 30 30 (by decide) (Q := Q)
  rw [e1] at hf1
  unfold workPre work
  iintro ⟨⟨#HI, #Hlev, Hbar, Hlend, Hck, HR, Hi, Hs, HO⟩, HK⟩
  rw [wp_bind]
  iapply (enter_wp J K c)
  isplitl [Hbar Hlend HO]
  · isplitr; · iexact HI
    isplitr; · iexact Hlev
    isplitl [Hbar]; · iexact Hbar
    isplitl [Hlend]; · iexact Hlend
    iexact HO
  iintro ⟨Hbar, Hy, Hx, HO⟩
  ihave HC := (chunks_start J c) $$ [Hck Hy Hx]
  · isplitl [Hck]; · iexact Hck
    isplitl [Hy]; · iexact Hy
    iexact Hx
  rw [wp_bind]
  iapply (ring_issue J hJ c 0 0 (fun _ => none) rfl)
  isplitl [Hi HR]
  · isplitl [Hi]; · iexact Hi
    iexact HR
  iintro ⟨Hi, HR⟩
  rw [wp_bind]
  iapply (ring_issue J hJ c 1 1 (Function.update (fun _ => none) 0 (some 0)) (Function.update_of_ne (by decide) _ _))
  isplitl [Hi HR]
  · isplitl [Hi]; · iexact Hi
    iexact HR
  iintro ⟨Hi, HR⟩
  rw [wp_bind]
  iapply (hf0 _)
  isplitl [Hs HR HC HO]
  · isplitr; · iexact HI
    isplitr; · iexact Hlev
    isplitl [Hs]; · iexact Hs
    isplitl [HR]; · iexact HR
    isplitl [HC]; · iexact HC
    iexact HO
  iintro ⟨Hs, HR, HC, HO⟩
  rw [wp_bind]
  iapply (wp_times c (step c) (turn J K c) 30 0 (fun j Q _ hj => step_wp J K hJ c j (by omega)))
  isplitl [Hi Hs HR HC HO]
  · unfold turn
    isplitr; · iexact HI
    isplitr; · iexact Hlev
    isplitl [Hi]; · iexact Hi
    isplitl [Hs]; · iexact Hs
    isplitl [HR]; · iexact HR
    isplitl [HC]; · iexact HC
    iexact HO
  iintro HT
  ihave HT := (show turn J K c (0 + 30) ⊢ iprop(invs J K ∗ levAts L lv ∗ iPt J c ∗ sPt J c ∗ ring J c (oneBusy (30 + 1)) ∗ chunks J c 30 31 ∗ ow c (owe c 31 30)) from BIBase.Entails.rfl) $$ HT
  icases HT with ⟨-, -, Hi, Hs, HR, HC, HO⟩
  rw [wp_bind]
  iapply (hf1 _)
  isplitl [Hs HR HC HO]
  · isplitr; · iexact HI
    isplitr; · iexact Hlev
    isplitl [Hs]; · iexact Hs
    isplitl [HR]; · iexact HR
    isplitl [HC]; · iexact HC
    iexact HO
  iintro ⟨Hs, HR, HC, HO⟩
  rw [wp_bind]
  iapply (yproc_wp J K c 30 32 (by decide))
  isplitl [HC HO]
  · isplitr; · iexact HI
    isplitr; · iexact Hlev
    isplitl [HC]; · iexact HC
    iexact HO
  iintro ⟨HC, HO⟩
  rw [wp_bind]
  iapply (yproc_wp J K c 31 32 (by decide))
  isplitl [HC HO]
  · isplitr; · iexact HI
    isplitr; · iexact Hlev
    isplitl [HC]; · iexact HC
    iexact HO
  iintro ⟨HC, HO⟩
  ihave HC := (show chunks J c ((31 : Fin 32).val + 1) 32 ⊢ upto (ckDone J c) (ckIn J c) 0 from Entails.of_eq ((chunks_all J c).trans (upto_zero _ _).symm)) $$ HC
  rw [wp_bind]
  iapply (wp_times c (fun i => xwait c 3 (ch i)) (fun i => iprop(invs J K ∗ levAts L lv ∗ upto (ckDone J c) (ckIn J c) i ∗ ow c (owe c 32 32))) 32 0
    (fun j Q _ hj => xin_wp J K c j (by omega)))
  isplitl [HC HO]
  · isplitr; · iexact HI
    isplitr; · iexact Hlev
    isplitl [HC]; · iexact HC
    iexact HO
  iintro ⟨-, -, HC, HO⟩
  ihave HC := (show upto (ckDone J c) (ckIn J c) (0 + 32) ⊢ upto (ckIn J c) (ckEnd J c) 0 from Entails.of_eq ((upto_all _ _).trans (upto_zero _ _).symm)) $$ HC
  rw [wp_bind]
  iapply (wp_times c (fun i => xwait c 2 (ch i)) (fun i => iprop(invs J K ∗ levAts L lv ∗ upto (ckIn J c) (ckEnd J c) i ∗ ow c (owe c 32 32))) 32 0
    (fun j Q _ hj => xout_wp J K c j (by omega)))
  isplitl [HC HO]
  · isplitr; · iexact HI
    isplitr; · iexact Hlev
    isplitl [HC]; · iexact HC
    iexact HO
  iintro ⟨-, -, HC, HO⟩
  ihave HC := (show upto (ckIn J c) (ckEnd J c) (0 + 32) ⊢ bigSep Finset.univ (ckEnd J c) from Entails.of_eq (upto_all _ _)) $$ HC
  ihave HO := (show ow (F := F) c (owe c 32 32) ⊢ ow c 0 from Entails.of_eq (congrArg (ow c) (owe_last c))) $$ HO
  rw [wp_pure]; imodintro
  iapply HK
  unfold workPost
  isplitl [Hbar]; · iexact Hbar
  isplitl [HC]; · iexact HC
  isplitl [HR]; · iexact HR
  isplitl [Hi]; · iexact Hi
  isplitl [Hs]; · iexact Hs
  iexact HO

end Cert.KernelIdeal.Emb
-- ==== Proof.Ideal.Whole.lean ====
module

public import proofs.«01_k».proof.Proof.Ideal.Run

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Ins F) (K : GSem nD τ sig → ℕ)

/-! ## From whole buffers to chunks and back -/

/-- A thing for each of two is one and the other. -/
theorem bs_bool (Φ : Bool → sProp 𝕄) : bigSep Finset.univ Φ = iprop(Φ false ∗ Φ true) := by
  rw [show (Finset.univ : Finset Bool) = {false, true} by decide, bigSep_insert (by decide), bigSep_singleton]; rfl

/-- An update at every member of a family, the records at hand. -/
theorem fupd_family {I : Type} [Fintype I] [DecidableEq I] (R : sProp 𝕄) [BI.Persistent R] {Φ Ψ : I → sProp 𝕄} (h : ∀ i, iprop(R ∗ Φ i) ⊢ (|={Set.univ}=> Ψ i)) :
    iprop(R ∗ bigSep Finset.univ Φ) ⊢ (|={Set.univ}=> bigSep Finset.univ Ψ : sProp 𝕄) :=
  (show iprop(R ∗ bigSep Finset.univ Φ) ⊢ bigSep Finset.univ fun i => iprop(|={Set.univ}=> Ψ i) from
    bigSep_with_persistent (R := R) (Φ := Φ) fun i _ => h i).trans (bigSep_fupd Finset.univ Ψ)

/-- The output, its own half and the other half by chunks. -/
theorem out_eq (c : Dev nD) (f : S4096x2048.Idx → Elt F .bf16) :
    oPt c Finset.univ f = iprop((bigSep Finset.univ fun k : Fin 32 => oPt c (outSet c k) f) ∗ (bigSep Finset.univ fun k : Fin 32 => oPt c (outSet (xn c) k) f)) := by
  have h : oPt c Finset.univ f = (bigSep Finset.univ fun p : Bool × Fin 32 => oPt c (halfSet c p) f : sProp 𝕄) :=
    pts_family (ℓ := mO.view.loc (c : Thread nD τ)) (halfSet c) (halfSet_disj c) (halfSet_cover c)
  rw [h, bigSep_univ_prod, bs_bool]
  rfl
/-- The receive buffer, by chunks. -/
theorem y_eq (c : Dev nD) (f : S2048x2048.Idx → Elt F .bf16) : yPt c Finset.univ f = (bigSep Finset.univ fun k : Fin 32 => yPt c (ySet k) f : sProp 𝕄) :=
  pts_family (ℓ := mY.view.loc (c : Thread nD τ)) ySet ySet_disj ySet_cover
/-- The ring, by slots. -/
theorem g_eq (c : Dev nD) (f : S4x64x2048.Idx → Elt F .f32) : gPt c Finset.univ f = (bigSep Finset.univ fun n : Fin 4 => gPt c (slotSet n) f : sProp 𝕄) :=
  pts_family (ℓ := mG.view.loc (c : Thread nD τ)) slotSet slotSet_disj slotSet_cover

/-- The result taken apart into the chunks of its halves. -/
theorem out_parts (c : Dev nD) (f : S4096x2048.Idx → Elt F .bf16) :
    oPt c Finset.univ f ⊢ iprop((bigSep Finset.univ fun k : Fin 32 => iprop(∃ f, oPt c (outSet c k) f)) ∗ (bigSep Finset.univ fun k : Fin 32 => iprop(∃ f, oPt c (outSet (xn c) k) f))) := by
  rw [out_eq]
  refine BIClass.sep_mono (bs_mono _ fun k => ?_) (bs_mono _ fun k => ?_)
  · iintro H; iexists f; iexact H
  · iintro H; iexists f; iexact H

/-- The chunks of both halves, summed, are the result. -/
theorem out_whole (c : Dev nD) :
    iprop((bigSep Finset.univ fun k : Fin 32 => oPt c (outSet c k) (sumT J c)) ∗ (bigSep Finset.univ fun k : Fin 32 => oPt c (outSet (xn c) k) (sumT J (xn c)))) ⊢ oPt c Finset.univ (finT J c) := by
  rw [out_eq]
  refine BIClass.sep_mono (bs_mono _ fun k => ?_) (bs_mono _ fun k => ?_)
  · exact Entails.of_eq (pointsTo_congr (fun i hi => (finT_own J c k i hi).symm))
  · exact Entails.of_eq (pointsTo_congr (fun i hi => (finT_other J c k i hi).symm))

/-- The landing buffer taken apart into its chunks. -/
theorem y_parts (c : Dev nD) (f : S2048x2048.Idx → Elt F .bf16) :
    yPt c Finset.univ f ⊢ bigSep Finset.univ fun k : Fin 32 => iprop(∃ f, yPt c (ySet k) f) := by
  rw [y_eq]
  refine bs_mono _ fun k => ?_
  iintro H; iexists f; iexact H
/-- The chunks put together are the landing buffer. -/
theorem y_whole (c : Dev nD) (f : S2048x2048.Idx → Elt F .bf16) : (bigSep Finset.univ fun k : Fin 32 => yPt c (ySet k) f) ⊢ yPt c Finset.univ f :=
  Entails.of_eq (y_eq c f).symm

/-- The table of device `c`, whole. -/
abbrev ePt (c : Dev nD) : sProp 𝕄 := mE.view.loc (c : Thread nD τ) ↦[Finset.univ]{fullShare} J.tab c
/-- What is left of the table when each ring row has its share. -/
abbrev eRest (c : Dev nD) : sProp 𝕄 := mE.view.loc (c : Thread nD τ) ↦[Finset.univ]{Transfers.shareDrop fullShare 256} J.tab c

/-- The table's 256 shares, by slot and row. -/
theorem tab_split (c : Dev nD) :
    (bigSep Finset.univ fun i : Fin 256 => (mE.view.loc (c : Thread nD τ) ↦[Finset.univ]{Transfers.shareTok fullShare 256 i} J.tab c : sProp 𝕄))
      = bigSep Finset.univ fun n : Fin 4 => bigSep Finset.univ fun r : Fin 64 => tPt J c n r Finset.univ := by
  rw [bigSep_univ_equiv (finProdFinEquiv (m := 4) (n := 64)), bigSep_univ_prod]
  refine bigSep_congr fun n _ => bigSep_congr fun r _ => ?_
  have e : finProdFinEquiv (n, r) = (⟨64 * n.val + r.val, by have := n.isLt; have := r.isLt; omega⟩ : Fin 256) := Fin.ext (Nat.add_comm r.val (64 * n.val))
  rw [e]

/-- The ring buffer, its semaphores and the table make a ring of four free slots. -/
theorem ring_start (c : Dev nD) :
    iprop((∃ f, gPt (F := F) c Finset.univ f) ∗ (bigSep Finset.univ fun n : Fin 4 => semVal ((c : Thread nD τ), .dma (gsem n)) 0) ∗ ePt J c)
    ⊢ iprop(ring J c (fun _ => none) ∗ eRest J c) := by
  iintro ⟨⟨%f, Hg⟩, Hv, He⟩
  ihave He := (Transfers.pointsTo_toks_split fullShare 256) $$ He
  icases He with ⟨Hr, He⟩
  ihave He := (Entails.of_eq (tab_split J c)) $$ He
  ihave Hg := (Entails.of_eq (g_eq c f)) $$ Hg
  ihave Hg := (bs_mono Finset.univ (Φ := fun n : Fin 4 => gPt c (slotSet n) f) (Ψ := fun n : Fin 4 => iprop(∃ f, gPt (F := F) c (slotSet n) f))
    (fun n => by iintro H; iexists f; iexact H)) $$ Hg
  isplitr [Hr]
  · iapply (show iprop((bigSep Finset.univ fun n : Fin 4 => iprop(∃ f, gPt (F := F) c (slotSet n) f)) ∗ (bigSep Finset.univ fun n : Fin 4 => semVal ((c : Thread nD τ), .dma (gsem n)) 0)
        ∗ (bigSep Finset.univ fun n : Fin 4 => bigSep Finset.univ fun r : Fin 64 => tPt J c n r Finset.univ)) ⊢ ring J c (fun _ => none) from
      (sep_mono_right (bs_join _ _ _)).trans (bs_join _ _ _))
    isplitl [Hg]; · iexact Hg
    isplitl [Hv]; · iexact Hv
    iexact He
  iexact Hr

/-- The slots put together are the ring buffer. -/
theorem g_whole (c : Dev nD) : (bigSep Finset.univ fun n : Fin 4 => iprop(∃ f, gPt (F := F) c (slotSet n) f)) ⊢ iprop(∃ f, gPt (F := F) c Finset.univ f) := by
  haveI : Nonempty (S4x64x2048.Idx → Elt F .f32) := ⟨fun _ => Classical.choice ((inferInstance : ∀ e, Nonempty (Elt F e)) .f32)⟩
  refine (bigSep_exists_pi Finset.univ (fun (n : Fin 4) (f : S4x64x2048.Idx → Elt F .f32) => gPt (F := F) c (slotSet n) f)).trans ?_
  iintro ⟨%y, H⟩
  iexists (fun i => y (i 0) i)
  iapply (Entails.of_eq (g_eq c (fun i => y (i 0) i)).symm)
  iapply (bs_mono Finset.univ (Φ := fun n : Fin 4 => gPt (F := F) c (slotSet n) (y n)) fun n => Entails.of_eq (pointsTo_congr fun i hi => by
    have h : i 0 = n := Fin.ext (Finset.mem_filter.mp hi).2
    show y n i = y (i 0) i
    rw [h])) $$ H

/-- A ring of four free slots gives back the buffer, the semaphores and the table. -/
theorem ring_end (c : Dev nD) :
    iprop(ring J c (fun _ => none) ∗ eRest J c)
    ⊢ iprop((∃ f, gPt (F := F) c Finset.univ f) ∗ (bigSep Finset.univ fun n : Fin 4 => semVal ((c : Thread nD τ), .dma (gsem n)) 0) ∗ ePt J c) := by
  iintro ⟨HR, Hr⟩
  ihave H := (show ring J c (fun _ => none) ⊢ iprop((bigSep Finset.univ fun n : Fin 4 => iprop(∃ f, gPt (F := F) c (slotSet n) f)) ∗ (bigSep Finset.univ fun n : Fin 4 => semVal ((c : Thread nD τ), .dma (gsem n)) 0)
        ∗ (bigSep Finset.univ fun n : Fin 4 => bigSep Finset.univ fun r : Fin 64 => tPt J c n r Finset.univ)) from
      (bs_split _ _ _).trans (sep_mono_right (bs_split _ _ _))) $$ HR
  icases H with ⟨Hg, Hv, He⟩
  ihave He := (Entails.of_eq (tab_split J c).symm) $$ He
  isplitl [Hg]; · iapply (g_whole (F := F) c); iexact Hg
  isplitl [Hv]; · iexact Hv
  iapply (Transfers.pointsTo_toks_join fullShare 256)
  isplitl [Hr]; · iexact Hr
  iexact He

end Cert.KernelIdeal.Emb
-- ==== Proof.Ideal.Device.lean ====
module

public import proofs.«01_k».proof.Proof.Ideal.Whole

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Ins F) (K : GSem nD τ sig → ℕ)

/-! ## The semaphores of the kernel's own -/

/-- The semaphores in the kernel's scratch: the ring's, then the chunks'. -/
abbrev osem : Fin 4 ⊕ (Fin 4 × Fin 32) → SemLoc sig := Sum.elim (fun j => .dma (gsem j)) (fun p => .dma (tsem p.1 p.2))

/-- The kernel's own semaphores: the slots' and the transfers'. -/
theorem own_eq (c : Dev nD) : (Pipeline.ownSems0 osem c : sProp 𝕄)
    = iprop((bigSep Finset.univ fun n : Fin 4 => semVal ((c : Thread nD τ), .dma (gsem n)) 0) ∗ bigSep Finset.univ fun p : Fin 4 × Fin 32 => semVal (tc p.1 p.2 c) 0) :=
  bigSep_univ_sum _

/-- A family over the four kinds. -/
theorem bs_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]; rfl
/-- A family over the chunks' cells, kind by kind. -/
theorem bs_kinds (Φ : Fin 4 → Fin 32 → sProp 𝕄) : bigSep Finset.univ (fun p : Fin 4 × Fin 32 => Φ p.1 p.2)
    = iprop(bigSep Finset.univ (Φ 0) ∗ bigSep Finset.univ (Φ 1) ∗ bigSep Finset.univ (Φ 2) ∗ bigSep Finset.univ (Φ 3)) := by
  rw [bigSep_univ_prod, bs_four]

/-! ## What a device holds at the kernel's start and at its end -/

/-- What every device knows: the cells' invariants, and that each barrier cell is open. -/
def records (K : GSem nD τ sig → ℕ) : sProp 𝕄 := iprop(invs J K ∗ bigSep Finset.univ fun c : Dev nD => reached ER (barC c) 0)
/-- The records can be used again and again. -/
instance records_persistent (K : GSem nD τ sig → ℕ) : BI.Persistent (records J K) := by unfold records; infer_instance
/-- They hold every cell's invariant. -/
theorem rec_inv (K : GSem nD τ sig → ℕ) : records J K ⊢ invs J K := sep_elim_left
/-- They hold that every barrier cell is at its start. -/
theorem rec_bar (K : GSem nD τ sig → ℕ) (c : Dev nD) : records J K ⊢ reached ER (barC c) 0 :=
  sep_elim_right.trans (bigSep_elim (Φ := fun c : Dev nD => reached ER (barC c) 0) (Finset.mem_univ c))

/-- The rights of device `c` to signal its neighbours and to make its copies. -/
def toks (c : Dev nD) : sProp 𝕄 :=
  iprop((dutyTok ER (barC (yn c)) 0 false ∗ dutyTok ER (barC (xn c)) 0 true)
    ∗ (bigSep Finset.univ fun k : Fin 32 => tok (F := F) 0 k c) ∗ (bigSep Finset.univ fun k : Fin 32 => tok (F := F) 1 k (yn c))
    ∗ (bigSep Finset.univ fun k : Fin 32 => tok (F := F) 2 k c) ∗ bigSep Finset.univ fun k : Fin 32 => tok (F := F) 3 k (xn c))
/-- The credits of device `c`: its neighbours' signals and their copies. -/
def credits (c : Dev nD) : sProp 𝕄 :=
  iprop(cred (tallyAt (barC c) () 2) ∗ (bigSep Finset.univ fun k : Fin 32 => crd (F := F) 1 k c) ∗ bigSep Finset.univ fun k : Fin 32 => crd (F := F) 3 k c)

/-- What device `c` brings from the launch. -/
def fromLaunch (c : Dev nD) : sProp 𝕄 :=
  iprop((∃ K, records J K) ∗ atPos ER (barC c) 0 ∅ 0 ∗ (bigSep Finset.univ fun p : Fin 4 × Fin 32 => openTok ER (tc p.1 p.2 c)) ∗ toks (F := F) c ∗ credits (F := F) c)
/-- The same once the chunks' cells are open. -/
def opened (c : Dev nD) : sProp 𝕄 :=
  iprop((∃ K, records J K) ∗ levAts L lv ∗ atPos ER (barC c) 0 ∅ 0 ∗ (bigSep Finset.univ fun n : Fin 4 => semVal ((c : Thread nD τ), .dma (gsem n)) 0)
    ∗ (bigSep Finset.univ fun p : Fin 4 × Fin 32 => iprop(at' (F := F) p.1 p.2 c 0 ∗ reached ER (tc p.1 p.2 c) 0)) ∗ toks (F := F) c ∗ credits (F := F) c)

/-- A transfer cell not yet opened, with its counter at zero, is opened at its start. -/
theorem open_cell (K : GSem nD τ sig → ℕ) (c : Dev nD) (p : Fin 4 × Fin 32) :
    iprop(records J K ∗ (openTok ER (tc p.1 p.2 c) ∗ semVal (tc p.1 p.2 c) 0)) ⊢ (|={Set.univ}=> iprop(at' (F := F) p.1 p.2 c 0 ∗ reached ER (tc p.1 p.2 c) 0) : sProp 𝕄) := by
  iintro ⟨#HR, Ho, Hv⟩
  ihave #HI := (rec_inv J K) $$ HR
  ihave #HC := (inv_t J K p.1 p.2 c) $$ HI
  iapply (cell_open ER (sched J) (g := tc p.1 p.2 c) (Set.mem_univ _))
  isplitr; · iexact HC
  isplitl [Ho]; · iexact Ho
  iexact Hv

/-- With its counters at zero a device opens all its transfer cells. -/
theorem open_all (c : Dev nD) : iprop(fromLaunch J c ∗ Pipeline.ownSems0 osem c ∗ levAts L lv) ⊢ (|={Set.univ}=> opened J c : sProp 𝕄) := by
  rw [own_eq]
  unfold fromLaunch opened
  iintro ⟨⟨⟨%K, #HR⟩, Hb, Ho, Ht, Hc⟩, ⟨Hg, Hv⟩, #Hlev⟩
  ihave H := (show iprop((bigSep Finset.univ fun p : Fin 4 × Fin 32 => openTok ER (tc p.1 p.2 c)) ∗ bigSep Finset.univ fun p : Fin 4 × Fin 32 => semVal (tc p.1 p.2 c) 0)
      ⊢ bigSep Finset.univ fun p : Fin 4 × Fin 32 => iprop(openTok ER (tc p.1 p.2 c) ∗ semVal (tc p.1 p.2 c) 0) from bs_join (F := F) _ _ _) $$ [Ho Hv]
  · isplitl [Ho]; · iexact Ho
    iexact Hv
  imod (fupd_family (records J K) (open_cell J K c)) $$ [H] with H
  · isplitr; · iexact HR
    iexact H
  imodintro
  isplitr; · iexists K; iexact HR
  isplitr; · iexact Hlev
  isplitl [Hb]; · iexact Hb
  isplitl [Hg]; · iexact Hg
  isplitl [H]; · iexact H
  isplitl [Ht]; · iexact Ht
  iexact Hc

/-- A transfer cell at its end gives back its counter at zero. -/
theorem close_cell (K : GSem nD τ sig → ℕ) (c : Dev nD) (p : Fin 4 × Fin 32) :
    iprop(records J K ∗ at' (F := F) p.1 p.2 c 1) ⊢ (|={Set.univ}=> semVal (tc p.1 p.2 c) 0 : sProp 𝕄) := by
  iintro ⟨#HR, Ha⟩
  ihave #HI := (rec_inv J K) $$ HR
  ihave #HC := (inv_t J K p.1 p.2 c) $$ HI
  iapply (cell_close ER (sched J) (g := tc p.1 p.2 c) (R := 1) (Set.mem_univ _) id (fun r h => duties_later J _ _ (by omega)))
  isplitr; · iexact HC
  iexact Ha

/-- A barrier cell at its end gives back its counter at zero. -/
theorem close_bar (K : GSem nD τ sig → ℕ) (c : Dev nD) :
    iprop(records J K ∗ atPos ER (barC c) 1 ∅ 0) ⊢ (|={Set.univ}=> semVal (barC c) 0 : sProp 𝕄) := by
  iintro ⟨#HR, Ha⟩
  ihave #HI := (rec_inv J K) $$ HR
  ihave #HC := (inv_bar J K c) $$ HI
  iapply (cell_close ER (sched J) (g := barC c) (R := 1) (Set.mem_univ _) id (fun r h => duties_later J _ _ (by omega)))
  isplitr; · iexact HC
  iexact Ha

/-- The buffers of device `c` the kernel works in, before it runs. -/
def bufs (c : Dev nD) : sProp 𝕄 :=
  iprop(iPt J c ∗ sPt J c ∗ (∃ f, oPt (F := F) c Finset.univ f) ∗ (∃ f, gPt (F := F) c Finset.univ f) ∗ (∃ f, yPt (F := F) c Finset.univ f) ∗ ePt J c)
/-- The same when it has run. -/
def bufs' (c : Dev nD) : sProp 𝕄 :=
  iprop(iPt J c ∗ sPt J c ∗ oPt c Finset.univ (finT J c) ∗ (∃ f, gPt (F := F) c Finset.univ f) ∗ (∃ f, yPt (F := F) c Finset.univ f) ∗ ePt J c)

/-- The buffers' chunks and the cells' tokens, put together chunk by chunk. -/
theorem bare_all (c : Dev nD) :
    iprop((bigSep Finset.univ fun k : Fin 32 => iprop(∃ f, oPt (F := F) c (outSet c k) f))
      ∗ ((bigSep Finset.univ fun k : Fin 32 => tok (F := F) 0 k c) ∗ (bigSep Finset.univ fun k : Fin 32 => reached ER (tc 0 k c) 0) ∗ (bigSep Finset.univ fun k : Fin 32 => tok (F := F) 1 k (yn c)))
      ∗ (bigSep Finset.univ fun k : Fin 32 => at' (F := F) 0 k c 0) ∗ (bigSep Finset.univ fun k : Fin 32 => at' (F := F) 1 k c 0)
      ∗ (bigSep Finset.univ fun k : Fin 32 => crd (F := F) 1 k c) ∗ (bigSep Finset.univ fun k : Fin 32 => tok (F := F) 2 k c)
      ∗ (bigSep Finset.univ fun k : Fin 32 => tok (F := F) 3 k (xn c)) ∗ (bigSep Finset.univ fun k : Fin 32 => reached ER (tc 2 k c) 0)
      ∗ (bigSep Finset.univ fun k : Fin 32 => at' (F := F) 2 k c 0) ∗ (bigSep Finset.univ fun k : Fin 32 => at' (F := F) 3 k c 0)
      ∗ (bigSep Finset.univ fun k : Fin 32 => crd (F := F) 3 k c))
    ⊢ bigSep Finset.univ fun k => ckBare (F := F) c k := by
  unfold ckBare
  exact (sep_mono_right ((BIClass.sep_mono ((sep_mono_right (bs_join _ _ _)).trans (bs_join _ _ _)) ((sep_mono_right ((sep_mono_right ((sep_mono_right ((sep_mono_right ((sep_mono_right ((sep_mono_right ((sep_mono_right (bs_join _ _ _)).trans (bs_join _ _ _))).trans (bs_join _ _ _))).trans (bs_join _ _ _))).trans (bs_join _ _ _))).trans (bs_join _ _ _))).trans (bs_join _ _ _))).trans (bs_join _ _ _))).trans (bs_join _ _ _))).trans (bs_join _ _ _)

/-- The chunks at their end, taken apart into cells and buffers. -/
theorem end_all (c : Dev nD) :
    bigSep Finset.univ (ckEnd J c)
    ⊢ iprop((bigSep Finset.univ fun p : Fin 4 × Fin 32 => at' (F := F) p.1 p.2 c 1) ∗ (bigSep Finset.univ fun k : Fin 32 => yPt c (ySet k) (ybT J c))
      ∗ (bigSep Finset.univ fun k : Fin 32 => oPt c (outSet c k) (sumT J c)) ∗ (bigSep Finset.univ fun k : Fin 32 => oPt c (outSet (xn c) k) (sumT J (xn c)))) := by
  have h : bigSep Finset.univ (ckEnd J c) ⊢ iprop((bigSep Finset.univ fun k : Fin 32 => at' (F := F) 0 k c 1) ∗ (bigSep Finset.univ fun k : Fin 32 => at' (F := F) 1 k c 1)
      ∗ (bigSep Finset.univ fun k : Fin 32 => yPt c (ySet k) (ybT J c)) ∗ (bigSep Finset.univ fun k : Fin 32 => at' (F := F) 2 k c 1) ∗ (bigSep Finset.univ fun k : Fin 32 => at' (F := F) 3 k c 1)
      ∗ (bigSep Finset.univ fun k : Fin 32 => oPt c (outSet (xn c) k) (sumT J (xn c))) ∗ (bigSep Finset.univ fun k : Fin 32 => oPt c (outSet c k) (sumT J c))) := by
    unfold ckEnd
    exact (bs_split _ _ _).trans (sep_mono_right ((bs_split _ _ _).trans (sep_mono_right ((bs_split _ _ _).trans (sep_mono_right ((bs_split _ _ _).trans
      (sep_mono_right ((bs_split _ _ _).trans (sep_mono_right (bs_split _ _ _))))))))))
  refine h.trans ?_
  rw [bs_kinds (fun kd k => at' (F := F) kd k c 1)]
  iintro ⟨H0, H1, Hy, H2, H3, Hx, Ho⟩
  isplitl [H0 H1 H2 H3]
  · isplitl [H0]; · iexact H0
    isplitl [H1]; · iexact H1
    isplitl [H2]; · iexact H2
    iexact H3
  isplitl [Hy]; · iexact Hy
  isplitl [Ho]; · iexact Ho
  iexact Hx

/-- The kernel on one device, from what the launch and the compiler's copies bring to what they take back. -/
theorem prog_wp (hJ : ∀ c i, (J.ids c i).toNat < 8192) (c : Dev nD) {Q : PUnit → sProp 𝕄} :
    iprop((opened J c ∗ bufs J c ∗ ow c (O₀ c)) ∗ ((bufs' J c ∗ Pipeline.ownSems0 osem c ∗ semVal (barC c) 0 ∗ ow c 0) -∗ Q ⟨⟩))
    ⊢ wp frame (wpE (defs₀ (F := F)) 𝒱₀ (c : Thread nD τ) none) Set.univ prog Q := by
  have e : wp frame (wpE (defs₀ (F := F)) 𝒱₀ (c : Thread nD τ) none) Set.univ prog Q = wp frame (wpE (defs₀ (F := F)) 𝒱₀ (c : Thread nD τ) none) Set.univ (work c) Q :=
    wp_deviceId (k := work) 𝒱₀ (c : Thread nD τ) none Set.univ
  rw [e]
  refine BIBase.Entails.trans ?_ (wp_fupd _ _ _ _ _)
  rw [own_eq]
  unfold opened bufs bufs' toks credits
  rw [show (bigSep Finset.univ fun p : Fin 4 × Fin 32 => iprop(at' (F := F) p.1 p.2 c 0 ∗ reached ER (tc p.1 p.2 c) 0)) = iprop(_ ∗ _ ∗ _ ∗ _) from
    bs_kinds (fun kd k => iprop(at' (F := F) kd k c 0 ∗ reached ER (tc kd k c) 0))]
  iintro ⟨⟨⟨⟨%K, #HR⟩, #Hlev, Hb, Hg, ⟨Ha0, Ha1, Ha2, Ha3⟩, ⟨⟨HtY, HtX⟩, Ht0, Ht1, Ht2, Ht3⟩, ⟨Hc, Hc1, Hc3⟩⟩, ⟨Hi, Hs, ⟨%fo, Ho⟩, Hring, ⟨%fy, Hy⟩, He⟩, HO⟩, HK⟩
  ihave #HI := (rec_inv J K) $$ HR
  ihave #HbY := (rec_bar J K (yn c)) $$ HR
  ihave #HbX := (rec_bar J K (xn c)) $$ HR
  ihave Ha0 := (bs_split Finset.univ (fun k : Fin 32 => at' (F := F) 0 k c 0) (fun k => reached ER (tc 0 k c) 0)) $$ Ha0
  icases Ha0 with ⟨Ha0, Hr0⟩
  ihave Ha1 := (bs_split Finset.univ (fun k : Fin 32 => at' (F := F) 1 k c 0) (fun k => reached ER (tc 1 k c) 0)) $$ Ha1
  icases Ha1 with ⟨Ha1, Hr1⟩
  ihave Ha2 := (bs_split Finset.univ (fun k : Fin 32 => at' (F := F) 2 k c 0) (fun k => reached ER (tc 2 k c) 0)) $$ Ha2
  icases Ha2 with ⟨Ha2, Hr2⟩
  ihave Ha3 := (bs_split Finset.univ (fun k : Fin 32 => at' (F := F) 3 k c 0) (fun k => reached ER (tc 3 k c) 0)) $$ Ha3
  icases Ha3 with ⟨Ha3, Hr3⟩
  ihave Ho := (out_parts c fo) $$ Ho
  icases Ho with ⟨Ho, Hox⟩
  ihave Hy := (y_parts c fy) $$ Hy
  ihave HR0 := (ring_start J c) $$ [Hring Hg He]
  · isplitl [Hring]; · iexact Hring
    isplitl [Hg]; · iexact Hg
    iexact He
  icases HR0 with ⟨Hring, He⟩
  iapply (work_wp J K hJ c)
  isplitl [Hb Hc HtY HtX Hy Hr1 Hox Hr3 Ho Ht0 Hr0 Ht1 Ha0 Ha1 Hc1 Ht2 Ht3 Hr2 Ha2 Ha3 Hc3 Hring Hi Hs HO]
  · isplitr; · iexact HI
    isplitr; · iexact Hlev
    unfold workPre atBar lend
    isplitl [Hb Hc HtY HtX]
    · isplitl [Hb]; · iexact Hb
      isplitl [Hc]; · iexact Hc
      isplitr; · iexact HbY
      isplitr; · iexact HbX
      isplitl [HtY]; · iexact HtY
      iexact HtX
    isplitl [Hy Hr1 Hox Hr3]
    · isplitl [Hy Hr1]
      · iapply (bs_join (F := F) Finset.univ (fun k : Fin 32 => iprop(∃ f, yPt c (ySet k) f)) (fun k => reached ER (tc 1 k c) 0))
        isplitl [Hy]; · iexact Hy
        iexact Hr1
      iapply (bs_join (F := F) Finset.univ (fun k : Fin 32 => iprop(∃ f, oPt c (outSet (xn c) k) f)) (fun k => reached ER (tc 3 k c) 0))
      isplitl [Hox]; · iexact Hox
      iexact Hr3
    isplitl [Ho Ht0 Hr0 Ht1 Ha0 Ha1 Hc1 Ht2 Ht3 Hr2 Ha2 Ha3 Hc3]
    · iapply (bare_all (F := F) c)
      isplitl [Ho]; · iexact Ho
      isplitl [Ht0 Hr0 Ht1]
      · isplitl [Ht0]; · iexact Ht0
        isplitl [Hr0]; · iexact Hr0
        iexact Ht1
      isplitl [Ha0]; · iexact Ha0
      isplitl [Ha1]; · iexact Ha1
      isplitl [Hc1]; · iexact Hc1
      isplitl [Ht2]; · iexact Ht2
      isplitl [Ht3]; · iexact Ht3
      isplitl [Hr2]; · iexact Hr2
      isplitl [Ha2]; · iexact Ha2
      isplitl [Ha3]; · iexact Ha3
      iexact Hc3
    isplitl [Hring]; · iexact Hring
    isplitl [Hi]; · iexact Hi
    isplitl [Hs]; · iexact Hs
    iexact HO
  unfold workPost
  iintro ⟨Hb, HC, Hring, Hi, Hs, HO⟩
  ihave HC := (end_all J c) $$ HC
  icases HC with ⟨Ha, Hy, Ho, Hox⟩
  imod (fupd_family (records J K) (close_cell J K c)) $$ [Ha] with Hv
  · isplitr; · iexact HR
    iexact Ha
  imod (close_bar J K c) $$ [Hb] with Hb
  · isplitr; · iexact HR
    iexact Hb
  ihave Hy := (y_whole c (ybT J c)) $$ Hy
  ihave Ho := (out_whole J c) $$ [Ho Hox]
  · isplitl [Ho]; · iexact Ho
    iexact Hox
  ihave HR0 := (ring_end J c) $$ [Hring He]
  · isplitl [Hring]; · iexact Hring
    iexact He
  icases HR0 with ⟨Hring, Hg, He⟩
  imodintro
  iapply HK
  isplitl [Hi Hs Ho Hring Hy He]
  · isplitl [Hi]; · iexact Hi
    isplitl [Hs]; · iexact Hs
    isplitl [Ho]; · iexact Ho
    isplitl [Hring]; · iexact Hring
    isplitl [Hy]; · iexists (ybT J c); iexact Hy
    iexact He
  isplitl [Hg Hv]
  · isplitl [Hg]; · iexact Hg
    iexact Hv
  isplitl [Hb]; · iexact Hb
  iexact HO

end Cert.KernelIdeal.Emb
-- ==== Proof.Ideal.Walk.lean ====
module

public import proofs.«01_k».proof.Proof.Ideal.Common

@[expose] public section
noncomputable section
namespace Cert.KernelIdeal.Emb

open Cert.KernelIdeal Cert.KernelIdeal.Gen
open Idealize.ShloMosaic Idealize.ShloMosaic.TcCoe
open Idealize.SL.Sem

variable {F : FTy → Type} [FloatOps F]

universe v
/-- Two programs that start with the same operation are equal if their rests are. -/
theorem bcL {E : Type → Type v} {α β : Type} {p q : E α} {f g : α → Prog E β} (h : p = q) (h' : ∀ a, f a = g a) : Prog.lift p >>= f = Prog.lift q >>= g := by
  subst h
  exact congrArg _ (funext h')
/-- Two programs that start with the same counted loop are equal if their rests are. -/
theorem bcF {E : Type → Type v} {α β : Type} {w : ℕ} {l l' : Scf.Loop w} {ok : l.OK} {ok' : l'.OK} {i : α} {p : Fin l.trips → α → Prog E α} {q : Fin l'.trips → α → Prog E α} {f g : α → Prog E β}
    (hl : l = l') (h : HEq p q) (h' : ∀ a, f a = g a) : Scf.Loop.for l ok i p >>= f = Scf.Loop.for l' ok' i q >>= g := by
  subst hl
  cases h
  exact congrArg _ (funext h')
/-- Two programs that start with the same signal are equal if their rests are. -/
theorem bcSig {β : Type} {d d' : Dev nD} {s s' : Sem sig} {n n' : BitVec 32} {f g : PUnit → Prog (TpuEff nD τ sig (Elt F) Λ₀ .tc) β} (hd : d = d') (hs : s = s') (hn : n = n') (h' : ∀ a, f a = g a) :
    semSignalWord d s n >>= f = semSignalWord d' s' n' >>= g := by
  subst hd hs hn
  exact congrArg _ (funext h')
/-- Two programs that start with the same wait are equal if their rests are. -/
theorem bcWait {β : Type} {s s' : Sem sig} {n n' : BitVec 32} {f g : PUnit → Prog (TpuEff nD τ sig (Elt F) Λ₀ .tc) β} (hs : s = s') (hn : n = n') (h' : ∀ a, f a = g a) :
    semWaitWord s n >>= f = semWaitWord s' n' >>= g := by
  subst hs hn
  exact congrArg _ (funext h')
/-- Regroups the left program of an equation. -/
theorem assocL {E : Type → Type v} {α β γ : Type} {p : Prog E α} {q : α → Prog E β} {r : β → Prog E γ} {z : Prog E γ} (h : (p >>= fun a => q a >>= r) = z) : (p >>= q) >>= r = z :=
  (bind_assoc p q r).trans h
/-- Regroups the right program of an equation. -/
theorem assocR {E : Type → Type v} {α β γ : Type} {p : Prog E α} {q : α → Prog E β} {r : β → Prog E γ} {z : Prog E γ} (h : z = (p >>= fun a => q a >>= r)) : z = (p >>= q) >>= r :=
  h.trans (bind_assoc p q r).symm
/-- Drops a returned value on the left. -/
theorem pureL {E : Type → Type v} {α γ : Type} {a : α} {r : α → Prog E γ} {z : Prog E γ} (h : r a = z) : (pure a >>= r) = z := h
/-- Drops a returned value on the right. -/
theorem pureR {E : Type → Type v} {α γ : Type} {a : α} {r : α → Prog E γ} {z : Prog E γ} (h : z = r a) : z = (pure a >>= r) := h
/-- No more rounds: the right program goes on with its rest. -/
theorem timesZ {β : Type} {f : ℕ → Prog (TpuEff nD τ sig (Elt F) Λ₀ .tc) PUnit} {i : ℕ} {z : Prog (TpuEff nD τ sig (Elt F) Λ₀ .tc) β} {r : PUnit → Prog (TpuEff nD τ sig (Elt F) Λ₀ .tc) β} (h : z = r ⟨⟩) : z = times f 0 i >>= r := h
/-- One round more: the right program does it and goes on. -/
theorem timesS {β : Type} {f : ℕ → Prog (TpuEff nD τ sig (Elt F) Λ₀ .tc) PUnit} {n i : ℕ} {z : Prog (TpuEff nD τ sig (Elt F) Λ₀ .tc) β} {r : PUnit → Prog (TpuEff nD τ sig (Elt F) Λ₀ .tc) β} (h : z = f i >>= fun _ => times f n (i + 1) >>= r) : z = times f (n + 1) i >>= r :=
  h.trans (bind_assoc _ _ _).symm

set_option maxHeartbeats 400000000 in
set_option maxRecDepth 100000 in
/-- The kernel's body, unrolled as it is, is the program with rounds. -/
theorem body_eq : cc0_body (F := F) mI (Memref.isWhole_whole _) mS (Memref.isWhole_whole _) mE (Memref.isWhole_whole _) mO (Memref.isWhole_whole _) mG (Memref.isWhole_whole _) mY (Memref.isWhole_whole _)
  cc0_scratch2 cc0_scratch3 cc0_scratch4 cc0_scratch5 cc0_scratch6 = prog := by
  unfold cc0_body
  refine assocL ?_
  refine assocL ?_
  refine bcL rfl fun c => ?_
  repeat first
    | (with_reducible refine bcL ?_ fun _ => ?_); (rfl)
    | (with_reducible refine bcF ?_ ?_ fun _ => ?_); (rfl); (exact HEq.rfl)
    | (with_reducible refine bcSig ?_ ?_ ?_ fun _ => ?_); (rfl); (rfl); (rfl)
    | (with_reducible refine bcWait ?_ ?_ fun _ => ?_); (rfl); (rfl)
    | with_reducible refine pureL ?_
    | with_reducible refine pureR ?_
    | with_reducible refine timesZ ?_
    | with_reducible refine timesS ?_
    | with_reducible refine assocR ?_
    | refine assocL ?_
  rfl
end Cert.KernelIdeal.Emb
-- ==== Proof.Ideal.Region.lean ====
module

public import proofs.«01_k».proof.Proof.Ideal.Device
public import proofs.«01_k».proof.Proof.Ideal.Walk
public import proofs.«01_k».proof.Proof.Gen.KernelIdeal.Launch
public import proofs.«01_k».proof.Proof.Gen.KernelIdeal.Points
public import proofs.«01_k».proof.Proof.Gen.KernelIdeal.Regions

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : Dev nD → Valuation τ sig (Elt F))

/-! ## The kernel's region: its windows, its invariant, its record -/

/-- What the kernel reads on each device: the rows' numbers, the scales, the table. -/
def insOf : Ins F where
  ids c := V c main_v13
  sc c := V c main_v15
  tab c := V c main_arg1

/-- The buffers when the region has run: the result's is new. -/
abbrev ends (c : Dev nD) : Valuation τ sig (Elt F) := Function.update (V c) (Proc.devRef .tc main_v16) (finT (insOf V) c)

/-- At the end the result is the kernel's. -/
theorem ends_result (c : Dev nD) : ends V c (Proc.devRef .tc main_v16) = finT (insOf V) c := by
  show Function.update (V c) (Proc.devRef .tc main_v16) (finT (insOf V) c) (Proc.devRef .tc main_v16) = _
  rw [Function.update_self]

/-- The region's proof data: one point; before it the device owes its signals and copies, after it nothing. -/
def dat0 (c : Dev nD) : Dat τ (Elt F) Unit ℕ UU ℕ cfg0 c where
  A w := V c (Proc.devRef .tc (Pipeline.arrRef spec0 w))
  after w _ := match w with
    | 0 => (insOf V).ids c
    | 1 => (insOf V).sc c
    | 2 => finT (insOf V) c
    | ⟨_ + 3, h⟩ => absurd h (Nat.not_lt.2 (Nat.le_add_left _ _))
  Φ t := if t.val = 0 then
      iprop(opened (insOf V) c ∗ (∃ f, gPt (F := F) c Finset.univ f) ∗ (∃ f, yPt (F := F) c Finset.univ f) ∗ ePt (insOf V) c ∗ ∃ r, prngReg c r)
    else
      iprop((Pipeline.ownSems0 osem c ∗ semVal (barC c) 0) ∗ (∃ f, gPt (F := F) c Finset.univ f) ∗ (∃ f, yPt (F := F) c Finset.univ f) ∗ ePt (insOf V) c ∗ ∃ r, prngReg c r)
  q _ := fullShare
  owed t := if t.val = 0 then O₀ c else 0

/-- The window on the row numbers is the whole array. -/
theorem read0 (c : Dev nD) (f : Buf (Elt F) ((c : Thread nD τ).loc main_v13)) : (win0_0.blk t0_0).view.read (Elt F) f = f :=
  Memref.read_access_unit_zero (Elt F) main_v13
    (show (fun a => (win0_0.index t0_0) a * main_v13.ty.shape.size a) = fun _ => 0 from
      funext fun a => by fin_cases a <;> decide) (fun a => by fin_cases a <;> decide) f
/-- The window on the scales is the whole array. -/
theorem read1 (c : Dev nD) (f : Buf (Elt F) ((c : Thread nD τ).loc main_v15)) : (win0_1.blk t0_0).view.read (Elt F) f = f :=
  Memref.read_access_unit_zero (Elt F) main_v15
    (show (fun a => (win0_1.index t0_0) a * main_v15.ty.shape.size a) = fun _ => 0 from
      funext fun a => by fin_cases a <;> decide) (fun a => by fin_cases a <;> decide) f
/-- The window on the result is the whole array. -/
theorem read2 (c : Dev nD) (f : Buf (Elt F) ((c : Thread nD τ).loc main_v16)) : (win0_2.blk t0_0).view.read (Elt F) f = f :=
  Memref.read_access_unit_zero (Elt F) main_v16
    (show (fun a => (win0_2.index t0_0) a * main_v16.ty.shape.size a) = fun _ => 0 from
      funext fun a => by fin_cases a <;> decide) (fun a => by fin_cases a <;> decide) f

/-- The kernel finds the row numbers staged. -/
theorem before0 (c : Dev nD) (d) : (dat0 V c).before 0 t0_0 d = (insOf V).ids c := by
  refine Eq.trans ?_ (read0 c (V c main_v13))
  unfold Dat.before; rw [if_pos (fetch0_0 t0_0)]; rfl
/-- The kernel finds the scales staged. -/
theorem before1 (c : Dev nD) (d) : (dat0 V c).before 1 t0_0 d = (insOf V).sc c := by
  refine Eq.trans ?_ (read1 c (V c main_v15))
  unfold Dat.before; rw [if_pos (fetch0_1 t0_0)]; rfl

/-- The row numbers stay as they are. -/
theorem arr_in0 (c : Dev nD) (n : ℕ) : (dat0 V c).arrAt 0 n = V c main_v13 := (dat0 V c).arrAt_in (0 : Fin 3) rfl n
/-- The scales stay as they are. -/
theorem arr_in1 (c : Dev nD) (n : ℕ) : (dat0 V c).arrAt 1 n = V c main_v15 := (dat0 V c).arrAt_in (1 : Fin 3) rfl n
/-- At the end the result's array is what the kernel left. -/
theorem arr_out (c : Dev nD) : (dat0 V c).arrAt 2 cfg0.N = finT (insOf V) c := by
  have hw : ((cfg0.win 2).blk t0_0).view.read (Elt F) ((dat0 V c).arrAt 2 cfg0.N) = (dat0 V c).flushed 2 t0_0 := by
    rw [show cfg0.N = t0_0.val + 1 from rfl, (dat0 V c).arrAt_succ (2 : Fin 3) t0_0, flush0_2, if_pos rfl]
    exact View.read_write_univ _ _
  exact (read2 c _).symm.trans (hw.trans (funext fun _ => rfl))

/-- At the body's start the device owes all its signals and copies. -/
theorem owed_first (c : Dev nD) : (dat0 V c).owed t0_0.castSucc = O₀ c := by
  show (if (t0_0.castSucc : Fin (cfg0.N + 1)).val = 0 then O₀ c else 0) = O₀ c; exact if_pos rfl
/-- So it does when the region begins. -/
theorem owed_zero (c : Dev nD) : (dat0 V c).owed 0 = O₀ c := by
  show (if (0 : Fin (cfg0.N + 1)).val = 0 then O₀ c else 0) = O₀ c; exact if_pos rfl
/-- When the region ends it owes nothing. -/
theorem owed_end (c : Dev nD) : (dat0 V c).owed (Fin.last cfg0.N) = 0 := by
  show (if (Fin.last cfg0.N).val = 0 then O₀ c else 0) = 0
  rw [Fin.val_last, if_neg (by rw [show cfg0.N = 1 from N_0]; decide)]

/-- A debt as the body names it, as the region names it. -/
theorem owes_in (c : Dev nD) (t : Fin (cfg0.N + 1)) (O : CellTallies nD τ sig Unit) (h : (dat0 V c).owed t = O) (hr : (dat0 V c).recorded t = Set.univ) :
    ow (F := F) c O ⊢ ((dat0 V c).owesAt () t : sProp 𝕄) := by
  unfold Dat.owesAt Pipeline.owesWithin Dat.bound
  rw [h, hr]
  iintro ⟨%W, HO⟩
  iexists W
  isplitr; · ipureintro; exact fun _ _ => Or.inl trivial
  iexact HO
/-- A debt as the region names it, as the body names it. -/
theorem owes_out (c : Dev nD) (t : Fin (cfg0.N + 1)) (O : CellTallies nD τ sig Unit) (h : (dat0 V c).owed t = O) :
    ((dat0 V c).owesAt () t : sProp 𝕄) ⊢ ow (F := F) c O := by
  unfold Dat.owesAt Pipeline.owesWithin
  rw [h]
  iintro ⟨%W, -, HO⟩
  iexists W; iexact HO

/-- The kernel's body, run on one device from its buffers and its opened cells. -/
theorem call_wp (hJ : ∀ c i, ((insOf V).ids c i).toNat < 8192) (c : Dev nD) (Q : PUnit → sProp 𝕄) :
    iprop((opened (insOf V) c ∗ bufs (insOf V) c ∗ ow c (O₀ c)) ∗ ((bufs' (insOf V) c ∗ Pipeline.ownSems0 osem c ∗ semVal (barC c) 0 ∗ ow c 0) -∗ Q ⟨⟩))
    ⊢ wp frame (wpE (defs₀ (F := F)) 𝒱₀ (c : Thread nD τ) none) Set.univ (defs₀ (F := F) .tc cfg0.body (cfg0.bodyArgs t0_0 (cfg0.slots t0_0))) Q := by
  refine BIBase.Entails.trans (prog_wp (insOf V) hJ c) (Entails.of_eq ?_)
  rw [← body_eq]
  rfl

set_option maxRecDepth 4000 in
/-- The body does what the region asks of it. -/
theorem body_ok (hJ : ∀ c i, ((insOf V).ids c i).toNat < 8192) (c : Dev nD) : BodyObligation (dat0 V c) defs₀ 𝒱₀ () Set.univ := fun t => by
  obtain rfl := fin_N0 t
  rw [bigSep_W0, bigSep_W0]
  rw [show (dat0 V c).Φ t0_0.castSucc = iprop(opened (insOf V) c ∗ (∃ f, gPt (F := F) c Finset.univ f) ∗ (∃ f, yPt (F := F) c Finset.univ f) ∗ ePt (insOf V) c ∗ ∃ r, prngReg c r) from rfl,
    show (dat0 V c).Φ t0_0.succ = iprop((Pipeline.ownSems0 osem c ∗ semVal (barC c) 0) ∗ (∃ f, gPt (F := F) c Finset.univ f) ∗ (∃ f, yPt (F := F) c Finset.univ f) ∗ ePt (insOf V) c ∗ ∃ r, prngReg c r) from rfl]
  iintro ⟨⟨Hop, Hg, Hy, He, Hp⟩, HO, ⟨%d0, H0⟩, ⟨%d1, H1⟩, ⟨%d2, H2⟩⟩
  ihave HO := (owes_out V c _ (O₀ c) (owed_first V c)) $$ HO
  ihave H0 := (show owns (c : Thread nD τ) (Memref.whole cc0_stg0_0) fullShare ((dat0 V c).before 0 t0_0 d0) ⊢ iPt (insOf V) c from by
    rw [before0]; exact Entails.of_eq (owns_whole _ _ _ _)) $$ H0
  ihave H1 := (show owns (c : Thread nD τ) (Memref.whole cc0_stg1_0) fullShare ((dat0 V c).before 1 t0_0 d1) ⊢ sPt (insOf V) c from by
    rw [before1]; exact Entails.of_eq (owns_whole _ _ _ _)) $$ H1
  ihave H2 := (show owns (c : Thread nD τ) (Memref.whole cc0_stg2_0) fullShare ((dat0 V c).before 2 t0_0 d2) ⊢ oPt (F := F) c Finset.univ ((dat0 V c).before 2 t0_0 d2) from
    Entails.of_eq (owns_whole _ _ _ _)) $$ H2
  iapply (call_wp V hJ c _)
  isplitl [Hop Hg Hy He H0 H1 H2 HO]
  · isplitl [Hop]; · iexact Hop
    isplitr [HO]
    · unfold bufs
      isplitl [H0]; · iexact H0
      isplitl [H1]; · iexact H1
      isplitl [H2]; · iexists _; iexact H2
      isplitl [Hg]; · iexact Hg
      isplitl [Hy]; · iexact Hy
      iexact He
    iexact HO
  unfold bufs'
  iintro ⟨⟨H0, H1, H2, Hg, Hy, He⟩, Hown, Hb, HO⟩
  isplitl [Hown Hb Hg Hy He Hp]
  · isplitl [Hown Hb]
    · isplitl [Hown]; · iexact Hown
      iexact Hb
    isplitl [Hg]; · iexact Hg
    isplitl [Hy]; · iexact Hy
    isplitl [He]; · iexact He
    iexact Hp
  isplitl [HO]; · iapply (owes_in V c t0_0.succ 0 (owed_end V c) rfl); iexact HO
  isplitl [H0]
  · iapply (show iPt (insOf V) c ⊢ owns (c : Thread nD τ) (Memref.whole cc0_stg0_0) fullShare ((insOf V).ids c) from
      Entails.of_eq (owns_whole (c : Thread nD τ) cc0_stg0_0 fullShare ((insOf V).ids c)).symm); iexact H0
  isplitl [H1]
  · iapply (show sPt (insOf V) c ⊢ owns (c : Thread nD τ) (Memref.whole cc0_stg1_0) fullShare ((insOf V).sc c) from
      Entails.of_eq (owns_whole (c : Thread nD τ) cc0_stg1_0 fullShare ((insOf V).sc c)).symm); iexact H1
  iapply (show oPt (F := F) c Finset.univ (finT (insOf V) c) ⊢ owns (c : Thread nD τ) (Memref.whole cc0_stg2_0) fullShare (finT (insOf V) c) from
      Entails.of_eq (owns_whole (c : Thread nD τ) cc0_stg2_0 fullShare (finT (insOf V) c)).symm); iexact H2

/-! ### The record -/

/-- The kernel's semaphores are not the staging's. -/
theorem own_facts : Pipeline.OwnSemFacts spec0 osem := ⟨by decide +kernel, by decide +kernel, by decide +kernel⟩

/-- The other buffers of @main, and the one the kernel addresses itself. -/
abbrev restRefs : Finset (DevRef τ sig) := Pipeline.ucRefs τ sig \ Pipeline.arrRefs spec0
/-- The one array that the kernel reads in place: the table. -/
abbrev tabRefs : Finset (DevRef τ sig) := {Proc.devRef .tc main_arg1}

/-- Holding it is holding the table. -/
theorem held_tab (c : Dev nD) (W : Valuation τ sig (Elt F)) (h : W (Proc.devRef .tc main_arg1) = V c (Proc.devRef .tc main_arg1)) :
    (StableHlo.held (c : Thread nD τ) tabRefs W : sProp 𝕄) = ePt (insOf V) c := by
  unfold StableHlo.held
  rw [bigSep_singleton, h]
  rfl

/-- What a device owes at first is of a level above the staging's. -/
theorem O₀_pos {c : Dev nD} {g : GSem nD τ sig} {u : Unit} (h : 0 < O₀ c g u) : u ∈ L g ∧ 0 < lv g u := by
  have h' : 0 < (owed 1 (yn c) 0 g u + owed 3 (xn c) 0 g u) + tallyAt (barC (xn c)) () 1 g u + tallyAt (barC (yn c)) () 1 g u := h
  have bar : ∀ d : Dev nD, 0 < tallyAt (barC d) () 1 g u → u ∈ L g ∧ 0 < lv g u := fun d hd => by
    rw [tallyAt_apply] at hd
    have hg : g = barC d := (of_not_not fun hn => absurd hd (by rw [if_neg hn]; exact Nat.lt_irrefl 0) : _ ∧ _).1
    subst hg
    exact ⟨by rw [L_tc]; exact Finset.mem_singleton_self _, Nat.one_pos⟩
  rcases Nat.eq_zero_or_pos (owed 1 (yn c) 0 g u) with h1 | h1
  · rcases Nat.eq_zero_or_pos (owed 3 (xn c) 0 g u) with h3 | h3
    · rcases Nat.eq_zero_or_pos (tallyAt (barC (xn c)) () 1 g u) with h4 | h4
      · exact bar (yn c) (by omega)
      · exact bar (xn c) h4
    · obtain ⟨k, -, rfl⟩ := owed_pos h3
      exact ⟨by rw [L_tc]; exact Finset.mem_singleton_self _, by rw [lv_three]; decide⟩
  · obtain ⟨k, -, rfl⟩ := owed_pos h1
    exact ⟨by rw [L_tc]; exact Finset.mem_singleton_self _, by rw [lv_one]; omega⟩

/-- The staging's semaphores are of the lowest level. -/
theorem staging_low (c : Dev nD) (w : Fin 3) (s : Fin (spec0 w).nbuf) : lv ((c : Thread nD τ), .dma ((spec0 w).sem s)) () ≤ 0 := by
  have h : ∀ (w : Fin 3) (s : Fin (spec0 w).nbuf), ((spec0 w).sem s).val < 39 := by decide
  exact Nat.le_of_eq (if_pos (h w s))

/-- What the region's start hands to the kernel. -/
theorem region_in (c : Dev nD) :
    iprop(Pipeline.scopedRest spec0 c ∗ (∃ r, prngReg c r) ∗ StableHlo.held (c : Thread nD τ) tabRefs (V c) ∗ opened (insOf V) c) ⊢ (dat0 V c).Φ 0 := by
  rw [show (dat0 V c).Φ 0 = iprop(opened (insOf V) c ∗ (∃ f, gPt (F := F) c Finset.univ f) ∗ (∃ f, yPt (F := F) c Finset.univ f) ∗ ePt (insOf V) c ∗ ∃ r, prngReg c r) from rfl,
    scopedRest0_eq, held_tab V c (V c) rfl]
  iintro ⟨⟨Hg, Hy⟩, Hp, He, Ho⟩
  isplitl [Ho]; · iexact Ho
  isplitl [Hg]; · iexact Hg
  isplitl [Hy]; · iexact Hy
  isplitl [He]; · iexact He
  iexact Hp

/-- What the kernel hands back at the region's end. -/
theorem region_out (c : Dev nD) :
    (dat0 V c).Φ (Fin.last cfg0.N) ⊢ iprop(Pipeline.scopedRest spec0 c ∗ (∃ r, prngReg c r) ∗ StableHlo.held (c : Thread nD τ) tabRefs (ends V c)
      ∗ Pipeline.ownSems0 osem c ∗ semVal (barC c) 0) := by
  rw [show (dat0 V c).Φ (Fin.last cfg0.N) = iprop((Pipeline.ownSems0 osem c ∗ semVal (barC c) 0) ∗ (∃ f, gPt (F := F) c Finset.univ f) ∗ (∃ f, yPt (F := F) c Finset.univ f) ∗ ePt (insOf V) c ∗ ∃ r, prngReg c r) from rfl,
    scopedRest0_eq, held_tab V c (ends V c) (Function.update_of_ne (StableHlo.devRef_ne_of_ne (by decide)) _ _)]
  iintro ⟨⟨Ho, Hb⟩, Hg, Hy, He, Hp⟩
  isplitl [Hg Hy]
  · isplitl [Hg]; · iexact Hg
    iexact Hy
  isplitl [Hp]; · iexact Hp
  isplitl [He]; · iexact He
  isplitl [Ho]; · iexact Ho
  iexact Hb

set_option backward.isDefEq.respectTransparency.types false in
/-- The kernel's record: entered with the buffers at `V`, left with the result's changed. -/
def region (hJ : ∀ c i, ((insOf V).ids c i).toNat < 8192) : Pipeline.RegionSeg (pcfgs (F := F)) adm (fun _ c => dat0 V c) () defs₀ 𝒱₀ L lv 0 :=
  Pipeline.RegionSeg.ofTalk (pcfgs (F := F)) adm (fun _ c => dat0 V c) () defs₀ 𝒱₀ L lv 0 osem own_facts
    tabRefs restRefs (by decide +kernel) launch0.toP rfl (fun c => (body_ok V hJ c).loose)
    (fun _ => 0) O₀ (fun c => (owed_zero V c).trans (zero_add _).symm) (owed_end V) (fun _ => rfl)
    (fun c w => by unfold Dat.share; split <;> rfl)
    V (ends V)
    (fun c b hb => Function.update_of_ne (fun e => by
      subst e
      exact absurd hb (by decide +kernel)) _ _)
    (fromLaunch (insOf V)) (fun c => semVal (barC c) 0) (opened (insOf V)) (fun c => semVal (barC c) 0) (open_all (insOf V)) (region_in V) (region_out V)
    (fun c => by iintro H; imodintro; iexact H)
    (fun _ => 0)
    ⟨fun c w s => by rw [L_tc]; exact Finset.mem_singleton_self _, fun c w s => staging_low c w s,
      fun c t g i h => by
        have e : (dat0 V c).owed t = if t.val = 0 then O₀ c else 0 := rfl
        have h' : 0 < (dat0 V c).owed t g i := h
        rw [e] at h'
        split at h'
        · exact O₀_pos h'
        · exact absurd h' (Nat.lt_irrefl 0)⟩
    (fun _ => iprop(emp))
    (fun c w => rfl)
    (fun c w => match w with
      | 0 => (arr_in0 V c _).trans (Function.update_of_ne (StableHlo.devRef_ne_of_ne (by decide)) _ _).symm
      | 1 => (arr_in1 V c _).trans (Function.update_of_ne (StableHlo.devRef_ne_of_ne (by decide)) _ _).symm
      | 2 => (arr_out V c).trans (ends_result V c).symm
      | ⟨_ + 3, h⟩ => absurd h (Nat.not_lt.2 (Nat.le_add_left _ _)))

end Cert.KernelIdeal.Emb
-- ==== Proof.Ideal.Start.lean ====
module

public import proofs.«01_k».proof.Proof.Ideal.Region

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (J : Ins F)

/-! ## The launch: the cells, the rights, the credits -/

/-- The barrier cell of each device. -/
def barEmb : Dev nD ↪ GSem nD τ sig := ⟨fun c => barC c, fun _ _ h => congrArg (fun g : GSem nD τ sig => g.1.1) h⟩
/-- The chunks' cells of each device. -/
def ckEmb : Fin 4 × Fin 32 × Dev nD ↪ GSem nD τ sig :=
  ⟨fun p => tc p.1 p.2.1 p.2.2, fun p p' h => by
    obtain ⟨h1, h2, h3⟩ := tc_inj (kd := p.1) (kd' := p'.1) (k := p.2.1) (k' := p'.2.1) (c := p.2.2) (c' := p'.2.2) h
    exact Prod.ext h1 (Prod.ext h2 h3)⟩
/-- The barrier cells. -/
abbrev bars : Finset (GSem nD τ sig) := Finset.univ.map barEmb
/-- The transfer cells. -/
abbrev cks : Finset (GSem nD τ sig) := Finset.univ.map ckEmb
/-- A barrier cell is no transfer cell. -/
theorem bar_ne (c d : Dev nD) (kd : Fin 4) (k : Fin 32) : barC c ≠ tc kd k d := fun h => nomatch (Prod.mk.inj h).2
/-- Barrier cells and transfer cells do not meet. -/
theorem cells_disj : Disjoint bars cks := by
  rw [Finset.disjoint_left]
  rintro g h₁ h₂
  obtain ⟨c, -, rfl⟩ := Finset.mem_map.mp h₁
  obtain ⟨p, -, h⟩ := Finset.mem_map.mp h₂
  exact bar_ne c p.2.2 p.1 p.2.1 h.symm

/-- Every right to signal or copy: two on a barrier cell, one on a chunk's. -/
def rightAt : (Dev nD × Bool) ⊕ (Fin 4 × Fin 32 × Dev nD) → GSem nD τ sig × ℕ × Bool :=
  Sum.elim (fun x => (barC x.1, 0, x.2)) (fun p => (tc p.1 p.2.1 p.2.2, 0, false))
/-- Each right belongs to one cell and one payer. -/
theorem rightAt_inj : Function.Injective rightAt := by
  rintro (⟨c, b⟩ | p) (⟨c', b'⟩ | p') h
  · have h1 : barC c = barC c' := congrArg (fun t : GSem nD τ sig × ℕ × Bool => t.1) h
    have h2 : b = b' := congrArg (fun t : GSem nD τ sig × ℕ × Bool => t.2.2) h
    rw [barEmb.injective h1, h2]
  · exact absurd (congrArg (fun t : GSem nD τ sig × ℕ × Bool => t.1) h) (bar_ne c p'.2.2 p'.1 p'.2.1)
  · exact absurd (congrArg (fun t : GSem nD τ sig × ℕ × Bool => t.1) h).symm (bar_ne c' p.2.2 p.1 p.2.1)
  · rw [ckEmb.injective (congrArg (fun t : GSem nD τ sig × ℕ × Bool => t.1) h)]
/-- All rights to pay. -/
def rights : Finset (GSem nD τ sig × ℕ × Bool) := Finset.univ.map ⟨rightAt, rightAt_inj⟩

/-- Device by device instead of kind by kind. -/
def byDev : Dev nD × (Fin 4 × Fin 32) ≃ Fin 4 × Fin 32 × Dev nD :=
  ⟨fun x => (x.2.1, x.2.2, x.1), fun y => (y.2.2, (y.1, y.2.1)), fun _ => rfl, fun _ => rfl⟩
/-- A thing for each transfer cell, device by device. -/
theorem bs_byDev (Φ : Fin 4 → Fin 32 → Dev nD → sProp 𝕄) :
    bigSep Finset.univ (fun p : Fin 4 × Fin 32 × Dev nD => Φ p.1 p.2.1 p.2.2) = bigSep Finset.univ fun c : Dev nD => bigSep Finset.univ fun p : Fin 4 × Fin 32 => Φ p.1 p.2 c := by
  rw [bigSep_univ_equiv byDev, bigSep_univ_prod]
  rfl

/-- Neighbours, as permutations of the devices. -/
def yE : Dev nD ≃ Dev nD := ⟨yn, yn, yn_yn, yn_yn⟩
/-- Exchanging the devices along x. -/
def xE : Dev nD ≃ Dev nD := ⟨xn, xn, xn_xn, xn_xn⟩

/-- All rights, dealt out: each device has those that it pays with. -/
theorem rights_eq : bigSep rights (fun x => (dutyTok ER x.1 x.2.1 x.2.2 : sProp 𝕄)) = bigSep Finset.univ fun c : Dev nD => toks (F := F) c := by
  unfold rights toks
  rw [bigSep_map, bigSep_univ_sum, bigSep_univ_prod]
  have hb : (bigSep Finset.univ fun c : Dev nD => bigSep Finset.univ fun b : Bool => (dutyTok ER (barC c) 0 b : sProp 𝕄))
      = bigSep Finset.univ fun c : Dev nD => iprop(dutyTok ER (barC (yn c)) 0 false ∗ dutyTok ER (barC (xn c)) 0 true) := by
    rw [bigSep_congr fun c _ => bs_bool (fun b : Bool => (dutyTok ER (barC c) 0 b : sProp 𝕄)), bigSep_sep', bigSep_sep',
      bigSep_univ_equiv yE (fun c : Dev nD => (dutyTok ER (barC c) 0 false : sProp 𝕄)), bigSep_univ_equiv xE (fun c : Dev nD => (dutyTok ER (barC c) 0 true : sProp 𝕄))]
    rfl
  have hc : (bigSep Finset.univ fun p : Fin 4 × Fin 32 × Dev nD => (tok p.1 p.2.1 p.2.2 : sProp 𝕄))
      = bigSep Finset.univ fun c : Dev nD => iprop((bigSep Finset.univ fun k : Fin 32 => tok (F := F) 0 k c) ∗ (bigSep Finset.univ fun k : Fin 32 => tok (F := F) 1 k (yn c))
        ∗ (bigSep Finset.univ fun k : Fin 32 => tok (F := F) 2 k c) ∗ bigSep Finset.univ fun k : Fin 32 => tok (F := F) 3 k (xn c)) := by
    rw [bs_byDev (fun kd k c => tok (F := F) kd k c), bigSep_congr fun c _ => bs_kinds (fun kd k => tok (F := F) kd k c), bigSep_sep', bigSep_sep', bigSep_sep', bigSep_sep', bigSep_sep', bigSep_sep',
      bigSep_univ_equiv yE (fun c : Dev nD => (bigSep Finset.univ fun k : Fin 32 => tok (F := F) 1 k c : sProp 𝕄)),
      bigSep_univ_equiv xE (fun c : Dev nD => (bigSep Finset.univ fun k : Fin 32 => tok (F := F) 3 k c : sProp 𝕄))]
    rfl
  rw [bigSep_sep', ← hb, ← hc]
  rfl

/-! ### The credits -/

/-- What a device's copies owe a transfer cell. -/
theorem owed_at (kd : Fin 4) (p : Dev nD) (kd' : Fin 4) (k : Fin 32) (c : Dev nD) :
    owed kd p 0 (tc kd' k c) () = if kd = kd' ∧ p = c then NC else 0 := by
  unfold owed
  rw [Finset.sum_apply, Finsupp.finsetSum_apply, Finset.sum_eq_single k]
  · rw [tallyAt_apply]
    by_cases h : kd = kd' ∧ p = c
    · obtain ⟨rfl, rfl⟩ := h
      rw [if_pos ⟨rfl, rfl⟩, if_pos ⟨rfl, rfl⟩]
    · rw [if_neg h, if_neg fun h' => h ⟨(tc_inj h'.1.symm).1, (tc_inj h'.1.symm).2.2⟩]
  · intro k' _ hk
    rw [tallyAt_apply, if_neg fun h' => hk (tc_inj h'.1.symm).2.1]
  · intro h
    exact absurd (Finset.mem_filter.mpr ⟨Finset.mem_univ k, Nat.zero_le _⟩) h
/-- They owe a barrier cell nothing. -/
theorem owed_bar (kd : Fin 4) (p c : Dev nD) : owed kd p 0 (barC c) () = 0 := by
  rcases Nat.eq_zero_or_pos (owed kd p 0 (barC c) ()) with h | h
  · exact h
  · obtain ⟨k, -, h'⟩ := owed_pos h
    exact absurd h' (bar_ne c p kd k)
/-- What a signal owes a barrier cell. -/
theorem signal_at (p c : Dev nD) : tallyAt (barC p) () 1 (barC c) () = if p = c then 1 else 0 := by
  rw [tallyAt_apply]
  by_cases h : p = c
  · rw [if_pos h, if_pos ⟨by rw [h], rfl⟩]
  · rw [if_neg h, if_neg fun h' => h (barEmb.injective h'.1.symm)]
/-- It owes a transfer cell nothing. -/
theorem signal_ck (p : Dev nD) (kd : Fin 4) (k : Fin 32) (c : Dev nD) : tallyAt (barC p) () 1 (tc kd k c) () = 0 := by
  rw [tallyAt_apply, if_neg fun h' => bar_ne p c kd k h'.1.symm]

/-- The first debt, part by part. -/
theorem start_apply (d : Dev nD) (g : GSem nD τ sig) :
    O₀ d g () = owed 1 (yn d) 0 g () + owed 3 (xn d) 0 g () + tallyAt (barC (xn d)) () 1 g () + tallyAt (barC (yn d)) () 1 g () := rfl

/-- Whose y neighbour a device is. -/
theorem yn_eq {c d : Dev nD} : yn d = c ↔ d = yn c := ⟨fun h => by rw [← h, yn_yn], fun h => by rw [h, yn_yn]⟩
/-- Whose x neighbour a device is. -/
theorem xn_eq {c d : Dev nD} : xn d = c ↔ d = xn c := ⟨fun h => by rw [← h, xn_xn], fun h => by rw [h, xn_xn]⟩

/-- Of all first debts a barrier cell is owed two. -/
theorem launch_bar (c : Dev nD) : tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => show O₀ d (barC c) () = (if d = xn c then 1 else 0) + (if d = yn c then 1 else 0) by
    rw [start_apply, owed_bar, owed_bar, signal_at, signal_at, if_congr xn_eq rfl rfl, if_congr yn_eq rfl rfl, Nat.zero_add], Finset.sum_add_distrib,
    Finset.sum_ite_eq' Finset.univ (xn c) fun _ => 1, Finset.sum_ite_eq' Finset.univ (yn c) fun _ => 1, if_pos (Finset.mem_univ _), if_pos (Finset.mem_univ _)]
/-- Of all first debts an arrival along y is owed a chunk's amount. -/
theorem launch_y (c : Dev nD) (k : Fin 32) : tallyOn (tc 1 k c) (launchCredit (Pipeline.owing O₀) 0 (tc 1 k c)) = (tallyAt (tc 1 k c) () NC : CellTallies nD τ sig Unit) := by
  unfold tallyAt; refine congrArg _ (Finsupp.ext fun u => ?_); cases u
  rw [Pipeline.launchCredit_owing, Finsupp.single_eq_same, Finset.sum_congr rfl fun d _ => show O₀ d (tc 1 k c) () = (if d = yn c then NC else 0) by
    rw [start_apply, owed_at, owed_at, signal_ck, signal_ck, if_congr (and_iff_right rfl) rfl rfl, if_congr yn_eq rfl rfl, if_neg (fun h : (3 : Fin 4) = 1 ∧ _ => absurd h.1 (by decide))]; rfl,
    Finset.sum_ite_eq' Finset.univ (yn c) fun _ => NC, if_pos (Finset.mem_univ _)]
/-- Of all first debts an arrival along x is owed a chunk's amount. -/
theorem launch_x (c : Dev nD) (k : Fin 32) : tallyOn (tc 3 k c) (launchCredit (Pipeline.owing O₀) 0 (tc 3 k c)) = (tallyAt (tc 3 k c) () NC : CellTallies nD τ sig Unit) := by
  unfold tallyAt; refine congrArg _ (Finsupp.ext fun u => ?_); cases u
  rw [Pipeline.launchCredit_owing, Finsupp.single_eq_same, Finset.sum_congr rfl fun d _ => show O₀ d (tc 3 k c) () = (if d = xn c then NC else 0) by
    rw [start_apply, owed_at, owed_at, signal_ck, signal_ck, if_congr (and_iff_right rfl) rfl rfl, if_congr xn_eq rfl rfl, if_neg (fun h : (1 : Fin 4) = 3 ∧ _ => absurd h.1 (by decide)), Nat.zero_add]; rfl,
    Finset.sum_ite_eq' Finset.univ (xn c) fun _ => NC, if_pos (Finset.mem_univ _)]

/-- The semaphores of a device that its neighbours owe. -/
def credAt : Unit ⊕ (Fin 32 ⊕ Fin 32) → SemLoc sig := Sum.elim (fun _ => .reg barrier0) (Sum.elim (fun k => .dma (tsem 1 k)) (fun k => .dma (tsem 3 k)))
/-- The cells that a device waits on are different. -/
theorem credAt_inj : Function.Injective credAt := by decide +kernel

/-- The launch's credit holds that of each cell that a device waits on. -/
theorem creds (c : Dev nD) : (Pipeline.launchCred O₀ c : sProp 𝕄) ⊢ credits (F := F) c := by
  unfold Pipeline.launchCred credits
  refine BIBase.Entails.trans (bigSep_subset (Finset.subset_univ (Finset.univ.map ⟨credAt, credAt_inj⟩))) (Entails.of_eq ?_)
  rw [bigSep_map, bigSep_univ_sum, bigSep_univ_sum, bigSep_univ_of_subsingleton ()]
  exact congrArg₂ _ (congrArg cred (launch_bar c)) (congrArg₂ _ (bigSep_congr fun k _ => congrArg cred (launch_y c k)) (bigSep_congr fun k _ => congrArg cred (launch_x c k)))

/-! ### What the launch deals out -/

/-- A resource as a family over the devices: all of it on the first. -/
def onFirst (X : sProp 𝕄) (c : Dev nD) : sProp 𝕄 := if c = 0 then X else iprop(emp)
/-- A thing that the first device has is there once. -/
theorem bs_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The ghost state of the launch. -/
def u₀ : UU :=
  (initOf (Pipeline.cells cfgs cellOf_inj) (Pipeline.launchToks cfgs cellOf_inj), (launchOf bars cks rights, 1))
/-- The first ghost state, in its two parts. -/
theorem u₀_split (a : URounds (GSem nD τ sig) Unit) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What a device holds besides its buffers when it starts. -/
def begins (c : Dev nD) : sProp 𝕄 := iprop(fromLaunch J c ∗ (∃ r, prngReg c r) ∗ ow (F := F) c (O₀ c))

/-- The only semaphore that outlives the kernel is the barrier's. -/
theorem no_bar : ∀ sm : SemLoc sig, sm.isScoped .tc = false → sm = .reg barrier0 := by decide +kernel
/-- Its counter is at zero at the start. -/
theorem free_sems (c : Dev nD) : (unscopedSems0 c : sProp 𝕄) = semVal (barC c) 0 := by
  unfold unscopedSems0
  rw [show (Finset.univ.filter fun sm : SemLoc sig => ¬ sm.isScoped .tc) = {SemLoc.reg barrier0} from by decide +kernel, BI.bigSep_singleton]

/-- From the launch: the cells' invariants are set up, and each device gets its rights, credits and debts. -/
theorem deal (ρ : Dev nD → PrngReg) :
    iprop((bigSep Finset.univ fun c : Dev nD => iprop(unscopedSems0 c ∗ owes (c : Thread nD τ) (O₀ c) ∅ ∗ Pipeline.launchCred O₀ c ∗ prngReg c (ρ c)
        ∗ onFirst (BI.own (ER (launchOf bars cks rights))) c)) ∗ levAts L lv)
      ⊢ (|={Set.univ}=> bigSep Finset.univ (begins J) : sProp 𝕄) := by
  have hcore (c : Dev nD) : iprop(unscopedSems0 c ∗ owes (c : Thread nD τ) (O₀ c) ∅ ∗ Pipeline.launchCred O₀ c ∗ prngReg c (ρ c)
        ∗ onFirst (BI.own (ER (launchOf bars cks rights))) c)
      ⊢ (iprop((credits (F := F) c ∗ (∃ r, prngReg c r) ∗ ow (F := F) c (O₀ c)) ∗ (semVal (barC c) 0 ∗ onFirst (BI.own (ER (launchOf bars cks rights))) c)) : sProp 𝕄) := by
    rw [free_sems]
    iintro ⟨Hv, HO, Hcr, Hp, HG⟩
    ihave Hc := (creds (F := F) c) $$ Hcr
    isplitl [Hc HO Hp]
    · isplitl [Hc]; · iexact Hc
      isplitl [Hp]; · iexists (ρ c); iexact Hp
      iexists ∅; iexact HO
    isplitl [Hv]; · iexact Hv
    iexact HG
  have hv : bigSep Finset.univ (fun c : Dev nD => (semVal (barC c) 0 : sProp 𝕄)) ⊢ bigSep bars (fun g => (semVal g 0 : sProp 𝕄)) :=
    Entails.of_eq (bigSep_map (s := Finset.univ) barEmb (Φ := fun g : GSem nD τ sig => (semVal g 0 : sProp 𝕄))).symm
  have hat : bigSep bars (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hr : bigSep bars (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hopen : bigSep cks (fun g => (openTok ER g : sProp 𝕄)) ⊢ bigSep Finset.univ (fun c : Dev nD => bigSep Finset.univ fun p : Fin 4 × Fin 32 => (openTok ER (tc p.1 p.2 c) : sProp 𝕄)) :=
    Entails.of_eq ((bigSep_map (s := Finset.univ) ckEmb (Φ := fun g : GSem nD τ sig => (openTok ER g : sProp 𝕄))).trans (bs_byDev (F := F) fun kd k c => openTok ER (tc kd k c)))
  have hinv (κ : GSem nD τ sig → ℕ) : bigSep (bars ∪ cks) (fun g => (cellInv ER (sched J) (κ g) g : sProp 𝕄)) ⊢ invs J κ :=
    Entails.of_eq (by
      unfold invs
      rw [bigSep_union cells_disj, bigSep_map, bigSep_map]
      rfl)
  iintro ⟨H, -⟩
  ihave H' := (show (bigSep Finset.univ fun c : Dev nD => iprop(unscopedSems0 c ∗ owes (c : Thread nD τ) (O₀ c) ∅ ∗ Pipeline.launchCred O₀ c ∗ prngReg c (ρ c)
        ∗ onFirst (BI.own (ER (launchOf bars cks rights))) c))
      ⊢ (bigSep Finset.univ fun c : Dev nD => iprop((credits (F := F) c ∗ (∃ r, prngReg c r) ∗ ow (F := F) c (O₀ c)) ∗ (semVal (barC c) 0 ∗ onFirst (BI.own (ER (launchOf bars cks rights))) c)) : sProp 𝕄) from
    bigSep_mono fun c _ => hcore c) $$ H
  ihave H2 := (bs_split Finset.univ _ _) $$ H'
  icases H2 with ⟨HB, H3⟩
  ihave H4 := (bs_split Finset.univ _ _) $$ H3
  icases H4 with ⟨Hv, HG⟩
  ihave Hu := (show bigSep Finset.univ (onFirst (F := F) (BI.own (ER (launchOf bars cks rights)))) ⊢ BI.own (ER (launchOf bars cks rights)) from
    Entails.of_eq (bs_onFirst (F := F) (BI.own (ER (launchOf bars cks rights))))) $$ HG
  imod (Rounds.fund_launch ER (sched J) cells_disj (fun g _ h => h) rights) $$ [Hv Hu] with ⟨%κ, -, Hinv, Hr, Hat, Hopen, Htok⟩
  · isplitl [Hv]
    · iapply hv $$ Hv
    · iexact Hu
  ihave #Hinv := (hinv κ) $$ Hinv
  ihave #Hr := hr $$ Hr
  imodintro
  iapply (bigSep_with_persistent (R := records J κ)
    (Φ := fun c => iprop((atPos ER (barC c) 0 ∅ 0 ∗ (bigSep Finset.univ fun p : Fin 4 × Fin 32 => openTok ER (tc p.1 p.2 c)) ∗ toks (F := F) c) ∗ (credits (F := F) c ∗ (∃ r, prngReg c r) ∗ ow (F := F) c (O₀ c))))
    fun c _ => show iprop(records J κ ∗ ((atPos ER (barC c) 0 ∅ 0 ∗ (bigSep Finset.univ fun p : Fin 4 × Fin 32 => openTok ER (tc p.1 p.2 c)) ∗ toks (F := F) c) ∗ (credits (F := F) c ∗ (∃ r, prngReg c r) ∗ ow (F := F) c (O₀ c))))
        ⊢ begins J c from by
      unfold begins fromLaunch
      iintro ⟨#HR, ⟨Ha, Ho, Ht⟩, Hc, Hp, HO⟩
      isplitl [Ha Ho Ht Hc]
      · isplitr; · iexists κ; iexact HR
        isplitl [Ha]; · iexact Ha
        isplitl [Ho]; · iexact Ho
        isplitl [Ht]; · iexact Ht
        iexact Hc
      isplitl [Hp]; · iexact Hp
      iexact HO)
  isplitr
  · unfold records
    isplitr; · iexact Hinv
    iexact Hr
  iapply (bs_join Finset.univ _ _)
  isplitr [HB]
  · iapply (bs_join Finset.univ _ _); isplitl [Hat]; · iapply hat $$ Hat
    iapply (bs_join Finset.univ _ _); isplitl [Hopen]; · iapply hopen $$ Hopen
    iapply (Entails.of_eq (rights_eq (F := F))) $$ Htok
  · iexact HB

end Cert.KernelIdeal.Emb
-- ==== Proof.Ideal.Exec.lean ====
module

public import proofs.«01_k».proof.Proof.Ideal.Start

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ) (ρ : Dev nD → PrngReg) (V : Dev nD → Valuation τ sig (Elt F))

/-! ## The whole program, from any memory in which the clipped indices are table rows -/

/-- What a device holds when the launch's own work begins is what the launch takes. -/
theorem enters (hJ : ∀ c i, ((insOf V).ids c i).toNat < 8192) (c : Dev nD) :
    iprop(StableHlo.held (c : Thread nD τ) (Pipeline.ucRefs τ sig) (V c) ∗ begins (insOf V) c) ⊢ ((region V hJ).pre c : sProp 𝕄) := by
  show _ ⊢ iprop(StableHlo.held (c : Thread nD τ) (Pipeline.arrRefs spec0) (V c) ∗ (∃ r, prngReg c r)
    ∗ (StableHlo.held (c : Thread nD τ) restRefs (V c) ∗ emp) ∗ fromLaunch (insOf V) c ∗ ∃ Wd, owes (c : Thread nD τ) ((fun _ => 0 : Dev nD → CellTallies nD τ sig Unit) c + O₀ c) Wd)
  rw [StableHlo.held_sub_split (c : Thread nD τ) (show Pipeline.arrRefs spec0 ⊆ Pipeline.ucRefs τ sig by decide +kernel), show (fun _ => 0 : Dev nD → CellTallies nD τ sig Unit) c + O₀ c = O₀ c from zero_add _]
  unfold begins
  iintro ⟨⟨Ha, Hr⟩, Hf, Hp, HO⟩
  isplitl [Ha]; · iexact Ha
  isplitl [Hp]; · iexact Hp
  isplitl [Hr]
  · isplitl [Hr]; · iexact Hr
    iempintro
  isplitl [Hf]; · iexact Hf
  iexact HO

/-- What the launch leaves is every buffer at its final contents, and the barrier cell at zero. -/
theorem leaves (hJ : ∀ c i, ((insOf V).ids c i).toNat < 8192) (c : Dev nD) :
    ((region V hJ).post c : sProp 𝕄) ⊢ iprop((StableHlo.held (c : Thread nD τ) (Pipeline.ucRefs τ sig) (ends V c) ∗ semVal (barC c) 0)
      ∗ ∃ W, owes (c : Thread nD τ) (0 : CellTallies nD τ sig Unit) W) := by
  show iprop(StableHlo.held (c : Thread nD τ) (Pipeline.arrRefs spec0) (ends V c) ∗ (∃ r, prngReg c r)
    ∗ (StableHlo.held (c : Thread nD τ) restRefs (ends V c) ∗ emp) ∗ semVal (barC c) 0 ∗ ∃ Wd, owes (c : Thread nD τ) ((fun _ => 0 : Dev nD → CellTallies nD τ sig Unit) c) Wd) ⊢ _
  rw [StableHlo.held_sub_split (c : Thread nD τ) (show Pipeline.arrRefs spec0 ⊆ Pipeline.ucRefs τ sig by decide +kernel)]
  iintro ⟨Ha, -, ⟨Hr, -⟩, Hb, HO⟩
  isplitr [HO]
  · isplitl [Ha Hr]
    · isplitl [Ha]; · iexact Ha
      iexact Hr
    iexact Hb
  iexact HO

/-- What the host hands the launch, device by device. -/
abbrev hostV : Dev nD → Valuation τ sig (Elt F) := fun c => V3 m c

/-- The resources that ride along the host's own operations. -/
def rides : Fin 2 → Dev nD → sProp 𝕄 := fun _ c => begins (insOf (hostV m)) c

/-- At the launch every device has its buffers and what its run begins with. -/
theorem init : iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ onFirst (BI.own (ER (launchOf bars cks rights))) c)) ∗ levAts L lv)
      ⊢ (|={Set.univ}=> bigSep Finset.univ fun c : Dev nD => iprop(StableHlo.held (c : Thread nD τ) (Pipeline.ucRefs τ sig) (V0 m c) ∗ rides m 0 c) : sProp 𝕄) := by
  have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ onFirst (BI.own (ER (launchOf bars cks rights))) c))
      ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c)
              ∗ onFirst (BI.own (ER (launchOf bars cks rights))) c)) : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (deal (insOf (hostV m)) ρ) $$ [Hr Hla] with HE
  · isplitl [Hr]; · iexact Hr
    iexact Hla
  imodintro
  iapply (bs_join Finset.univ _ _)
  isplitl [Hh]; · iexact Hh
  iexact HE

/-- At the end the indices are unchanged. -/
theorem ends_arg0 (c : Dev nD) : ends (hostV m) c (Proc.devRef .tc main_arg0) = m ((c.tc : Thread nD τ).loc main_arg0) :=
  (Function.update_of_ne (StableHlo.devRef_ne_of_ne (by decide)) _ _).trans ((V3_of m c main_arg0 (by decide)).trans
    ((V2_of m c main_arg0 (by decide)).trans (V1_of m c main_arg0 (by decide))))
/-- At the end the table is unchanged. -/
theorem ends_arg1 (c : Dev nD) : ends (hostV m) c (Proc.devRef .tc main_arg1) = m ((c.tc : Thread nD τ).loc main_arg1) :=
  (Function.update_of_ne (StableHlo.devRef_ne_of_ne (by decide)) _ _).trans ((V3_of m c main_arg1 (by decide)).trans
    ((V2_of m c main_arg1 (by decide)).trans (V1_of m c main_arg1 (by decide))))

/-- What a device holds at the end says what the memory and the counters are. -/
theorem read_end (c : Dev nD) (s' : Phys nD τ sig (Elt F)) :
    iprop((StableHlo.held (c : Thread nD τ) (Pipeline.ucRefs τ sig) (ends (hostV m) c) ∗ semVal (barC c) 0) ∗ SI s')
      ⊢ (|={Set.univ}=> iprop(⌜(s'.mem.mem ((c.tc : Thread nD τ).loc main_v16) = finT (insOf (hostV m)) c
        ∧ s'.mem.mem ((c.tc : Thread nD τ).loc main_arg0) = m ((c.tc : Thread nD τ).loc main_arg0)
        ∧ s'.mem.mem ((c.tc : Thread nD τ).loc main_arg1) = m ((c.tc : Thread nD τ).loc main_arg1)) ∧ s'.mem.sem (barC c) = 0⌝ ∗ SI s') : sProp 𝕄) := by
  unfold StableHlo.held
  iintro ⟨⟨Hh, Hb0⟩, HSI⟩
  icombine HSI Hb0 gives %hb
  ihave Hr := (pointsTo_read_all (Pipeline.ucRefs τ sig) (fun b => ((c : Thread nD τ).1, b)) (ends (hostV m) c) s') $$ [Hh HSI]
  · isplitl [Hh] <;> iassumption
  icases Hr with ⟨%h, HSI⟩
  imodintro
  isplitr
  · ipureintro
    exact ⟨⟨(h (Proc.devRef .tc main_v16) (Finset.mem_filter.mpr ⟨StableHlo.devRef_mem_tcRefs main_v16, by decide⟩)).trans (ends_result (hostV m) c),
      (h (Proc.devRef .tc main_arg0) (Finset.mem_filter.mpr ⟨StableHlo.devRef_mem_tcRefs main_arg0, by decide⟩)).trans (ends_arg0 m c),
      (h (Proc.devRef .tc main_arg1) (Finset.mem_filter.mpr ⟨StableHlo.devRef_mem_tcRefs main_arg1, by decide⟩)).trans (ends_arg1 m c)⟩, by simpa using hb⟩
  iexact HSI

/-- Only a device's core has cells. -/
theorem L_else (g : GSem nD τ sig) (h : g.1.2 ≠ .tc) : L g = ∅ := if_neg h

set_option backward.isDefEq.respectTransparency.types false in
/-- Every fair run from a memory whose clipped indices are table rows ends, each device's result holding `finT`, the
    arguments unchanged and every counter at zero. -/
theorem runs (hJ : ∀ c i, ((insOf (hostV m)).ids c i).toNat < 8192) :
    θ_run defs (onTc (τ := τ) (main (F := F))) ⟨m, fun _ => 0, ρ⟩ (fun r => (∀ c : Dev nD,
      r.2.mem ((c.tc : Thread nD τ).loc main_v16) = finT (insOf (hostV m)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (fun _ c => dat0 (hostV m) c) () cellOf_inj EP defs₀ 𝒱₀ L lv m ρ main
    (segs m 𝒱₀ L lv (rides m) () (fun _ c => dat0 (hostV m) c) (region (hostV m) hJ))
    (fun c Q => by
      rewrite [main_chain c, Seg.run_eq_chain,
        show (segs m 𝒱₀ L lv (rides m) () (fun _ c => dat0 (hostV m) c) (region (hostV m) hJ) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide) O₀ L_else
    (onFirst (BI.own (ER (launchOf bars cks rights)))) u₀
    (by
      unfold u₀
      iintro Hu
      ihave H := (u₀_split (F := F) _ _) $$ Hu
      icases H with ⟨HP, HX⟩
      imodintro
      isplitl [HP]; · iexact HP
      rw [bs_onFirst]; iexact HX)
    (T₀ := fun c => iprop(StableHlo.held (c : Thread nD τ) (Pipeline.ucRefs τ sig) (V0 m c) ∗ rides m 0 c))
    (Tₙ := fun c => iprop(StableHlo.held (c : Thread nD τ) (Pipeline.ucRefs τ sig) (ends (hostV m) c) ∗ semVal (barC c) 0))
    (hch := fun c => ⟨.rfl, .rfl, .rfl, enters (hostV m) hJ c, leaves (hostV m) hJ c⟩)
    (hinit := init m ρ)
    (QY := fun c s => (s.mem ((c.tc : Thread nD τ).loc main_v16) = finT (insOf (hostV m)) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barC c) = 0)
    (hfin := read_end m)
    (hQ := fun s h hs => ⟨fun c => (h c).1, sem_eq_zero hs fun c sm hsm => by
      obtain rfl := no_bar sm hsm
      exact (h c).2⟩)

end Cert.KernelIdeal.Emb
-- ==== Proof.Ideal.Host.lean ====
module

public import proofs.«01_k».proof.Proof.Ideal.Exec
public import Idealize.ShloMosaic.Lib.StableHlo.ReadAt

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## What the host hands the launch -/

/-- The first table row of device `c`. -/
def base (c : Dev nD) : BitVec 32 := BitVec.ofNat 32 (8192 * (c.val / 4 % 2))
/-- The host's arithmetic on the device number gives the first row of its block. -/
theorem base_word (c : Dev nD) : IntOp.muli ((Host.remui (Host.divui (constantI S_ 32 c.word) (constantI S_ 32 4#32)) (constantI S_ 32 2#32) : IVec S_ 32) Idealize.ShloMosaic.ix0) 8192#32 = base c := by
  revert c; decide

/-- The table row a device looks up for index `x`: clipped into its block. -/
def rowOf (c : Dev nD) (x : BitVec 32) : BitVec 32 := IntOp.minsi 8191#32 (IntOp.maxsi 0#32 (IntOp.subi x (base c)))
/-- Whether index `x` lies in the block of device `c`. -/
def isIn (c : Dev nD) (x : BitVec 32) : BitVec 1 :=
  IntOp.andi (IntOp.cmpi .sge (IntOp.subi x (base c)) 0#32) (IntOp.cmpi .slt (IntOp.subi x (base c)) 8192#32)

/-- The row number that the host hands over. -/
theorem v13_at (c : Dev nD) (i : S4096.Idx) : (V3 m c (Proc.devRef .tc main_v13) i : BitVec 32) = rowOf c (V0 m c (Proc.devRef .tc main_arg0) i) := by
  unfold rowOf
  rw [← base_word]
  after_reads_at
  rfl
/-- The scale that the host hands over. -/
theorem v15_at (c : Dev nD) (i : S4096x1.Idx) : (V3 m c (Proc.devRef .tc main_v15) i : F .f32) = FloatOps.uitofp .f32 (isIn c (V0 m c (Proc.devRef .tc main_arg0) (ValueIdx.ix1 (i 0)))) := by
  unfold isIn
  rw [← base_word]
  after_reads_at
  rfl
/-- The kernel's row numbers are the array `main_v13`. -/
theorem ids_of (V : Dev nD → Valuation τ sig (Elt F)) (c : Dev nD) (i : S4096.Idx) {x : BitVec 32} (h : V c (Proc.devRef .tc main_v13) i = x) : (insOf V).ids c i = x := h
/-- The kernel's scales are the array `main_v15`. -/
theorem sc_of (V : Dev nD → Valuation τ sig (Elt F)) (c : Dev nD) (i : S4096x1.Idx) {x : F .f32} (h : V c (Proc.devRef .tc main_v15) i = x) : (insOf V).sc c i = x := h
/-- The kernel's row numbers, from the indices. -/
theorem ids_at (c : Dev nD) (i : S4096.Idx) : (insOf (hostV m)).ids c i = rowOf c (V0 m c (Proc.devRef .tc main_arg0) i) := by
  apply ids_of
  exact v13_at m c i
/-- The kernel's scales, from the indices. -/
theorem sc_at (c : Dev nD) (i : S4096x1.Idx) : (insOf (hostV m)).sc c i = FloatOps.uitofp .f32 (isIn c (V0 m c (Proc.devRef .tc main_arg0) (ValueIdx.ix1 (i 0)))) := by
  apply sc_of
  exact v15_at m c i
/-- The kernel's table is the argument. -/
theorem tab_eq (c : Dev nD) : (insOf (hostV m)).tab c = m ((c.tc : Thread nD τ).loc main_arg1) :=
  (V3_of m c main_arg1 (by decide)).trans ((V2_of m c main_arg1 (by decide)).trans (V1_of m c main_arg1 (by decide)))

/-- The row number is the index's distance from the block's first row, clipped to the block. -/
theorem clip_toInt (c : Dev nD) (x : BitVec 32) : (rowOf c x).toInt = min 8191 (max 0 (x - base c).toInt) := by
  unfold rowOf IntOp.minsi IntOp.maxsi IntOp.subi
  generalize x - base c = d
  have h0 : (0#32).toInt = 0 := by decide
  have h1 : (8191#32).toInt = 8191 := by decide
  by_cases ha : d.slt 0#32
  · rw [if_pos ha]
    have := BitVec.slt_iff_toInt_lt.mp ha
    rw [if_neg (by decide)]
    omega
  · rw [if_neg ha]
    have ha' : ¬ d.toInt < (0#32).toInt := fun h => ha (BitVec.slt_iff_toInt_lt.mpr h)
    by_cases hb : (8191#32).slt d
    · rw [if_pos hb]
      have := BitVec.slt_iff_toInt_lt.mp hb
      omega
    · rw [if_neg hb]
      have hb' : ¬ (8191#32).toInt < d.toInt := fun h => hb (BitVec.slt_iff_toInt_lt.mpr h)
      omega
/-- Every row number is a row of the block, whatever the index. -/
theorem row_lt (c : Dev nD) (x : BitVec 32) : (rowOf c x).toNat < 8192 := by
  have h := clip_toInt c x
  have h2 := (rowOf c x).isLt
  rw [BitVec.toInt_eq_toNat_cond] at h
  split at h <;> omega

/-- The clipped indices are table rows, whatever the indices. -/
theorem rows_lt (c : Dev nD) (i : S4096.Idx) : ((insOf (hostV m)).ids c i).toNat < 8192 := by
  rw [ids_at]; exact row_lt c _

end Cert.KernelIdeal.Emb
-- ==== Proof.Value.lean ====
module

public import proofs.«01_k».proof.Proof.Ideal.Host
public import Idealize.ShloMosaic.Lib.Layout
public import Idealize.ShloMosaic.PureOps.Ideal

@[expose] public section
noncomputable section
namespace Cert.KernelIdeal.Emb

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-! ## The value: over the extended reals each device's result is the table at the indices -/

/-- Device `c`'s place along the table's axis. -/
abbrev yOf (c : Dev nD) : ℕ := c.val / 4 % 2
/-- The y neighbour has the other block. -/
theorem yOf_yn (c : Dev nD) : yOf (yn c) = 1 - yOf c := by revert c; decide
/-- There are two blocks. -/
theorem yOf_lt (c : Dev nD) : yOf c < 2 := Nat.mod_lt _ (by decide)

/-- The block that a device's coordinates name is the one of its y coordinate. -/
theorem lin_y (c : Dev nD) : Layout.meshLin [2, 2, 4] c.val [1] = yOf c := by revert c; decide
/-- Along the columns the table is not cut. -/
theorem lin_0 (c : Dev nD) : Layout.meshLin [2, 2, 4] c.val [] = 0 := by revert c; decide

/-- An index's distance from the block's first row, as an integer. -/
theorem off_toInt (c : Dev nD) (x : BitVec 32) (h : x.toNat < 16384) : (x - base c).toInt = (x.toNat : ℤ) - 8192 * yOf c := by
  have hy := yOf_lt c
  unfold base
  unfold yOf at *
  rw [BitVec.toInt_eq_toNat_cond, BitVec.toNat_sub, BitVec.toNat_ofNat]
  split <;> omega

/-- The lookup row of an index inside the device's block is its place in the block. -/
theorem row_in (c : Dev nD) (x : BitVec 32) (h : x.toNat < 16384) (hy : x.toNat / 8192 = yOf c) : (rowOf c x).toNat = x.toNat - 8192 * yOf c := by
  have h1 := clip_toInt c x
  have h2 := row_lt c x
  rw [off_toInt c x h, BitVec.toInt_eq_toNat_cond] at h1
  split at h1 <;> omega

/-- An index inside the device's block is marked. -/
theorem isIn_in (c : Dev nD) (x : BitVec 32) (h : x.toNat < 16384) (hy : x.toNat / 8192 = yOf c) : isIn c x = 1#1 := by
  have hd := off_toInt c x h
  unfold isIn IntOp.andi IntOp.cmpi IntOp.subi
  have h0 : (0#32).toInt = 0 := by decide
  have h1 : (8192#32).toInt = 8192 := by decide
  have ha : (0#32).sle (x - base c) = true := BitVec.sle_iff_toInt_le.mpr (by omega)
  have hb : (x - base c).slt 8192#32 = true := BitVec.slt_iff_toInt_lt.mpr (by omega)
  simp only [ha, hb]
  decide
/-- An index outside it is not. -/
theorem isIn_out (c : Dev nD) (x : BitVec 32) (h : x.toNat < 16384) (hy : x.toNat / 8192 ≠ yOf c) : isIn c x = 0#1 := by
  have hd := off_toInt c x h
  unfold isIn IntOp.andi IntOp.cmpi IntOp.subi
  have h0 : (0#32).toInt = 0 := by decide
  have h1 : (8192#32).toInt = 8192 := by decide
  by_cases ha : (0#32).sle (x - base c) = true
  · have ha' := BitVec.sle_iff_toInt_le.mp ha
    have hb : (x - base c).slt 8192#32 = false := by
      rw [Bool.eq_false_iff]
      intro e
      have := BitVec.slt_iff_toInt_lt.mp e
      omega
    simp only [hb]
    cases (0#32).sle (x - base c) <;> decide
  · rw [Bool.not_eq_true] at ha
    simp only [ha]
    cases (x - base c).slt 8192#32 <;> decide

/-- What the kernel reads, from the first memory. -/
abbrev J₀ : Ins Ideal := insOf (hostV m)

variable {m} {x : S4096.Idx → BitVec 32} {E : (⟨2, ![16384, 2048]⟩ : Shape).Idx → Elt Ideal .f32}

/-- The device that has not the row contributes zero: over the extended reals anything times zero is zero. -/
theorem part_out (hx : ∀ c : Dev nD, m ((c.tc : Thread nD τ).loc main_arg0) = x) (hr : ∀ i, (x i).toNat < 16384) (c : Dev nD) (i : S4096x2048.Idx)
    (hy : (x (ValueIdx.ix1 (i 0))).toNat / 8192 ≠ yOf c) : partT (J₀ m) c i = (0 : EReal) := by
  have e : (J₀ m).sc c (ValueIdx.ix2 (i 0) 0) = (((0#1).toNat : ℝ) : EReal) := by
    rw [← isIn_out c _ (hr _) hy, ← hx c]
    exact sc_at m c _
  unfold partT
  rw [e]
  exact (congrArg (_ * ·) (show (((0#1).toNat : ℝ) : EReal) = 0 by simp)).trans (mul_zero _)

/-- The device that has the row contributes it: the table's row times one. -/
theorem part_in (hx : ∀ c : Dev nD, m ((c.tc : Thread nD τ).loc main_arg0) = x) (hr : ∀ i, (x i).toNat < 16384)
    (hE : ∀ c : Dev nD, m ((c.tc : Thread nD τ).loc main_arg1) = Layout.blockN ⟨2, ![8192, 2048]⟩ ⟨2, ![16384, 2048]⟩ (Layout.meshBlock [2, 2, 4] ![[1], []] c) E)
    (c : Dev nD) (i : S4096x2048.Idx) (hy : (x (ValueIdx.ix1 (i 0))).toNat / 8192 = yOf c) :
    partT (J₀ m) c i = E (ValueIdx.ix2 ⟨(x (ValueIdx.ix1 (i 0))).toNat, hr _⟩ (i 1)) := by
  have e : (J₀ m).sc c (ValueIdx.ix2 (i 0) 0) = (((1#1).toNat : ℝ) : EReal) := by
    rw [← isIn_in c _ (hr _) hy, ← hx c]
    exact sc_at m c _
  have hrow : (rowIx (J₀ m) c (i 0)).val = (x (ValueIdx.ix1 (i 0))).toNat - 8192 * yOf c := by
    unfold rowIx
    rw [ids_at, show V0 m c (Proc.devRef .tc main_arg0) = x from hx c, Fin.val_ofNat, row_in c _ (hr _) hy]
    have := hr (ValueIdx.ix1 (i 0))
    have := yOf_lt c
    omega
  have ht : (J₀ m).tab c (ValueIdx.ix2 (rowIx (J₀ m) c (i 0)) (i 1)) = E (ValueIdx.ix2 ⟨(x (ValueIdx.ix1 (i 0))).toNat, hr _⟩ (i 1)) := by
    rw [tab_eq, hE c]
    refine congrArg E (funext fun a => Fin.ext ?_)
    match a with
    | ⟨0, _⟩ =>
      show (Layout.meshLin [2, 2, 4] c.val [1]) * 8192 + (rowIx (J₀ m) c (i 0)).val = _
      rw [hrow, show Layout.meshLin [2, 2, 4] c.val [1] = yOf c from lin_y c]
      show yOf c * 8192 + _ = (x (ValueIdx.ix1 (i 0))).toNat
      omega
    | ⟨1, _⟩ =>
      show (Layout.meshLin [2, 2, 4] c.val []) * 2048 + (i 1).val = (i 1).val
      rw [show Layout.meshLin [2, 2, 4] c.val [] = 0 from lin_0 c, Nat.zero_mul, Nat.zero_add]
  unfold partT
  rw [e, ht]
  exact (congrArg (_ * ·) (show (((1#1).toNat : ℝ) : EReal) = 1 by simp)).trans (mul_one _)

/-- The two contributions add up to the table's row, whichever device has it. -/
theorem sum_at (hx : ∀ c : Dev nD, m ((c.tc : Thread nD τ).loc main_arg0) = x) (hr : ∀ i, (x i).toNat < 16384)
    (hE : ∀ c : Dev nD, m ((c.tc : Thread nD τ).loc main_arg1) = Layout.blockN ⟨2, ![8192, 2048]⟩ ⟨2, ![16384, 2048]⟩ (Layout.meshBlock [2, 2, 4] ![[1], []] c) E)
    (c : Dev nD) (i : S4096x2048.Idx) : sumT (J₀ m) c i = E (ValueIdx.ix2 ⟨(x (ValueIdx.ix1 (i 0))).toNat, hr _⟩ (i 1)) := by
  have h1 := hr (ValueIdx.ix1 (i 0))
  have h2 := yOf_lt c
  have h3 := yOf_yn c
  unfold sumT
  by_cases hy : (x (ValueIdx.ix1 (i 0))).toNat / 8192 = yOf c
  · rw [part_in hx hr hE c i hy, part_out hx hr (yn c) i (by omega)]
    exact add_zero (M := EReal) _
  · rw [part_out hx hr c i hy, part_in hx hr hE (yn c) i (by omega)]
    exact zero_add (M := EReal) _

/-- Every element of every device's result is the table's at the row that its index names. -/
theorem final_at (hx : ∀ c : Dev nD, m ((c.tc : Thread nD τ).loc main_arg0) = x) (hr : ∀ i, (x i).toNat < 16384)
    (hE : ∀ c : Dev nD, m ((c.tc : Thread nD τ).loc main_arg1) = Layout.blockN ⟨2, ![8192, 2048]⟩ ⟨2, ![16384, 2048]⟩ (Layout.meshBlock [2, 2, 4] ![[1], []] c) E)
    (c : Dev nD) (i : S4096x2048.Idx) : finT (J₀ m) c i = E (ValueIdx.ix2 ⟨(x (ValueIdx.ix1 (i 0))).toNat, hr _⟩ (i 1)) := by
  unfold finT
  split
  · exact sum_at hx hr hE c i
  · exact sum_at hx hr hE (xn c) i

end Cert.KernelIdeal.Emb
-- ==== Proof.Ref.lean ====
/- The run of the reference: its nine operations in order, and its result read at an index. -/
module

public import proofs.«01_k».proof.ReferenceIdeal
public import proofs.«01_k».proof.Proof.Gen.ReferenceIdeal
public import Idealize.ShloMosaic.Lib.StableHlo.Run
public import Idealize.ShloMosaic.Lib.StableHlo.ReadAt
public import Idealize.ShloMosaic.Lib.Routing.Ops

@[expose] public section
noncomputable section
namespace Cert.ReferenceIdeal.Emb

open Cert.ReferenceIdeal Cert.ReferenceIdeal.Gen
open Idealize.ShloMosaic Idealize.ShloMosaic.TcCoe Idealize.ShloMosaic.StableHlo Idealize.SL.Sem

variable {F : FTy → Type} [FloatOps F]

/-- The operations of the reference, in order. -/
abbrev ops : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg0 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 16384#32),
    unary main_c_0 main_v2 (broadcastInDim S4096 ![] bcast_S_S4096 : (⟨S_, .i32⟩ : BufTy).Contents (Elt F) → (⟨S4096, .i32⟩ : BufTy).Contents (Elt F)),
    binary main_arg0 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg0 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg1 main_v5 main_v6 ((fun x i => Host.gather gather_S16384x2048_S4096x1_S4096x2048_1_0_n_n_0_1_12048 x i) : (⟨S16384x2048, .f32⟩ : BufTy).Contents (Elt F) → (⟨S4096x1, .i32⟩ : BufTy).Contents (Elt F) → (⟨S4096x2048, .f32⟩ : BufTy).Contents (Elt F)),
    unary main_v6 main_v7 ((truncf .bf16 · bitsLt_bf16_f32) : (⟨S4096x2048, .f32⟩ : BufTy).Contents (Elt F) → (⟨S4096x2048, .bf16⟩ : BufTy).Contents (Elt F)) ]

/-- The program is these operations. -/
theorem main_eq (c : Dev nD) : main (F := F) c = seq ops := rfl

/-- The row numbers the reference gathers at. -/
def rows (ids : IVec S4096 32) : IVec S4096x1 32 :=
  broadcastInDim S4096x1 ![0] bcast_S4096_S4096x1_0 (select (cmpi .slt ids (broadcastInDim S4096 ![] bcast_S_S4096 (constantI S_ 32 0#32)))
    (addi ids (broadcastInDim S4096 ![] bcast_S_S4096 (constantI S_ 32 16384#32))) ids)

/-- The result, as one term of the arguments. -/
theorem result_eq (V : Valuation τ sig (Elt F)) : after ops V (main_v7 : DevRef τ sig)
    = truncf .bf16 (Host.gather gather_S16384x2048_S4096x1_S4096x2048_1_0_n_n_0_1_12048 (V (main_arg1 : DevRef τ sig)) (rows (V (main_arg0 : DevRef τ sig)))) bitsLt_bf16_f32 := by
  after_results_simp
  rfl
/-- The indices are unchanged. -/
theorem arg0_eq (V : Valuation τ sig (Elt F)) : after ops V (main_arg0 : DevRef τ sig) = V (main_arg0 : DevRef τ sig) := by
  simp only [after_cons, after_nil]
  rfl
/-- The table is unchanged. -/
theorem arg1_eq (V : Valuation τ sig (Elt F)) : after ops V (main_arg1 : DevRef τ sig) = V (main_arg1 : DevRef τ sig) := by
  simp only [after_cons, after_nil]
  rfl

/-- An index that names a row gathers that row. -/
theorem rows_at (ids : IVec S4096 32) (i : Fin 4096) (h : ¬ (ids (ValueIdx.ix1 i)).toInt < 0) : rows ids (ValueIdx.ix2 i 0) = ids (ValueIdx.ix1 i) := by
  unfold rows
  pointwise
  show (if BitVec.ofBool ((ids (ValueIdx.ix1 i)).slt 0#32) = 1#1 then ids (ValueIdx.ix1 i) + 16384#32 else ids (ValueIdx.ix1 i)) = _
  refine if_neg fun e => h ?_
  cases hs : (ids (ValueIdx.ix1 i)).slt 0#32
  · rw [hs] at e
    exact absurd e (by decide)
  · exact BitVec.slt_iff_toInt_lt.mp hs

/-- Where the index names a row, the result is that row's element. -/
theorem result_at (ids : IVec S4096 32) (E : S16384x2048.Idx → Elt F .f32) (i : Fin 4096) (j : Fin 2048) (b : Fin 16384) (hb : ids (ValueIdx.ix1 i) = BitVec.ofNat 32 b.val) :
    truncf .bf16 (Host.gather gather_S16384x2048_S4096x1_S4096x2048_1_0_n_n_0_1_12048 E (rows ids)) bitsLt_bf16_f32 (ValueIdx.ix2 i j)
      = FloatOps.truncf .bf16 bitsLt_bf16_f32 (E (ValueIdx.ix2 b j)) := by
  show FloatOps.truncf .bf16 bitsLt_bf16_f32 (Host.gather gather_S16384x2048_S4096x1_S4096x2048_1_0_n_n_0_1_12048 E (rows ids) (ValueIdx.ix2 i j)) = _
  refine congrArg _ (Routing.gather_row _ rfl rfl rfl rfl rfl E (rows ids) i j b ?_ (by decide))
  have hlt := b.isLt
  refine (rows_at ids i ?_).trans hb
  rw [hb, BitVec.toInt_eq_toNat_cond, BitVec.toNat_ofNat]
  split <;> omega

/-- The reference has no buffers of its own. -/
theorem scopedRefs_eq : (Finset.univ.filter fun b : Ref sig .tc => b.isScoped) = ∅ := by decide
/-- The reference has no semaphores. -/
theorem scopedSems_eq : (Finset.univ.filter fun sm : SemLoc sig => sm.isScoped .tc) = ∅ := by decide
/-- Every operation works on the program's arrays. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub ..⟩

/-- Every fair run of the reference ends with each buffer at the operations' results. -/
theorem runs (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Emb
-- ==== Proof.lean ====
/- The certificate of the vocabulary-sharded embedding: its frames, its idealization, and its value over the extended
   reals. The run of the kernel is Proof/Exec.lean (and Proof/Ideal/Exec.lean for the idealized program), that of the
   reference Proof/Ref.lean, the value Proof/Value.lean; this file joins them. -/
module

public import proofs.«01_k».proof.Defs
public import proofs.«01_k».proof.Proof.Host
public import proofs.«01_k».proof.Proof.Value
public import proofs.«01_k».proof.Proof.Ref

@[expose] public section
noncomputable section
namespace Cert.Proof

open Idealize.ShloMosaic Idealize.ShloMosaic.TcCoe Idealize.ShloMosaic.StableHlo Idealize.SL.Sem

/-! ## The precondition, as a bound on every index -/

/-- Where the precondition holds, every index is below the number of the table's rows. -/
theorem in_vocabulary_at [Cert.Pre_in_vocabulary_KernelIdeal.Facts] (ids : IVec Cert.Pre_in_vocabulary_KernelIdeal.S4096 32)
    (E : (⟨Cert.Pre_in_vocabulary_KernelIdeal.S8192x2048, .f32⟩ : BufTy).Contents (Elt Ideal))
    (h : Cert.Pre_in_vocabulary_KernelIdeal.fn (F := Ideal) ids E = fun _ => 1#1) (i : Cert.Pre_in_vocabulary_KernelIdeal.S4096.Idx) :
    (ids i).toNat < 16384 := by
  have hi := congrFun h i
  replace hi : BitVec.ofBool ((0#32).sle (ids i)) &&& BitVec.ofBool ((ids i).slt 16384#32) = 1#1 := hi
  have h1 : (0#32).toInt = 0 := by decide
  have h2 : (16384#32).toInt = 16384 := by decide
  have ha : (0#32).sle (ids i) = true := by
    cases e : (0#32).sle (ids i)
    · rw [e] at hi
      revert hi
      cases (ids i).slt 16384#32 <;> decide
    · rfl
  have hb : (ids i).slt 16384#32 = true := by
    cases e : (ids i).slt 16384#32
    · rw [e] at hi
      revert hi
      cases (0#32).sle (ids i) <;> decide
    · rfl
  have hc := BitVec.sle_iff_toInt_le.mp ha
  have hd := BitVec.slt_iff_toInt_lt.mp hb
  have he := BitVec.toInt_eq_toNat_cond (ids i)
  split at he <;> omega

/-! ## The claims -/

/-- The precondition's operations are well formed. -/
instance : Cert.Pre_in_vocabulary_KernelIdeal.Facts := ⟨by decide⟩
/-- So they are on the reference's shapes. -/
instance : Cert.Pre_in_vocabulary_ReferenceIdeal.Facts := ⟨by decide⟩

/-- The kernel runs without fault on all devices, and its arguments and all semaphores end as they began. -/
theorem kernel_frame : Cert.quiescent_Kernel (hKernel := Cert.Kernel.Gen.facts) := fun m g _ =>
  (θ_run _ _ _).mono (fun _ h => ⟨fun c => (h.1 c).2, h.2⟩) (Cert.Kernel.Emb.runs m g (Cert.Kernel.Emb.rows_lt m))

/-- So does its idealization. -/
theorem ideal_frame : Cert.quiescent_KernelIdeal (hKernelIdeal := Cert.KernelIdeal.Gen.facts) := fun m g _ =>
  (θ_run _ _ _).mono (fun _ h => ⟨fun c => (h.1 c).2, h.2⟩) (Cert.KernelIdeal.Emb.runs m g (Cert.KernelIdeal.Emb.rows_lt m))

/-- So does the reference. -/
theorem reference_frame : Cert.quiescent_ReferenceIdeal (hReferenceIdeal := Cert.ReferenceIdeal.Gen.facts) := fun m g _ =>
  (θ_run _ _ _).mono (fun r h => ⟨fun c => ⟨(h c _).trans (Cert.ReferenceIdeal.Emb.arg0_eq _), (h c _).trans (Cert.ReferenceIdeal.Emb.arg1_eq _)⟩,
    sem_eq_zero_of_no_sems (by decide) r.2⟩) (Cert.ReferenceIdeal.Emb.runs m g)

/-- Over the extended reals, on every device, the kernel's result is the reference's. -/
theorem value : Cert.algebraic_KernelIdeal_ReferenceIdeal_pre_in_vocabulary_KernelIdeal (hKernelIdeal := Cert.KernelIdeal.Gen.facts)
    (hReferenceIdeal := Cert.ReferenceIdeal.Gen.facts) := by
  intro m g m' g' hp hm
  have hr : ∀ i, (m' (((0 : Dev Cert.ReferenceIdeal.nD).tc : Thread Cert.ReferenceIdeal.nD Cert.ReferenceIdeal.τ).loc Cert.ReferenceIdeal.main_arg0) i).toNat < 16384 := fun i => by
    rw [← (hm 0).1]
    exact in_vocabulary_at _ _ (hp 0) i
  refine ⟨fun i => m' (((0 : Dev Cert.ReferenceIdeal.nD).tc : Thread Cert.ReferenceIdeal.nD Cert.ReferenceIdeal.τ).loc Cert.ReferenceIdeal.main_arg1)
    (ValueIdx.ix2 ⟨_, hr (ValueIdx.ix1 (i 0))⟩ (i 1)), ?_, ?_⟩
  · exact (θ_run _ _ _).mono (fun r h c => ⟨(h.1 c).1.trans (funext fun i =>
      Cert.KernelIdeal.Emb.final_at (fun c => (hm c).1) hr (fun c => (hm c).2) c i), (h.1 c).2⟩)
      (Cert.KernelIdeal.Emb.runs m g (Cert.KernelIdeal.Emb.rows_lt m))
  · refine (θ_run _ _ _).mono (fun r h => ⟨?_, (h 0 _).trans (Cert.ReferenceIdeal.Emb.arg0_eq _), (h 0 _).trans (Cert.ReferenceIdeal.Emb.arg1_eq _)⟩)
      (Cert.ReferenceIdeal.Emb.runs m' g')
    refine (h 0 _).trans ((Cert.ReferenceIdeal.Emb.result_eq _).trans (funext fun i => ?_))
    rw [show i = ValueIdx.ix2 (i 0) (i 1) from funext fun a => match a with | ⟨0, _⟩ => rfl | ⟨1, _⟩ => rfl]
    refine (Cert.ReferenceIdeal.Emb.result_at _ _ (i 0) (i 1) ⟨_, hr (ValueIdx.ix1 (i 0))⟩ ?_).trans rfl
    exact (BitVec.ofNat_toNat 32 _ |>.trans (BitVec.setWidth_eq _)).symm

/-- Everything the certificate claims. -/
theorem claim : Cert.Claim :=
  ⟨Cert.Kernel.Gen.facts, Cert.KernelIdeal.Gen.facts, Cert.ReferenceIdeal.Gen.facts, inferInstance, inferInstance,
    kernel_frame, ideal_frame, fun m g _ => ideal_frame m g trivial, reference_frame, fun m g _ => reference_frame m g trivial, trivial, value⟩

end Cert.Proof
